-- ==== Defs.lean ====
def Pre_Kernel (m : (ℓ : Loc Cert.Kernel.nD Cert.Kernel.τ Cert.Kernel.sig) → Buf (Elt Bits) ℓ) : Prop :=
  True

def Pre_Kernel_idx_in_table [hPre_idx_in_table : Cert.Pre_idx_in_table.Facts] (m : (ℓ : Loc Cert.Kernel.nD Cert.Kernel.τ Cert.Kernel.sig) → Buf (Elt Bits) ℓ) : Prop :=
  ∀ c : Dev Cert.Kernel.nD,
    (Cert.Pre_idx_in_table.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal (m : (ℓ : Loc Cert.KernelIdeal.nD Cert.KernelIdeal.τ Cert.KernelIdeal.sig) → Buf (Elt Ideal) ℓ) : Prop :=
  True

def Pre_KernelIdeal_idx_in_table [hPre_idx_in_table : Cert.Pre_idx_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_table [hPre_idx_in_table : Cert.Pre_idx_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_idx_in_table : Cert.Pre_idx_in_table.Facts] (m : (ℓ : Loc Cert.Reference.nD Cert.Reference.τ Cert.Reference.sig) → Buf (Elt Bits) ℓ) : Prop :=
  ∀ c : Dev Cert.Reference.nD,
    (Cert.Pre_idx_in_table.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_idx_in_table [hKernel : Cert.Kernel.Facts] [hPre_idx_in_table : Cert.Pre_idx_in_table.Facts] : Prop :=
  ∀ (m : (ℓ : Loc Cert.Kernel.nD Cert.Kernel.τ Cert.Kernel.sig) → Buf (Elt Bits) ℓ) (g : Dev Cert.Kernel.nD → PrngReg), Pre_Kernel_idx_in_table m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_idx_in_table [hKernelIdeal : Cert.KernelIdeal.Facts] [hPre_idx_in_table : Cert.Pre_idx_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_idx_in_table m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_idx_in_table [hReferenceIdeal : Cert.ReferenceIdeal.Facts] [hPre_idx_in_table : Cert.Pre_idx_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_idx_in_table : Cert.Pre_idx_in_table.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal_pre_idx_in_table [hKernelIdeal : Cert.KernelIdeal.Facts] [hReferenceIdeal : Cert.ReferenceIdeal.Facts] [hPre_idx_in_table : Cert.Pre_idx_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_idx_in_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference_pre_idx_in_table [hKernel : Cert.Kernel.Facts] [hReference : Cert.Reference.Facts] [hPre_idx_in_table : Cert.Pre_idx_in_table.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_idx_in_table m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v3)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_idx_in_table : Cert.Pre_idx_in_table.Facts),
    quiescent_Kernel (hKernel := hKernel)
    ∧ quiescent_Kernel_pre_idx_in_table (hKernel := hKernel) (hPre_idx_in_table := hPre_idx_in_table)
    ∧ quiescent_KernelIdeal (hKernelIdeal := hKernelIdeal)
    ∧ quiescent_KernelIdeal_pre_idx_in_table (hKernelIdeal := hKernelIdeal) (hPre_idx_in_table := hPre_idx_in_table)
    ∧ quiescent_ReferenceIdeal (hReferenceIdeal := hReferenceIdeal)
    ∧ quiescent_ReferenceIdeal_pre_idx_in_table (hReferenceIdeal := hReferenceIdeal) (hPre_idx_in_table := hPre_idx_in_table)
    ∧ quiescent_Reference (hReference := hReference) (hPre_idx_in_table := hPre_idx_in_table)
    ∧ preserves_Kernel_KernelIdeal
    ∧ algebraic_KernelIdeal_ReferenceIdeal_pre_idx_in_table (hKernelIdeal := hKernelIdeal) (hReferenceIdeal := hReferenceIdeal) (hPre_idx_in_table := hPre_idx_in_table)
    ∧ bitexact_Kernel_Reference_pre_idx_in_table (hKernel := hKernel) (hReference := hReference) (hPre_idx_in_table := hPre_idx_in_table)
-- ==== Pre_idx_in_table.lean ====
abbrev S4096x200 : Shape := ⟨2, ![4096, 200]⟩
abbrev S200x2048 : Shape := ⟨2, ![200, 2048]⟩
abbrev S_ : Shape := ⟨0, ![]⟩

class Facts : Prop where
  bcast_S_S4096x200 : S_.BroadcastsInDim S4096x200 (![] : Fin 0 → Fin S4096x200.rank)

variable [Facts]

def fn {F : FTy → Type} [FloatOps F] (main_arg0 : IVec S4096x200 32) (main_arg1 : FVec F S200x2048 .f32) : IVec S4096x200 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 200#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  main_v4
-- ==== Kernel.lean ====
abbrev S4096x200 : Shape := ⟨2, ![4096, 200]⟩
abbrev S200x2048 : Shape := ⟨2, ![200, 2048]⟩
abbrev S819200 : Shape := ⟨1, ![819200]⟩
abbrev S409600 : Shape := ⟨1, ![409600]⟩
abbrev S1677721600 : Shape := ⟨1, ![1677721600]⟩
abbrev S102400 : Shape := ⟨1, ![102400]⟩
abbrev S2x2048 : Shape := ⟨2, ![2, 2048]⟩
abbrev S2064 : Shape := ⟨1, ![2064]⟩
abbrev S2 : Shape := ⟨1, ![2]⟩
abbrev S_ : Shape := ⟨0, ![]⟩
abbrev S1x2048 : Shape := ⟨2, ![1, 2048]⟩
abbrev S2048 : Shape := ⟨1, ![2048]⟩
abbrev S1 : Shape := ⟨1, ![1]⟩
abbrev S16 : Shape := ⟨1, ![16]⟩
abbrev S1x16 : Shape := ⟨2, ![1, 16]⟩
abbrev S4096x200x2048 : Shape := ⟨3, ![4096, 200, 2048]⟩

abbrev nBuf : Table → Nat
  | .hbm => 6
  | .local .scVector .vmem => 4
  | _ => 0

abbrev bufTy : (tb : Table) → Fin (nBuf tb) → BufTy
  | .hbm, ⟨0, _⟩ => ⟨S4096x200, .i32⟩
  | .hbm, ⟨1, _⟩ => ⟨S200x2048, .f32⟩
  | .hbm, ⟨2, _⟩ => ⟨S819200, .i32⟩
  | .hbm, ⟨3, _⟩ => ⟨S409600, .f32⟩
  | .hbm, ⟨4, _⟩ => ⟨S1677721600, .f32⟩
  | .hbm, ⟨5, _⟩ => ⟨S4096x200x2048, .f32⟩
  | .local .scVector .vmem, ⟨0, _⟩ => ⟨S102400, .f32⟩
  | .local .scVector .vmem, ⟨1, _⟩ => ⟨S2x2048, .i32⟩
  | .local .scVector .vmem, ⟨2, _⟩ => ⟨S2064, .i32⟩
  | .local .scVector .vmem, ⟨3, _⟩ => ⟨S2064, .i32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c50_i32 : BitVec 32 := 50#32
  let v29 : BitVec 32 := Scalar.muli v28 c50_i32
  let c2048_i32 : BitVec 32 := 2048#32
  let v31 : BitVec 32 := Scalar.muli v29 c2048_i32
  ![v31.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let c0_i32_10 : BitVec 32 := 0#32
  let v32 : BitVec 32 := Scalar.addi v30 c0_i32_10
  ![v32.toNat]
@[reducible] def k0_t1_loop : Scf.Loop 32 :=
  let c0_i32_16 : BitVec 32 := 0#32
  let c25_i32 : BitVec 32 := 25#32
  let v42 : BitVec 32 := Scalar.addi c0_i32_16 c25_i32
  let c1_i32_17 : BitVec 32 := 1#32
  ⟨c0_i32_16, v42, c1_i32_17⟩
def k0_cond1 (k0_t1 : Fin k0_t1_loop.trips) : BitVec 1 :=
  let c0_i32_16 : BitVec 32 := 0#32
  let c1_i32_17 : BitVec 32 := 1#32
  let arg11 : BitVec 32 := Scf.iv c0_i32_16 c1_i32_17 k0_t1
  let c2_i32_29 : BitVec 32 := 2#32
  let v53 : BitVec 32 := Scalar.muli arg11 c2_i32_29
  let c1_i32_36 : BitVec 32 := 1#32
  let v62 : BitVec 32 := Scalar.addi v53 c1_i32_36
  let c50_i32_37 : BitVec 32 := 50#32
  let v63 : BitVec 1 := Scalar.cmpi .slt v62 c50_i32_37
  let v64 : BitVec 32 := Scalar.extui v63
  let c0_i32_38 : BitVec 32 := 0#32
  let v65 : BitVec 1 := Scalar.cmpi .ne v64 c0_i32_38
  v65

def k0_off3 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let c0_i32_16 : BitVec 32 := 0#32
  let c1_i32_17 : BitVec 32 := 1#32
  let arg11 : BitVec 32 := Scf.iv c0_i32_16 c1_i32_17 k0_t1
  let c2_i32_29 : BitVec 32 := 2#32
  let v53 : BitVec 32 := Scalar.muli arg11 c2_i32_29
  let c1_i32_113 : BitVec 32 := 1#32
  let v156 : BitVec 32 := Scalar.addi v53 c1_i32_113
  let c2048_i32_114 : BitVec 32 := 2048#32
  let v157 : BitVec 32 := Scalar.muli v156 c2048_i32_114
  let v158 : BitVec 32 := Scalar.addi v30 v157
  ![v158.toNat]
@[reducible] def k0_t2_loop : Scf.Loop 32 :=
  let c0_i32_40 : BitVec 32 := 0#32
  let c128_i32 : BitVec 32 := 128#32
  let v66 : BitVec 32 := Scalar.addi c0_i32_40 c128_i32
  let c1_i32_41 : BitVec 32 := 1#32
  ⟨c0_i32_40, v66, c1_i32_41⟩
def k0_off4 (k0_t2 : Fin k0_t2_loop.trips) : Fin 2 → Nat :=
  let c0_i32_114 : BitVec 32 := 0#32
  let v157 : Index := Scalar.indexCast c0_i32_114
  let c0_i32_40 : BitVec 32 := 0#32
  let c1_i32_41 : BitVec 32 := 1#32
  let arg13 : BitVec 32 := Scf.iv c0_i32_40 c1_i32_41 k0_t2
  let c16_i32_113 : BitVec 32 := 16#32
  let v156 : BitVec 32 := Scalar.muli arg13 c16_i32_113
  let v158 : Index := Scalar.indexCast v156
  ![0, v158.toNat]

def k0_chk1 (v172 : IVec S16 32) : Prop :=
  (∀ a x, ((![v172] : Fin 1 → IVec S16 32) a x).toNat < S2064.size a) ∧
  (∀ a x, ((![v172] : Fin 1 → IVec S16 32) a x).toNat < S2064.size a)
theorem k0_idx1_inb : ∀ (v172 : IVec S16 32) (k0_hw1 : k0_chk1 v172), ∀ a x, ((![v172] : Fin 1 → IVec S16 32) a x).toNat < S2064.size a := fun v172 k0_hw1 => k0_hw1.1
theorem k0_idx2_inb : ∀ (v172 : IVec S16 32) (k0_hw1 : k0_chk1 v172), ∀ a x, ((![v172] : Fin 1 → IVec S16 32) a x).toNat < S2064.size a := fun v172 k0_hw1 => k0_hw1.2
@[reducible] def k0_t3_loop (v67 : BitVec 32) : Scf.Loop 32 :=
  let c0_i32_55 : BitVec 32 := 0#32
  let c15_i32 : BitVec 32 := 15#32
  let v68 : BitVec 32 := Scalar.addi v67 c15_i32
  let c0_i32_43 : BitVec 32 := 0#32
  let v70 : BitVec 1 := Scalar.cmpi .sgt v68 c0_i32_43
  let v71 : BitVec 32 := Scalar.extui v70
  let c0_i32_44 : BitVec 32 := 0#32
  let v72 : BitVec 1 := Scalar.cmpi .slt v68 c0_i32_44
  let v73 : BitVec 32 := Scalar.extui v72
  let v74 : BitVec 32 := Scalar.subi v71 v73
  let c16_i32 : BitVec 32 := 16#32
  let c0_i32_45 : BitVec 32 := 0#32
  let v75 : BitVec 1 := Scalar.cmpi .sgt c16_i32 c0_i32_45
  let v76 : BitVec 32 := Scalar.extui v75
  let c0_i32_46 : BitVec 32 := 0#32
  let v77 : BitVec 1 := Scalar.cmpi .slt c16_i32 c0_i32_46
  let v78 : BitVec 32 := Scalar.extui v77
  let v79 : BitVec 32 := Scalar.subi v76 v78
  let v80 : BitVec 1 := Scalar.cmpi .ne v74 v79
  let v81 : BitVec 32 := Scalar.remsi v68 c16_i32
  let c0_i32_47 : BitVec 32 := 0#32
  let v82 : BitVec 1 := Scalar.cmpi .ne v81 c0_i32_47
  let v83 : BitVec 1 := Scalar.andi v80 v82
  let v69 : BitVec 32 := Scalar.divsi v68 c16_i32
  let c1_i32_48 : BitVec 32 := 1#32
  let v84 : BitVec 32 := Scalar.subi v69 c1_i32_48
  let v85 : BitVec 32 := Scalar.select v83 v84 v69
  let c0_i32_49 : BitVec 32 := 0#32
  let v86 : BitVec 32 := Scalar.subi v85 c0_i32_49
  let c1_i32_50 : BitVec 32 := 1#32
  let c1_i32_51 : BitVec 32 := 1#32
  let v87 : BitVec 32 := Scalar.subi c1_i32_50 c1_i32_51
  let v88 : BitVec 32 := Scalar.addi v86 v87
  let c1_i32_52 : BitVec 32 := 1#32
  let v89 : BitVec 32 := Scalar.divsi v88 c1_i32_52
  let v90 : BitVec 32 := Scalar.subi v89 c0_i32_55
  let c1_i32_56 : BitVec 32 := 1#32
  let v92 : BitVec 32 := Scalar.divsi v90 c1_i32_56
  let v93 : BitVec 32 := Scalar.muli v92 c1_i32_56
  let v94 : BitVec 32 := Scalar.addi c0_i32_55 v93
  let c1_i32_57 : BitVec 32 := 1#32
  ⟨c0_i32_55, v94, c1_i32_57⟩

def k0_mult1 (v67 : BitVec 32) (k0_t3 : Fin (k0_t3_loop v67).trips) : BitVec 32 :=
  let c0_i32_54 : BitVec 32 := 0#32
  let c0_i32_55 : BitVec 32 := 0#32
  let c1_i32_57 : BitVec 32 := 1#32
  let arg13 : BitVec 32 := Scf.iv c0_i32_55 c1_i32_57 k0_t3
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  v158
def k0_off5 (v67 : BitVec 32) (k0_t3 : Fin (k0_t3_loop v67).trips) : Fin 1 → Nat :=
  let c0_i32_54 : BitVec 32 := 0#32
  let c0_i32_55 : BitVec 32 := 0#32
  let c1_i32_57 : BitVec 32 := 1#32
  let arg13 : BitVec 32 := Scf.iv c0_i32_55 c1_i32_57 k0_t3
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let v159 : BitVec 32 := v158
  let v160 : Index := Scalar.indexCast v159
  ![v160.toNat]
def k0_mult2 (v67 : BitVec 32) (k0_t3 : Fin (k0_t3_loop v67).trips) : BitVec 32 :=
  let c0_i32_54 : BitVec 32 := 0#32
  let c0_i32_55 : BitVec 32 := 0#32
  let c1_i32_57 : BitVec 32 := 1#32
  let arg13 : BitVec 32 := Scf.iv c0_i32_55 c1_i32_57 k0_t3
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  v158
def k0_mult3 (v230 : BitVec 32) : BitVec 32 :=
  let c2048_i32_135 : BitVec 32 := 2048#32
  let v231 : BitVec 32 := Scalar.muli v230 c2048_i32_135
  v231
def k0_cond2 (v67 : BitVec 32) (k0_t3 : Fin (k0_t3_loop v67).trips) : BitVec 1 :=
  let c0_i32_54 : BitVec 32 := 0#32
  let c0_i32_55 : BitVec 32 := 0#32
  let c1_i32_57 : BitVec 32 := 1#32
  let arg13 : BitVec 32 := Scf.iv c0_i32_55 c1_i32_57 k0_t3
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let c0_i32_114 : BitVec 32 := 0#32
  let v165 : BitVec 32 := Scalar.addi v158 c0_i32_114
  let v166 : BitVec 1 := Scalar.cmpi .slt v165 v67
  let v167 : BitVec 32 := Scalar.extui v166
  let c0_i32_115 : BitVec 32 := 0#32
  let v168 : BitVec 1 := Scalar.cmpi .ne v167 c0_i32_115
  v168

def k0_mult4 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off6 (v230 : BitVec 32) : Fin 1 → Nat :=
  let c2048_i32_135 : BitVec 32 := 2048#32
  let v231 : BitVec 32 := Scalar.muli v230 c2048_i32_135
  let v232 : BitVec 32 := v231
  ![v232.toNat]

def k0_chk3 (v67 : BitVec 32) (k0_t3 : Fin (k0_t3_loop v67).trips) (v230 : BitVec 32) : Prop :=
  (∀ (k0_h2 : k0_cond2 v67 k0_t3 = 1#1), 2048 ∣ (k0_mult3 v230).toNat) ∧
  (∀ (k0_h2 : k0_cond2 v67 k0_t3 = 1#1), ∀ a, (k0_off6 v230) a + S2048.size a ≤ S102400.size a)
theorem k0_mult3_dvd : ∀ (v67 : BitVec 32) (k0_t3 : Fin (k0_t3_loop v67).trips) (v230 : BitVec 32) (k0_hw3 : k0_chk3 v67 k0_t3 v230), ∀ (k0_h2 : k0_cond2 v67 k0_t3 = 1#1), 2048 ∣ (k0_mult3 v230).toNat := fun v67 k0_t3 v230 k0_hw3 k0_h2 => k0_hw3.1 k0_h2
theorem k0_off6_inb : ∀ (v67 : BitVec 32) (k0_t3 : Fin (k0_t3_loop v67).trips) (v230 : BitVec 32) (k0_hw3 : k0_chk3 v67 k0_t3 v230), ∀ (k0_h2 : k0_cond2 v67 k0_t3 = 1#1), ∀ a, (k0_off6 v230) a + S2048.size a ≤ S102400.size a := fun v67 k0_t3 v230 k0_hw3 k0_h2 => k0_hw3.2 k0_h2

def k0_off7 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk4 (i : grid0.Coords) (v67 : BitVec 32) (k0_t3 : Fin (k0_t3_loop v67).trips) (v234 : BitVec 32) : Prop :=
  (∀ (k0_h2 : k0_cond2 v67 k0_t3 = 1#1), 2048 ∣ (k0_mult4 i v234).toNat) ∧
  (∀ (k0_h2 : k0_cond2 v67 k0_t3 = 1#1), ∀ a, (k0_off7 i v234) a + S2048.size a ≤ S1677721600.size a)
theorem k0_mult4_dvd : ∀ (i : grid0.Coords) (v67 : BitVec 32) (k0_t3 : Fin (k0_t3_loop v67).trips) (v234 : BitVec 32) (k0_hw4 : k0_chk4 i v67 k0_t3 v234), ∀ (k0_h2 : k0_cond2 v67 k0_t3 = 1#1), 2048 ∣ (k0_mult4 i v234).toNat := fun i v67 k0_t3 v234 k0_hw4 k0_h2 => k0_hw4.1 k0_h2
theorem k0_off7_inb : ∀ (i : grid0.Coords) (v67 : BitVec 32) (k0_t3 : Fin (k0_t3_loop v67).trips) (v234 : BitVec 32) (k0_hw4 : k0_chk4 i v67 k0_t3 v234), ∀ (k0_h2 : k0_cond2 v67 k0_t3 = 1#1), ∀ a, (k0_off7 i v234) a + S2048.size a ≤ S1677721600.size a := fun i v67 k0_t3 v234 k0_hw4 k0_h2 => k0_hw4.2 k0_h2

def k0_mult5 (v230 : BitVec 32) : BitVec 32 :=
  let c2048_i32_135 : BitVec 32 := 2048#32
  let v231 : BitVec 32 := Scalar.muli v230 c2048_i32_135
  v231
def k0_cond3 (v67 : BitVec 32) (k0_t3 : Fin (k0_t3_loop v67).trips) : BitVec 1 :=
  let c0_i32_54 : BitVec 32 := 0#32
  let c0_i32_55 : BitVec 32 := 0#32
  let c1_i32_57 : BitVec 32 := 1#32
  let arg13 : BitVec 32 := Scf.iv c0_i32_55 c1_i32_57 k0_t3
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let c1_i32_116 : BitVec 32 := 1#32
  let v169 : BitVec 32 := Scalar.addi v158 c1_i32_116
  let v170 : BitVec 1 := Scalar.cmpi .slt v169 v67
  let v171 : BitVec 32 := Scalar.extui v170
  let c0_i32_117 : BitVec 32 := 0#32
  let v172 : BitVec 1 := Scalar.cmpi .ne v171 c0_i32_117
  v172

def k0_mult6 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off8 (v230 : BitVec 32) : Fin 1 → Nat :=
  let c2048_i32_135 : BitVec 32 := 2048#32
  let v231 : BitVec 32 := Scalar.muli v230 c2048_i32_135
  let v232 : BitVec 32 := v231
  ![v232.toNat]

def k0_chk5 (v67 : BitVec 32) (k0_t3 : Fin (k0_t3_loop v67).trips) (v230 : BitVec 32) : Prop :=
  (∀ (k0_h3 : k0_cond3 v67 k0_t3 = 1#1), 2048 ∣ (k0_mult5 v230).toNat) ∧
  (∀ (k0_h3 : k0_cond3 v67 k0_t3 = 1#1), ∀ a, (k0_off8 v230) a + S2048.size a ≤ S102400.size a)
theorem k0_mult5_dvd : ∀ (v67 : BitVec 32) (k0_t3 : Fin (k0_t3_loop v67).trips) (v230 : BitVec 32) (k0_hw5 : k0_chk5 v67 k0_t3 v230), ∀ (k0_h3 : k0_cond3 v67 k0_t3 = 1#1), 2048 ∣ (k0_mult5 v230).toNat := fun v67 k0_t3 v230 k0_hw5 k0_h3 => k0_hw5.1 k0_h3
theorem k0_off8_inb : ∀ (v67 : BitVec 32) (k0_t3 : Fin (k0_t3_loop v67).trips) (v230 : BitVec 32) (k0_hw5 : k0_chk5 v67 k0_t3 v230), ∀ (k0_h3 : k0_cond3 v67 k0_t3 = 1#1), ∀ a, (k0_off8 v230) a + S2048.size a ≤ S102400.size a := fun v67 k0_t3 v230 k0_hw5 k0_h3 => k0_hw5.2 k0_h3

def k0_off9 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk6 (i : grid0.Coords) (v67 : BitVec 32) (k0_t3 : Fin (k0_t3_loop v67).trips) (v234 : BitVec 32) : Prop :=
  (∀ (k0_h3 : k0_cond3 v67 k0_t3 = 1#1), 2048 ∣ (k0_mult6 i v234).toNat) ∧
  (∀ (k0_h3 : k0_cond3 v67 k0_t3 = 1#1), ∀ a, (k0_off9 i v234) a + S2048.size a ≤ S1677721600.size a)
theorem k0_mult6_dvd : ∀ (i : grid0.Coords) (v67 : BitVec 32) (k0_t3 : Fin (k0_t3_loop v67).trips) (v234 : BitVec 32) (k0_hw6 : k0_chk6 i v67 k0_t3 v234), ∀ (k0_h3 : k0_cond3 v67 k0_t3 = 1#1), 2048 ∣ (k0_mult6 i v234).toNat := fun i v67 k0_t3 v234 k0_hw6 k0_h3 => k0_hw6.1 k0_h3
theorem k0_off9_inb : ∀ (i : grid0.Coords) (v67 : BitVec 32) (k0_t3 : Fin (k0_t3_loop v67).trips) (v234 : BitVec 32) (k0_hw6 : k0_chk6 i v67 k0_t3 v234), ∀ (k0_h3 : k0_cond3 v67 k0_t3 = 1#1), ∀ a, (k0_off9 i v234) a + S2048.size a ≤ S1677721600.size a := fun i v67 k0_t3 v234 k0_hw6 k0_h3 => k0_hw6.2 k0_h3

def k0_mult7 (v230 : BitVec 32) : BitVec 32 :=
  let c2048_i32_135 : BitVec 32 := 2048#32
  let v231 : BitVec 32 := Scalar.muli v230 c2048_i32_135
  v231
def k0_cond4 (v67 : BitVec 32) (k0_t3 : Fin (k0_t3_loop v67).trips) : BitVec 1 :=
  let c0_i32_54 : BitVec 32 := 0#32
  let c0_i32_55 : BitVec 32 := 0#32
  let c1_i32_57 : BitVec 32 := 1#32
  let arg13 : BitVec 32 := Scf.iv c0_i32_55 c1_i32_57 k0_t3
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let c2_i32_118 : BitVec 32 := 2#32
  let v173 : BitVec 32 := Scalar.addi v158 c2_i32_118
  let v174 : BitVec 1 := Scalar.cmpi .slt v173 v67
  let v175 : BitVec 32 := Scalar.extui v174
  let c0_i32_119 : BitVec 32 := 0#32
  let v176 : BitVec 1 := Scalar.cmpi .ne v175 c0_i32_119
  v176

def k0_mult8 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off10 (v230 : BitVec 32) : Fin 1 → Nat :=
  let c2048_i32_135 : BitVec 32 := 2048#32
  let v231 : BitVec 32 := Scalar.muli v230 c2048_i32_135
  let v232 : BitVec 32 := v231
  ![v232.toNat]

def k0_chk7 (v67 : BitVec 32) (k0_t3 : Fin (k0_t3_loop v67).trips) (v230 : BitVec 32) : Prop :=
  (∀ (k0_h4 : k0_cond4 v67 k0_t3 = 1#1), 2048 ∣ (k0_mult7 v230).toNat) ∧
  (∀ (k0_h4 : k0_cond4 v67 k0_t3 = 1#1), ∀ a, (k0_off10 v230) a + S2048.size a ≤ S102400.size a)
theorem k0_mult7_dvd : ∀ (v67 : BitVec 32) (k0_t3 : Fin (k0_t3_loop v67).trips) (v230 : BitVec 32) (k0_hw7 : k0_chk7 v67 k0_t3 v230), ∀ (k0_h4 : k0_cond4 v67 k0_t3 = 1#1), 2048 ∣ (k0_mult7 v230).toNat := fun v67 k0_t3 v230 k0_hw7 k0_h4 => k0_hw7.1 k0_h4
theorem k0_off10_inb : ∀ (v67 : BitVec 32) (k0_t3 : Fin (k0_t3_loop v67).trips) (v230 : BitVec 32) (k0_hw7 : k0_chk7 v67 k0_t3 v230), ∀ (k0_h4 : k0_cond4 v67 k0_t3 = 1#1), ∀ a, (k0_off10 v230) a + S2048.size a ≤ S102400.size a := fun v67 k0_t3 v230 k0_hw7 k0_h4 => k0_hw7.2 k0_h4

def k0_off11 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk8 (i : grid0.Coords) (v67 : BitVec 32) (k0_t3 : Fin (k0_t3_loop v67).trips) (v234 : BitVec 32) : Prop :=
  (∀ (k0_h4 : k0_cond4 v67 k0_t3 = 1#1), 2048 ∣ (k0_mult8 i v234).toNat) ∧
  (∀ (k0_h4 : k0_cond4 v67 k0_t3 = 1#1), ∀ a, (k0_off11 i v234) a + S2048.size a ≤ S1677721600.size a)
theorem k0_mult8_dvd : ∀ (i : grid0.Coords) (v67 : BitVec 32) (k0_t3 : Fin (k0_t3_loop v67).trips) (v234 : BitVec 32) (k0_hw8 : k0_chk8 i v67 k0_t3 v234), ∀ (k0_h4 : k0_cond4 v67 k0_t3 = 1#1), 2048 ∣ (k0_mult8 i v234).toNat := fun i v67 k0_t3 v234 k0_hw8 k0_h4 => k0_hw8.1 k0_h4
theorem k0_off11_inb : ∀ (i : grid0.Coords) (v67 : BitVec 32) (k0_t3 : Fin (k0_t3_loop v67).trips) (v234 : BitVec 32) (k0_hw8 : k0_chk8 i v67 k0_t3 v234), ∀ (k0_h4 : k0_cond4 v67 k0_t3 = 1#1), ∀ a, (k0_off11 i v234) a + S2048.size a ≤ S1677721600.size a := fun i v67 k0_t3 v234 k0_hw8 k0_h4 => k0_hw8.2 k0_h4

def k0_mult9 (v230 : BitVec 32) : BitVec 32 :=
  let c2048_i32_135 : BitVec 32 := 2048#32
  let v231 : BitVec 32 := Scalar.muli v230 c2048_i32_135
  v231
def k0_cond5 (v67 : BitVec 32) (k0_t3 : Fin (k0_t3_loop v67).trips) : BitVec 1 :=
  let c0_i32_54 : BitVec 32 := 0#32
  let c0_i32_55 : BitVec 32 := 0#32
  let c1_i32_57 : BitVec 32 := 1#32
  let arg13 : BitVec 32 := Scf.iv c0_i32_55 c1_i32_57 k0_t3
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let c3_i32 : BitVec 32 := 3#32
  let v177 : BitVec 32 := Scalar.addi v158 c3_i32
  let v178 : BitVec 1 := Scalar.cmpi .slt v177 v67
  let v179 : BitVec 32 := Scalar.extui v178
  let c0_i32_120 : BitVec 32 := 0#32
  let v180 : BitVec 1 := Scalar.cmpi .ne v179 c0_i32_120
  v180

def k0_mult10 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off12 (v230 : BitVec 32) : Fin 1 → Nat :=
  let c2048_i32_135 : BitVec 32 := 2048#32
  let v231 : BitVec 32 := Scalar.muli v230 c2048_i32_135
  let v232 : BitVec 32 := v231
  ![v232.toNat]

def k0_chk9 (v67 : BitVec 32) (k0_t3 : Fin (k0_t3_loop v67).trips) (v230 : BitVec 32) : Prop :=
  (∀ (k0_h5 : k0_cond5 v67 k0_t3 = 1#1), 2048 ∣ (k0_mult9 v230).toNat) ∧
  (∀ (k0_h5 : k0_cond5 v67 k0_t3 = 1#1), ∀ a, (k0_off12 v230) a + S2048.size a ≤ S102400.size a)
theorem k0_mult9_dvd : ∀ (v67 : BitVec 32) (k0_t3 : Fin (k0_t3_loop v67).trips) (v230 : BitVec 32) (k0_hw9 : k0_chk9 v67 k0_t3 v230), ∀ (k0_h5 : k0_cond5 v67 k0_t3 = 1#1), 2048 ∣ (k0_mult9 v230).toNat := fun v67 k0_t3 v230 k0_hw9 k0_h5 => k0_hw9.1 k0_h5
theorem k0_off12_inb : ∀ (v67 : BitVec 32) (k0_t3 : Fin (k0_t3_loop v67).trips) (v230 : BitVec 32) (k0_hw9 : k0_chk9 v67 k0_t3 v230), ∀ (k0_h5 : k0_cond5 v67 k0_t3 = 1#1), ∀ a, (k0_off12 v230) a + S2048.size a ≤ S102400.size a := fun v67 k0_t3 v230 k0_hw9 k0_h5 => k0_hw9.2 k0_h5

def k0_off13 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk10 (i : grid0.Coords) (v67 : BitVec 32) (k0_t3 : Fin (k0_t3_loop v67).trips) (v234 : BitVec 32) : Prop :=
  (∀ (k0_h5 : k0_cond5 v67 k0_t3 = 1#1), 2048 ∣ (k0_mult10 i v234).toNat) ∧
  (∀ (k0_h5 : k0_cond5 v67 k0_t3 = 1#1), ∀ a, (k0_off13 i v234) a + S2048.size a ≤ S1677721600.size a)
theorem k0_mult10_dvd : ∀ (i : grid0.Coords) (v67 : BitVec 32) (k0_t3 : Fin (k0_t3_loop v67).trips) (v234 : BitVec 32) (k0_hw10 : k0_chk10 i v67 k0_t3 v234), ∀ (k0_h5 : k0_cond5 v67 k0_t3 = 1#1), 2048 ∣ (k0_mult10 i v234).toNat := fun i v67 k0_t3 v234 k0_hw10 k0_h5 => k0_hw10.1 k0_h5
theorem k0_off13_inb : ∀ (i : grid0.Coords) (v67 : BitVec 32) (k0_t3 : Fin (k0_t3_loop v67).trips) (v234 : BitVec 32) (k0_hw10 : k0_chk10 i v67 k0_t3 v234), ∀ (k0_h5 : k0_cond5 v67 k0_t3 = 1#1), ∀ a, (k0_off13 i v234) a + S2048.size a ≤ S1677721600.size a := fun i v67 k0_t3 v234 k0_hw10 k0_h5 => k0_hw10.2 k0_h5

def k0_mult11 (v230 : BitVec 32) : BitVec 32 :=
  let c2048_i32_135 : BitVec 32 := 2048#32
  let v231 : BitVec 32 := Scalar.muli v230 c2048_i32_135
  v231
def k0_cond6 (v67 : BitVec 32) (k0_t3 : Fin (k0_t3_loop v67).trips) : BitVec 1 :=
  let c0_i32_54 : BitVec 32 := 0#32
  let c0_i32_55 : BitVec 32 := 0#32
  let c1_i32_57 : BitVec 32 := 1#32
  let arg13 : BitVec 32 := Scf.iv c0_i32_55 c1_i32_57 k0_t3
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let c4_i32_121 : BitVec 32 := 4#32
  let v181 : BitVec 32 := Scalar.addi v158 c4_i32_121
  let v182 : BitVec 1 := Scalar.cmpi .slt v181 v67
  let v183 : BitVec 32 := Scalar.extui v182
  let c0_i32_122 : BitVec 32 := 0#32
  let v184 : BitVec 1 := Scalar.cmpi .ne v183 c0_i32_122
  v184

def k0_mult12 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off14 (v230 : BitVec 32) : Fin 1 → Nat :=
  let c2048_i32_135 : BitVec 32 := 2048#32
  let v231 : BitVec 32 := Scalar.muli v230 c2048_i32_135
  let v232 : BitVec 32 := v231
  ![v232.toNat]

def k0_chk11 (v67 : BitVec 32) (k0_t3 : Fin (k0_t3_loop v67).trips) (v230 : BitVec 32) : Prop :=
  (∀ (k0_h6 : k0_cond6 v67 k0_t3 = 1#1), 2048 ∣ (k0_mult11 v230).toNat) ∧
  (∀ (k0_h6 : k0_cond6 v67 k0_t3 = 1#1), ∀ a, (k0_off14 v230) a + S2048.size a ≤ S102400.size a)
theorem k0_mult11_dvd : ∀ (v67 : BitVec 32) (k0_t3 : Fin (k0_t3_loop v67).trips) (v230 : BitVec 32) (k0_hw11 : k0_chk11 v67 k0_t3 v230), ∀ (k0_h6 : k0_cond6 v67 k0_t3 = 1#1), 2048 ∣ (k0_mult11 v230).toNat := fun v67 k0_t3 v230 k0_hw11 k0_h6 => k0_hw11.1 k0_h6
theorem k0_off14_inb : ∀ (v67 : BitVec 32) (k0_t3 : Fin (k0_t3_loop v67).trips) (v230 : BitVec 32) (k0_hw11 : k0_chk11 v67 k0_t3 v230), ∀ (k0_h6 : k0_cond6 v67 k0_t3 = 1#1), ∀ a, (k0_off14 v230) a + S2048.size a ≤ S102400.size a := fun v67 k0_t3 v230 k0_hw11 k0_h6 => k0_hw11.2 k0_h6

def k0_off15 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk12 (i : grid0.Coords) (v67 : BitVec 32) (k0_t3 : Fin (k0_t3_loop v67).trips) (v234 : BitVec 32) : Prop :=
  (∀ (k0_h6 : k0_cond6 v67 k0_t3 = 1#1), 2048 ∣ (k0_mult12 i v234).toNat) ∧
  (∀ (k0_h6 : k0_cond6 v67 k0_t3 = 1#1), ∀ a, (k0_off15 i v234) a + S2048.size a ≤ S1677721600.size a)
theorem k0_mult12_dvd : ∀ (i : grid0.Coords) (v67 : BitVec 32) (k0_t3 : Fin (k0_t3_loop v67).trips) (v234 : BitVec 32) (k0_hw12 : k0_chk12 i v67 k0_t3 v234), ∀ (k0_h6 : k0_cond6 v67 k0_t3 = 1#1), 2048 ∣ (k0_mult12 i v234).toNat := fun i v67 k0_t3 v234 k0_hw12 k0_h6 => k0_hw12.1 k0_h6
theorem k0_off15_inb : ∀ (i : grid0.Coords) (v67 : BitVec 32) (k0_t3 : Fin (k0_t3_loop v67).trips) (v234 : BitVec 32) (k0_hw12 : k0_chk12 i v67 k0_t3 v234), ∀ (k0_h6 : k0_cond6 v67 k0_t3 = 1#1), ∀ a, (k0_off15 i v234) a + S2048.size a ≤ S1677721600.size a := fun i v67 k0_t3 v234 k0_hw12 k0_h6 => k0_hw12.2 k0_h6

def k0_mult13 (v230 : BitVec 32) : BitVec 32 :=
  let c2048_i32_135 : BitVec 32 := 2048#32
  let v231 : BitVec 32 := Scalar.muli v230 c2048_i32_135
  v231
def k0_cond7 (v67 : BitVec 32) (k0_t3 : Fin (k0_t3_loop v67).trips) : BitVec 1 :=
  let c0_i32_54 : BitVec 32 := 0#32
  let c0_i32_55 : BitVec 32 := 0#32
  let c1_i32_57 : BitVec 32 := 1#32
  let arg13 : BitVec 32 := Scf.iv c0_i32_55 c1_i32_57 k0_t3
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let c5_i32 : BitVec 32 := 5#32
  let v185 : BitVec 32 := Scalar.addi v158 c5_i32
  let v186 : BitVec 1 := Scalar.cmpi .slt v185 v67
  let v187 : BitVec 32 := Scalar.extui v186
  let c0_i32_123 : BitVec 32 := 0#32
  let v188 : BitVec 1 := Scalar.cmpi .ne v187 c0_i32_123
  v188

def k0_mult14 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off16 (v230 : BitVec 32) : Fin 1 → Nat :=
  let c2048_i32_135 : BitVec 32 := 2048#32
  let v231 : BitVec 32 := Scalar.muli v230 c2048_i32_135
  let v232 : BitVec 32 := v231
  ![v232.toNat]

def k0_chk13 (v67 : BitVec 32) (k0_t3 : Fin (k0_t3_loop v67).trips) (v230 : BitVec 32) : Prop :=
  (∀ (k0_h7 : k0_cond7 v67 k0_t3 = 1#1), 2048 ∣ (k0_mult13 v230).toNat) ∧
  (∀ (k0_h7 : k0_cond7 v67 k0_t3 = 1#1), ∀ a, (k0_off16 v230) a + S2048.size a ≤ S102400.size a)
theorem k0_mult13_dvd : ∀ (v67 : BitVec 32) (k0_t3 : Fin (k0_t3_loop v67).trips) (v230 : BitVec 32) (k0_hw13 : k0_chk13 v67 k0_t3 v230), ∀ (k0_h7 : k0_cond7 v67 k0_t3 = 1#1), 2048 ∣ (k0_mult13 v230).toNat := fun v67 k0_t3 v230 k0_hw13 k0_h7 => k0_hw13.1 k0_h7
theorem k0_off16_inb : ∀ (v67 : BitVec 32) (k0_t3 : Fin (k0_t3_loop v67).trips) (v230 : BitVec 32) (k0_hw13 : k0_chk13 v67 k0_t3 v230), ∀ (k0_h7 : k0_cond7 v67 k0_t3 = 1#1), ∀ a, (k0_off16 v230) a + S2048.size a ≤ S102400.size a := fun v67 k0_t3 v230 k0_hw13 k0_h7 => k0_hw13.2 k0_h7

def k0_off17 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk14 (i : grid0.Coords) (v67 : BitVec 32) (k0_t3 : Fin (k0_t3_loop v67).trips) (v234 : BitVec 32) : Prop :=
  (∀ (k0_h7 : k0_cond7 v67 k0_t3 = 1#1), 2048 ∣ (k0_mult14 i v234).toNat) ∧
  (∀ (k0_h7 : k0_cond7 v67 k0_t3 = 1#1), ∀ a, (k0_off17 i v234) a + S2048.size a ≤ S1677721600.size a)
theorem k0_mult14_dvd : ∀ (i : grid0.Coords) (v67 : BitVec 32) (k0_t3 : Fin (k0_t3_loop v67).trips) (v234 : BitVec 32) (k0_hw14 : k0_chk14 i v67 k0_t3 v234), ∀ (k0_h7 : k0_cond7 v67 k0_t3 = 1#1), 2048 ∣ (k0_mult14 i v234).toNat := fun i v67 k0_t3 v234 k0_hw14 k0_h7 => k0_hw14.1 k0_h7
theorem k0_off17_inb : ∀ (i : grid0.Coords) (v67 : BitVec 32) (k0_t3 : Fin (k0_t3_loop v67).trips) (v234 : BitVec 32) (k0_hw14 : k0_chk14 i v67 k0_t3 v234), ∀ (k0_h7 : k0_cond7 v67 k0_t3 = 1#1), ∀ a, (k0_off17 i v234) a + S2048.size a ≤ S1677721600.size a := fun i v67 k0_t3 v234 k0_hw14 k0_h7 => k0_hw14.2 k0_h7

def k0_mult15 (v230 : BitVec 32) : BitVec 32 :=
  let c2048_i32_135 : BitVec 32 := 2048#32
  let v231 : BitVec 32 := Scalar.muli v230 c2048_i32_135
  v231
def k0_cond8 (v67 : BitVec 32) (k0_t3 : Fin (k0_t3_loop v67).trips) : BitVec 1 :=
  let c0_i32_54 : BitVec 32 := 0#32
  let c0_i32_55 : BitVec 32 := 0#32
  let c1_i32_57 : BitVec 32 := 1#32
  let arg13 : BitVec 32 := Scf.iv c0_i32_55 c1_i32_57 k0_t3
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let c6_i32 : BitVec 32 := 6#32
  let v189 : BitVec 32 := Scalar.addi v158 c6_i32
  let v190 : BitVec 1 := Scalar.cmpi .slt v189 v67
  let v191 : BitVec 32 := Scalar.extui v190
  let c0_i32_124 : BitVec 32 := 0#32
  let v192 : BitVec 1 := Scalar.cmpi .ne v191 c0_i32_124
  v192

def k0_mult16 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off18 (v230 : BitVec 32) : Fin 1 → Nat :=
  let c2048_i32_135 : BitVec 32 := 2048#32
  let v231 : BitVec 32 := Scalar.muli v230 c2048_i32_135
  let v232 : BitVec 32 := v231
  ![v232.toNat]

def k0_chk15 (v67 : BitVec 32) (k0_t3 : Fin (k0_t3_loop v67).trips) (v230 : BitVec 32) : Prop :=
  (∀ (k0_h8 : k0_cond8 v67 k0_t3 = 1#1), 2048 ∣ (k0_mult15 v230).toNat) ∧
  (∀ (k0_h8 : k0_cond8 v67 k0_t3 = 1#1), ∀ a, (k0_off18 v230) a + S2048.size a ≤ S102400.size a)
theorem k0_mult15_dvd : ∀ (v67 : BitVec 32) (k0_t3 : Fin (k0_t3_loop v67).trips) (v230 : BitVec 32) (k0_hw15 : k0_chk15 v67 k0_t3 v230), ∀ (k0_h8 : k0_cond8 v67 k0_t3 = 1#1), 2048 ∣ (k0_mult15 v230).toNat := fun v67 k0_t3 v230 k0_hw15 k0_h8 => k0_hw15.1 k0_h8
theorem k0_off18_inb : ∀ (v67 : BitVec 32) (k0_t3 : Fin (k0_t3_loop v67).trips) (v230 : BitVec 32) (k0_hw15 : k0_chk15 v67 k0_t3 v230), ∀ (k0_h8 : k0_cond8 v67 k0_t3 = 1#1), ∀ a, (k0_off18 v230) a + S2048.size a ≤ S102400.size a := fun v67 k0_t3 v230 k0_hw15 k0_h8 => k0_hw15.2 k0_h8

def k0_off19 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk16 (i : grid0.Coords) (v67 : BitVec 32) (k0_t3 : Fin (k0_t3_loop v67).trips) (v234 : BitVec 32) : Prop :=
  (∀ (k0_h8 : k0_cond8 v67 k0_t3 = 1#1), 2048 ∣ (k0_mult16 i v234).toNat) ∧
  (∀ (k0_h8 : k0_cond8 v67 k0_t3 = 1#1), ∀ a, (k0_off19 i v234) a + S2048.size a ≤ S1677721600.size a)
theorem k0_mult16_dvd : ∀ (i : grid0.Coords) (v67 : BitVec 32) (k0_t3 : Fin (k0_t3_loop v67).trips) (v234 : BitVec 32) (k0_hw16 : k0_chk16 i v67 k0_t3 v234), ∀ (k0_h8 : k0_cond8 v67 k0_t3 = 1#1), 2048 ∣ (k0_mult16 i v234).toNat := fun i v67 k0_t3 v234 k0_hw16 k0_h8 => k0_hw16.1 k0_h8
theorem k0_off19_inb : ∀ (i : grid0.Coords) (v67 : BitVec 32) (k0_t3 : Fin (k0_t3_loop v67).trips) (v234 : BitVec 32) (k0_hw16 : k0_chk16 i v67 k0_t3 v234), ∀ (k0_h8 : k0_cond8 v67 k0_t3 = 1#1), ∀ a, (k0_off19 i v234) a + S2048.size a ≤ S1677721600.size a := fun i v67 k0_t3 v234 k0_hw16 k0_h8 => k0_hw16.2 k0_h8

def k0_mult17 (v230 : BitVec 32) : BitVec 32 :=
  let c2048_i32_135 : BitVec 32 := 2048#32
  let v231 : BitVec 32 := Scalar.muli v230 c2048_i32_135
  v231
def k0_cond9 (v67 : BitVec 32) (k0_t3 : Fin (k0_t3_loop v67).trips) : BitVec 1 :=
  let c0_i32_54 : BitVec 32 := 0#32
  let c0_i32_55 : BitVec 32 := 0#32
  let c1_i32_57 : BitVec 32 := 1#32
  let arg13 : BitVec 32 := Scf.iv c0_i32_55 c1_i32_57 k0_t3
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let c7_i32 : BitVec 32 := 7#32
  let v193 : BitVec 32 := Scalar.addi v158 c7_i32
  let v194 : BitVec 1 := Scalar.cmpi .slt v193 v67
  let v195 : BitVec 32 := Scalar.extui v194
  let c0_i32_125 : BitVec 32 := 0#32
  let v196 : BitVec 1 := Scalar.cmpi .ne v195 c0_i32_125
  v196

def k0_mult18 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off20 (v230 : BitVec 32) : Fin 1 → Nat :=
  let c2048_i32_135 : BitVec 32 := 2048#32
  let v231 : BitVec 32 := Scalar.muli v230 c2048_i32_135
  let v232 : BitVec 32 := v231
  ![v232.toNat]

def k0_chk17 (v67 : BitVec 32) (k0_t3 : Fin (k0_t3_loop v67).trips) (v230 : BitVec 32) : Prop :=
  (∀ (k0_h9 : k0_cond9 v67 k0_t3 = 1#1), 2048 ∣ (k0_mult17 v230).toNat) ∧
  (∀ (k0_h9 : k0_cond9 v67 k0_t3 = 1#1), ∀ a, (k0_off20 v230) a + S2048.size a ≤ S102400.size a)
theorem k0_mult17_dvd : ∀ (v67 : BitVec 32) (k0_t3 : Fin (k0_t3_loop v67).trips) (v230 : BitVec 32) (k0_hw17 : k0_chk17 v67 k0_t3 v230), ∀ (k0_h9 : k0_cond9 v67 k0_t3 = 1#1), 2048 ∣ (k0_mult17 v230).toNat := fun v67 k0_t3 v230 k0_hw17 k0_h9 => k0_hw17.1 k0_h9
theorem k0_off20_inb : ∀ (v67 : BitVec 32) (k0_t3 : Fin (k0_t3_loop v67).trips) (v230 : BitVec 32) (k0_hw17 : k0_chk17 v67 k0_t3 v230), ∀ (k0_h9 : k0_cond9 v67 k0_t3 = 1#1), ∀ a, (k0_off20 v230) a + S2048.size a ≤ S102400.size a := fun v67 k0_t3 v230 k0_hw17 k0_h9 => k0_hw17.2 k0_h9

def k0_off21 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk18 (i : grid0.Coords) (v67 : BitVec 32) (k0_t3 : Fin (k0_t3_loop v67).trips) (v234 : BitVec 32) : Prop :=
  (∀ (k0_h9 : k0_cond9 v67 k0_t3 = 1#1), 2048 ∣ (k0_mult18 i v234).toNat) ∧
  (∀ (k0_h9 : k0_cond9 v67 k0_t3 = 1#1), ∀ a, (k0_off21 i v234) a + S2048.size a ≤ S1677721600.size a)
theorem k0_mult18_dvd : ∀ (i : grid0.Coords) (v67 : BitVec 32) (k0_t3 : Fin (k0_t3_loop v67).trips) (v234 : BitVec 32) (k0_hw18 : k0_chk18 i v67 k0_t3 v234), ∀ (k0_h9 : k0_cond9 v67 k0_t3 = 1#1), 2048 ∣ (k0_mult18 i v234).toNat := fun i v67 k0_t3 v234 k0_hw18 k0_h9 => k0_hw18.1 k0_h9
theorem k0_off21_inb : ∀ (i : grid0.Coords) (v67 : BitVec 32) (k0_t3 : Fin (k0_t3_loop v67).trips) (v234 : BitVec 32) (k0_hw18 : k0_chk18 i v67 k0_t3 v234), ∀ (k0_h9 : k0_cond9 v67 k0_t3 = 1#1), ∀ a, (k0_off21 i v234) a + S2048.size a ≤ S1677721600.size a := fun i v67 k0_t3 v234 k0_hw18 k0_h9 => k0_hw18.2 k0_h9

def k0_mult19 (v230 : BitVec 32) : BitVec 32 :=
  let c2048_i32_135 : BitVec 32 := 2048#32
  let v231 : BitVec 32 := Scalar.muli v230 c2048_i32_135
  v231
def k0_cond10 (v67 : BitVec 32) (k0_t3 : Fin (k0_t3_loop v67).trips) : BitVec 1 :=
  let c0_i32_54 : BitVec 32 := 0#32
  let c0_i32_55 : BitVec 32 := 0#32
  let c1_i32_57 : BitVec 32 := 1#32
  let arg13 : BitVec 32 := Scf.iv c0_i32_55 c1_i32_57 k0_t3
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let c8_i32 : BitVec 32 := 8#32
  let v197 : BitVec 32 := Scalar.addi v158 c8_i32
  let v198 : BitVec 1 := Scalar.cmpi .slt v197 v67
  let v199 : BitVec 32 := Scalar.extui v198
  let c0_i32_126 : BitVec 32 := 0#32
  let v200 : BitVec 1 := Scalar.cmpi .ne v199 c0_i32_126
  v200

def k0_mult20 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off22 (v230 : BitVec 32) : Fin 1 → Nat :=
  let c2048_i32_135 : BitVec 32 := 2048#32
  let v231 : BitVec 32 := Scalar.muli v230 c2048_i32_135
  let v232 : BitVec 32 := v231
  ![v232.toNat]

def k0_chk19 (v67 : BitVec 32) (k0_t3 : Fin (k0_t3_loop v67).trips) (v230 : BitVec 32) : Prop :=
  (∀ (k0_h10 : k0_cond10 v67 k0_t3 = 1#1), 2048 ∣ (k0_mult19 v230).toNat) ∧
  (∀ (k0_h10 : k0_cond10 v67 k0_t3 = 1#1), ∀ a, (k0_off22 v230) a + S2048.size a ≤ S102400.size a)
theorem k0_mult19_dvd : ∀ (v67 : BitVec 32) (k0_t3 : Fin (k0_t3_loop v67).trips) (v230 : BitVec 32) (k0_hw19 : k0_chk19 v67 k0_t3 v230), ∀ (k0_h10 : k0_cond10 v67 k0_t3 = 1#1), 2048 ∣ (k0_mult19 v230).toNat := fun v67 k0_t3 v230 k0_hw19 k0_h10 => k0_hw19.1 k0_h10
theorem k0_off22_inb : ∀ (v67 : BitVec 32) (k0_t3 : Fin (k0_t3_loop v67).trips) (v230 : BitVec 32) (k0_hw19 : k0_chk19 v67 k0_t3 v230), ∀ (k0_h10 : k0_cond10 v67 k0_t3 = 1#1), ∀ a, (k0_off22 v230) a + S2048.size a ≤ S102400.size a := fun v67 k0_t3 v230 k0_hw19 k0_h10 => k0_hw19.2 k0_h10

def k0_off23 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk20 (i : grid0.Coords) (v67 : BitVec 32) (k0_t3 : Fin (k0_t3_loop v67).trips) (v234 : BitVec 32) : Prop :=
  (∀ (k0_h10 : k0_cond10 v67 k0_t3 = 1#1), 2048 ∣ (k0_mult20 i v234).toNat) ∧
  (∀ (k0_h10 : k0_cond10 v67 k0_t3 = 1#1), ∀ a, (k0_off23 i v234) a + S2048.size a ≤ S1677721600.size a)
theorem k0_mult20_dvd : ∀ (i : grid0.Coords) (v67 : BitVec 32) (k0_t3 : Fin (k0_t3_loop v67).trips) (v234 : BitVec 32) (k0_hw20 : k0_chk20 i v67 k0_t3 v234), ∀ (k0_h10 : k0_cond10 v67 k0_t3 = 1#1), 2048 ∣ (k0_mult20 i v234).toNat := fun i v67 k0_t3 v234 k0_hw20 k0_h10 => k0_hw20.1 k0_h10
theorem k0_off23_inb : ∀ (i : grid0.Coords) (v67 : BitVec 32) (k0_t3 : Fin (k0_t3_loop v67).trips) (v234 : BitVec 32) (k0_hw20 : k0_chk20 i v67 k0_t3 v234), ∀ (k0_h10 : k0_cond10 v67 k0_t3 = 1#1), ∀ a, (k0_off23 i v234) a + S2048.size a ≤ S1677721600.size a := fun i v67 k0_t3 v234 k0_hw20 k0_h10 => k0_hw20.2 k0_h10

def k0_mult21 (v230 : BitVec 32) : BitVec 32 :=
  let c2048_i32_135 : BitVec 32 := 2048#32
  let v231 : BitVec 32 := Scalar.muli v230 c2048_i32_135
  v231
def k0_cond11 (v67 : BitVec 32) (k0_t3 : Fin (k0_t3_loop v67).trips) : BitVec 1 :=
  let c0_i32_54 : BitVec 32 := 0#32
  let c0_i32_55 : BitVec 32 := 0#32
  let c1_i32_57 : BitVec 32 := 1#32
  let arg13 : BitVec 32 := Scf.iv c0_i32_55 c1_i32_57 k0_t3
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let c9_i32 : BitVec 32 := 9#32
  let v201 : BitVec 32 := Scalar.addi v158 c9_i32
  let v202 : BitVec 1 := Scalar.cmpi .slt v201 v67
  let v203 : BitVec 32 := Scalar.extui v202
  let c0_i32_127 : BitVec 32 := 0#32
  let v204 : BitVec 1 := Scalar.cmpi .ne v203 c0_i32_127
  v204

def k0_mult22 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off24 (v230 : BitVec 32) : Fin 1 → Nat :=
  let c2048_i32_135 : BitVec 32 := 2048#32
  let v231 : BitVec 32 := Scalar.muli v230 c2048_i32_135
  let v232 : BitVec 32 := v231
  ![v232.toNat]

def k0_chk21 (v67 : BitVec 32) (k0_t3 : Fin (k0_t3_loop v67).trips) (v230 : BitVec 32) : Prop :=
  (∀ (k0_h11 : k0_cond11 v67 k0_t3 = 1#1), 2048 ∣ (k0_mult21 v230).toNat) ∧
  (∀ (k0_h11 : k0_cond11 v67 k0_t3 = 1#1), ∀ a, (k0_off24 v230) a + S2048.size a ≤ S102400.size a)
theorem k0_mult21_dvd : ∀ (v67 : BitVec 32) (k0_t3 : Fin (k0_t3_loop v67).trips) (v230 : BitVec 32) (k0_hw21 : k0_chk21 v67 k0_t3 v230), ∀ (k0_h11 : k0_cond11 v67 k0_t3 = 1#1), 2048 ∣ (k0_mult21 v230).toNat := fun v67 k0_t3 v230 k0_hw21 k0_h11 => k0_hw21.1 k0_h11
theorem k0_off24_inb : ∀ (v67 : BitVec 32) (k0_t3 : Fin (k0_t3_loop v67).trips) (v230 : BitVec 32) (k0_hw21 : k0_chk21 v67 k0_t3 v230), ∀ (k0_h11 : k0_cond11 v67 k0_t3 = 1#1), ∀ a, (k0_off24 v230) a + S2048.size a ≤ S102400.size a := fun v67 k0_t3 v230 k0_hw21 k0_h11 => k0_hw21.2 k0_h11

def k0_off25 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk22 (i : grid0.Coords) (v67 : BitVec 32) (k0_t3 : Fin (k0_t3_loop v67).trips) (v234 : BitVec 32) : Prop :=
  (∀ (k0_h11 : k0_cond11 v67 k0_t3 = 1#1), 2048 ∣ (k0_mult22 i v234).toNat) ∧
  (∀ (k0_h11 : k0_cond11 v67 k0_t3 = 1#1), ∀ a, (k0_off25 i v234) a + S2048.size a ≤ S1677721600.size a)
theorem k0_mult22_dvd : ∀ (i : grid0.Coords) (v67 : BitVec 32) (k0_t3 : Fin (k0_t3_loop v67).trips) (v234 : BitVec 32) (k0_hw22 : k0_chk22 i v67 k0_t3 v234), ∀ (k0_h11 : k0_cond11 v67 k0_t3 = 1#1), 2048 ∣ (k0_mult22 i v234).toNat := fun i v67 k0_t3 v234 k0_hw22 k0_h11 => k0_hw22.1 k0_h11
theorem k0_off25_inb : ∀ (i : grid0.Coords) (v67 : BitVec 32) (k0_t3 : Fin (k0_t3_loop v67).trips) (v234 : BitVec 32) (k0_hw22 : k0_chk22 i v67 k0_t3 v234), ∀ (k0_h11 : k0_cond11 v67 k0_t3 = 1#1), ∀ a, (k0_off25 i v234) a + S2048.size a ≤ S1677721600.size a := fun i v67 k0_t3 v234 k0_hw22 k0_h11 => k0_hw22.2 k0_h11

def k0_mult23 (v230 : BitVec 32) : BitVec 32 :=
  let c2048_i32_135 : BitVec 32 := 2048#32
  let v231 : BitVec 32 := Scalar.muli v230 c2048_i32_135
  v231
def k0_cond12 (v67 : BitVec 32) (k0_t3 : Fin (k0_t3_loop v67).trips) : BitVec 1 :=
  let c0_i32_54 : BitVec 32 := 0#32
  let c0_i32_55 : BitVec 32 := 0#32
  let c1_i32_57 : BitVec 32 := 1#32
  let arg13 : BitVec 32 := Scf.iv c0_i32_55 c1_i32_57 k0_t3
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let c10_i32 : BitVec 32 := 10#32
  let v205 : BitVec 32 := Scalar.addi v158 c10_i32
  let v206 : BitVec 1 := Scalar.cmpi .slt v205 v67
  let v207 : BitVec 32 := Scalar.extui v206
  let c0_i32_128 : BitVec 32 := 0#32
  let v208 : BitVec 1 := Scalar.cmpi .ne v207 c0_i32_128
  v208

def k0_mult24 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off26 (v230 : BitVec 32) : Fin 1 → Nat :=
  let c2048_i32_135 : BitVec 32 := 2048#32
  let v231 : BitVec 32 := Scalar.muli v230 c2048_i32_135
  let v232 : BitVec 32 := v231
  ![v232.toNat]

def k0_chk23 (v67 : BitVec 32) (k0_t3 : Fin (k0_t3_loop v67).trips) (v230 : BitVec 32) : Prop :=
  (∀ (k0_h12 : k0_cond12 v67 k0_t3 = 1#1), 2048 ∣ (k0_mult23 v230).toNat) ∧
  (∀ (k0_h12 : k0_cond12 v67 k0_t3 = 1#1), ∀ a, (k0_off26 v230) a + S2048.size a ≤ S102400.size a)
theorem k0_mult23_dvd : ∀ (v67 : BitVec 32) (k0_t3 : Fin (k0_t3_loop v67).trips) (v230 : BitVec 32) (k0_hw23 : k0_chk23 v67 k0_t3 v230), ∀ (k0_h12 : k0_cond12 v67 k0_t3 = 1#1), 2048 ∣ (k0_mult23 v230).toNat := fun v67 k0_t3 v230 k0_hw23 k0_h12 => k0_hw23.1 k0_h12
theorem k0_off26_inb : ∀ (v67 : BitVec 32) (k0_t3 : Fin (k0_t3_loop v67).trips) (v230 : BitVec 32) (k0_hw23 : k0_chk23 v67 k0_t3 v230), ∀ (k0_h12 : k0_cond12 v67 k0_t3 = 1#1), ∀ a, (k0_off26 v230) a + S2048.size a ≤ S102400.size a := fun v67 k0_t3 v230 k0_hw23 k0_h12 => k0_hw23.2 k0_h12

def k0_off27 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk24 (i : grid0.Coords) (v67 : BitVec 32) (k0_t3 : Fin (k0_t3_loop v67).trips) (v234 : BitVec 32) : Prop :=
  (∀ (k0_h12 : k0_cond12 v67 k0_t3 = 1#1), 2048 ∣ (k0_mult24 i v234).toNat) ∧
  (∀ (k0_h12 : k0_cond12 v67 k0_t3 = 1#1), ∀ a, (k0_off27 i v234) a + S2048.size a ≤ S1677721600.size a)
theorem k0_mult24_dvd : ∀ (i : grid0.Coords) (v67 : BitVec 32) (k0_t3 : Fin (k0_t3_loop v67).trips) (v234 : BitVec 32) (k0_hw24 : k0_chk24 i v67 k0_t3 v234), ∀ (k0_h12 : k0_cond12 v67 k0_t3 = 1#1), 2048 ∣ (k0_mult24 i v234).toNat := fun i v67 k0_t3 v234 k0_hw24 k0_h12 => k0_hw24.1 k0_h12
theorem k0_off27_inb : ∀ (i : grid0.Coords) (v67 : BitVec 32) (k0_t3 : Fin (k0_t3_loop v67).trips) (v234 : BitVec 32) (k0_hw24 : k0_chk24 i v67 k0_t3 v234), ∀ (k0_h12 : k0_cond12 v67 k0_t3 = 1#1), ∀ a, (k0_off27 i v234) a + S2048.size a ≤ S1677721600.size a := fun i v67 k0_t3 v234 k0_hw24 k0_h12 => k0_hw24.2 k0_h12

def k0_mult25 (v230 : BitVec 32) : BitVec 32 :=
  let c2048_i32_135 : BitVec 32 := 2048#32
  let v231 : BitVec 32 := Scalar.muli v230 c2048_i32_135
  v231
def k0_cond13 (v67 : BitVec 32) (k0_t3 : Fin (k0_t3_loop v67).trips) : BitVec 1 :=
  let c0_i32_54 : BitVec 32 := 0#32
  let c0_i32_55 : BitVec 32 := 0#32
  let c1_i32_57 : BitVec 32 := 1#32
  let arg13 : BitVec 32 := Scf.iv c0_i32_55 c1_i32_57 k0_t3
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let c11_i32 : BitVec 32 := 11#32
  let v209 : BitVec 32 := Scalar.addi v158 c11_i32
  let v210 : BitVec 1 := Scalar.cmpi .slt v209 v67
  let v211 : BitVec 32 := Scalar.extui v210
  let c0_i32_129 : BitVec 32 := 0#32
  let v212 : BitVec 1 := Scalar.cmpi .ne v211 c0_i32_129
  v212

def k0_mult26 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off28 (v230 : BitVec 32) : Fin 1 → Nat :=
  let c2048_i32_135 : BitVec 32 := 2048#32
  let v231 : BitVec 32 := Scalar.muli v230 c2048_i32_135
  let v232 : BitVec 32 := v231
  ![v232.toNat]

def k0_chk25 (v67 : BitVec 32) (k0_t3 : Fin (k0_t3_loop v67).trips) (v230 : BitVec 32) : Prop :=
  (∀ (k0_h13 : k0_cond13 v67 k0_t3 = 1#1), 2048 ∣ (k0_mult25 v230).toNat) ∧
  (∀ (k0_h13 : k0_cond13 v67 k0_t3 = 1#1), ∀ a, (k0_off28 v230) a + S2048.size a ≤ S102400.size a)
theorem k0_mult25_dvd : ∀ (v67 : BitVec 32) (k0_t3 : Fin (k0_t3_loop v67).trips) (v230 : BitVec 32) (k0_hw25 : k0_chk25 v67 k0_t3 v230), ∀ (k0_h13 : k0_cond13 v67 k0_t3 = 1#1), 2048 ∣ (k0_mult25 v230).toNat := fun v67 k0_t3 v230 k0_hw25 k0_h13 => k0_hw25.1 k0_h13
theorem k0_off28_inb : ∀ (v67 : BitVec 32) (k0_t3 : Fin (k0_t3_loop v67).trips) (v230 : BitVec 32) (k0_hw25 : k0_chk25 v67 k0_t3 v230), ∀ (k0_h13 : k0_cond13 v67 k0_t3 = 1#1), ∀ a, (k0_off28 v230) a + S2048.size a ≤ S102400.size a := fun v67 k0_t3 v230 k0_hw25 k0_h13 => k0_hw25.2 k0_h13

def k0_off29 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk26 (i : grid0.Coords) (v67 : BitVec 32) (k0_t3 : Fin (k0_t3_loop v67).trips) (v234 : BitVec 32) : Prop :=
  (∀ (k0_h13 : k0_cond13 v67 k0_t3 = 1#1), 2048 ∣ (k0_mult26 i v234).toNat) ∧
  (∀ (k0_h13 : k0_cond13 v67 k0_t3 = 1#1), ∀ a, (k0_off29 i v234) a + S2048.size a ≤ S1677721600.size a)
theorem k0_mult26_dvd : ∀ (i : grid0.Coords) (v67 : BitVec 32) (k0_t3 : Fin (k0_t3_loop v67).trips) (v234 : BitVec 32) (k0_hw26 : k0_chk26 i v67 k0_t3 v234), ∀ (k0_h13 : k0_cond13 v67 k0_t3 = 1#1), 2048 ∣ (k0_mult26 i v234).toNat := fun i v67 k0_t3 v234 k0_hw26 k0_h13 => k0_hw26.1 k0_h13
theorem k0_off29_inb : ∀ (i : grid0.Coords) (v67 : BitVec 32) (k0_t3 : Fin (k0_t3_loop v67).trips) (v234 : BitVec 32) (k0_hw26 : k0_chk26 i v67 k0_t3 v234), ∀ (k0_h13 : k0_cond13 v67 k0_t3 = 1#1), ∀ a, (k0_off29 i v234) a + S2048.size a ≤ S1677721600.size a := fun i v67 k0_t3 v234 k0_hw26 k0_h13 => k0_hw26.2 k0_h13

def k0_mult27 (v230 : BitVec 32) : BitVec 32 :=
  let c2048_i32_135 : BitVec 32 := 2048#32
  let v231 : BitVec 32 := Scalar.muli v230 c2048_i32_135
  v231
def k0_cond14 (v67 : BitVec 32) (k0_t3 : Fin (k0_t3_loop v67).trips) : BitVec 1 :=
  let c0_i32_54 : BitVec 32 := 0#32
  let c0_i32_55 : BitVec 32 := 0#32
  let c1_i32_57 : BitVec 32 := 1#32
  let arg13 : BitVec 32 := Scf.iv c0_i32_55 c1_i32_57 k0_t3
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let c12_i32 : BitVec 32 := 12#32
  let v213 : BitVec 32 := Scalar.addi v158 c12_i32
  let v214 : BitVec 1 := Scalar.cmpi .slt v213 v67
  let v215 : BitVec 32 := Scalar.extui v214
  let c0_i32_130 : BitVec 32 := 0#32
  let v216 : BitVec 1 := Scalar.cmpi .ne v215 c0_i32_130
  v216

def k0_mult28 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off30 (v230 : BitVec 32) : Fin 1 → Nat :=
  let c2048_i32_135 : BitVec 32 := 2048#32
  let v231 : BitVec 32 := Scalar.muli v230 c2048_i32_135
  let v232 : BitVec 32 := v231
  ![v232.toNat]

def k0_chk27 (v67 : BitVec 32) (k0_t3 : Fin (k0_t3_loop v67).trips) (v230 : BitVec 32) : Prop :=
  (∀ (k0_h14 : k0_cond14 v67 k0_t3 = 1#1), 2048 ∣ (k0_mult27 v230).toNat) ∧
  (∀ (k0_h14 : k0_cond14 v67 k0_t3 = 1#1), ∀ a, (k0_off30 v230) a + S2048.size a ≤ S102400.size a)
theorem k0_mult27_dvd : ∀ (v67 : BitVec 32) (k0_t3 : Fin (k0_t3_loop v67).trips) (v230 : BitVec 32) (k0_hw27 : k0_chk27 v67 k0_t3 v230), ∀ (k0_h14 : k0_cond14 v67 k0_t3 = 1#1), 2048 ∣ (k0_mult27 v230).toNat := fun v67 k0_t3 v230 k0_hw27 k0_h14 => k0_hw27.1 k0_h14
theorem k0_off30_inb : ∀ (v67 : BitVec 32) (k0_t3 : Fin (k0_t3_loop v67).trips) (v230 : BitVec 32) (k0_hw27 : k0_chk27 v67 k0_t3 v230), ∀ (k0_h14 : k0_cond14 v67 k0_t3 = 1#1), ∀ a, (k0_off30 v230) a + S2048.size a ≤ S102400.size a := fun v67 k0_t3 v230 k0_hw27 k0_h14 => k0_hw27.2 k0_h14

def k0_off31 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk28 (i : grid0.Coords) (v67 : BitVec 32) (k0_t3 : Fin (k0_t3_loop v67).trips) (v234 : BitVec 32) : Prop :=
  (∀ (k0_h14 : k0_cond14 v67 k0_t3 = 1#1), 2048 ∣ (k0_mult28 i v234).toNat) ∧
  (∀ (k0_h14 : k0_cond14 v67 k0_t3 = 1#1), ∀ a, (k0_off31 i v234) a + S2048.size a ≤ S1677721600.size a)
theorem k0_mult28_dvd : ∀ (i : grid0.Coords) (v67 : BitVec 32) (k0_t3 : Fin (k0_t3_loop v67).trips) (v234 : BitVec 32) (k0_hw28 : k0_chk28 i v67 k0_t3 v234), ∀ (k0_h14 : k0_cond14 v67 k0_t3 = 1#1), 2048 ∣ (k0_mult28 i v234).toNat := fun i v67 k0_t3 v234 k0_hw28 k0_h14 => k0_hw28.1 k0_h14
theorem k0_off31_inb : ∀ (i : grid0.Coords) (v67 : BitVec 32) (k0_t3 : Fin (k0_t3_loop v67).trips) (v234 : BitVec 32) (k0_hw28 : k0_chk28 i v67 k0_t3 v234), ∀ (k0_h14 : k0_cond14 v67 k0_t3 = 1#1), ∀ a, (k0_off31 i v234) a + S2048.size a ≤ S1677721600.size a := fun i v67 k0_t3 v234 k0_hw28 k0_h14 => k0_hw28.2 k0_h14

def k0_mult29 (v230 : BitVec 32) : BitVec 32 :=
  let c2048_i32_135 : BitVec 32 := 2048#32
  let v231 : BitVec 32 := Scalar.muli v230 c2048_i32_135
  v231
def k0_cond15 (v67 : BitVec 32) (k0_t3 : Fin (k0_t3_loop v67).trips) : BitVec 1 :=
  let c0_i32_54 : BitVec 32 := 0#32
  let c0_i32_55 : BitVec 32 := 0#32
  let c1_i32_57 : BitVec 32 := 1#32
  let arg13 : BitVec 32 := Scf.iv c0_i32_55 c1_i32_57 k0_t3
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let c13_i32 : BitVec 32 := 13#32
  let v217 : BitVec 32 := Scalar.addi v158 c13_i32
  let v218 : BitVec 1 := Scalar.cmpi .slt v217 v67
  let v219 : BitVec 32 := Scalar.extui v218
  let c0_i32_131 : BitVec 32 := 0#32
  let v220 : BitVec 1 := Scalar.cmpi .ne v219 c0_i32_131
  v220

def k0_mult30 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off32 (v230 : BitVec 32) : Fin 1 → Nat :=
  let c2048_i32_135 : BitVec 32 := 2048#32
  let v231 : BitVec 32 := Scalar.muli v230 c2048_i32_135
  let v232 : BitVec 32 := v231
  ![v232.toNat]

def k0_chk29 (v67 : BitVec 32) (k0_t3 : Fin (k0_t3_loop v67).trips) (v230 : BitVec 32) : Prop :=
  (∀ (k0_h15 : k0_cond15 v67 k0_t3 = 1#1), 2048 ∣ (k0_mult29 v230).toNat) ∧
  (∀ (k0_h15 : k0_cond15 v67 k0_t3 = 1#1), ∀ a, (k0_off32 v230) a + S2048.size a ≤ S102400.size a)
theorem k0_mult29_dvd : ∀ (v67 : BitVec 32) (k0_t3 : Fin (k0_t3_loop v67).trips) (v230 : BitVec 32) (k0_hw29 : k0_chk29 v67 k0_t3 v230), ∀ (k0_h15 : k0_cond15 v67 k0_t3 = 1#1), 2048 ∣ (k0_mult29 v230).toNat := fun v67 k0_t3 v230 k0_hw29 k0_h15 => k0_hw29.1 k0_h15
theorem k0_off32_inb : ∀ (v67 : BitVec 32) (k0_t3 : Fin (k0_t3_loop v67).trips) (v230 : BitVec 32) (k0_hw29 : k0_chk29 v67 k0_t3 v230), ∀ (k0_h15 : k0_cond15 v67 k0_t3 = 1#1), ∀ a, (k0_off32 v230) a + S2048.size a ≤ S102400.size a := fun v67 k0_t3 v230 k0_hw29 k0_h15 => k0_hw29.2 k0_h15

def k0_off33 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk30 (i : grid0.Coords) (v67 : BitVec 32) (k0_t3 : Fin (k0_t3_loop v67).trips) (v234 : BitVec 32) : Prop :=
  (∀ (k0_h15 : k0_cond15 v67 k0_t3 = 1#1), 2048 ∣ (k0_mult30 i v234).toNat) ∧
  (∀ (k0_h15 : k0_cond15 v67 k0_t3 = 1#1), ∀ a, (k0_off33 i v234) a + S2048.size a ≤ S1677721600.size a)
theorem k0_mult30_dvd : ∀ (i : grid0.Coords) (v67 : BitVec 32) (k0_t3 : Fin (k0_t3_loop v67).trips) (v234 : BitVec 32) (k0_hw30 : k0_chk30 i v67 k0_t3 v234), ∀ (k0_h15 : k0_cond15 v67 k0_t3 = 1#1), 2048 ∣ (k0_mult30 i v234).toNat := fun i v67 k0_t3 v234 k0_hw30 k0_h15 => k0_hw30.1 k0_h15
theorem k0_off33_inb : ∀ (i : grid0.Coords) (v67 : BitVec 32) (k0_t3 : Fin (k0_t3_loop v67).trips) (v234 : BitVec 32) (k0_hw30 : k0_chk30 i v67 k0_t3 v234), ∀ (k0_h15 : k0_cond15 v67 k0_t3 = 1#1), ∀ a, (k0_off33 i v234) a + S2048.size a ≤ S1677721600.size a := fun i v67 k0_t3 v234 k0_hw30 k0_h15 => k0_hw30.2 k0_h15

def k0_mult31 (v230 : BitVec 32) : BitVec 32 :=
  let c2048_i32_135 : BitVec 32 := 2048#32
  let v231 : BitVec 32 := Scalar.muli v230 c2048_i32_135
  v231
def k0_cond16 (v67 : BitVec 32) (k0_t3 : Fin (k0_t3_loop v67).trips) : BitVec 1 :=
  let c0_i32_54 : BitVec 32 := 0#32
  let c0_i32_55 : BitVec 32 := 0#32
  let c1_i32_57 : BitVec 32 := 1#32
  let arg13 : BitVec 32 := Scf.iv c0_i32_55 c1_i32_57 k0_t3
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let c14_i32 : BitVec 32 := 14#32
  let v221 : BitVec 32 := Scalar.addi v158 c14_i32
  let v222 : BitVec 1 := Scalar.cmpi .slt v221 v67
  let v223 : BitVec 32 := Scalar.extui v222
  let c0_i32_132 : BitVec 32 := 0#32
  let v224 : BitVec 1 := Scalar.cmpi .ne v223 c0_i32_132
  v224

def k0_mult32 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off34 (v230 : BitVec 32) : Fin 1 → Nat :=
  let c2048_i32_135 : BitVec 32 := 2048#32
  let v231 : BitVec 32 := Scalar.muli v230 c2048_i32_135
  let v232 : BitVec 32 := v231
  ![v232.toNat]

def k0_chk31 (v67 : BitVec 32) (k0_t3 : Fin (k0_t3_loop v67).trips) (v230 : BitVec 32) : Prop :=
  (∀ (k0_h16 : k0_cond16 v67 k0_t3 = 1#1), 2048 ∣ (k0_mult31 v230).toNat) ∧
  (∀ (k0_h16 : k0_cond16 v67 k0_t3 = 1#1), ∀ a, (k0_off34 v230) a + S2048.size a ≤ S102400.size a)
theorem k0_mult31_dvd : ∀ (v67 : BitVec 32) (k0_t3 : Fin (k0_t3_loop v67).trips) (v230 : BitVec 32) (k0_hw31 : k0_chk31 v67 k0_t3 v230), ∀ (k0_h16 : k0_cond16 v67 k0_t3 = 1#1), 2048 ∣ (k0_mult31 v230).toNat := fun v67 k0_t3 v230 k0_hw31 k0_h16 => k0_hw31.1 k0_h16
theorem k0_off34_inb : ∀ (v67 : BitVec 32) (k0_t3 : Fin (k0_t3_loop v67).trips) (v230 : BitVec 32) (k0_hw31 : k0_chk31 v67 k0_t3 v230), ∀ (k0_h16 : k0_cond16 v67 k0_t3 = 1#1), ∀ a, (k0_off34 v230) a + S2048.size a ≤ S102400.size a := fun v67 k0_t3 v230 k0_hw31 k0_h16 => k0_hw31.2 k0_h16

def k0_off35 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk32 (i : grid0.Coords) (v67 : BitVec 32) (k0_t3 : Fin (k0_t3_loop v67).trips) (v234 : BitVec 32) : Prop :=
  (∀ (k0_h16 : k0_cond16 v67 k0_t3 = 1#1), 2048 ∣ (k0_mult32 i v234).toNat) ∧
  (∀ (k0_h16 : k0_cond16 v67 k0_t3 = 1#1), ∀ a, (k0_off35 i v234) a + S2048.size a ≤ S1677721600.size a)
theorem k0_mult32_dvd : ∀ (i : grid0.Coords) (v67 : BitVec 32) (k0_t3 : Fin (k0_t3_loop v67).trips) (v234 : BitVec 32) (k0_hw32 : k0_chk32 i v67 k0_t3 v234), ∀ (k0_h16 : k0_cond16 v67 k0_t3 = 1#1), 2048 ∣ (k0_mult32 i v234).toNat := fun i v67 k0_t3 v234 k0_hw32 k0_h16 => k0_hw32.1 k0_h16
theorem k0_off35_inb : ∀ (i : grid0.Coords) (v67 : BitVec 32) (k0_t3 : Fin (k0_t3_loop v67).trips) (v234 : BitVec 32) (k0_hw32 : k0_chk32 i v67 k0_t3 v234), ∀ (k0_h16 : k0_cond16 v67 k0_t3 = 1#1), ∀ a, (k0_off35 i v234) a + S2048.size a ≤ S1677721600.size a := fun i v67 k0_t3 v234 k0_hw32 k0_h16 => k0_hw32.2 k0_h16

def k0_mult33 (v230 : BitVec 32) : BitVec 32 :=
  let c2048_i32_135 : BitVec 32 := 2048#32
  let v231 : BitVec 32 := Scalar.muli v230 c2048_i32_135
  v231
def k0_cond17 (v67 : BitVec 32) (k0_t3 : Fin (k0_t3_loop v67).trips) : BitVec 1 :=
  let c0_i32_54 : BitVec 32 := 0#32
  let c0_i32_55 : BitVec 32 := 0#32
  let c1_i32_57 : BitVec 32 := 1#32
  let arg13 : BitVec 32 := Scf.iv c0_i32_55 c1_i32_57 k0_t3
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let c15_i32_133 : BitVec 32 := 15#32
  let v225 : BitVec 32 := Scalar.addi v158 c15_i32_133
  let v226 : BitVec 1 := Scalar.cmpi .slt v225 v67
  let v227 : BitVec 32 := Scalar.extui v226
  let c0_i32_134 : BitVec 32 := 0#32
  let v228 : BitVec 1 := Scalar.cmpi .ne v227 c0_i32_134
  v228

def k0_mult34 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off36 (v230 : BitVec 32) : Fin 1 → Nat :=
  let c2048_i32_135 : BitVec 32 := 2048#32
  let v231 : BitVec 32 := Scalar.muli v230 c2048_i32_135
  let v232 : BitVec 32 := v231
  ![v232.toNat]

def k0_chk33 (v67 : BitVec 32) (k0_t3 : Fin (k0_t3_loop v67).trips) (v230 : BitVec 32) : Prop :=
  (∀ (k0_h17 : k0_cond17 v67 k0_t3 = 1#1), 2048 ∣ (k0_mult33 v230).toNat) ∧
  (∀ (k0_h17 : k0_cond17 v67 k0_t3 = 1#1), ∀ a, (k0_off36 v230) a + S2048.size a ≤ S102400.size a)
theorem k0_mult33_dvd : ∀ (v67 : BitVec 32) (k0_t3 : Fin (k0_t3_loop v67).trips) (v230 : BitVec 32) (k0_hw33 : k0_chk33 v67 k0_t3 v230), ∀ (k0_h17 : k0_cond17 v67 k0_t3 = 1#1), 2048 ∣ (k0_mult33 v230).toNat := fun v67 k0_t3 v230 k0_hw33 k0_h17 => k0_hw33.1 k0_h17
theorem k0_off36_inb : ∀ (v67 : BitVec 32) (k0_t3 : Fin (k0_t3_loop v67).trips) (v230 : BitVec 32) (k0_hw33 : k0_chk33 v67 k0_t3 v230), ∀ (k0_h17 : k0_cond17 v67 k0_t3 = 1#1), ∀ a, (k0_off36 v230) a + S2048.size a ≤ S102400.size a := fun v67 k0_t3 v230 k0_hw33 k0_h17 => k0_hw33.2 k0_h17

def k0_off37 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk34 (i : grid0.Coords) (v67 : BitVec 32) (k0_t3 : Fin (k0_t3_loop v67).trips) (v234 : BitVec 32) : Prop :=
  (∀ (k0_h17 : k0_cond17 v67 k0_t3 = 1#1), 2048 ∣ (k0_mult34 i v234).toNat) ∧
  (∀ (k0_h17 : k0_cond17 v67 k0_t3 = 1#1), ∀ a, (k0_off37 i v234) a + S2048.size a ≤ S1677721600.size a)
theorem k0_mult34_dvd : ∀ (i : grid0.Coords) (v67 : BitVec 32) (k0_t3 : Fin (k0_t3_loop v67).trips) (v234 : BitVec 32) (k0_hw34 : k0_chk34 i v67 k0_t3 v234), ∀ (k0_h17 : k0_cond17 v67 k0_t3 = 1#1), 2048 ∣ (k0_mult34 i v234).toNat := fun i v67 k0_t3 v234 k0_hw34 k0_h17 => k0_hw34.1 k0_h17
theorem k0_off37_inb : ∀ (i : grid0.Coords) (v67 : BitVec 32) (k0_t3 : Fin (k0_t3_loop v67).trips) (v234 : BitVec 32) (k0_hw34 : k0_chk34 i v67 k0_t3 v234), ∀ (k0_h17 : k0_cond17 v67 k0_t3 = 1#1), ∀ a, (k0_off37 i v234) a + S2048.size a ≤ S1677721600.size a := fun i v67 k0_t3 v234 k0_hw34 k0_h17 => k0_hw34.2 k0_h17

@[reducible] def k0_t4_loop (v67 : BitVec 32) : Scf.Loop 32 :=
  let c0_i32_55 : BitVec 32 := 0#32
  let c15_i32 : BitVec 32 := 15#32
  let v68 : BitVec 32 := Scalar.addi v67 c15_i32
  let c0_i32_43 : BitVec 32 := 0#32
  let v70 : BitVec 1 := Scalar.cmpi .sgt v68 c0_i32_43
  let v71 : BitVec 32 := Scalar.extui v70
  let c0_i32_44 : BitVec 32 := 0#32
  let v72 : BitVec 1 := Scalar.cmpi .slt v68 c0_i32_44
  let v73 : BitVec 32 := Scalar.extui v72
  let v74 : BitVec 32 := Scalar.subi v71 v73
  let c16_i32 : BitVec 32 := 16#32
  let c0_i32_45 : BitVec 32 := 0#32
  let v75 : BitVec 1 := Scalar.cmpi .sgt c16_i32 c0_i32_45
  let v76 : BitVec 32 := Scalar.extui v75
  let c0_i32_46 : BitVec 32 := 0#32
  let v77 : BitVec 1 := Scalar.cmpi .slt c16_i32 c0_i32_46
  let v78 : BitVec 32 := Scalar.extui v77
  let v79 : BitVec 32 := Scalar.subi v76 v78
  let v80 : BitVec 1 := Scalar.cmpi .ne v74 v79
  let v81 : BitVec 32 := Scalar.remsi v68 c16_i32
  let c0_i32_47 : BitVec 32 := 0#32
  let v82 : BitVec 1 := Scalar.cmpi .ne v81 c0_i32_47
  let v83 : BitVec 1 := Scalar.andi v80 v82
  let v69 : BitVec 32 := Scalar.divsi v68 c16_i32
  let c1_i32_48 : BitVec 32 := 1#32
  let v84 : BitVec 32 := Scalar.subi v69 c1_i32_48
  let v85 : BitVec 32 := Scalar.select v83 v84 v69
  let c0_i32_49 : BitVec 32 := 0#32
  let v86 : BitVec 32 := Scalar.subi v85 c0_i32_49
  let c1_i32_50 : BitVec 32 := 1#32
  let c1_i32_51 : BitVec 32 := 1#32
  let v87 : BitVec 32 := Scalar.subi c1_i32_50 c1_i32_51
  let v88 : BitVec 32 := Scalar.addi v86 v87
  let c1_i32_52 : BitVec 32 := 1#32
  let v89 : BitVec 32 := Scalar.divsi v88 c1_i32_52
  let v90 : BitVec 32 := Scalar.subi v89 c0_i32_55
  let c1_i32_56 : BitVec 32 := 1#32
  let v92 : BitVec 32 := Scalar.divsi v90 c1_i32_56
  let v93 : BitVec 32 := Scalar.muli v92 c1_i32_56
  let v94 : BitVec 32 := Scalar.addi c0_i32_55 v93
  let v91 : BitVec 32 := Scalar.addi c0_i32_55 v90
  let c1_i32_58 : BitVec 32 := 1#32
  ⟨v94, v91, c1_i32_58⟩
def k0_mult35 (v67 : BitVec 32) (k0_t4 : Fin (k0_t4_loop v67).trips) : BitVec 32 :=
  let c0_i32_54 : BitVec 32 := 0#32
  let c0_i32_55 : BitVec 32 := 0#32
  let c15_i32 : BitVec 32 := 15#32
  let v68 : BitVec 32 := Scalar.addi v67 c15_i32
  let c0_i32_43 : BitVec 32 := 0#32
  let v70 : BitVec 1 := Scalar.cmpi .sgt v68 c0_i32_43
  let v71 : BitVec 32 := Scalar.extui v70
  let c0_i32_44 : BitVec 32 := 0#32
  let v72 : BitVec 1 := Scalar.cmpi .slt v68 c0_i32_44
  let v73 : BitVec 32 := Scalar.extui v72
  let v74 : BitVec 32 := Scalar.subi v71 v73
  let c16_i32 : BitVec 32 := 16#32
  let c0_i32_45 : BitVec 32 := 0#32
  let v75 : BitVec 1 := Scalar.cmpi .sgt c16_i32 c0_i32_45
  let v76 : BitVec 32 := Scalar.extui v75
  let c0_i32_46 : BitVec 32 := 0#32
  let v77 : BitVec 1 := Scalar.cmpi .slt c16_i32 c0_i32_46
  let v78 : BitVec 32 := Scalar.extui v77
  let v79 : BitVec 32 := Scalar.subi v76 v78
  let v80 : BitVec 1 := Scalar.cmpi .ne v74 v79
  let v81 : BitVec 32 := Scalar.remsi v68 c16_i32
  let c0_i32_47 : BitVec 32 := 0#32
  let v82 : BitVec 1 := Scalar.cmpi .ne v81 c0_i32_47
  let v83 : BitVec 1 := Scalar.andi v80 v82
  let v69 : BitVec 32 := Scalar.divsi v68 c16_i32
  let c1_i32_48 : BitVec 32 := 1#32
  let v84 : BitVec 32 := Scalar.subi v69 c1_i32_48
  let v85 : BitVec 32 := Scalar.select v83 v84 v69
  let c0_i32_49 : BitVec 32 := 0#32
  let v86 : BitVec 32 := Scalar.subi v85 c0_i32_49
  let c1_i32_50 : BitVec 32 := 1#32
  let c1_i32_51 : BitVec 32 := 1#32
  let v87 : BitVec 32 := Scalar.subi c1_i32_50 c1_i32_51
  let v88 : BitVec 32 := Scalar.addi v86 v87
  let c1_i32_52 : BitVec 32 := 1#32
  let v89 : BitVec 32 := Scalar.divsi v88 c1_i32_52
  let v90 : BitVec 32 := Scalar.subi v89 c0_i32_55
  let c1_i32_56 : BitVec 32 := 1#32
  let v92 : BitVec 32 := Scalar.divsi v90 c1_i32_56
  let v93 : BitVec 32 := Scalar.muli v92 c1_i32_56
  let v94 : BitVec 32 := Scalar.addi c0_i32_55 v93
  let c1_i32_58 : BitVec 32 := 1#32
  let arg13 : BitVec 32 := Scf.iv v94 c1_i32_58 k0_t4
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  v158
def k0_off38 (v67 : BitVec 32) (k0_t4 : Fin (k0_t4_loop v67).trips) : Fin 1 → Nat :=
  let c0_i32_54 : BitVec 32 := 0#32
  let c0_i32_55 : BitVec 32 := 0#32
  let c15_i32 : BitVec 32 := 15#32
  let v68 : BitVec 32 := Scalar.addi v67 c15_i32
  let c0_i32_43 : BitVec 32 := 0#32
  let v70 : BitVec 1 := Scalar.cmpi .sgt v68 c0_i32_43
  let v71 : BitVec 32 := Scalar.extui v70
  let c0_i32_44 : BitVec 32 := 0#32
  let v72 : BitVec 1 := Scalar.cmpi .slt v68 c0_i32_44
  let v73 : BitVec 32 := Scalar.extui v72
  let v74 : BitVec 32 := Scalar.subi v71 v73
  let c16_i32 : BitVec 32 := 16#32
  let c0_i32_45 : BitVec 32 := 0#32
  let v75 : BitVec 1 := Scalar.cmpi .sgt c16_i32 c0_i32_45
  let v76 : BitVec 32 := Scalar.extui v75
  let c0_i32_46 : BitVec 32 := 0#32
  let v77 : BitVec 1 := Scalar.cmpi .slt c16_i32 c0_i32_46
  let v78 : BitVec 32 := Scalar.extui v77
  let v79 : BitVec 32 := Scalar.subi v76 v78
  let v80 : BitVec 1 := Scalar.cmpi .ne v74 v79
  let v81 : BitVec 32 := Scalar.remsi v68 c16_i32
  let c0_i32_47 : BitVec 32 := 0#32
  let v82 : BitVec 1 := Scalar.cmpi .ne v81 c0_i32_47
  let v83 : BitVec 1 := Scalar.andi v80 v82
  let v69 : BitVec 32 := Scalar.divsi v68 c16_i32
  let c1_i32_48 : BitVec 32 := 1#32
  let v84 : BitVec 32 := Scalar.subi v69 c1_i32_48
  let v85 : BitVec 32 := Scalar.select v83 v84 v69
  let c0_i32_49 : BitVec 32 := 0#32
  let v86 : BitVec 32 := Scalar.subi v85 c0_i32_49
  let c1_i32_50 : BitVec 32 := 1#32
  let c1_i32_51 : BitVec 32 := 1#32
  let v87 : BitVec 32 := Scalar.subi c1_i32_50 c1_i32_51
  let v88 : BitVec 32 := Scalar.addi v86 v87
  let c1_i32_52 : BitVec 32 := 1#32
  let v89 : BitVec 32 := Scalar.divsi v88 c1_i32_52
  let v90 : BitVec 32 := Scalar.subi v89 c0_i32_55
  let c1_i32_56 : BitVec 32 := 1#32
  let v92 : BitVec 32 := Scalar.divsi v90 c1_i32_56
  let v93 : BitVec 32 := Scalar.muli v92 c1_i32_56
  let v94 : BitVec 32 := Scalar.addi c0_i32_55 v93
  let c1_i32_58 : BitVec 32 := 1#32
  let arg13 : BitVec 32 := Scf.iv v94 c1_i32_58 k0_t4
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let v159 : BitVec 32 := v158
  let v160 : Index := Scalar.indexCast v159
  ![v160.toNat]
def k0_mult36 (v67 : BitVec 32) (k0_t4 : Fin (k0_t4_loop v67).trips) : BitVec 32 :=
  let c0_i32_54 : BitVec 32 := 0#32
  let c0_i32_55 : BitVec 32 := 0#32
  let c15_i32 : BitVec 32 := 15#32
  let v68 : BitVec 32 := Scalar.addi v67 c15_i32
  let c0_i32_43 : BitVec 32 := 0#32
  let v70 : BitVec 1 := Scalar.cmpi .sgt v68 c0_i32_43
  let v71 : BitVec 32 := Scalar.extui v70
  let c0_i32_44 : BitVec 32 := 0#32
  let v72 : BitVec 1 := Scalar.cmpi .slt v68 c0_i32_44
  let v73 : BitVec 32 := Scalar.extui v72
  let v74 : BitVec 32 := Scalar.subi v71 v73
  let c16_i32 : BitVec 32 := 16#32
  let c0_i32_45 : BitVec 32 := 0#32
  let v75 : BitVec 1 := Scalar.cmpi .sgt c16_i32 c0_i32_45
  let v76 : BitVec 32 := Scalar.extui v75
  let c0_i32_46 : BitVec 32 := 0#32
  let v77 : BitVec 1 := Scalar.cmpi .slt c16_i32 c0_i32_46
  let v78 : BitVec 32 := Scalar.extui v77
  let v79 : BitVec 32 := Scalar.subi v76 v78
  let v80 : BitVec 1 := Scalar.cmpi .ne v74 v79
  let v81 : BitVec 32 := Scalar.remsi v68 c16_i32
  let c0_i32_47 : BitVec 32 := 0#32
  let v82 : BitVec 1 := Scalar.cmpi .ne v81 c0_i32_47
  let v83 : BitVec 1 := Scalar.andi v80 v82
  let v69 : BitVec 32 := Scalar.divsi v68 c16_i32
  let c1_i32_48 : BitVec 32 := 1#32
  let v84 : BitVec 32 := Scalar.subi v69 c1_i32_48
  let v85 : BitVec 32 := Scalar.select v83 v84 v69
  let c0_i32_49 : BitVec 32 := 0#32
  let v86 : BitVec 32 := Scalar.subi v85 c0_i32_49
  let c1_i32_50 : BitVec 32 := 1#32
  let c1_i32_51 : BitVec 32 := 1#32
  let v87 : BitVec 32 := Scalar.subi c1_i32_50 c1_i32_51
  let v88 : BitVec 32 := Scalar.addi v86 v87
  let c1_i32_52 : BitVec 32 := 1#32
  let v89 : BitVec 32 := Scalar.divsi v88 c1_i32_52
  let v90 : BitVec 32 := Scalar.subi v89 c0_i32_55
  let c1_i32_56 : BitVec 32 := 1#32
  let v92 : BitVec 32 := Scalar.divsi v90 c1_i32_56
  let v93 : BitVec 32 := Scalar.muli v92 c1_i32_56
  let v94 : BitVec 32 := Scalar.addi c0_i32_55 v93
  let c1_i32_58 : BitVec 32 := 1#32
  let arg13 : BitVec 32 := Scf.iv v94 c1_i32_58 k0_t4
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  v158
def k0_mult37 (v230 : BitVec 32) : BitVec 32 :=
  let c2048_i32_135 : BitVec 32 := 2048#32
  let v231 : BitVec 32 := Scalar.muli v230 c2048_i32_135
  v231
def k0_cond18 (v67 : BitVec 32) (k0_t4 : Fin (k0_t4_loop v67).trips) : BitVec 1 :=
  let c0_i32_54 : BitVec 32 := 0#32
  let c0_i32_55 : BitVec 32 := 0#32
  let c15_i32 : BitVec 32 := 15#32
  let v68 : BitVec 32 := Scalar.addi v67 c15_i32
  let c0_i32_43 : BitVec 32 := 0#32
  let v70 : BitVec 1 := Scalar.cmpi .sgt v68 c0_i32_43
  let v71 : BitVec 32 := Scalar.extui v70
  let c0_i32_44 : BitVec 32 := 0#32
  let v72 : BitVec 1 := Scalar.cmpi .slt v68 c0_i32_44
  let v73 : BitVec 32 := Scalar.extui v72
  let v74 : BitVec 32 := Scalar.subi v71 v73
  let c16_i32 : BitVec 32 := 16#32
  let c0_i32_45 : BitVec 32 := 0#32
  let v75 : BitVec 1 := Scalar.cmpi .sgt c16_i32 c0_i32_45
  let v76 : BitVec 32 := Scalar.extui v75
  let c0_i32_46 : BitVec 32 := 0#32
  let v77 : BitVec 1 := Scalar.cmpi .slt c16_i32 c0_i32_46
  let v78 : BitVec 32 := Scalar.extui v77
  let v79 : BitVec 32 := Scalar.subi v76 v78
  let v80 : BitVec 1 := Scalar.cmpi .ne v74 v79
  let v81 : BitVec 32 := Scalar.remsi v68 c16_i32
  let c0_i32_47 : BitVec 32 := 0#32
  let v82 : BitVec 1 := Scalar.cmpi .ne v81 c0_i32_47
  let v83 : BitVec 1 := Scalar.andi v80 v82
  let v69 : BitVec 32 := Scalar.divsi v68 c16_i32
  let c1_i32_48 : BitVec 32 := 1#32
  let v84 : BitVec 32 := Scalar.subi v69 c1_i32_48
  let v85 : BitVec 32 := Scalar.select v83 v84 v69
  let c0_i32_49 : BitVec 32 := 0#32
  let v86 : BitVec 32 := Scalar.subi v85 c0_i32_49
  let c1_i32_50 : BitVec 32 := 1#32
  let c1_i32_51 : BitVec 32 := 1#32
  let v87 : BitVec 32 := Scalar.subi c1_i32_50 c1_i32_51
  let v88 : BitVec 32 := Scalar.addi v86 v87
  let c1_i32_52 : BitVec 32 := 1#32
  let v89 : BitVec 32 := Scalar.divsi v88 c1_i32_52
  let v90 : BitVec 32 := Scalar.subi v89 c0_i32_55
  let c1_i32_56 : BitVec 32 := 1#32
  let v92 : BitVec 32 := Scalar.divsi v90 c1_i32_56
  let v93 : BitVec 32 := Scalar.muli v92 c1_i32_56
  let v94 : BitVec 32 := Scalar.addi c0_i32_55 v93
  let c1_i32_58 : BitVec 32 := 1#32
  let arg13 : BitVec 32 := Scf.iv v94 c1_i32_58 k0_t4
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let c0_i32_114 : BitVec 32 := 0#32
  let v165 : BitVec 32 := Scalar.addi v158 c0_i32_114
  let v166 : BitVec 1 := Scalar.cmpi .slt v165 v67
  let v167 : BitVec 32 := Scalar.extui v166
  let c0_i32_115 : BitVec 32 := 0#32
  let v168 : BitVec 1 := Scalar.cmpi .ne v167 c0_i32_115
  v168

def k0_mult38 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off39 (v230 : BitVec 32) : Fin 1 → Nat :=
  let c2048_i32_135 : BitVec 32 := 2048#32
  let v231 : BitVec 32 := Scalar.muli v230 c2048_i32_135
  let v232 : BitVec 32 := v231
  ![v232.toNat]

def k0_chk35 (v67 : BitVec 32) (k0_t4 : Fin (k0_t4_loop v67).trips) (v230 : BitVec 32) : Prop :=
  (∀ (k0_h18 : k0_cond18 v67 k0_t4 = 1#1), 2048 ∣ (k0_mult37 v230).toNat) ∧
  (∀ (k0_h18 : k0_cond18 v67 k0_t4 = 1#1), ∀ a, (k0_off39 v230) a + S2048.size a ≤ S102400.size a)
theorem k0_mult37_dvd : ∀ (v67 : BitVec 32) (k0_t4 : Fin (k0_t4_loop v67).trips) (v230 : BitVec 32) (k0_hw35 : k0_chk35 v67 k0_t4 v230), ∀ (k0_h18 : k0_cond18 v67 k0_t4 = 1#1), 2048 ∣ (k0_mult37 v230).toNat := fun v67 k0_t4 v230 k0_hw35 k0_h18 => k0_hw35.1 k0_h18
theorem k0_off39_inb : ∀ (v67 : BitVec 32) (k0_t4 : Fin (k0_t4_loop v67).trips) (v230 : BitVec 32) (k0_hw35 : k0_chk35 v67 k0_t4 v230), ∀ (k0_h18 : k0_cond18 v67 k0_t4 = 1#1), ∀ a, (k0_off39 v230) a + S2048.size a ≤ S102400.size a := fun v67 k0_t4 v230 k0_hw35 k0_h18 => k0_hw35.2 k0_h18

def k0_off40 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk36 (i : grid0.Coords) (v67 : BitVec 32) (k0_t4 : Fin (k0_t4_loop v67).trips) (v234 : BitVec 32) : Prop :=
  (∀ (k0_h18 : k0_cond18 v67 k0_t4 = 1#1), 2048 ∣ (k0_mult38 i v234).toNat) ∧
  (∀ (k0_h18 : k0_cond18 v67 k0_t4 = 1#1), ∀ a, (k0_off40 i v234) a + S2048.size a ≤ S1677721600.size a)
theorem k0_mult38_dvd : ∀ (i : grid0.Coords) (v67 : BitVec 32) (k0_t4 : Fin (k0_t4_loop v67).trips) (v234 : BitVec 32) (k0_hw36 : k0_chk36 i v67 k0_t4 v234), ∀ (k0_h18 : k0_cond18 v67 k0_t4 = 1#1), 2048 ∣ (k0_mult38 i v234).toNat := fun i v67 k0_t4 v234 k0_hw36 k0_h18 => k0_hw36.1 k0_h18
theorem k0_off40_inb : ∀ (i : grid0.Coords) (v67 : BitVec 32) (k0_t4 : Fin (k0_t4_loop v67).trips) (v234 : BitVec 32) (k0_hw36 : k0_chk36 i v67 k0_t4 v234), ∀ (k0_h18 : k0_cond18 v67 k0_t4 = 1#1), ∀ a, (k0_off40 i v234) a + S2048.size a ≤ S1677721600.size a := fun i v67 k0_t4 v234 k0_hw36 k0_h18 => k0_hw36.2 k0_h18

def k0_mult39 (v230 : BitVec 32) : BitVec 32 :=
  let c2048_i32_135 : BitVec 32 := 2048#32
  let v231 : BitVec 32 := Scalar.muli v230 c2048_i32_135
  v231
def k0_cond19 (v67 : BitVec 32) (k0_t4 : Fin (k0_t4_loop v67).trips) : BitVec 1 :=
  let c0_i32_54 : BitVec 32 := 0#32
  let c0_i32_55 : BitVec 32 := 0#32
  let c15_i32 : BitVec 32 := 15#32
  let v68 : BitVec 32 := Scalar.addi v67 c15_i32
  let c0_i32_43 : BitVec 32 := 0#32
  let v70 : BitVec 1 := Scalar.cmpi .sgt v68 c0_i32_43
  let v71 : BitVec 32 := Scalar.extui v70
  let c0_i32_44 : BitVec 32 := 0#32
  let v72 : BitVec 1 := Scalar.cmpi .slt v68 c0_i32_44
  let v73 : BitVec 32 := Scalar.extui v72
  let v74 : BitVec 32 := Scalar.subi v71 v73
  let c16_i32 : BitVec 32 := 16#32
  let c0_i32_45 : BitVec 32 := 0#32
  let v75 : BitVec 1 := Scalar.cmpi .sgt c16_i32 c0_i32_45
  let v76 : BitVec 32 := Scalar.extui v75
  let c0_i32_46 : BitVec 32 := 0#32
  let v77 : BitVec 1 := Scalar.cmpi .slt c16_i32 c0_i32_46
  let v78 : BitVec 32 := Scalar.extui v77
  let v79 : BitVec 32 := Scalar.subi v76 v78
  let v80 : BitVec 1 := Scalar.cmpi .ne v74 v79
  let v81 : BitVec 32 := Scalar.remsi v68 c16_i32
  let c0_i32_47 : BitVec 32 := 0#32
  let v82 : BitVec 1 := Scalar.cmpi .ne v81 c0_i32_47
  let v83 : BitVec 1 := Scalar.andi v80 v82
  let v69 : BitVec 32 := Scalar.divsi v68 c16_i32
  let c1_i32_48 : BitVec 32 := 1#32
  let v84 : BitVec 32 := Scalar.subi v69 c1_i32_48
  let v85 : BitVec 32 := Scalar.select v83 v84 v69
  let c0_i32_49 : BitVec 32 := 0#32
  let v86 : BitVec 32 := Scalar.subi v85 c0_i32_49
  let c1_i32_50 : BitVec 32 := 1#32
  let c1_i32_51 : BitVec 32 := 1#32
  let v87 : BitVec 32 := Scalar.subi c1_i32_50 c1_i32_51
  let v88 : BitVec 32 := Scalar.addi v86 v87
  let c1_i32_52 : BitVec 32 := 1#32
  let v89 : BitVec 32 := Scalar.divsi v88 c1_i32_52
  let v90 : BitVec 32 := Scalar.subi v89 c0_i32_55
  let c1_i32_56 : BitVec 32 := 1#32
  let v92 : BitVec 32 := Scalar.divsi v90 c1_i32_56
  let v93 : BitVec 32 := Scalar.muli v92 c1_i32_56
  let v94 : BitVec 32 := Scalar.addi c0_i32_55 v93
  let c1_i32_58 : BitVec 32 := 1#32
  let arg13 : BitVec 32 := Scf.iv v94 c1_i32_58 k0_t4
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let c1_i32_116 : BitVec 32 := 1#32
  let v169 : BitVec 32 := Scalar.addi v158 c1_i32_116
  let v170 : BitVec 1 := Scalar.cmpi .slt v169 v67
  let v171 : BitVec 32 := Scalar.extui v170
  let c0_i32_117 : BitVec 32 := 0#32
  let v172 : BitVec 1 := Scalar.cmpi .ne v171 c0_i32_117
  v172

def k0_mult40 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off41 (v230 : BitVec 32) : Fin 1 → Nat :=
  let c2048_i32_135 : BitVec 32 := 2048#32
  let v231 : BitVec 32 := Scalar.muli v230 c2048_i32_135
  let v232 : BitVec 32 := v231
  ![v232.toNat]

def k0_chk37 (v67 : BitVec 32) (k0_t4 : Fin (k0_t4_loop v67).trips) (v230 : BitVec 32) : Prop :=
  (∀ (k0_h19 : k0_cond19 v67 k0_t4 = 1#1), 2048 ∣ (k0_mult39 v230).toNat) ∧
  (∀ (k0_h19 : k0_cond19 v67 k0_t4 = 1#1), ∀ a, (k0_off41 v230) a + S2048.size a ≤ S102400.size a)
theorem k0_mult39_dvd : ∀ (v67 : BitVec 32) (k0_t4 : Fin (k0_t4_loop v67).trips) (v230 : BitVec 32) (k0_hw37 : k0_chk37 v67 k0_t4 v230), ∀ (k0_h19 : k0_cond19 v67 k0_t4 = 1#1), 2048 ∣ (k0_mult39 v230).toNat := fun v67 k0_t4 v230 k0_hw37 k0_h19 => k0_hw37.1 k0_h19
theorem k0_off41_inb : ∀ (v67 : BitVec 32) (k0_t4 : Fin (k0_t4_loop v67).trips) (v230 : BitVec 32) (k0_hw37 : k0_chk37 v67 k0_t4 v230), ∀ (k0_h19 : k0_cond19 v67 k0_t4 = 1#1), ∀ a, (k0_off41 v230) a + S2048.size a ≤ S102400.size a := fun v67 k0_t4 v230 k0_hw37 k0_h19 => k0_hw37.2 k0_h19

def k0_off42 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk38 (i : grid0.Coords) (v67 : BitVec 32) (k0_t4 : Fin (k0_t4_loop v67).trips) (v234 : BitVec 32) : Prop :=
  (∀ (k0_h19 : k0_cond19 v67 k0_t4 = 1#1), 2048 ∣ (k0_mult40 i v234).toNat) ∧
  (∀ (k0_h19 : k0_cond19 v67 k0_t4 = 1#1), ∀ a, (k0_off42 i v234) a + S2048.size a ≤ S1677721600.size a)
theorem k0_mult40_dvd : ∀ (i : grid0.Coords) (v67 : BitVec 32) (k0_t4 : Fin (k0_t4_loop v67).trips) (v234 : BitVec 32) (k0_hw38 : k0_chk38 i v67 k0_t4 v234), ∀ (k0_h19 : k0_cond19 v67 k0_t4 = 1#1), 2048 ∣ (k0_mult40 i v234).toNat := fun i v67 k0_t4 v234 k0_hw38 k0_h19 => k0_hw38.1 k0_h19
theorem k0_off42_inb : ∀ (i : grid0.Coords) (v67 : BitVec 32) (k0_t4 : Fin (k0_t4_loop v67).trips) (v234 : BitVec 32) (k0_hw38 : k0_chk38 i v67 k0_t4 v234), ∀ (k0_h19 : k0_cond19 v67 k0_t4 = 1#1), ∀ a, (k0_off42 i v234) a + S2048.size a ≤ S1677721600.size a := fun i v67 k0_t4 v234 k0_hw38 k0_h19 => k0_hw38.2 k0_h19

def k0_mult41 (v230 : BitVec 32) : BitVec 32 :=
  let c2048_i32_135 : BitVec 32 := 2048#32
  let v231 : BitVec 32 := Scalar.muli v230 c2048_i32_135
  v231
def k0_cond20 (v67 : BitVec 32) (k0_t4 : Fin (k0_t4_loop v67).trips) : BitVec 1 :=
  let c0_i32_54 : BitVec 32 := 0#32
  let c0_i32_55 : BitVec 32 := 0#32
  let c15_i32 : BitVec 32 := 15#32
  let v68 : BitVec 32 := Scalar.addi v67 c15_i32
  let c0_i32_43 : BitVec 32 := 0#32
  let v70 : BitVec 1 := Scalar.cmpi .sgt v68 c0_i32_43
  let v71 : BitVec 32 := Scalar.extui v70
  let c0_i32_44 : BitVec 32 := 0#32
  let v72 : BitVec 1 := Scalar.cmpi .slt v68 c0_i32_44
  let v73 : BitVec 32 := Scalar.extui v72
  let v74 : BitVec 32 := Scalar.subi v71 v73
  let c16_i32 : BitVec 32 := 16#32
  let c0_i32_45 : BitVec 32 := 0#32
  let v75 : BitVec 1 := Scalar.cmpi .sgt c16_i32 c0_i32_45
  let v76 : BitVec 32 := Scalar.extui v75
  let c0_i32_46 : BitVec 32 := 0#32
  let v77 : BitVec 1 := Scalar.cmpi .slt c16_i32 c0_i32_46
  let v78 : BitVec 32 := Scalar.extui v77
  let v79 : BitVec 32 := Scalar.subi v76 v78
  let v80 : BitVec 1 := Scalar.cmpi .ne v74 v79
  let v81 : BitVec 32 := Scalar.remsi v68 c16_i32
  let c0_i32_47 : BitVec 32 := 0#32
  let v82 : BitVec 1 := Scalar.cmpi .ne v81 c0_i32_47
  let v83 : BitVec 1 := Scalar.andi v80 v82
  let v69 : BitVec 32 := Scalar.divsi v68 c16_i32
  let c1_i32_48 : BitVec 32 := 1#32
  let v84 : BitVec 32 := Scalar.subi v69 c1_i32_48
  let v85 : BitVec 32 := Scalar.select v83 v84 v69
  let c0_i32_49 : BitVec 32 := 0#32
  let v86 : BitVec 32 := Scalar.subi v85 c0_i32_49
  let c1_i32_50 : BitVec 32 := 1#32
  let c1_i32_51 : BitVec 32 := 1#32
  let v87 : BitVec 32 := Scalar.subi c1_i32_50 c1_i32_51
  let v88 : BitVec 32 := Scalar.addi v86 v87
  let c1_i32_52 : BitVec 32 := 1#32
  let v89 : BitVec 32 := Scalar.divsi v88 c1_i32_52
  let v90 : BitVec 32 := Scalar.subi v89 c0_i32_55
  let c1_i32_56 : BitVec 32 := 1#32
  let v92 : BitVec 32 := Scalar.divsi v90 c1_i32_56
  let v93 : BitVec 32 := Scalar.muli v92 c1_i32_56
  let v94 : BitVec 32 := Scalar.addi c0_i32_55 v93
  let c1_i32_58 : BitVec 32 := 1#32
  let arg13 : BitVec 32 := Scf.iv v94 c1_i32_58 k0_t4
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let c2_i32_118 : BitVec 32 := 2#32
  let v173 : BitVec 32 := Scalar.addi v158 c2_i32_118
  let v174 : BitVec 1 := Scalar.cmpi .slt v173 v67
  let v175 : BitVec 32 := Scalar.extui v174
  let c0_i32_119 : BitVec 32 := 0#32
  let v176 : BitVec 1 := Scalar.cmpi .ne v175 c0_i32_119
  v176

def k0_mult42 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off43 (v230 : BitVec 32) : Fin 1 → Nat :=
  let c2048_i32_135 : BitVec 32 := 2048#32
  let v231 : BitVec 32 := Scalar.muli v230 c2048_i32_135
  let v232 : BitVec 32 := v231
  ![v232.toNat]

def k0_chk39 (v67 : BitVec 32) (k0_t4 : Fin (k0_t4_loop v67).trips) (v230 : BitVec 32) : Prop :=
  (∀ (k0_h20 : k0_cond20 v67 k0_t4 = 1#1), 2048 ∣ (k0_mult41 v230).toNat) ∧
  (∀ (k0_h20 : k0_cond20 v67 k0_t4 = 1#1), ∀ a, (k0_off43 v230) a + S2048.size a ≤ S102400.size a)
theorem k0_mult41_dvd : ∀ (v67 : BitVec 32) (k0_t4 : Fin (k0_t4_loop v67).trips) (v230 : BitVec 32) (k0_hw39 : k0_chk39 v67 k0_t4 v230), ∀ (k0_h20 : k0_cond20 v67 k0_t4 = 1#1), 2048 ∣ (k0_mult41 v230).toNat := fun v67 k0_t4 v230 k0_hw39 k0_h20 => k0_hw39.1 k0_h20
theorem k0_off43_inb : ∀ (v67 : BitVec 32) (k0_t4 : Fin (k0_t4_loop v67).trips) (v230 : BitVec 32) (k0_hw39 : k0_chk39 v67 k0_t4 v230), ∀ (k0_h20 : k0_cond20 v67 k0_t4 = 1#1), ∀ a, (k0_off43 v230) a + S2048.size a ≤ S102400.size a := fun v67 k0_t4 v230 k0_hw39 k0_h20 => k0_hw39.2 k0_h20

def k0_off44 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk40 (i : grid0.Coords) (v67 : BitVec 32) (k0_t4 : Fin (k0_t4_loop v67).trips) (v234 : BitVec 32) : Prop :=
  (∀ (k0_h20 : k0_cond20 v67 k0_t4 = 1#1), 2048 ∣ (k0_mult42 i v234).toNat) ∧
  (∀ (k0_h20 : k0_cond20 v67 k0_t4 = 1#1), ∀ a, (k0_off44 i v234) a + S2048.size a ≤ S1677721600.size a)
theorem k0_mult42_dvd : ∀ (i : grid0.Coords) (v67 : BitVec 32) (k0_t4 : Fin (k0_t4_loop v67).trips) (v234 : BitVec 32) (k0_hw40 : k0_chk40 i v67 k0_t4 v234), ∀ (k0_h20 : k0_cond20 v67 k0_t4 = 1#1), 2048 ∣ (k0_mult42 i v234).toNat := fun i v67 k0_t4 v234 k0_hw40 k0_h20 => k0_hw40.1 k0_h20
theorem k0_off44_inb : ∀ (i : grid0.Coords) (v67 : BitVec 32) (k0_t4 : Fin (k0_t4_loop v67).trips) (v234 : BitVec 32) (k0_hw40 : k0_chk40 i v67 k0_t4 v234), ∀ (k0_h20 : k0_cond20 v67 k0_t4 = 1#1), ∀ a, (k0_off44 i v234) a + S2048.size a ≤ S1677721600.size a := fun i v67 k0_t4 v234 k0_hw40 k0_h20 => k0_hw40.2 k0_h20

def k0_mult43 (v230 : BitVec 32) : BitVec 32 :=
  let c2048_i32_135 : BitVec 32 := 2048#32
  let v231 : BitVec 32 := Scalar.muli v230 c2048_i32_135
  v231
def k0_cond21 (v67 : BitVec 32) (k0_t4 : Fin (k0_t4_loop v67).trips) : BitVec 1 :=
  let c0_i32_54 : BitVec 32 := 0#32
  let c0_i32_55 : BitVec 32 := 0#32
  let c15_i32 : BitVec 32 := 15#32
  let v68 : BitVec 32 := Scalar.addi v67 c15_i32
  let c0_i32_43 : BitVec 32 := 0#32
  let v70 : BitVec 1 := Scalar.cmpi .sgt v68 c0_i32_43
  let v71 : BitVec 32 := Scalar.extui v70
  let c0_i32_44 : BitVec 32 := 0#32
  let v72 : BitVec 1 := Scalar.cmpi .slt v68 c0_i32_44
  let v73 : BitVec 32 := Scalar.extui v72
  let v74 : BitVec 32 := Scalar.subi v71 v73
  let c16_i32 : BitVec 32 := 16#32
  let c0_i32_45 : BitVec 32 := 0#32
  let v75 : BitVec 1 := Scalar.cmpi .sgt c16_i32 c0_i32_45
  let v76 : BitVec 32 := Scalar.extui v75
  let c0_i32_46 : BitVec 32 := 0#32
  let v77 : BitVec 1 := Scalar.cmpi .slt c16_i32 c0_i32_46
  let v78 : BitVec 32 := Scalar.extui v77
  let v79 : BitVec 32 := Scalar.subi v76 v78
  let v80 : BitVec 1 := Scalar.cmpi .ne v74 v79
  let v81 : BitVec 32 := Scalar.remsi v68 c16_i32
  let c0_i32_47 : BitVec 32 := 0#32
  let v82 : BitVec 1 := Scalar.cmpi .ne v81 c0_i32_47
  let v83 : BitVec 1 := Scalar.andi v80 v82
  let v69 : BitVec 32 := Scalar.divsi v68 c16_i32
  let c1_i32_48 : BitVec 32 := 1#32
  let v84 : BitVec 32 := Scalar.subi v69 c1_i32_48
  let v85 : BitVec 32 := Scalar.select v83 v84 v69
  let c0_i32_49 : BitVec 32 := 0#32
  let v86 : BitVec 32 := Scalar.subi v85 c0_i32_49
  let c1_i32_50 : BitVec 32 := 1#32
  let c1_i32_51 : BitVec 32 := 1#32
  let v87 : BitVec 32 := Scalar.subi c1_i32_50 c1_i32_51
  let v88 : BitVec 32 := Scalar.addi v86 v87
  let c1_i32_52 : BitVec 32 := 1#32
  let v89 : BitVec 32 := Scalar.divsi v88 c1_i32_52
  let v90 : BitVec 32 := Scalar.subi v89 c0_i32_55
  let c1_i32_56 : BitVec 32 := 1#32
  let v92 : BitVec 32 := Scalar.divsi v90 c1_i32_56
  let v93 : BitVec 32 := Scalar.muli v92 c1_i32_56
  let v94 : BitVec 32 := Scalar.addi c0_i32_55 v93
  let c1_i32_58 : BitVec 32 := 1#32
  let arg13 : BitVec 32 := Scf.iv v94 c1_i32_58 k0_t4
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let c3_i32 : BitVec 32 := 3#32
  let v177 : BitVec 32 := Scalar.addi v158 c3_i32
  let v178 : BitVec 1 := Scalar.cmpi .slt v177 v67
  let v179 : BitVec 32 := Scalar.extui v178
  let c0_i32_120 : BitVec 32 := 0#32
  let v180 : BitVec 1 := Scalar.cmpi .ne v179 c0_i32_120
  v180

def k0_mult44 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off45 (v230 : BitVec 32) : Fin 1 → Nat :=
  let c2048_i32_135 : BitVec 32 := 2048#32
  let v231 : BitVec 32 := Scalar.muli v230 c2048_i32_135
  let v232 : BitVec 32 := v231
  ![v232.toNat]

def k0_chk41 (v67 : BitVec 32) (k0_t4 : Fin (k0_t4_loop v67).trips) (v230 : BitVec 32) : Prop :=
  (∀ (k0_h21 : k0_cond21 v67 k0_t4 = 1#1), 2048 ∣ (k0_mult43 v230).toNat) ∧
  (∀ (k0_h21 : k0_cond21 v67 k0_t4 = 1#1), ∀ a, (k0_off45 v230) a + S2048.size a ≤ S102400.size a)
theorem k0_mult43_dvd : ∀ (v67 : BitVec 32) (k0_t4 : Fin (k0_t4_loop v67).trips) (v230 : BitVec 32) (k0_hw41 : k0_chk41 v67 k0_t4 v230), ∀ (k0_h21 : k0_cond21 v67 k0_t4 = 1#1), 2048 ∣ (k0_mult43 v230).toNat := fun v67 k0_t4 v230 k0_hw41 k0_h21 => k0_hw41.1 k0_h21
theorem k0_off45_inb : ∀ (v67 : BitVec 32) (k0_t4 : Fin (k0_t4_loop v67).trips) (v230 : BitVec 32) (k0_hw41 : k0_chk41 v67 k0_t4 v230), ∀ (k0_h21 : k0_cond21 v67 k0_t4 = 1#1), ∀ a, (k0_off45 v230) a + S2048.size a ≤ S102400.size a := fun v67 k0_t4 v230 k0_hw41 k0_h21 => k0_hw41.2 k0_h21

def k0_off46 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk42 (i : grid0.Coords) (v67 : BitVec 32) (k0_t4 : Fin (k0_t4_loop v67).trips) (v234 : BitVec 32) : Prop :=
  (∀ (k0_h21 : k0_cond21 v67 k0_t4 = 1#1), 2048 ∣ (k0_mult44 i v234).toNat) ∧
  (∀ (k0_h21 : k0_cond21 v67 k0_t4 = 1#1), ∀ a, (k0_off46 i v234) a + S2048.size a ≤ S1677721600.size a)
theorem k0_mult44_dvd : ∀ (i : grid0.Coords) (v67 : BitVec 32) (k0_t4 : Fin (k0_t4_loop v67).trips) (v234 : BitVec 32) (k0_hw42 : k0_chk42 i v67 k0_t4 v234), ∀ (k0_h21 : k0_cond21 v67 k0_t4 = 1#1), 2048 ∣ (k0_mult44 i v234).toNat := fun i v67 k0_t4 v234 k0_hw42 k0_h21 => k0_hw42.1 k0_h21
theorem k0_off46_inb : ∀ (i : grid0.Coords) (v67 : BitVec 32) (k0_t4 : Fin (k0_t4_loop v67).trips) (v234 : BitVec 32) (k0_hw42 : k0_chk42 i v67 k0_t4 v234), ∀ (k0_h21 : k0_cond21 v67 k0_t4 = 1#1), ∀ a, (k0_off46 i v234) a + S2048.size a ≤ S1677721600.size a := fun i v67 k0_t4 v234 k0_hw42 k0_h21 => k0_hw42.2 k0_h21

def k0_mult45 (v230 : BitVec 32) : BitVec 32 :=
  let c2048_i32_135 : BitVec 32 := 2048#32
  let v231 : BitVec 32 := Scalar.muli v230 c2048_i32_135
  v231
def k0_cond22 (v67 : BitVec 32) (k0_t4 : Fin (k0_t4_loop v67).trips) : BitVec 1 :=
  let c0_i32_54 : BitVec 32 := 0#32
  let c0_i32_55 : BitVec 32 := 0#32
  let c15_i32 : BitVec 32 := 15#32
  let v68 : BitVec 32 := Scalar.addi v67 c15_i32
  let c0_i32_43 : BitVec 32 := 0#32
  let v70 : BitVec 1 := Scalar.cmpi .sgt v68 c0_i32_43
  let v71 : BitVec 32 := Scalar.extui v70
  let c0_i32_44 : BitVec 32 := 0#32
  let v72 : BitVec 1 := Scalar.cmpi .slt v68 c0_i32_44
  let v73 : BitVec 32 := Scalar.extui v72
  let v74 : BitVec 32 := Scalar.subi v71 v73
  let c16_i32 : BitVec 32 := 16#32
  let c0_i32_45 : BitVec 32 := 0#32
  let v75 : BitVec 1 := Scalar.cmpi .sgt c16_i32 c0_i32_45
  let v76 : BitVec 32 := Scalar.extui v75
  let c0_i32_46 : BitVec 32 := 0#32
  let v77 : BitVec 1 := Scalar.cmpi .slt c16_i32 c0_i32_46
  let v78 : BitVec 32 := Scalar.extui v77
  let v79 : BitVec 32 := Scalar.subi v76 v78
  let v80 : BitVec 1 := Scalar.cmpi .ne v74 v79
  let v81 : BitVec 32 := Scalar.remsi v68 c16_i32
  let c0_i32_47 : BitVec 32 := 0#32
  let v82 : BitVec 1 := Scalar.cmpi .ne v81 c0_i32_47
  let v83 : BitVec 1 := Scalar.andi v80 v82
  let v69 : BitVec 32 := Scalar.divsi v68 c16_i32
  let c1_i32_48 : BitVec 32 := 1#32
  let v84 : BitVec 32 := Scalar.subi v69 c1_i32_48
  let v85 : BitVec 32 := Scalar.select v83 v84 v69
  let c0_i32_49 : BitVec 32 := 0#32
  let v86 : BitVec 32 := Scalar.subi v85 c0_i32_49
  let c1_i32_50 : BitVec 32 := 1#32
  let c1_i32_51 : BitVec 32 := 1#32
  let v87 : BitVec 32 := Scalar.subi c1_i32_50 c1_i32_51
  let v88 : BitVec 32 := Scalar.addi v86 v87
  let c1_i32_52 : BitVec 32 := 1#32
  let v89 : BitVec 32 := Scalar.divsi v88 c1_i32_52
  let v90 : BitVec 32 := Scalar.subi v89 c0_i32_55
  let c1_i32_56 : BitVec 32 := 1#32
  let v92 : BitVec 32 := Scalar.divsi v90 c1_i32_56
  let v93 : BitVec 32 := Scalar.muli v92 c1_i32_56
  let v94 : BitVec 32 := Scalar.addi c0_i32_55 v93
  let c1_i32_58 : BitVec 32 := 1#32
  let arg13 : BitVec 32 := Scf.iv v94 c1_i32_58 k0_t4
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let c4_i32_121 : BitVec 32 := 4#32
  let v181 : BitVec 32 := Scalar.addi v158 c4_i32_121
  let v182 : BitVec 1 := Scalar.cmpi .slt v181 v67
  let v183 : BitVec 32 := Scalar.extui v182
  let c0_i32_122 : BitVec 32 := 0#32
  let v184 : BitVec 1 := Scalar.cmpi .ne v183 c0_i32_122
  v184

def k0_mult46 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off47 (v230 : BitVec 32) : Fin 1 → Nat :=
  let c2048_i32_135 : BitVec 32 := 2048#32
  let v231 : BitVec 32 := Scalar.muli v230 c2048_i32_135
  let v232 : BitVec 32 := v231
  ![v232.toNat]

def k0_chk43 (v67 : BitVec 32) (k0_t4 : Fin (k0_t4_loop v67).trips) (v230 : BitVec 32) : Prop :=
  (∀ (k0_h22 : k0_cond22 v67 k0_t4 = 1#1), 2048 ∣ (k0_mult45 v230).toNat) ∧
  (∀ (k0_h22 : k0_cond22 v67 k0_t4 = 1#1), ∀ a, (k0_off47 v230) a + S2048.size a ≤ S102400.size a)
theorem k0_mult45_dvd : ∀ (v67 : BitVec 32) (k0_t4 : Fin (k0_t4_loop v67).trips) (v230 : BitVec 32) (k0_hw43 : k0_chk43 v67 k0_t4 v230), ∀ (k0_h22 : k0_cond22 v67 k0_t4 = 1#1), 2048 ∣ (k0_mult45 v230).toNat := fun v67 k0_t4 v230 k0_hw43 k0_h22 => k0_hw43.1 k0_h22
theorem k0_off47_inb : ∀ (v67 : BitVec 32) (k0_t4 : Fin (k0_t4_loop v67).trips) (v230 : BitVec 32) (k0_hw43 : k0_chk43 v67 k0_t4 v230), ∀ (k0_h22 : k0_cond22 v67 k0_t4 = 1#1), ∀ a, (k0_off47 v230) a + S2048.size a ≤ S102400.size a := fun v67 k0_t4 v230 k0_hw43 k0_h22 => k0_hw43.2 k0_h22

def k0_off48 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk44 (i : grid0.Coords) (v67 : BitVec 32) (k0_t4 : Fin (k0_t4_loop v67).trips) (v234 : BitVec 32) : Prop :=
  (∀ (k0_h22 : k0_cond22 v67 k0_t4 = 1#1), 2048 ∣ (k0_mult46 i v234).toNat) ∧
  (∀ (k0_h22 : k0_cond22 v67 k0_t4 = 1#1), ∀ a, (k0_off48 i v234) a + S2048.size a ≤ S1677721600.size a)
theorem k0_mult46_dvd : ∀ (i : grid0.Coords) (v67 : BitVec 32) (k0_t4 : Fin (k0_t4_loop v67).trips) (v234 : BitVec 32) (k0_hw44 : k0_chk44 i v67 k0_t4 v234), ∀ (k0_h22 : k0_cond22 v67 k0_t4 = 1#1), 2048 ∣ (k0_mult46 i v234).toNat := fun i v67 k0_t4 v234 k0_hw44 k0_h22 => k0_hw44.1 k0_h22
theorem k0_off48_inb : ∀ (i : grid0.Coords) (v67 : BitVec 32) (k0_t4 : Fin (k0_t4_loop v67).trips) (v234 : BitVec 32) (k0_hw44 : k0_chk44 i v67 k0_t4 v234), ∀ (k0_h22 : k0_cond22 v67 k0_t4 = 1#1), ∀ a, (k0_off48 i v234) a + S2048.size a ≤ S1677721600.size a := fun i v67 k0_t4 v234 k0_hw44 k0_h22 => k0_hw44.2 k0_h22

def k0_mult47 (v230 : BitVec 32) : BitVec 32 :=
  let c2048_i32_135 : BitVec 32 := 2048#32
  let v231 : BitVec 32 := Scalar.muli v230 c2048_i32_135
  v231
def k0_cond23 (v67 : BitVec 32) (k0_t4 : Fin (k0_t4_loop v67).trips) : BitVec 1 :=
  let c0_i32_54 : BitVec 32 := 0#32
  let c0_i32_55 : BitVec 32 := 0#32
  let c15_i32 : BitVec 32 := 15#32
  let v68 : BitVec 32 := Scalar.addi v67 c15_i32
  let c0_i32_43 : BitVec 32 := 0#32
  let v70 : BitVec 1 := Scalar.cmpi .sgt v68 c0_i32_43
  let v71 : BitVec 32 := Scalar.extui v70
  let c0_i32_44 : BitVec 32 := 0#32
  let v72 : BitVec 1 := Scalar.cmpi .slt v68 c0_i32_44
  let v73 : BitVec 32 := Scalar.extui v72
  let v74 : BitVec 32 := Scalar.subi v71 v73
  let c16_i32 : BitVec 32 := 16#32
  let c0_i32_45 : BitVec 32 := 0#32
  let v75 : BitVec 1 := Scalar.cmpi .sgt c16_i32 c0_i32_45
  let v76 : BitVec 32 := Scalar.extui v75
  let c0_i32_46 : BitVec 32 := 0#32
  let v77 : BitVec 1 := Scalar.cmpi .slt c16_i32 c0_i32_46
  let v78 : BitVec 32 := Scalar.extui v77
  let v79 : BitVec 32 := Scalar.subi v76 v78
  let v80 : BitVec 1 := Scalar.cmpi .ne v74 v79
  let v81 : BitVec 32 := Scalar.remsi v68 c16_i32
  let c0_i32_47 : BitVec 32 := 0#32
  let v82 : BitVec 1 := Scalar.cmpi .ne v81 c0_i32_47
  let v83 : BitVec 1 := Scalar.andi v80 v82
  let v69 : BitVec 32 := Scalar.divsi v68 c16_i32
  let c1_i32_48 : BitVec 32 := 1#32
  let v84 : BitVec 32 := Scalar.subi v69 c1_i32_48
  let v85 : BitVec 32 := Scalar.select v83 v84 v69
  let c0_i32_49 : BitVec 32 := 0#32
  let v86 : BitVec 32 := Scalar.subi v85 c0_i32_49
  let c1_i32_50 : BitVec 32 := 1#32
  let c1_i32_51 : BitVec 32 := 1#32
  let v87 : BitVec 32 := Scalar.subi c1_i32_50 c1_i32_51
  let v88 : BitVec 32 := Scalar.addi v86 v87
  let c1_i32_52 : BitVec 32 := 1#32
  let v89 : BitVec 32 := Scalar.divsi v88 c1_i32_52
  let v90 : BitVec 32 := Scalar.subi v89 c0_i32_55
  let c1_i32_56 : BitVec 32 := 1#32
  let v92 : BitVec 32 := Scalar.divsi v90 c1_i32_56
  let v93 : BitVec 32 := Scalar.muli v92 c1_i32_56
  let v94 : BitVec 32 := Scalar.addi c0_i32_55 v93
  let c1_i32_58 : BitVec 32 := 1#32
  let arg13 : BitVec 32 := Scf.iv v94 c1_i32_58 k0_t4
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let c5_i32 : BitVec 32 := 5#32
  let v185 : BitVec 32 := Scalar.addi v158 c5_i32
  let v186 : BitVec 1 := Scalar.cmpi .slt v185 v67
  let v187 : BitVec 32 := Scalar.extui v186
  let c0_i32_123 : BitVec 32 := 0#32
  let v188 : BitVec 1 := Scalar.cmpi .ne v187 c0_i32_123
  v188

def k0_mult48 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off49 (v230 : BitVec 32) : Fin 1 → Nat :=
  let c2048_i32_135 : BitVec 32 := 2048#32
  let v231 : BitVec 32 := Scalar.muli v230 c2048_i32_135
  let v232 : BitVec 32 := v231
  ![v232.toNat]

def k0_chk45 (v67 : BitVec 32) (k0_t4 : Fin (k0_t4_loop v67).trips) (v230 : BitVec 32) : Prop :=
  (∀ (k0_h23 : k0_cond23 v67 k0_t4 = 1#1), 2048 ∣ (k0_mult47 v230).toNat) ∧
  (∀ (k0_h23 : k0_cond23 v67 k0_t4 = 1#1), ∀ a, (k0_off49 v230) a + S2048.size a ≤ S102400.size a)
theorem k0_mult47_dvd : ∀ (v67 : BitVec 32) (k0_t4 : Fin (k0_t4_loop v67).trips) (v230 : BitVec 32) (k0_hw45 : k0_chk45 v67 k0_t4 v230), ∀ (k0_h23 : k0_cond23 v67 k0_t4 = 1#1), 2048 ∣ (k0_mult47 v230).toNat := fun v67 k0_t4 v230 k0_hw45 k0_h23 => k0_hw45.1 k0_h23
theorem k0_off49_inb : ∀ (v67 : BitVec 32) (k0_t4 : Fin (k0_t4_loop v67).trips) (v230 : BitVec 32) (k0_hw45 : k0_chk45 v67 k0_t4 v230), ∀ (k0_h23 : k0_cond23 v67 k0_t4 = 1#1), ∀ a, (k0_off49 v230) a + S2048.size a ≤ S102400.size a := fun v67 k0_t4 v230 k0_hw45 k0_h23 => k0_hw45.2 k0_h23

def k0_off50 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk46 (i : grid0.Coords) (v67 : BitVec 32) (k0_t4 : Fin (k0_t4_loop v67).trips) (v234 : BitVec 32) : Prop :=
  (∀ (k0_h23 : k0_cond23 v67 k0_t4 = 1#1), 2048 ∣ (k0_mult48 i v234).toNat) ∧
  (∀ (k0_h23 : k0_cond23 v67 k0_t4 = 1#1), ∀ a, (k0_off50 i v234) a + S2048.size a ≤ S1677721600.size a)
theorem k0_mult48_dvd : ∀ (i : grid0.Coords) (v67 : BitVec 32) (k0_t4 : Fin (k0_t4_loop v67).trips) (v234 : BitVec 32) (k0_hw46 : k0_chk46 i v67 k0_t4 v234), ∀ (k0_h23 : k0_cond23 v67 k0_t4 = 1#1), 2048 ∣ (k0_mult48 i v234).toNat := fun i v67 k0_t4 v234 k0_hw46 k0_h23 => k0_hw46.1 k0_h23
theorem k0_off50_inb : ∀ (i : grid0.Coords) (v67 : BitVec 32) (k0_t4 : Fin (k0_t4_loop v67).trips) (v234 : BitVec 32) (k0_hw46 : k0_chk46 i v67 k0_t4 v234), ∀ (k0_h23 : k0_cond23 v67 k0_t4 = 1#1), ∀ a, (k0_off50 i v234) a + S2048.size a ≤ S1677721600.size a := fun i v67 k0_t4 v234 k0_hw46 k0_h23 => k0_hw46.2 k0_h23

def k0_mult49 (v230 : BitVec 32) : BitVec 32 :=
  let c2048_i32_135 : BitVec 32 := 2048#32
  let v231 : BitVec 32 := Scalar.muli v230 c2048_i32_135
  v231
def k0_cond24 (v67 : BitVec 32) (k0_t4 : Fin (k0_t4_loop v67).trips) : BitVec 1 :=
  let c0_i32_54 : BitVec 32 := 0#32
  let c0_i32_55 : BitVec 32 := 0#32
  let c15_i32 : BitVec 32 := 15#32
  let v68 : BitVec 32 := Scalar.addi v67 c15_i32
  let c0_i32_43 : BitVec 32 := 0#32
  let v70 : BitVec 1 := Scalar.cmpi .sgt v68 c0_i32_43
  let v71 : BitVec 32 := Scalar.extui v70
  let c0_i32_44 : BitVec 32 := 0#32
  let v72 : BitVec 1 := Scalar.cmpi .slt v68 c0_i32_44
  let v73 : BitVec 32 := Scalar.extui v72
  let v74 : BitVec 32 := Scalar.subi v71 v73
  let c16_i32 : BitVec 32 := 16#32
  let c0_i32_45 : BitVec 32 := 0#32
  let v75 : BitVec 1 := Scalar.cmpi .sgt c16_i32 c0_i32_45
  let v76 : BitVec 32 := Scalar.extui v75
  let c0_i32_46 : BitVec 32 := 0#32
  let v77 : BitVec 1 := Scalar.cmpi .slt c16_i32 c0_i32_46
  let v78 : BitVec 32 := Scalar.extui v77
  let v79 : BitVec 32 := Scalar.subi v76 v78
  let v80 : BitVec 1 := Scalar.cmpi .ne v74 v79
  let v81 : BitVec 32 := Scalar.remsi v68 c16_i32
  let c0_i32_47 : BitVec 32 := 0#32
  let v82 : BitVec 1 := Scalar.cmpi .ne v81 c0_i32_47
  let v83 : BitVec 1 := Scalar.andi v80 v82
  let v69 : BitVec 32 := Scalar.divsi v68 c16_i32
  let c1_i32_48 : BitVec 32 := 1#32
  let v84 : BitVec 32 := Scalar.subi v69 c1_i32_48
  let v85 : BitVec 32 := Scalar.select v83 v84 v69
  let c0_i32_49 : BitVec 32 := 0#32
  let v86 : BitVec 32 := Scalar.subi v85 c0_i32_49
  let c1_i32_50 : BitVec 32 := 1#32
  let c1_i32_51 : BitVec 32 := 1#32
  let v87 : BitVec 32 := Scalar.subi c1_i32_50 c1_i32_51
  let v88 : BitVec 32 := Scalar.addi v86 v87
  let c1_i32_52 : BitVec 32 := 1#32
  let v89 : BitVec 32 := Scalar.divsi v88 c1_i32_52
  let v90 : BitVec 32 := Scalar.subi v89 c0_i32_55
  let c1_i32_56 : BitVec 32 := 1#32
  let v92 : BitVec 32 := Scalar.divsi v90 c1_i32_56
  let v93 : BitVec 32 := Scalar.muli v92 c1_i32_56
  let v94 : BitVec 32 := Scalar.addi c0_i32_55 v93
  let c1_i32_58 : BitVec 32 := 1#32
  let arg13 : BitVec 32 := Scf.iv v94 c1_i32_58 k0_t4
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let c6_i32 : BitVec 32 := 6#32
  let v189 : BitVec 32 := Scalar.addi v158 c6_i32
  let v190 : BitVec 1 := Scalar.cmpi .slt v189 v67
  let v191 : BitVec 32 := Scalar.extui v190
  let c0_i32_124 : BitVec 32 := 0#32
  let v192 : BitVec 1 := Scalar.cmpi .ne v191 c0_i32_124
  v192

def k0_mult50 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off51 (v230 : BitVec 32) : Fin 1 → Nat :=
  let c2048_i32_135 : BitVec 32 := 2048#32
  let v231 : BitVec 32 := Scalar.muli v230 c2048_i32_135
  let v232 : BitVec 32 := v231
  ![v232.toNat]

def k0_chk47 (v67 : BitVec 32) (k0_t4 : Fin (k0_t4_loop v67).trips) (v230 : BitVec 32) : Prop :=
  (∀ (k0_h24 : k0_cond24 v67 k0_t4 = 1#1), 2048 ∣ (k0_mult49 v230).toNat) ∧
  (∀ (k0_h24 : k0_cond24 v67 k0_t4 = 1#1), ∀ a, (k0_off51 v230) a + S2048.size a ≤ S102400.size a)
theorem k0_mult49_dvd : ∀ (v67 : BitVec 32) (k0_t4 : Fin (k0_t4_loop v67).trips) (v230 : BitVec 32) (k0_hw47 : k0_chk47 v67 k0_t4 v230), ∀ (k0_h24 : k0_cond24 v67 k0_t4 = 1#1), 2048 ∣ (k0_mult49 v230).toNat := fun v67 k0_t4 v230 k0_hw47 k0_h24 => k0_hw47.1 k0_h24
theorem k0_off51_inb : ∀ (v67 : BitVec 32) (k0_t4 : Fin (k0_t4_loop v67).trips) (v230 : BitVec 32) (k0_hw47 : k0_chk47 v67 k0_t4 v230), ∀ (k0_h24 : k0_cond24 v67 k0_t4 = 1#1), ∀ a, (k0_off51 v230) a + S2048.size a ≤ S102400.size a := fun v67 k0_t4 v230 k0_hw47 k0_h24 => k0_hw47.2 k0_h24

def k0_off52 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk48 (i : grid0.Coords) (v67 : BitVec 32) (k0_t4 : Fin (k0_t4_loop v67).trips) (v234 : BitVec 32) : Prop :=
  (∀ (k0_h24 : k0_cond24 v67 k0_t4 = 1#1), 2048 ∣ (k0_mult50 i v234).toNat) ∧
  (∀ (k0_h24 : k0_cond24 v67 k0_t4 = 1#1), ∀ a, (k0_off52 i v234) a + S2048.size a ≤ S1677721600.size a)
theorem k0_mult50_dvd : ∀ (i : grid0.Coords) (v67 : BitVec 32) (k0_t4 : Fin (k0_t4_loop v67).trips) (v234 : BitVec 32) (k0_hw48 : k0_chk48 i v67 k0_t4 v234), ∀ (k0_h24 : k0_cond24 v67 k0_t4 = 1#1), 2048 ∣ (k0_mult50 i v234).toNat := fun i v67 k0_t4 v234 k0_hw48 k0_h24 => k0_hw48.1 k0_h24
theorem k0_off52_inb : ∀ (i : grid0.Coords) (v67 : BitVec 32) (k0_t4 : Fin (k0_t4_loop v67).trips) (v234 : BitVec 32) (k0_hw48 : k0_chk48 i v67 k0_t4 v234), ∀ (k0_h24 : k0_cond24 v67 k0_t4 = 1#1), ∀ a, (k0_off52 i v234) a + S2048.size a ≤ S1677721600.size a := fun i v67 k0_t4 v234 k0_hw48 k0_h24 => k0_hw48.2 k0_h24

def k0_mult51 (v230 : BitVec 32) : BitVec 32 :=
  let c2048_i32_135 : BitVec 32 := 2048#32
  let v231 : BitVec 32 := Scalar.muli v230 c2048_i32_135
  v231
def k0_cond25 (v67 : BitVec 32) (k0_t4 : Fin (k0_t4_loop v67).trips) : BitVec 1 :=
  let c0_i32_54 : BitVec 32 := 0#32
  let c0_i32_55 : BitVec 32 := 0#32
  let c15_i32 : BitVec 32 := 15#32
  let v68 : BitVec 32 := Scalar.addi v67 c15_i32
  let c0_i32_43 : BitVec 32 := 0#32
  let v70 : BitVec 1 := Scalar.cmpi .sgt v68 c0_i32_43
  let v71 : BitVec 32 := Scalar.extui v70
  let c0_i32_44 : BitVec 32 := 0#32
  let v72 : BitVec 1 := Scalar.cmpi .slt v68 c0_i32_44
  let v73 : BitVec 32 := Scalar.extui v72
  let v74 : BitVec 32 := Scalar.subi v71 v73
  let c16_i32 : BitVec 32 := 16#32
  let c0_i32_45 : BitVec 32 := 0#32
  let v75 : BitVec 1 := Scalar.cmpi .sgt c16_i32 c0_i32_45
  let v76 : BitVec 32 := Scalar.extui v75
  let c0_i32_46 : BitVec 32 := 0#32
  let v77 : BitVec 1 := Scalar.cmpi .slt c16_i32 c0_i32_46
  let v78 : BitVec 32 := Scalar.extui v77
  let v79 : BitVec 32 := Scalar.subi v76 v78
  let v80 : BitVec 1 := Scalar.cmpi .ne v74 v79
  let v81 : BitVec 32 := Scalar.remsi v68 c16_i32
  let c0_i32_47 : BitVec 32 := 0#32
  let v82 : BitVec 1 := Scalar.cmpi .ne v81 c0_i32_47
  let v83 : BitVec 1 := Scalar.andi v80 v82
  let v69 : BitVec 32 := Scalar.divsi v68 c16_i32
  let c1_i32_48 : BitVec 32 := 1#32
  let v84 : BitVec 32 := Scalar.subi v69 c1_i32_48
  let v85 : BitVec 32 := Scalar.select v83 v84 v69
  let c0_i32_49 : BitVec 32 := 0#32
  let v86 : BitVec 32 := Scalar.subi v85 c0_i32_49
  let c1_i32_50 : BitVec 32 := 1#32
  let c1_i32_51 : BitVec 32 := 1#32
  let v87 : BitVec 32 := Scalar.subi c1_i32_50 c1_i32_51
  let v88 : BitVec 32 := Scalar.addi v86 v87
  let c1_i32_52 : BitVec 32 := 1#32
  let v89 : BitVec 32 := Scalar.divsi v88 c1_i32_52
  let v90 : BitVec 32 := Scalar.subi v89 c0_i32_55
  let c1_i32_56 : BitVec 32 := 1#32
  let v92 : BitVec 32 := Scalar.divsi v90 c1_i32_56
  let v93 : BitVec 32 := Scalar.muli v92 c1_i32_56
  let v94 : BitVec 32 := Scalar.addi c0_i32_55 v93
  let c1_i32_58 : BitVec 32 := 1#32
  let arg13 : BitVec 32 := Scf.iv v94 c1_i32_58 k0_t4
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let c7_i32 : BitVec 32 := 7#32
  let v193 : BitVec 32 := Scalar.addi v158 c7_i32
  let v194 : BitVec 1 := Scalar.cmpi .slt v193 v67
  let v195 : BitVec 32 := Scalar.extui v194
  let c0_i32_125 : BitVec 32 := 0#32
  let v196 : BitVec 1 := Scalar.cmpi .ne v195 c0_i32_125
  v196

def k0_mult52 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off53 (v230 : BitVec 32) : Fin 1 → Nat :=
  let c2048_i32_135 : BitVec 32 := 2048#32
  let v231 : BitVec 32 := Scalar.muli v230 c2048_i32_135
  let v232 : BitVec 32 := v231
  ![v232.toNat]

def k0_chk49 (v67 : BitVec 32) (k0_t4 : Fin (k0_t4_loop v67).trips) (v230 : BitVec 32) : Prop :=
  (∀ (k0_h25 : k0_cond25 v67 k0_t4 = 1#1), 2048 ∣ (k0_mult51 v230).toNat) ∧
  (∀ (k0_h25 : k0_cond25 v67 k0_t4 = 1#1), ∀ a, (k0_off53 v230) a + S2048.size a ≤ S102400.size a)
theorem k0_mult51_dvd : ∀ (v67 : BitVec 32) (k0_t4 : Fin (k0_t4_loop v67).trips) (v230 : BitVec 32) (k0_hw49 : k0_chk49 v67 k0_t4 v230), ∀ (k0_h25 : k0_cond25 v67 k0_t4 = 1#1), 2048 ∣ (k0_mult51 v230).toNat := fun v67 k0_t4 v230 k0_hw49 k0_h25 => k0_hw49.1 k0_h25
theorem k0_off53_inb : ∀ (v67 : BitVec 32) (k0_t4 : Fin (k0_t4_loop v67).trips) (v230 : BitVec 32) (k0_hw49 : k0_chk49 v67 k0_t4 v230), ∀ (k0_h25 : k0_cond25 v67 k0_t4 = 1#1), ∀ a, (k0_off53 v230) a + S2048.size a ≤ S102400.size a := fun v67 k0_t4 v230 k0_hw49 k0_h25 => k0_hw49.2 k0_h25

def k0_off54 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk50 (i : grid0.Coords) (v67 : BitVec 32) (k0_t4 : Fin (k0_t4_loop v67).trips) (v234 : BitVec 32) : Prop :=
  (∀ (k0_h25 : k0_cond25 v67 k0_t4 = 1#1), 2048 ∣ (k0_mult52 i v234).toNat) ∧
  (∀ (k0_h25 : k0_cond25 v67 k0_t4 = 1#1), ∀ a, (k0_off54 i v234) a + S2048.size a ≤ S1677721600.size a)
theorem k0_mult52_dvd : ∀ (i : grid0.Coords) (v67 : BitVec 32) (k0_t4 : Fin (k0_t4_loop v67).trips) (v234 : BitVec 32) (k0_hw50 : k0_chk50 i v67 k0_t4 v234), ∀ (k0_h25 : k0_cond25 v67 k0_t4 = 1#1), 2048 ∣ (k0_mult52 i v234).toNat := fun i v67 k0_t4 v234 k0_hw50 k0_h25 => k0_hw50.1 k0_h25
theorem k0_off54_inb : ∀ (i : grid0.Coords) (v67 : BitVec 32) (k0_t4 : Fin (k0_t4_loop v67).trips) (v234 : BitVec 32) (k0_hw50 : k0_chk50 i v67 k0_t4 v234), ∀ (k0_h25 : k0_cond25 v67 k0_t4 = 1#1), ∀ a, (k0_off54 i v234) a + S2048.size a ≤ S1677721600.size a := fun i v67 k0_t4 v234 k0_hw50 k0_h25 => k0_hw50.2 k0_h25

def k0_mult53 (v230 : BitVec 32) : BitVec 32 :=
  let c2048_i32_135 : BitVec 32 := 2048#32
  let v231 : BitVec 32 := Scalar.muli v230 c2048_i32_135
  v231
def k0_cond26 (v67 : BitVec 32) (k0_t4 : Fin (k0_t4_loop v67).trips) : BitVec 1 :=
  let c0_i32_54 : BitVec 32 := 0#32
  let c0_i32_55 : BitVec 32 := 0#32
  let c15_i32 : BitVec 32 := 15#32
  let v68 : BitVec 32 := Scalar.addi v67 c15_i32
  let c0_i32_43 : BitVec 32 := 0#32
  let v70 : BitVec 1 := Scalar.cmpi .sgt v68 c0_i32_43
  let v71 : BitVec 32 := Scalar.extui v70
  let c0_i32_44 : BitVec 32 := 0#32
  let v72 : BitVec 1 := Scalar.cmpi .slt v68 c0_i32_44
  let v73 : BitVec 32 := Scalar.extui v72
  let v74 : BitVec 32 := Scalar.subi v71 v73
  let c16_i32 : BitVec 32 := 16#32
  let c0_i32_45 : BitVec 32 := 0#32
  let v75 : BitVec 1 := Scalar.cmpi .sgt c16_i32 c0_i32_45
  let v76 : BitVec 32 := Scalar.extui v75
  let c0_i32_46 : BitVec 32 := 0#32
  let v77 : BitVec 1 := Scalar.cmpi .slt c16_i32 c0_i32_46
  let v78 : BitVec 32 := Scalar.extui v77
  let v79 : BitVec 32 := Scalar.subi v76 v78
  let v80 : BitVec 1 := Scalar.cmpi .ne v74 v79
  let v81 : BitVec 32 := Scalar.remsi v68 c16_i32
  let c0_i32_47 : BitVec 32 := 0#32
  let v82 : BitVec 1 := Scalar.cmpi .ne v81 c0_i32_47
  let v83 : BitVec 1 := Scalar.andi v80 v82
  let v69 : BitVec 32 := Scalar.divsi v68 c16_i32
  let c1_i32_48 : BitVec 32 := 1#32
  let v84 : BitVec 32 := Scalar.subi v69 c1_i32_48
  let v85 : BitVec 32 := Scalar.select v83 v84 v69
  let c0_i32_49 : BitVec 32 := 0#32
  let v86 : BitVec 32 := Scalar.subi v85 c0_i32_49
  let c1_i32_50 : BitVec 32 := 1#32
  let c1_i32_51 : BitVec 32 := 1#32
  let v87 : BitVec 32 := Scalar.subi c1_i32_50 c1_i32_51
  let v88 : BitVec 32 := Scalar.addi v86 v87
  let c1_i32_52 : BitVec 32 := 1#32
  let v89 : BitVec 32 := Scalar.divsi v88 c1_i32_52
  let v90 : BitVec 32 := Scalar.subi v89 c0_i32_55
  let c1_i32_56 : BitVec 32 := 1#32
  let v92 : BitVec 32 := Scalar.divsi v90 c1_i32_56
  let v93 : BitVec 32 := Scalar.muli v92 c1_i32_56
  let v94 : BitVec 32 := Scalar.addi c0_i32_55 v93
  let c1_i32_58 : BitVec 32 := 1#32
  let arg13 : BitVec 32 := Scf.iv v94 c1_i32_58 k0_t4
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let c8_i32 : BitVec 32 := 8#32
  let v197 : BitVec 32 := Scalar.addi v158 c8_i32
  let v198 : BitVec 1 := Scalar.cmpi .slt v197 v67
  let v199 : BitVec 32 := Scalar.extui v198
  let c0_i32_126 : BitVec 32 := 0#32
  let v200 : BitVec 1 := Scalar.cmpi .ne v199 c0_i32_126
  v200

def k0_mult54 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off55 (v230 : BitVec 32) : Fin 1 → Nat :=
  let c2048_i32_135 : BitVec 32 := 2048#32
  let v231 : BitVec 32 := Scalar.muli v230 c2048_i32_135
  let v232 : BitVec 32 := v231
  ![v232.toNat]

def k0_chk51 (v67 : BitVec 32) (k0_t4 : Fin (k0_t4_loop v67).trips) (v230 : BitVec 32) : Prop :=
  (∀ (k0_h26 : k0_cond26 v67 k0_t4 = 1#1), 2048 ∣ (k0_mult53 v230).toNat) ∧
  (∀ (k0_h26 : k0_cond26 v67 k0_t4 = 1#1), ∀ a, (k0_off55 v230) a + S2048.size a ≤ S102400.size a)
theorem k0_mult53_dvd : ∀ (v67 : BitVec 32) (k0_t4 : Fin (k0_t4_loop v67).trips) (v230 : BitVec 32) (k0_hw51 : k0_chk51 v67 k0_t4 v230), ∀ (k0_h26 : k0_cond26 v67 k0_t4 = 1#1), 2048 ∣ (k0_mult53 v230).toNat := fun v67 k0_t4 v230 k0_hw51 k0_h26 => k0_hw51.1 k0_h26
theorem k0_off55_inb : ∀ (v67 : BitVec 32) (k0_t4 : Fin (k0_t4_loop v67).trips) (v230 : BitVec 32) (k0_hw51 : k0_chk51 v67 k0_t4 v230), ∀ (k0_h26 : k0_cond26 v67 k0_t4 = 1#1), ∀ a, (k0_off55 v230) a + S2048.size a ≤ S102400.size a := fun v67 k0_t4 v230 k0_hw51 k0_h26 => k0_hw51.2 k0_h26

def k0_off56 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk52 (i : grid0.Coords) (v67 : BitVec 32) (k0_t4 : Fin (k0_t4_loop v67).trips) (v234 : BitVec 32) : Prop :=
  (∀ (k0_h26 : k0_cond26 v67 k0_t4 = 1#1), 2048 ∣ (k0_mult54 i v234).toNat) ∧
  (∀ (k0_h26 : k0_cond26 v67 k0_t4 = 1#1), ∀ a, (k0_off56 i v234) a + S2048.size a ≤ S1677721600.size a)
theorem k0_mult54_dvd : ∀ (i : grid0.Coords) (v67 : BitVec 32) (k0_t4 : Fin (k0_t4_loop v67).trips) (v234 : BitVec 32) (k0_hw52 : k0_chk52 i v67 k0_t4 v234), ∀ (k0_h26 : k0_cond26 v67 k0_t4 = 1#1), 2048 ∣ (k0_mult54 i v234).toNat := fun i v67 k0_t4 v234 k0_hw52 k0_h26 => k0_hw52.1 k0_h26
theorem k0_off56_inb : ∀ (i : grid0.Coords) (v67 : BitVec 32) (k0_t4 : Fin (k0_t4_loop v67).trips) (v234 : BitVec 32) (k0_hw52 : k0_chk52 i v67 k0_t4 v234), ∀ (k0_h26 : k0_cond26 v67 k0_t4 = 1#1), ∀ a, (k0_off56 i v234) a + S2048.size a ≤ S1677721600.size a := fun i v67 k0_t4 v234 k0_hw52 k0_h26 => k0_hw52.2 k0_h26

def k0_mult55 (v230 : BitVec 32) : BitVec 32 :=
  let c2048_i32_135 : BitVec 32 := 2048#32
  let v231 : BitVec 32 := Scalar.muli v230 c2048_i32_135
  v231
def k0_cond27 (v67 : BitVec 32) (k0_t4 : Fin (k0_t4_loop v67).trips) : BitVec 1 :=
  let c0_i32_54 : BitVec 32 := 0#32
  let c0_i32_55 : BitVec 32 := 0#32
  let c15_i32 : BitVec 32 := 15#32
  let v68 : BitVec 32 := Scalar.addi v67 c15_i32
  let c0_i32_43 : BitVec 32 := 0#32
  let v70 : BitVec 1 := Scalar.cmpi .sgt v68 c0_i32_43
  let v71 : BitVec 32 := Scalar.extui v70
  let c0_i32_44 : BitVec 32 := 0#32
  let v72 : BitVec 1 := Scalar.cmpi .slt v68 c0_i32_44
  let v73 : BitVec 32 := Scalar.extui v72
  let v74 : BitVec 32 := Scalar.subi v71 v73
  let c16_i32 : BitVec 32 := 16#32
  let c0_i32_45 : BitVec 32 := 0#32
  let v75 : BitVec 1 := Scalar.cmpi .sgt c16_i32 c0_i32_45
  let v76 : BitVec 32 := Scalar.extui v75
  let c0_i32_46 : BitVec 32 := 0#32
  let v77 : BitVec 1 := Scalar.cmpi .slt c16_i32 c0_i32_46
  let v78 : BitVec 32 := Scalar.extui v77
  let v79 : BitVec 32 := Scalar.subi v76 v78
  let v80 : BitVec 1 := Scalar.cmpi .ne v74 v79
  let v81 : BitVec 32 := Scalar.remsi v68 c16_i32
  let c0_i32_47 : BitVec 32 := 0#32
  let v82 : BitVec 1 := Scalar.cmpi .ne v81 c0_i32_47
  let v83 : BitVec 1 := Scalar.andi v80 v82
  let v69 : BitVec 32 := Scalar.divsi v68 c16_i32
  let c1_i32_48 : BitVec 32 := 1#32
  let v84 : BitVec 32 := Scalar.subi v69 c1_i32_48
  let v85 : BitVec 32 := Scalar.select v83 v84 v69
  let c0_i32_49 : BitVec 32 := 0#32
  let v86 : BitVec 32 := Scalar.subi v85 c0_i32_49
  let c1_i32_50 : BitVec 32 := 1#32
  let c1_i32_51 : BitVec 32 := 1#32
  let v87 : BitVec 32 := Scalar.subi c1_i32_50 c1_i32_51
  let v88 : BitVec 32 := Scalar.addi v86 v87
  let c1_i32_52 : BitVec 32 := 1#32
  let v89 : BitVec 32 := Scalar.divsi v88 c1_i32_52
  let v90 : BitVec 32 := Scalar.subi v89 c0_i32_55
  let c1_i32_56 : BitVec 32 := 1#32
  let v92 : BitVec 32 := Scalar.divsi v90 c1_i32_56
  let v93 : BitVec 32 := Scalar.muli v92 c1_i32_56
  let v94 : BitVec 32 := Scalar.addi c0_i32_55 v93
  let c1_i32_58 : BitVec 32 := 1#32
  let arg13 : BitVec 32 := Scf.iv v94 c1_i32_58 k0_t4
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let c9_i32 : BitVec 32 := 9#32
  let v201 : BitVec 32 := Scalar.addi v158 c9_i32
  let v202 : BitVec 1 := Scalar.cmpi .slt v201 v67
  let v203 : BitVec 32 := Scalar.extui v202
  let c0_i32_127 : BitVec 32 := 0#32
  let v204 : BitVec 1 := Scalar.cmpi .ne v203 c0_i32_127
  v204

def k0_mult56 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off57 (v230 : BitVec 32) : Fin 1 → Nat :=
  let c2048_i32_135 : BitVec 32 := 2048#32
  let v231 : BitVec 32 := Scalar.muli v230 c2048_i32_135
  let v232 : BitVec 32 := v231
  ![v232.toNat]

def k0_chk53 (v67 : BitVec 32) (k0_t4 : Fin (k0_t4_loop v67).trips) (v230 : BitVec 32) : Prop :=
  (∀ (k0_h27 : k0_cond27 v67 k0_t4 = 1#1), 2048 ∣ (k0_mult55 v230).toNat) ∧
  (∀ (k0_h27 : k0_cond27 v67 k0_t4 = 1#1), ∀ a, (k0_off57 v230) a + S2048.size a ≤ S102400.size a)
theorem k0_mult55_dvd : ∀ (v67 : BitVec 32) (k0_t4 : Fin (k0_t4_loop v67).trips) (v230 : BitVec 32) (k0_hw53 : k0_chk53 v67 k0_t4 v230), ∀ (k0_h27 : k0_cond27 v67 k0_t4 = 1#1), 2048 ∣ (k0_mult55 v230).toNat := fun v67 k0_t4 v230 k0_hw53 k0_h27 => k0_hw53.1 k0_h27
theorem k0_off57_inb : ∀ (v67 : BitVec 32) (k0_t4 : Fin (k0_t4_loop v67).trips) (v230 : BitVec 32) (k0_hw53 : k0_chk53 v67 k0_t4 v230), ∀ (k0_h27 : k0_cond27 v67 k0_t4 = 1#1), ∀ a, (k0_off57 v230) a + S2048.size a ≤ S102400.size a := fun v67 k0_t4 v230 k0_hw53 k0_h27 => k0_hw53.2 k0_h27

def k0_off58 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk54 (i : grid0.Coords) (v67 : BitVec 32) (k0_t4 : Fin (k0_t4_loop v67).trips) (v234 : BitVec 32) : Prop :=
  (∀ (k0_h27 : k0_cond27 v67 k0_t4 = 1#1), 2048 ∣ (k0_mult56 i v234).toNat) ∧
  (∀ (k0_h27 : k0_cond27 v67 k0_t4 = 1#1), ∀ a, (k0_off58 i v234) a + S2048.size a ≤ S1677721600.size a)
theorem k0_mult56_dvd : ∀ (i : grid0.Coords) (v67 : BitVec 32) (k0_t4 : Fin (k0_t4_loop v67).trips) (v234 : BitVec 32) (k0_hw54 : k0_chk54 i v67 k0_t4 v234), ∀ (k0_h27 : k0_cond27 v67 k0_t4 = 1#1), 2048 ∣ (k0_mult56 i v234).toNat := fun i v67 k0_t4 v234 k0_hw54 k0_h27 => k0_hw54.1 k0_h27
theorem k0_off58_inb : ∀ (i : grid0.Coords) (v67 : BitVec 32) (k0_t4 : Fin (k0_t4_loop v67).trips) (v234 : BitVec 32) (k0_hw54 : k0_chk54 i v67 k0_t4 v234), ∀ (k0_h27 : k0_cond27 v67 k0_t4 = 1#1), ∀ a, (k0_off58 i v234) a + S2048.size a ≤ S1677721600.size a := fun i v67 k0_t4 v234 k0_hw54 k0_h27 => k0_hw54.2 k0_h27

def k0_mult57 (v230 : BitVec 32) : BitVec 32 :=
  let c2048_i32_135 : BitVec 32 := 2048#32
  let v231 : BitVec 32 := Scalar.muli v230 c2048_i32_135
  v231
def k0_cond28 (v67 : BitVec 32) (k0_t4 : Fin (k0_t4_loop v67).trips) : BitVec 1 :=
  let c0_i32_54 : BitVec 32 := 0#32
  let c0_i32_55 : BitVec 32 := 0#32
  let c15_i32 : BitVec 32 := 15#32
  let v68 : BitVec 32 := Scalar.addi v67 c15_i32
  let c0_i32_43 : BitVec 32 := 0#32
  let v70 : BitVec 1 := Scalar.cmpi .sgt v68 c0_i32_43
  let v71 : BitVec 32 := Scalar.extui v70
  let c0_i32_44 : BitVec 32 := 0#32
  let v72 : BitVec 1 := Scalar.cmpi .slt v68 c0_i32_44
  let v73 : BitVec 32 := Scalar.extui v72
  let v74 : BitVec 32 := Scalar.subi v71 v73
  let c16_i32 : BitVec 32 := 16#32
  let c0_i32_45 : BitVec 32 := 0#32
  let v75 : BitVec 1 := Scalar.cmpi .sgt c16_i32 c0_i32_45
  let v76 : BitVec 32 := Scalar.extui v75
  let c0_i32_46 : BitVec 32 := 0#32
  let v77 : BitVec 1 := Scalar.cmpi .slt c16_i32 c0_i32_46
  let v78 : BitVec 32 := Scalar.extui v77
  let v79 : BitVec 32 := Scalar.subi v76 v78
  let v80 : BitVec 1 := Scalar.cmpi .ne v74 v79
  let v81 : BitVec 32 := Scalar.remsi v68 c16_i32
  let c0_i32_47 : BitVec 32 := 0#32
  let v82 : BitVec 1 := Scalar.cmpi .ne v81 c0_i32_47
  let v83 : BitVec 1 := Scalar.andi v80 v82
  let v69 : BitVec 32 := Scalar.divsi v68 c16_i32
  let c1_i32_48 : BitVec 32 := 1#32
  let v84 : BitVec 32 := Scalar.subi v69 c1_i32_48
  let v85 : BitVec 32 := Scalar.select v83 v84 v69
  let c0_i32_49 : BitVec 32 := 0#32
  let v86 : BitVec 32 := Scalar.subi v85 c0_i32_49
  let c1_i32_50 : BitVec 32 := 1#32
  let c1_i32_51 : BitVec 32 := 1#32
  let v87 : BitVec 32 := Scalar.subi c1_i32_50 c1_i32_51
  let v88 : BitVec 32 := Scalar.addi v86 v87
  let c1_i32_52 : BitVec 32 := 1#32
  let v89 : BitVec 32 := Scalar.divsi v88 c1_i32_52
  let v90 : BitVec 32 := Scalar.subi v89 c0_i32_55
  let c1_i32_56 : BitVec 32 := 1#32
  let v92 : BitVec 32 := Scalar.divsi v90 c1_i32_56
  let v93 : BitVec 32 := Scalar.muli v92 c1_i32_56
  let v94 : BitVec 32 := Scalar.addi c0_i32_55 v93
  let c1_i32_58 : BitVec 32 := 1#32
  let arg13 : BitVec 32 := Scf.iv v94 c1_i32_58 k0_t4
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let c10_i32 : BitVec 32 := 10#32
  let v205 : BitVec 32 := Scalar.addi v158 c10_i32
  let v206 : BitVec 1 := Scalar.cmpi .slt v205 v67
  let v207 : BitVec 32 := Scalar.extui v206
  let c0_i32_128 : BitVec 32 := 0#32
  let v208 : BitVec 1 := Scalar.cmpi .ne v207 c0_i32_128
  v208

def k0_mult58 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off59 (v230 : BitVec 32) : Fin 1 → Nat :=
  let c2048_i32_135 : BitVec 32 := 2048#32
  let v231 : BitVec 32 := Scalar.muli v230 c2048_i32_135
  let v232 : BitVec 32 := v231
  ![v232.toNat]

def k0_chk55 (v67 : BitVec 32) (k0_t4 : Fin (k0_t4_loop v67).trips) (v230 : BitVec 32) : Prop :=
  (∀ (k0_h28 : k0_cond28 v67 k0_t4 = 1#1), 2048 ∣ (k0_mult57 v230).toNat) ∧
  (∀ (k0_h28 : k0_cond28 v67 k0_t4 = 1#1), ∀ a, (k0_off59 v230) a + S2048.size a ≤ S102400.size a)
theorem k0_mult57_dvd : ∀ (v67 : BitVec 32) (k0_t4 : Fin (k0_t4_loop v67).trips) (v230 : BitVec 32) (k0_hw55 : k0_chk55 v67 k0_t4 v230), ∀ (k0_h28 : k0_cond28 v67 k0_t4 = 1#1), 2048 ∣ (k0_mult57 v230).toNat := fun v67 k0_t4 v230 k0_hw55 k0_h28 => k0_hw55.1 k0_h28
theorem k0_off59_inb : ∀ (v67 : BitVec 32) (k0_t4 : Fin (k0_t4_loop v67).trips) (v230 : BitVec 32) (k0_hw55 : k0_chk55 v67 k0_t4 v230), ∀ (k0_h28 : k0_cond28 v67 k0_t4 = 1#1), ∀ a, (k0_off59 v230) a + S2048.size a ≤ S102400.size a := fun v67 k0_t4 v230 k0_hw55 k0_h28 => k0_hw55.2 k0_h28

def k0_off60 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk56 (i : grid0.Coords) (v67 : BitVec 32) (k0_t4 : Fin (k0_t4_loop v67).trips) (v234 : BitVec 32) : Prop :=
  (∀ (k0_h28 : k0_cond28 v67 k0_t4 = 1#1), 2048 ∣ (k0_mult58 i v234).toNat) ∧
  (∀ (k0_h28 : k0_cond28 v67 k0_t4 = 1#1), ∀ a, (k0_off60 i v234) a + S2048.size a ≤ S1677721600.size a)
theorem k0_mult58_dvd : ∀ (i : grid0.Coords) (v67 : BitVec 32) (k0_t4 : Fin (k0_t4_loop v67).trips) (v234 : BitVec 32) (k0_hw56 : k0_chk56 i v67 k0_t4 v234), ∀ (k0_h28 : k0_cond28 v67 k0_t4 = 1#1), 2048 ∣ (k0_mult58 i v234).toNat := fun i v67 k0_t4 v234 k0_hw56 k0_h28 => k0_hw56.1 k0_h28
theorem k0_off60_inb : ∀ (i : grid0.Coords) (v67 : BitVec 32) (k0_t4 : Fin (k0_t4_loop v67).trips) (v234 : BitVec 32) (k0_hw56 : k0_chk56 i v67 k0_t4 v234), ∀ (k0_h28 : k0_cond28 v67 k0_t4 = 1#1), ∀ a, (k0_off60 i v234) a + S2048.size a ≤ S1677721600.size a := fun i v67 k0_t4 v234 k0_hw56 k0_h28 => k0_hw56.2 k0_h28

def k0_mult59 (v230 : BitVec 32) : BitVec 32 :=
  let c2048_i32_135 : BitVec 32 := 2048#32
  let v231 : BitVec 32 := Scalar.muli v230 c2048_i32_135
  v231
def k0_cond29 (v67 : BitVec 32) (k0_t4 : Fin (k0_t4_loop v67).trips) : BitVec 1 :=
  let c0_i32_54 : BitVec 32 := 0#32
  let c0_i32_55 : BitVec 32 := 0#32
  let c15_i32 : BitVec 32 := 15#32
  let v68 : BitVec 32 := Scalar.addi v67 c15_i32
  let c0_i32_43 : BitVec 32 := 0#32
  let v70 : BitVec 1 := Scalar.cmpi .sgt v68 c0_i32_43
  let v71 : BitVec 32 := Scalar.extui v70
  let c0_i32_44 : BitVec 32 := 0#32
  let v72 : BitVec 1 := Scalar.cmpi .slt v68 c0_i32_44
  let v73 : BitVec 32 := Scalar.extui v72
  let v74 : BitVec 32 := Scalar.subi v71 v73
  let c16_i32 : BitVec 32 := 16#32
  let c0_i32_45 : BitVec 32 := 0#32
  let v75 : BitVec 1 := Scalar.cmpi .sgt c16_i32 c0_i32_45
  let v76 : BitVec 32 := Scalar.extui v75
  let c0_i32_46 : BitVec 32 := 0#32
  let v77 : BitVec 1 := Scalar.cmpi .slt c16_i32 c0_i32_46
  let v78 : BitVec 32 := Scalar.extui v77
  let v79 : BitVec 32 := Scalar.subi v76 v78
  let v80 : BitVec 1 := Scalar.cmpi .ne v74 v79
  let v81 : BitVec 32 := Scalar.remsi v68 c16_i32
  let c0_i32_47 : BitVec 32 := 0#32
  let v82 : BitVec 1 := Scalar.cmpi .ne v81 c0_i32_47
  let v83 : BitVec 1 := Scalar.andi v80 v82
  let v69 : BitVec 32 := Scalar.divsi v68 c16_i32
  let c1_i32_48 : BitVec 32 := 1#32
  let v84 : BitVec 32 := Scalar.subi v69 c1_i32_48
  let v85 : BitVec 32 := Scalar.select v83 v84 v69
  let c0_i32_49 : BitVec 32 := 0#32
  let v86 : BitVec 32 := Scalar.subi v85 c0_i32_49
  let c1_i32_50 : BitVec 32 := 1#32
  let c1_i32_51 : BitVec 32 := 1#32
  let v87 : BitVec 32 := Scalar.subi c1_i32_50 c1_i32_51
  let v88 : BitVec 32 := Scalar.addi v86 v87
  let c1_i32_52 : BitVec 32 := 1#32
  let v89 : BitVec 32 := Scalar.divsi v88 c1_i32_52
  let v90 : BitVec 32 := Scalar.subi v89 c0_i32_55
  let c1_i32_56 : BitVec 32 := 1#32
  let v92 : BitVec 32 := Scalar.divsi v90 c1_i32_56
  let v93 : BitVec 32 := Scalar.muli v92 c1_i32_56
  let v94 : BitVec 32 := Scalar.addi c0_i32_55 v93
  let c1_i32_58 : BitVec 32 := 1#32
  let arg13 : BitVec 32 := Scf.iv v94 c1_i32_58 k0_t4
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let c11_i32 : BitVec 32 := 11#32
  let v209 : BitVec 32 := Scalar.addi v158 c11_i32
  let v210 : BitVec 1 := Scalar.cmpi .slt v209 v67
  let v211 : BitVec 32 := Scalar.extui v210
  let c0_i32_129 : BitVec 32 := 0#32
  let v212 : BitVec 1 := Scalar.cmpi .ne v211 c0_i32_129
  v212

def k0_mult60 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off61 (v230 : BitVec 32) : Fin 1 → Nat :=
  let c2048_i32_135 : BitVec 32 := 2048#32
  let v231 : BitVec 32 := Scalar.muli v230 c2048_i32_135
  let v232 : BitVec 32 := v231
  ![v232.toNat]

def k0_chk57 (v67 : BitVec 32) (k0_t4 : Fin (k0_t4_loop v67).trips) (v230 : BitVec 32) : Prop :=
  (∀ (k0_h29 : k0_cond29 v67 k0_t4 = 1#1), 2048 ∣ (k0_mult59 v230).toNat) ∧
  (∀ (k0_h29 : k0_cond29 v67 k0_t4 = 1#1), ∀ a, (k0_off61 v230) a + S2048.size a ≤ S102400.size a)
theorem k0_mult59_dvd : ∀ (v67 : BitVec 32) (k0_t4 : Fin (k0_t4_loop v67).trips) (v230 : BitVec 32) (k0_hw57 : k0_chk57 v67 k0_t4 v230), ∀ (k0_h29 : k0_cond29 v67 k0_t4 = 1#1), 2048 ∣ (k0_mult59 v230).toNat := fun v67 k0_t4 v230 k0_hw57 k0_h29 => k0_hw57.1 k0_h29
theorem k0_off61_inb : ∀ (v67 : BitVec 32) (k0_t4 : Fin (k0_t4_loop v67).trips) (v230 : BitVec 32) (k0_hw57 : k0_chk57 v67 k0_t4 v230), ∀ (k0_h29 : k0_cond29 v67 k0_t4 = 1#1), ∀ a, (k0_off61 v230) a + S2048.size a ≤ S102400.size a := fun v67 k0_t4 v230 k0_hw57 k0_h29 => k0_hw57.2 k0_h29

def k0_off62 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk58 (i : grid0.Coords) (v67 : BitVec 32) (k0_t4 : Fin (k0_t4_loop v67).trips) (v234 : BitVec 32) : Prop :=
  (∀ (k0_h29 : k0_cond29 v67 k0_t4 = 1#1), 2048 ∣ (k0_mult60 i v234).toNat) ∧
  (∀ (k0_h29 : k0_cond29 v67 k0_t4 = 1#1), ∀ a, (k0_off62 i v234) a + S2048.size a ≤ S1677721600.size a)
theorem k0_mult60_dvd : ∀ (i : grid0.Coords) (v67 : BitVec 32) (k0_t4 : Fin (k0_t4_loop v67).trips) (v234 : BitVec 32) (k0_hw58 : k0_chk58 i v67 k0_t4 v234), ∀ (k0_h29 : k0_cond29 v67 k0_t4 = 1#1), 2048 ∣ (k0_mult60 i v234).toNat := fun i v67 k0_t4 v234 k0_hw58 k0_h29 => k0_hw58.1 k0_h29
theorem k0_off62_inb : ∀ (i : grid0.Coords) (v67 : BitVec 32) (k0_t4 : Fin (k0_t4_loop v67).trips) (v234 : BitVec 32) (k0_hw58 : k0_chk58 i v67 k0_t4 v234), ∀ (k0_h29 : k0_cond29 v67 k0_t4 = 1#1), ∀ a, (k0_off62 i v234) a + S2048.size a ≤ S1677721600.size a := fun i v67 k0_t4 v234 k0_hw58 k0_h29 => k0_hw58.2 k0_h29

def k0_mult61 (v230 : BitVec 32) : BitVec 32 :=
  let c2048_i32_135 : BitVec 32 := 2048#32
  let v231 : BitVec 32 := Scalar.muli v230 c2048_i32_135
  v231
def k0_cond30 (v67 : BitVec 32) (k0_t4 : Fin (k0_t4_loop v67).trips) : BitVec 1 :=
  let c0_i32_54 : BitVec 32 := 0#32
  let c0_i32_55 : BitVec 32 := 0#32
  let c15_i32 : BitVec 32 := 15#32
  let v68 : BitVec 32 := Scalar.addi v67 c15_i32
  let c0_i32_43 : BitVec 32 := 0#32
  let v70 : BitVec 1 := Scalar.cmpi .sgt v68 c0_i32_43
  let v71 : BitVec 32 := Scalar.extui v70
  let c0_i32_44 : BitVec 32 := 0#32
  let v72 : BitVec 1 := Scalar.cmpi .slt v68 c0_i32_44
  let v73 : BitVec 32 := Scalar.extui v72
  let v74 : BitVec 32 := Scalar.subi v71 v73
  let c16_i32 : BitVec 32 := 16#32
  let c0_i32_45 : BitVec 32 := 0#32
  let v75 : BitVec 1 := Scalar.cmpi .sgt c16_i32 c0_i32_45
  let v76 : BitVec 32 := Scalar.extui v75
  let c0_i32_46 : BitVec 32 := 0#32
  let v77 : BitVec 1 := Scalar.cmpi .slt c16_i32 c0_i32_46
  let v78 : BitVec 32 := Scalar.extui v77
  let v79 : BitVec 32 := Scalar.subi v76 v78
  let v80 : BitVec 1 := Scalar.cmpi .ne v74 v79
  let v81 : BitVec 32 := Scalar.remsi v68 c16_i32
  let c0_i32_47 : BitVec 32 := 0#32
  let v82 : BitVec 1 := Scalar.cmpi .ne v81 c0_i32_47
  let v83 : BitVec 1 := Scalar.andi v80 v82
  let v69 : BitVec 32 := Scalar.divsi v68 c16_i32
  let c1_i32_48 : BitVec 32 := 1#32
  let v84 : BitVec 32 := Scalar.subi v69 c1_i32_48
  let v85 : BitVec 32 := Scalar.select v83 v84 v69
  let c0_i32_49 : BitVec 32 := 0#32
  let v86 : BitVec 32 := Scalar.subi v85 c0_i32_49
  let c1_i32_50 : BitVec 32 := 1#32
  let c1_i32_51 : BitVec 32 := 1#32
  let v87 : BitVec 32 := Scalar.subi c1_i32_50 c1_i32_51
  let v88 : BitVec 32 := Scalar.addi v86 v87
  let c1_i32_52 : BitVec 32 := 1#32
  let v89 : BitVec 32 := Scalar.divsi v88 c1_i32_52
  let v90 : BitVec 32 := Scalar.subi v89 c0_i32_55
  let c1_i32_56 : BitVec 32 := 1#32
  let v92 : BitVec 32 := Scalar.divsi v90 c1_i32_56
  let v93 : BitVec 32 := Scalar.muli v92 c1_i32_56
  let v94 : BitVec 32 := Scalar.addi c0_i32_55 v93
  let c1_i32_58 : BitVec 32 := 1#32
  let arg13 : BitVec 32 := Scf.iv v94 c1_i32_58 k0_t4
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let c12_i32 : BitVec 32 := 12#32
  let v213 : BitVec 32 := Scalar.addi v158 c12_i32
  let v214 : BitVec 1 := Scalar.cmpi .slt v213 v67
  let v215 : BitVec 32 := Scalar.extui v214
  let c0_i32_130 : BitVec 32 := 0#32
  let v216 : BitVec 1 := Scalar.cmpi .ne v215 c0_i32_130
  v216

def k0_mult62 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off63 (v230 : BitVec 32) : Fin 1 → Nat :=
  let c2048_i32_135 : BitVec 32 := 2048#32
  let v231 : BitVec 32 := Scalar.muli v230 c2048_i32_135
  let v232 : BitVec 32 := v231
  ![v232.toNat]

def k0_chk59 (v67 : BitVec 32) (k0_t4 : Fin (k0_t4_loop v67).trips) (v230 : BitVec 32) : Prop :=
  (∀ (k0_h30 : k0_cond30 v67 k0_t4 = 1#1), 2048 ∣ (k0_mult61 v230).toNat) ∧
  (∀ (k0_h30 : k0_cond30 v67 k0_t4 = 1#1), ∀ a, (k0_off63 v230) a + S2048.size a ≤ S102400.size a)
theorem k0_mult61_dvd : ∀ (v67 : BitVec 32) (k0_t4 : Fin (k0_t4_loop v67).trips) (v230 : BitVec 32) (k0_hw59 : k0_chk59 v67 k0_t4 v230), ∀ (k0_h30 : k0_cond30 v67 k0_t4 = 1#1), 2048 ∣ (k0_mult61 v230).toNat := fun v67 k0_t4 v230 k0_hw59 k0_h30 => k0_hw59.1 k0_h30
theorem k0_off63_inb : ∀ (v67 : BitVec 32) (k0_t4 : Fin (k0_t4_loop v67).trips) (v230 : BitVec 32) (k0_hw59 : k0_chk59 v67 k0_t4 v230), ∀ (k0_h30 : k0_cond30 v67 k0_t4 = 1#1), ∀ a, (k0_off63 v230) a + S2048.size a ≤ S102400.size a := fun v67 k0_t4 v230 k0_hw59 k0_h30 => k0_hw59.2 k0_h30

def k0_off64 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk60 (i : grid0.Coords) (v67 : BitVec 32) (k0_t4 : Fin (k0_t4_loop v67).trips) (v234 : BitVec 32) : Prop :=
  (∀ (k0_h30 : k0_cond30 v67 k0_t4 = 1#1), 2048 ∣ (k0_mult62 i v234).toNat) ∧
  (∀ (k0_h30 : k0_cond30 v67 k0_t4 = 1#1), ∀ a, (k0_off64 i v234) a + S2048.size a ≤ S1677721600.size a)
theorem k0_mult62_dvd : ∀ (i : grid0.Coords) (v67 : BitVec 32) (k0_t4 : Fin (k0_t4_loop v67).trips) (v234 : BitVec 32) (k0_hw60 : k0_chk60 i v67 k0_t4 v234), ∀ (k0_h30 : k0_cond30 v67 k0_t4 = 1#1), 2048 ∣ (k0_mult62 i v234).toNat := fun i v67 k0_t4 v234 k0_hw60 k0_h30 => k0_hw60.1 k0_h30
theorem k0_off64_inb : ∀ (i : grid0.Coords) (v67 : BitVec 32) (k0_t4 : Fin (k0_t4_loop v67).trips) (v234 : BitVec 32) (k0_hw60 : k0_chk60 i v67 k0_t4 v234), ∀ (k0_h30 : k0_cond30 v67 k0_t4 = 1#1), ∀ a, (k0_off64 i v234) a + S2048.size a ≤ S1677721600.size a := fun i v67 k0_t4 v234 k0_hw60 k0_h30 => k0_hw60.2 k0_h30

def k0_mult63 (v230 : BitVec 32) : BitVec 32 :=
  let c2048_i32_135 : BitVec 32 := 2048#32
  let v231 : BitVec 32 := Scalar.muli v230 c2048_i32_135
  v231
def k0_cond31 (v67 : BitVec 32) (k0_t4 : Fin (k0_t4_loop v67).trips) : BitVec 1 :=
  let c0_i32_54 : BitVec 32 := 0#32
  let c0_i32_55 : BitVec 32 := 0#32
  let c15_i32 : BitVec 32 := 15#32
  let v68 : BitVec 32 := Scalar.addi v67 c15_i32
  let c0_i32_43 : BitVec 32 := 0#32
  let v70 : BitVec 1 := Scalar.cmpi .sgt v68 c0_i32_43
  let v71 : BitVec 32 := Scalar.extui v70
  let c0_i32_44 : BitVec 32 := 0#32
  let v72 : BitVec 1 := Scalar.cmpi .slt v68 c0_i32_44
  let v73 : BitVec 32 := Scalar.extui v72
  let v74 : BitVec 32 := Scalar.subi v71 v73
  let c16_i32 : BitVec 32 := 16#32
  let c0_i32_45 : BitVec 32 := 0#32
  let v75 : BitVec 1 := Scalar.cmpi .sgt c16_i32 c0_i32_45
  let v76 : BitVec 32 := Scalar.extui v75
  let c0_i32_46 : BitVec 32 := 0#32
  let v77 : BitVec 1 := Scalar.cmpi .slt c16_i32 c0_i32_46
  let v78 : BitVec 32 := Scalar.extui v77
  let v79 : BitVec 32 := Scalar.subi v76 v78
  let v80 : BitVec 1 := Scalar.cmpi .ne v74 v79
  let v81 : BitVec 32 := Scalar.remsi v68 c16_i32
  let c0_i32_47 : BitVec 32 := 0#32
  let v82 : BitVec 1 := Scalar.cmpi .ne v81 c0_i32_47
  let v83 : BitVec 1 := Scalar.andi v80 v82
  let v69 : BitVec 32 := Scalar.divsi v68 c16_i32
  let c1_i32_48 : BitVec 32 := 1#32
  let v84 : BitVec 32 := Scalar.subi v69 c1_i32_48
  let v85 : BitVec 32 := Scalar.select v83 v84 v69
  let c0_i32_49 : BitVec 32 := 0#32
  let v86 : BitVec 32 := Scalar.subi v85 c0_i32_49
  let c1_i32_50 : BitVec 32 := 1#32
  let c1_i32_51 : BitVec 32 := 1#32
  let v87 : BitVec 32 := Scalar.subi c1_i32_50 c1_i32_51
  let v88 : BitVec 32 := Scalar.addi v86 v87
  let c1_i32_52 : BitVec 32 := 1#32
  let v89 : BitVec 32 := Scalar.divsi v88 c1_i32_52
  let v90 : BitVec 32 := Scalar.subi v89 c0_i32_55
  let c1_i32_56 : BitVec 32 := 1#32
  let v92 : BitVec 32 := Scalar.divsi v90 c1_i32_56
  let v93 : BitVec 32 := Scalar.muli v92 c1_i32_56
  let v94 : BitVec 32 := Scalar.addi c0_i32_55 v93
  let c1_i32_58 : BitVec 32 := 1#32
  let arg13 : BitVec 32 := Scf.iv v94 c1_i32_58 k0_t4
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let c13_i32 : BitVec 32 := 13#32
  let v217 : BitVec 32 := Scalar.addi v158 c13_i32
  let v218 : BitVec 1 := Scalar.cmpi .slt v217 v67
  let v219 : BitVec 32 := Scalar.extui v218
  let c0_i32_131 : BitVec 32 := 0#32
  let v220 : BitVec 1 := Scalar.cmpi .ne v219 c0_i32_131
  v220

def k0_mult64 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off65 (v230 : BitVec 32) : Fin 1 → Nat :=
  let c2048_i32_135 : BitVec 32 := 2048#32
  let v231 : BitVec 32 := Scalar.muli v230 c2048_i32_135
  let v232 : BitVec 32 := v231
  ![v232.toNat]

def k0_chk61 (v67 : BitVec 32) (k0_t4 : Fin (k0_t4_loop v67).trips) (v230 : BitVec 32) : Prop :=
  (∀ (k0_h31 : k0_cond31 v67 k0_t4 = 1#1), 2048 ∣ (k0_mult63 v230).toNat) ∧
  (∀ (k0_h31 : k0_cond31 v67 k0_t4 = 1#1), ∀ a, (k0_off65 v230) a + S2048.size a ≤ S102400.size a)
theorem k0_mult63_dvd : ∀ (v67 : BitVec 32) (k0_t4 : Fin (k0_t4_loop v67).trips) (v230 : BitVec 32) (k0_hw61 : k0_chk61 v67 k0_t4 v230), ∀ (k0_h31 : k0_cond31 v67 k0_t4 = 1#1), 2048 ∣ (k0_mult63 v230).toNat := fun v67 k0_t4 v230 k0_hw61 k0_h31 => k0_hw61.1 k0_h31
theorem k0_off65_inb : ∀ (v67 : BitVec 32) (k0_t4 : Fin (k0_t4_loop v67).trips) (v230 : BitVec 32) (k0_hw61 : k0_chk61 v67 k0_t4 v230), ∀ (k0_h31 : k0_cond31 v67 k0_t4 = 1#1), ∀ a, (k0_off65 v230) a + S2048.size a ≤ S102400.size a := fun v67 k0_t4 v230 k0_hw61 k0_h31 => k0_hw61.2 k0_h31

def k0_off66 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk62 (i : grid0.Coords) (v67 : BitVec 32) (k0_t4 : Fin (k0_t4_loop v67).trips) (v234 : BitVec 32) : Prop :=
  (∀ (k0_h31 : k0_cond31 v67 k0_t4 = 1#1), 2048 ∣ (k0_mult64 i v234).toNat) ∧
  (∀ (k0_h31 : k0_cond31 v67 k0_t4 = 1#1), ∀ a, (k0_off66 i v234) a + S2048.size a ≤ S1677721600.size a)
theorem k0_mult64_dvd : ∀ (i : grid0.Coords) (v67 : BitVec 32) (k0_t4 : Fin (k0_t4_loop v67).trips) (v234 : BitVec 32) (k0_hw62 : k0_chk62 i v67 k0_t4 v234), ∀ (k0_h31 : k0_cond31 v67 k0_t4 = 1#1), 2048 ∣ (k0_mult64 i v234).toNat := fun i v67 k0_t4 v234 k0_hw62 k0_h31 => k0_hw62.1 k0_h31
theorem k0_off66_inb : ∀ (i : grid0.Coords) (v67 : BitVec 32) (k0_t4 : Fin (k0_t4_loop v67).trips) (v234 : BitVec 32) (k0_hw62 : k0_chk62 i v67 k0_t4 v234), ∀ (k0_h31 : k0_cond31 v67 k0_t4 = 1#1), ∀ a, (k0_off66 i v234) a + S2048.size a ≤ S1677721600.size a := fun i v67 k0_t4 v234 k0_hw62 k0_h31 => k0_hw62.2 k0_h31

def k0_mult65 (v230 : BitVec 32) : BitVec 32 :=
  let c2048_i32_135 : BitVec 32 := 2048#32
  let v231 : BitVec 32 := Scalar.muli v230 c2048_i32_135
  v231
def k0_cond32 (v67 : BitVec 32) (k0_t4 : Fin (k0_t4_loop v67).trips) : BitVec 1 :=
  let c0_i32_54 : BitVec 32 := 0#32
  let c0_i32_55 : BitVec 32 := 0#32
  let c15_i32 : BitVec 32 := 15#32
  let v68 : BitVec 32 := Scalar.addi v67 c15_i32
  let c0_i32_43 : BitVec 32 := 0#32
  let v70 : BitVec 1 := Scalar.cmpi .sgt v68 c0_i32_43
  let v71 : BitVec 32 := Scalar.extui v70
  let c0_i32_44 : BitVec 32 := 0#32
  let v72 : BitVec 1 := Scalar.cmpi .slt v68 c0_i32_44
  let v73 : BitVec 32 := Scalar.extui v72
  let v74 : BitVec 32 := Scalar.subi v71 v73
  let c16_i32 : BitVec 32 := 16#32
  let c0_i32_45 : BitVec 32 := 0#32
  let v75 : BitVec 1 := Scalar.cmpi .sgt c16_i32 c0_i32_45
  let v76 : BitVec 32 := Scalar.extui v75
  let c0_i32_46 : BitVec 32 := 0#32
  let v77 : BitVec 1 := Scalar.cmpi .slt c16_i32 c0_i32_46
  let v78 : BitVec 32 := Scalar.extui v77
  let v79 : BitVec 32 := Scalar.subi v76 v78
  let v80 : BitVec 1 := Scalar.cmpi .ne v74 v79
  let v81 : BitVec 32 := Scalar.remsi v68 c16_i32
  let c0_i32_47 : BitVec 32 := 0#32
  let v82 : BitVec 1 := Scalar.cmpi .ne v81 c0_i32_47
  let v83 : BitVec 1 := Scalar.andi v80 v82
  let v69 : BitVec 32 := Scalar.divsi v68 c16_i32
  let c1_i32_48 : BitVec 32 := 1#32
  let v84 : BitVec 32 := Scalar.subi v69 c1_i32_48
  let v85 : BitVec 32 := Scalar.select v83 v84 v69
  let c0_i32_49 : BitVec 32 := 0#32
  let v86 : BitVec 32 := Scalar.subi v85 c0_i32_49
  let c1_i32_50 : BitVec 32 := 1#32
  let c1_i32_51 : BitVec 32 := 1#32
  let v87 : BitVec 32 := Scalar.subi c1_i32_50 c1_i32_51
  let v88 : BitVec 32 := Scalar.addi v86 v87
  let c1_i32_52 : BitVec 32 := 1#32
  let v89 : BitVec 32 := Scalar.divsi v88 c1_i32_52
  let v90 : BitVec 32 := Scalar.subi v89 c0_i32_55
  let c1_i32_56 : BitVec 32 := 1#32
  let v92 : BitVec 32 := Scalar.divsi v90 c1_i32_56
  let v93 : BitVec 32 := Scalar.muli v92 c1_i32_56
  let v94 : BitVec 32 := Scalar.addi c0_i32_55 v93
  let c1_i32_58 : BitVec 32 := 1#32
  let arg13 : BitVec 32 := Scf.iv v94 c1_i32_58 k0_t4
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let c14_i32 : BitVec 32 := 14#32
  let v221 : BitVec 32 := Scalar.addi v158 c14_i32
  let v222 : BitVec 1 := Scalar.cmpi .slt v221 v67
  let v223 : BitVec 32 := Scalar.extui v222
  let c0_i32_132 : BitVec 32 := 0#32
  let v224 : BitVec 1 := Scalar.cmpi .ne v223 c0_i32_132
  v224

def k0_mult66 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off67 (v230 : BitVec 32) : Fin 1 → Nat :=
  let c2048_i32_135 : BitVec 32 := 2048#32
  let v231 : BitVec 32 := Scalar.muli v230 c2048_i32_135
  let v232 : BitVec 32 := v231
  ![v232.toNat]

def k0_chk63 (v67 : BitVec 32) (k0_t4 : Fin (k0_t4_loop v67).trips) (v230 : BitVec 32) : Prop :=
  (∀ (k0_h32 : k0_cond32 v67 k0_t4 = 1#1), 2048 ∣ (k0_mult65 v230).toNat) ∧
  (∀ (k0_h32 : k0_cond32 v67 k0_t4 = 1#1), ∀ a, (k0_off67 v230) a + S2048.size a ≤ S102400.size a)
theorem k0_mult65_dvd : ∀ (v67 : BitVec 32) (k0_t4 : Fin (k0_t4_loop v67).trips) (v230 : BitVec 32) (k0_hw63 : k0_chk63 v67 k0_t4 v230), ∀ (k0_h32 : k0_cond32 v67 k0_t4 = 1#1), 2048 ∣ (k0_mult65 v230).toNat := fun v67 k0_t4 v230 k0_hw63 k0_h32 => k0_hw63.1 k0_h32
theorem k0_off67_inb : ∀ (v67 : BitVec 32) (k0_t4 : Fin (k0_t4_loop v67).trips) (v230 : BitVec 32) (k0_hw63 : k0_chk63 v67 k0_t4 v230), ∀ (k0_h32 : k0_cond32 v67 k0_t4 = 1#1), ∀ a, (k0_off67 v230) a + S2048.size a ≤ S102400.size a := fun v67 k0_t4 v230 k0_hw63 k0_h32 => k0_hw63.2 k0_h32

def k0_off68 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk64 (i : grid0.Coords) (v67 : BitVec 32) (k0_t4 : Fin (k0_t4_loop v67).trips) (v234 : BitVec 32) : Prop :=
  (∀ (k0_h32 : k0_cond32 v67 k0_t4 = 1#1), 2048 ∣ (k0_mult66 i v234).toNat) ∧
  (∀ (k0_h32 : k0_cond32 v67 k0_t4 = 1#1), ∀ a, (k0_off68 i v234) a + S2048.size a ≤ S1677721600.size a)
theorem k0_mult66_dvd : ∀ (i : grid0.Coords) (v67 : BitVec 32) (k0_t4 : Fin (k0_t4_loop v67).trips) (v234 : BitVec 32) (k0_hw64 : k0_chk64 i v67 k0_t4 v234), ∀ (k0_h32 : k0_cond32 v67 k0_t4 = 1#1), 2048 ∣ (k0_mult66 i v234).toNat := fun i v67 k0_t4 v234 k0_hw64 k0_h32 => k0_hw64.1 k0_h32
theorem k0_off68_inb : ∀ (i : grid0.Coords) (v67 : BitVec 32) (k0_t4 : Fin (k0_t4_loop v67).trips) (v234 : BitVec 32) (k0_hw64 : k0_chk64 i v67 k0_t4 v234), ∀ (k0_h32 : k0_cond32 v67 k0_t4 = 1#1), ∀ a, (k0_off68 i v234) a + S2048.size a ≤ S1677721600.size a := fun i v67 k0_t4 v234 k0_hw64 k0_h32 => k0_hw64.2 k0_h32

def k0_mult67 (v230 : BitVec 32) : BitVec 32 :=
  let c2048_i32_135 : BitVec 32 := 2048#32
  let v231 : BitVec 32 := Scalar.muli v230 c2048_i32_135
  v231
def k0_cond33 (v67 : BitVec 32) (k0_t4 : Fin (k0_t4_loop v67).trips) : BitVec 1 :=
  let c0_i32_54 : BitVec 32 := 0#32
  let c0_i32_55 : BitVec 32 := 0#32
  let c15_i32 : BitVec 32 := 15#32
  let v68 : BitVec 32 := Scalar.addi v67 c15_i32
  let c0_i32_43 : BitVec 32 := 0#32
  let v70 : BitVec 1 := Scalar.cmpi .sgt v68 c0_i32_43
  let v71 : BitVec 32 := Scalar.extui v70
  let c0_i32_44 : BitVec 32 := 0#32
  let v72 : BitVec 1 := Scalar.cmpi .slt v68 c0_i32_44
  let v73 : BitVec 32 := Scalar.extui v72
  let v74 : BitVec 32 := Scalar.subi v71 v73
  let c16_i32 : BitVec 32 := 16#32
  let c0_i32_45 : BitVec 32 := 0#32
  let v75 : BitVec 1 := Scalar.cmpi .sgt c16_i32 c0_i32_45
  let v76 : BitVec 32 := Scalar.extui v75
  let c0_i32_46 : BitVec 32 := 0#32
  let v77 : BitVec 1 := Scalar.cmpi .slt c16_i32 c0_i32_46
  let v78 : BitVec 32 := Scalar.extui v77
  let v79 : BitVec 32 := Scalar.subi v76 v78
  let v80 : BitVec 1 := Scalar.cmpi .ne v74 v79
  let v81 : BitVec 32 := Scalar.remsi v68 c16_i32
  let c0_i32_47 : BitVec 32 := 0#32
  let v82 : BitVec 1 := Scalar.cmpi .ne v81 c0_i32_47
  let v83 : BitVec 1 := Scalar.andi v80 v82
  let v69 : BitVec 32 := Scalar.divsi v68 c16_i32
  let c1_i32_48 : BitVec 32 := 1#32
  let v84 : BitVec 32 := Scalar.subi v69 c1_i32_48
  let v85 : BitVec 32 := Scalar.select v83 v84 v69
  let c0_i32_49 : BitVec 32 := 0#32
  let v86 : BitVec 32 := Scalar.subi v85 c0_i32_49
  let c1_i32_50 : BitVec 32 := 1#32
  let c1_i32_51 : BitVec 32 := 1#32
  let v87 : BitVec 32 := Scalar.subi c1_i32_50 c1_i32_51
  let v88 : BitVec 32 := Scalar.addi v86 v87
  let c1_i32_52 : BitVec 32 := 1#32
  let v89 : BitVec 32 := Scalar.divsi v88 c1_i32_52
  let v90 : BitVec 32 := Scalar.subi v89 c0_i32_55
  let c1_i32_56 : BitVec 32 := 1#32
  let v92 : BitVec 32 := Scalar.divsi v90 c1_i32_56
  let v93 : BitVec 32 := Scalar.muli v92 c1_i32_56
  let v94 : BitVec 32 := Scalar.addi c0_i32_55 v93
  let c1_i32_58 : BitVec 32 := 1#32
  let arg13 : BitVec 32 := Scf.iv v94 c1_i32_58 k0_t4
  let c1_i32_53 : BitVec 32 := 1#32
  let v156 : BitVec 32 := Scalar.muli arg13 c1_i32_53
  let v157 : BitVec 32 := Scalar.addi c0_i32_54 v156
  let c16_i32_113 : BitVec 32 := 16#32
  let v158 : BitVec 32 := Scalar.muli v157 c16_i32_113
  let c15_i32_133 : BitVec 32 := 15#32
  let v225 : BitVec 32 := Scalar.addi v158 c15_i32_133
  let v226 : BitVec 1 := Scalar.cmpi .slt v225 v67
  let v227 : BitVec 32 := Scalar.extui v226
  let c0_i32_134 : BitVec 32 := 0#32
  let v228 : BitVec 1 := Scalar.cmpi .ne v227 c0_i32_134
  v228

def k0_mult68 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off69 (v230 : BitVec 32) : Fin 1 → Nat :=
  let c2048_i32_135 : BitVec 32 := 2048#32
  let v231 : BitVec 32 := Scalar.muli v230 c2048_i32_135
  let v232 : BitVec 32 := v231
  ![v232.toNat]

def k0_chk65 (v67 : BitVec 32) (k0_t4 : Fin (k0_t4_loop v67).trips) (v230 : BitVec 32) : Prop :=
  (∀ (k0_h33 : k0_cond33 v67 k0_t4 = 1#1), 2048 ∣ (k0_mult67 v230).toNat) ∧
  (∀ (k0_h33 : k0_cond33 v67 k0_t4 = 1#1), ∀ a, (k0_off69 v230) a + S2048.size a ≤ S102400.size a)
theorem k0_mult67_dvd : ∀ (v67 : BitVec 32) (k0_t4 : Fin (k0_t4_loop v67).trips) (v230 : BitVec 32) (k0_hw65 : k0_chk65 v67 k0_t4 v230), ∀ (k0_h33 : k0_cond33 v67 k0_t4 = 1#1), 2048 ∣ (k0_mult67 v230).toNat := fun v67 k0_t4 v230 k0_hw65 k0_h33 => k0_hw65.1 k0_h33
theorem k0_off69_inb : ∀ (v67 : BitVec 32) (k0_t4 : Fin (k0_t4_loop v67).trips) (v230 : BitVec 32) (k0_hw65 : k0_chk65 v67 k0_t4 v230), ∀ (k0_h33 : k0_cond33 v67 k0_t4 = 1#1), ∀ a, (k0_off69 v230) a + S2048.size a ≤ S102400.size a := fun v67 k0_t4 v230 k0_hw65 k0_h33 => k0_hw65.2 k0_h33

def k0_off70 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk66 (i : grid0.Coords) (v67 : BitVec 32) (k0_t4 : Fin (k0_t4_loop v67).trips) (v234 : BitVec 32) : Prop :=
  (∀ (k0_h33 : k0_cond33 v67 k0_t4 = 1#1), 2048 ∣ (k0_mult68 i v234).toNat) ∧
  (∀ (k0_h33 : k0_cond33 v67 k0_t4 = 1#1), ∀ a, (k0_off70 i v234) a + S2048.size a ≤ S1677721600.size a)
theorem k0_mult68_dvd : ∀ (i : grid0.Coords) (v67 : BitVec 32) (k0_t4 : Fin (k0_t4_loop v67).trips) (v234 : BitVec 32) (k0_hw66 : k0_chk66 i v67 k0_t4 v234), ∀ (k0_h33 : k0_cond33 v67 k0_t4 = 1#1), 2048 ∣ (k0_mult68 i v234).toNat := fun i v67 k0_t4 v234 k0_hw66 k0_h33 => k0_hw66.1 k0_h33
theorem k0_off70_inb : ∀ (i : grid0.Coords) (v67 : BitVec 32) (k0_t4 : Fin (k0_t4_loop v67).trips) (v234 : BitVec 32) (k0_hw66 : k0_chk66 i v67 k0_t4 v234), ∀ (k0_h33 : k0_cond33 v67 k0_t4 = 1#1), ∀ a, (k0_off70 i v234) a + S2048.size a ≤ S1677721600.size a := fun i v67 k0_t4 v234 k0_hw66 k0_h33 => k0_hw66.2 k0_h33

@[reducible] def k0_t5_loop (arg12 : BitVec 32) : Scf.Loop 32 :=
  let c0_i32_65 : BitVec 32 := 0#32
  let c0_i32_59 : BitVec 32 := 0#32
  let v95 : BitVec 32 := Scalar.subi arg12 c0_i32_59
  let c1_i32_60 : BitVec 32 := 1#32
  let c1_i32_61 : BitVec 32 := 1#32
  let v96 : BitVec 32 := Scalar.subi c1_i32_60 c1_i32_61
  let v97 : BitVec 32 := Scalar.addi v95 v96
  let c1_i32_62 : BitVec 32 := 1#32
  let v98 : BitVec 32 := Scalar.divsi v97 c1_i32_62
  let v99 : BitVec 32 := Scalar.subi v98 c0_i32_65
  let c1_i32_66 : BitVec 32 := 1#32
  let v101 : BitVec 32 := Scalar.divsi v99 c1_i32_66
  let v102 : BitVec 32 := Scalar.muli v101 c1_i32_66
  let v103 : BitVec 32 := Scalar.addi c0_i32_65 v102
  let c1_i32_67 : BitVec 32 := 1#32
  ⟨c0_i32_65, v103, c1_i32_67⟩

@[reducible] def k0_t6_loop (arg12 : BitVec 32) : Scf.Loop 32 :=
  let c0_i32_65 : BitVec 32 := 0#32
  let c0_i32_59 : BitVec 32 := 0#32
  let v95 : BitVec 32 := Scalar.subi arg12 c0_i32_59
  let c1_i32_60 : BitVec 32 := 1#32
  let c1_i32_61 : BitVec 32 := 1#32
  let v96 : BitVec 32 := Scalar.subi c1_i32_60 c1_i32_61
  let v97 : BitVec 32 := Scalar.addi v95 v96
  let c1_i32_62 : BitVec 32 := 1#32
  let v98 : BitVec 32 := Scalar.divsi v97 c1_i32_62
  let v99 : BitVec 32 := Scalar.subi v98 c0_i32_65
  let c1_i32_66 : BitVec 32 := 1#32
  let v101 : BitVec 32 := Scalar.divsi v99 c1_i32_66
  let v102 : BitVec 32 := Scalar.muli v101 c1_i32_66
  let v103 : BitVec 32 := Scalar.addi c0_i32_65 v102
  let v100 : BitVec 32 := Scalar.addi c0_i32_65 v99
  let c1_i32_68 : BitVec 32 := 1#32
  ⟨v103, v100, c1_i32_68⟩

def k0_chk67 (arg12 : BitVec 32) : Prop :=
  ((k0_t5_loop arg12).OK) ∧
  ((k0_t6_loop arg12).OK)
theorem k0_t5_ok : ∀ (arg12 : BitVec 32) (k0_hw67 : k0_chk67 arg12), (k0_t5_loop arg12).OK := fun arg12 k0_hw67 => k0_hw67.1
theorem k0_t6_ok : ∀ (arg12 : BitVec 32) (k0_hw67 : k0_chk67 arg12), (k0_t6_loop arg12).OK := fun arg12 k0_hw67 => k0_hw67.2

def k0_cond34 (k0_t1 : Fin k0_t1_loop.trips) : BitVec 1 :=
  let c0_i32_16 : BitVec 32 := 0#32
  let c1_i32_17 : BitVec 32 := 1#32
  let arg11 : BitVec 32 := Scf.iv c0_i32_16 c1_i32_17 k0_t1
  let c2_i32_69 : BitVec 32 := 2#32
  let v104 : BitVec 32 := Scalar.muli arg11 c2_i32_69
  let c1_i32_70 : BitVec 32 := 1#32
  let v105 : BitVec 32 := Scalar.addi v104 c1_i32_70
  let c1_i32_77 : BitVec 32 := 1#32
  let v114 : BitVec 32 := Scalar.addi v105 c1_i32_77
  let c50_i32_78 : BitVec 32 := 50#32
  let v115 : BitVec 1 := Scalar.cmpi .slt v114 c50_i32_78
  let v116 : BitVec 32 := Scalar.extui v115
  let c0_i32_79 : BitVec 32 := 0#32
  let v117 : BitVec 1 := Scalar.cmpi .ne v116 c0_i32_79
  v117

def k0_off71 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let c0_i32_16 : BitVec 32 := 0#32
  let c1_i32_17 : BitVec 32 := 1#32
  let arg11 : BitVec 32 := Scf.iv c0_i32_16 c1_i32_17 k0_t1
  let c2_i32_69 : BitVec 32 := 2#32
  let v104 : BitVec 32 := Scalar.muli arg11 c2_i32_69
  let c1_i32_70 : BitVec 32 := 1#32
  let v105 : BitVec 32 := Scalar.addi v104 c1_i32_70
  let c1_i32_113 : BitVec 32 := 1#32
  let v156 : BitVec 32 := Scalar.addi v105 c1_i32_113
  let c2048_i32_114 : BitVec 32 := 2048#32
  let v157 : BitVec 32 := Scalar.muli v156 c2048_i32_114
  let v158 : BitVec 32 := Scalar.addi v30 v157
  ![v158.toNat]
@[reducible] def k0_t7_loop : Scf.Loop 32 :=
  let c0_i32_81 : BitVec 32 := 0#32
  let c128_i32_82 : BitVec 32 := 128#32
  let v118 : BitVec 32 := Scalar.addi c0_i32_81 c128_i32_82
  let c1_i32_83 : BitVec 32 := 1#32
  ⟨c0_i32_81, v118, c1_i32_83⟩
def k0_off72 (k0_t7 : Fin k0_t7_loop.trips) : Fin 2 → Nat :=
  let c1_i32_114 : BitVec 32 := 1#32
  let v157 : Index := Scalar.indexCast c1_i32_114
  let c0_i32_81 : BitVec 32 := 0#32
  let c1_i32_83 : BitVec 32 := 1#32
  let arg13 : BitVec 32 := Scf.iv c0_i32_81 c1_i32_83 k0_t7
  let c16_i32_113 : BitVec 32 := 16#32
  let v156 : BitVec 32 := Scalar.muli arg13 c16_i32_113
  let v158 : Index := Scalar.indexCast v156
  ![1, v158.toNat]

def k0_chk68 (v172 : IVec S16 32) : Prop :=
  (∀ a x, ((![v172] : Fin 1 → IVec S16 32) a x).toNat < S2064.size a) ∧
  (∀ a x, ((![v172] : Fin 1 → IVec S16 32) a x).toNat < S2064.size a)
theorem k0_idx3_inb : ∀ (v172 : IVec S16 32) (k0_hw68 : k0_chk68 v172), ∀ a x, ((![v172] : Fin 1 → IVec S16 32) a x).toNat < S2064.size a := fun v172 k0_hw68 => k0_hw68.1
theorem k0_idx4_inb : ∀ (v172 : IVec S16 32) (k0_hw68 : k0_chk68 v172), ∀ a x, ((![v172] : Fin 1 → IVec S16 32) a x).toNat < S2064.size a := fun v172 k0_hw68 => k0_hw68.2
@[reducible] def k0_t8_loop (v119 : BitVec 32) : Scf.Loop 32 :=
  let c0_i32_99 : BitVec 32 := 0#32
  let c15_i32_85 : BitVec 32 := 15#32
  let v120 : BitVec 32 := Scalar.addi v119 c15_i32_85
  let c0_i32_87 : BitVec 32 := 0#32
  let v122 : BitVec 1 := Scalar.cmpi .sgt v120 c0_i32_87
  let v123 : BitVec 32 := Scalar.extui v122
  let c0_i32_88 : BitVec 32 := 0#32
  let v124 : BitVec 1 := Scalar.cmpi .slt v120 c0_i32_88
  let v125 : BitVec 32 := Scalar.extui v124
  let v126 : BitVec 32 := Scalar.subi v123 v125
  let c16_i32_86 : BitVec 32 := 16#32
  let c0_i32_89 : BitVec 32 := 0#32
  let v127 : BitVec 1 := Scalar.cmpi .sgt c16_i32_86 c0_i32_89
  let v128 : BitVec 32 := Scalar.extui v127
  let c0_i32_90 : BitVec 32 := 0#32
  let v129 : BitVec 1 := Scalar.cmpi .slt c16_i32_86 c0_i32_90
  let v130 : BitVec 32 := Scalar.extui v129
  let v131 : BitVec 32 := Scalar.subi v128 v130
  let v132 : BitVec 1 := Scalar.cmpi .ne v126 v131
  let v133 : BitVec 32 := Scalar.remsi v120 c16_i32_86
  let c0_i32_91 : BitVec 32 := 0#32
  let v134 : BitVec 1 := Scalar.cmpi .ne v133 c0_i32_91
  let v135 : BitVec 1 := Scalar.andi v132 v134
  let v121 : BitVec 32 := Scalar.divsi v120 c16_i32_86
  let c1_i32_92 : BitVec 32 := 1#32
  let v136 : BitVec 32 := Scalar.subi v121 c1_i32_92
  let v137 : BitVec 32 := Scalar.select v135 v136 v121
  let c0_i32_93 : BitVec 32 := 0#32
  let v138 : BitVec 32 := Scalar.subi v137 c0_i32_93
  let c1_i32_94 : BitVec 32 := 1#32
  let c1_i32_95 : BitVec 32 := 1#32
  let v139 : BitVec 32 := Scalar.subi c1_i32_94 c1_i32_95
  let v140 : BitVec 32 := Scalar.addi v138 v139
  let c1_i32_96 : BitVec 32 := 1#32
  let v141 : BitVec 32 := Scalar.divsi v140 c1_i32_96
  let v142 : BitVec 32 := Scalar.subi v141 c0_i32_99
  let c1_i32_100 : BitVec 32 := 1#32
  let v144 : BitVec 32 := Scalar.divsi v142 c1_i32_100
  let v145 : BitVec 32 := Scalar.muli v144 c1_i32_100
  let v146 : BitVec 32 := Scalar.addi c0_i32_99 v145
  let c1_i32_101 : BitVec 32 := 1#32
  ⟨c0_i32_99, v146, c1_i32_101⟩

def k0_mult69 (v119 : BitVec 32) (k0_t8 : Fin (k0_t8_loop v119).trips) : BitVec 32 :=
  let c0_i32_98 : BitVec 32 := 0#32
  let c0_i32_99 : BitVec 32 := 0#32
  let c1_i32_101 : BitVec 32 := 1#32
  let arg13 : BitVec 32 := Scf.iv c0_i32_99 c1_i32_101 k0_t8
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  v158
def k0_off73 (v119 : BitVec 32) (k0_t8 : Fin (k0_t8_loop v119).trips) : Fin 1 → Nat :=
  let c0_i32_98 : BitVec 32 := 0#32
  let c0_i32_99 : BitVec 32 := 0#32
  let c1_i32_101 : BitVec 32 := 1#32
  let arg13 : BitVec 32 := Scf.iv c0_i32_99 c1_i32_101 k0_t8
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let v159 : BitVec 32 := v158
  let v160 : Index := Scalar.indexCast v159
  ![v160.toNat]
def k0_mult70 (v119 : BitVec 32) (k0_t8 : Fin (k0_t8_loop v119).trips) : BitVec 32 :=
  let c0_i32_98 : BitVec 32 := 0#32
  let c0_i32_99 : BitVec 32 := 0#32
  let c1_i32_101 : BitVec 32 := 1#32
  let arg13 : BitVec 32 := Scf.iv c0_i32_99 c1_i32_101 k0_t8
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  v158
def k0_mult71 (v230 : BitVec 32) : BitVec 32 :=
  let c2048_i32_135 : BitVec 32 := 2048#32
  let v231 : BitVec 32 := Scalar.muli v230 c2048_i32_135
  v231
def k0_cond35 (v119 : BitVec 32) (k0_t8 : Fin (k0_t8_loop v119).trips) : BitVec 1 :=
  let c0_i32_98 : BitVec 32 := 0#32
  let c0_i32_99 : BitVec 32 := 0#32
  let c1_i32_101 : BitVec 32 := 1#32
  let arg13 : BitVec 32 := Scf.iv c0_i32_99 c1_i32_101 k0_t8
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let c0_i32_114 : BitVec 32 := 0#32
  let v165 : BitVec 32 := Scalar.addi v158 c0_i32_114
  let v166 : BitVec 1 := Scalar.cmpi .slt v165 v119
  let v167 : BitVec 32 := Scalar.extui v166
  let c0_i32_115 : BitVec 32 := 0#32
  let v168 : BitVec 1 := Scalar.cmpi .ne v167 c0_i32_115
  v168

def k0_mult72 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off74 (v230 : BitVec 32) : Fin 1 → Nat :=
  let c2048_i32_135 : BitVec 32 := 2048#32
  let v231 : BitVec 32 := Scalar.muli v230 c2048_i32_135
  let v232 : BitVec 32 := v231
  ![v232.toNat]

def k0_chk70 (v119 : BitVec 32) (k0_t8 : Fin (k0_t8_loop v119).trips) (v230 : BitVec 32) : Prop :=
  (∀ (k0_h35 : k0_cond35 v119 k0_t8 = 1#1), 2048 ∣ (k0_mult71 v230).toNat) ∧
  (∀ (k0_h35 : k0_cond35 v119 k0_t8 = 1#1), ∀ a, (k0_off74 v230) a + S2048.size a ≤ S102400.size a)
theorem k0_mult71_dvd : ∀ (v119 : BitVec 32) (k0_t8 : Fin (k0_t8_loop v119).trips) (v230 : BitVec 32) (k0_hw70 : k0_chk70 v119 k0_t8 v230), ∀ (k0_h35 : k0_cond35 v119 k0_t8 = 1#1), 2048 ∣ (k0_mult71 v230).toNat := fun v119 k0_t8 v230 k0_hw70 k0_h35 => k0_hw70.1 k0_h35
theorem k0_off74_inb : ∀ (v119 : BitVec 32) (k0_t8 : Fin (k0_t8_loop v119).trips) (v230 : BitVec 32) (k0_hw70 : k0_chk70 v119 k0_t8 v230), ∀ (k0_h35 : k0_cond35 v119 k0_t8 = 1#1), ∀ a, (k0_off74 v230) a + S2048.size a ≤ S102400.size a := fun v119 k0_t8 v230 k0_hw70 k0_h35 => k0_hw70.2 k0_h35

def k0_off75 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk71 (i : grid0.Coords) (v119 : BitVec 32) (k0_t8 : Fin (k0_t8_loop v119).trips) (v234 : BitVec 32) : Prop :=
  (∀ (k0_h35 : k0_cond35 v119 k0_t8 = 1#1), 2048 ∣ (k0_mult72 i v234).toNat) ∧
  (∀ (k0_h35 : k0_cond35 v119 k0_t8 = 1#1), ∀ a, (k0_off75 i v234) a + S2048.size a ≤ S1677721600.size a)
theorem k0_mult72_dvd : ∀ (i : grid0.Coords) (v119 : BitVec 32) (k0_t8 : Fin (k0_t8_loop v119).trips) (v234 : BitVec 32) (k0_hw71 : k0_chk71 i v119 k0_t8 v234), ∀ (k0_h35 : k0_cond35 v119 k0_t8 = 1#1), 2048 ∣ (k0_mult72 i v234).toNat := fun i v119 k0_t8 v234 k0_hw71 k0_h35 => k0_hw71.1 k0_h35
theorem k0_off75_inb : ∀ (i : grid0.Coords) (v119 : BitVec 32) (k0_t8 : Fin (k0_t8_loop v119).trips) (v234 : BitVec 32) (k0_hw71 : k0_chk71 i v119 k0_t8 v234), ∀ (k0_h35 : k0_cond35 v119 k0_t8 = 1#1), ∀ a, (k0_off75 i v234) a + S2048.size a ≤ S1677721600.size a := fun i v119 k0_t8 v234 k0_hw71 k0_h35 => k0_hw71.2 k0_h35

def k0_mult73 (v230 : BitVec 32) : BitVec 32 :=
  let c2048_i32_135 : BitVec 32 := 2048#32
  let v231 : BitVec 32 := Scalar.muli v230 c2048_i32_135
  v231
def k0_cond36 (v119 : BitVec 32) (k0_t8 : Fin (k0_t8_loop v119).trips) : BitVec 1 :=
  let c0_i32_98 : BitVec 32 := 0#32
  let c0_i32_99 : BitVec 32 := 0#32
  let c1_i32_101 : BitVec 32 := 1#32
  let arg13 : BitVec 32 := Scf.iv c0_i32_99 c1_i32_101 k0_t8
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let c1_i32_116 : BitVec 32 := 1#32
  let v169 : BitVec 32 := Scalar.addi v158 c1_i32_116
  let v170 : BitVec 1 := Scalar.cmpi .slt v169 v119
  let v171 : BitVec 32 := Scalar.extui v170
  let c0_i32_117 : BitVec 32 := 0#32
  let v172 : BitVec 1 := Scalar.cmpi .ne v171 c0_i32_117
  v172

def k0_mult74 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off76 (v230 : BitVec 32) : Fin 1 → Nat :=
  let c2048_i32_135 : BitVec 32 := 2048#32
  let v231 : BitVec 32 := Scalar.muli v230 c2048_i32_135
  let v232 : BitVec 32 := v231
  ![v232.toNat]

def k0_chk72 (v119 : BitVec 32) (k0_t8 : Fin (k0_t8_loop v119).trips) (v230 : BitVec 32) : Prop :=
  (∀ (k0_h36 : k0_cond36 v119 k0_t8 = 1#1), 2048 ∣ (k0_mult73 v230).toNat) ∧
  (∀ (k0_h36 : k0_cond36 v119 k0_t8 = 1#1), ∀ a, (k0_off76 v230) a + S2048.size a ≤ S102400.size a)
theorem k0_mult73_dvd : ∀ (v119 : BitVec 32) (k0_t8 : Fin (k0_t8_loop v119).trips) (v230 : BitVec 32) (k0_hw72 : k0_chk72 v119 k0_t8 v230), ∀ (k0_h36 : k0_cond36 v119 k0_t8 = 1#1), 2048 ∣ (k0_mult73 v230).toNat := fun v119 k0_t8 v230 k0_hw72 k0_h36 => k0_hw72.1 k0_h36
theorem k0_off76_inb : ∀ (v119 : BitVec 32) (k0_t8 : Fin (k0_t8_loop v119).trips) (v230 : BitVec 32) (k0_hw72 : k0_chk72 v119 k0_t8 v230), ∀ (k0_h36 : k0_cond36 v119 k0_t8 = 1#1), ∀ a, (k0_off76 v230) a + S2048.size a ≤ S102400.size a := fun v119 k0_t8 v230 k0_hw72 k0_h36 => k0_hw72.2 k0_h36

def k0_off77 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk73 (i : grid0.Coords) (v119 : BitVec 32) (k0_t8 : Fin (k0_t8_loop v119).trips) (v234 : BitVec 32) : Prop :=
  (∀ (k0_h36 : k0_cond36 v119 k0_t8 = 1#1), 2048 ∣ (k0_mult74 i v234).toNat) ∧
  (∀ (k0_h36 : k0_cond36 v119 k0_t8 = 1#1), ∀ a, (k0_off77 i v234) a + S2048.size a ≤ S1677721600.size a)
theorem k0_mult74_dvd : ∀ (i : grid0.Coords) (v119 : BitVec 32) (k0_t8 : Fin (k0_t8_loop v119).trips) (v234 : BitVec 32) (k0_hw73 : k0_chk73 i v119 k0_t8 v234), ∀ (k0_h36 : k0_cond36 v119 k0_t8 = 1#1), 2048 ∣ (k0_mult74 i v234).toNat := fun i v119 k0_t8 v234 k0_hw73 k0_h36 => k0_hw73.1 k0_h36
theorem k0_off77_inb : ∀ (i : grid0.Coords) (v119 : BitVec 32) (k0_t8 : Fin (k0_t8_loop v119).trips) (v234 : BitVec 32) (k0_hw73 : k0_chk73 i v119 k0_t8 v234), ∀ (k0_h36 : k0_cond36 v119 k0_t8 = 1#1), ∀ a, (k0_off77 i v234) a + S2048.size a ≤ S1677721600.size a := fun i v119 k0_t8 v234 k0_hw73 k0_h36 => k0_hw73.2 k0_h36

def k0_mult75 (v230 : BitVec 32) : BitVec 32 :=
  let c2048_i32_135 : BitVec 32 := 2048#32
  let v231 : BitVec 32 := Scalar.muli v230 c2048_i32_135
  v231
def k0_cond37 (v119 : BitVec 32) (k0_t8 : Fin (k0_t8_loop v119).trips) : BitVec 1 :=
  let c0_i32_98 : BitVec 32 := 0#32
  let c0_i32_99 : BitVec 32 := 0#32
  let c1_i32_101 : BitVec 32 := 1#32
  let arg13 : BitVec 32 := Scf.iv c0_i32_99 c1_i32_101 k0_t8
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let c2_i32_118 : BitVec 32 := 2#32
  let v173 : BitVec 32 := Scalar.addi v158 c2_i32_118
  let v174 : BitVec 1 := Scalar.cmpi .slt v173 v119
  let v175 : BitVec 32 := Scalar.extui v174
  let c0_i32_119 : BitVec 32 := 0#32
  let v176 : BitVec 1 := Scalar.cmpi .ne v175 c0_i32_119
  v176

def k0_mult76 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off78 (v230 : BitVec 32) : Fin 1 → Nat :=
  let c2048_i32_135 : BitVec 32 := 2048#32
  let v231 : BitVec 32 := Scalar.muli v230 c2048_i32_135
  let v232 : BitVec 32 := v231
  ![v232.toNat]

def k0_chk74 (v119 : BitVec 32) (k0_t8 : Fin (k0_t8_loop v119).trips) (v230 : BitVec 32) : Prop :=
  (∀ (k0_h37 : k0_cond37 v119 k0_t8 = 1#1), 2048 ∣ (k0_mult75 v230).toNat) ∧
  (∀ (k0_h37 : k0_cond37 v119 k0_t8 = 1#1), ∀ a, (k0_off78 v230) a + S2048.size a ≤ S102400.size a)
theorem k0_mult75_dvd : ∀ (v119 : BitVec 32) (k0_t8 : Fin (k0_t8_loop v119).trips) (v230 : BitVec 32) (k0_hw74 : k0_chk74 v119 k0_t8 v230), ∀ (k0_h37 : k0_cond37 v119 k0_t8 = 1#1), 2048 ∣ (k0_mult75 v230).toNat := fun v119 k0_t8 v230 k0_hw74 k0_h37 => k0_hw74.1 k0_h37
theorem k0_off78_inb : ∀ (v119 : BitVec 32) (k0_t8 : Fin (k0_t8_loop v119).trips) (v230 : BitVec 32) (k0_hw74 : k0_chk74 v119 k0_t8 v230), ∀ (k0_h37 : k0_cond37 v119 k0_t8 = 1#1), ∀ a, (k0_off78 v230) a + S2048.size a ≤ S102400.size a := fun v119 k0_t8 v230 k0_hw74 k0_h37 => k0_hw74.2 k0_h37

def k0_off79 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk75 (i : grid0.Coords) (v119 : BitVec 32) (k0_t8 : Fin (k0_t8_loop v119).trips) (v234 : BitVec 32) : Prop :=
  (∀ (k0_h37 : k0_cond37 v119 k0_t8 = 1#1), 2048 ∣ (k0_mult76 i v234).toNat) ∧
  (∀ (k0_h37 : k0_cond37 v119 k0_t8 = 1#1), ∀ a, (k0_off79 i v234) a + S2048.size a ≤ S1677721600.size a)
theorem k0_mult76_dvd : ∀ (i : grid0.Coords) (v119 : BitVec 32) (k0_t8 : Fin (k0_t8_loop v119).trips) (v234 : BitVec 32) (k0_hw75 : k0_chk75 i v119 k0_t8 v234), ∀ (k0_h37 : k0_cond37 v119 k0_t8 = 1#1), 2048 ∣ (k0_mult76 i v234).toNat := fun i v119 k0_t8 v234 k0_hw75 k0_h37 => k0_hw75.1 k0_h37
theorem k0_off79_inb : ∀ (i : grid0.Coords) (v119 : BitVec 32) (k0_t8 : Fin (k0_t8_loop v119).trips) (v234 : BitVec 32) (k0_hw75 : k0_chk75 i v119 k0_t8 v234), ∀ (k0_h37 : k0_cond37 v119 k0_t8 = 1#1), ∀ a, (k0_off79 i v234) a + S2048.size a ≤ S1677721600.size a := fun i v119 k0_t8 v234 k0_hw75 k0_h37 => k0_hw75.2 k0_h37

def k0_mult77 (v230 : BitVec 32) : BitVec 32 :=
  let c2048_i32_135 : BitVec 32 := 2048#32
  let v231 : BitVec 32 := Scalar.muli v230 c2048_i32_135
  v231
def k0_cond38 (v119 : BitVec 32) (k0_t8 : Fin (k0_t8_loop v119).trips) : BitVec 1 :=
  let c0_i32_98 : BitVec 32 := 0#32
  let c0_i32_99 : BitVec 32 := 0#32
  let c1_i32_101 : BitVec 32 := 1#32
  let arg13 : BitVec 32 := Scf.iv c0_i32_99 c1_i32_101 k0_t8
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let c3_i32 : BitVec 32 := 3#32
  let v177 : BitVec 32 := Scalar.addi v158 c3_i32
  let v178 : BitVec 1 := Scalar.cmpi .slt v177 v119
  let v179 : BitVec 32 := Scalar.extui v178
  let c0_i32_120 : BitVec 32 := 0#32
  let v180 : BitVec 1 := Scalar.cmpi .ne v179 c0_i32_120
  v180

def k0_mult78 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off80 (v230 : BitVec 32) : Fin 1 → Nat :=
  let c2048_i32_135 : BitVec 32 := 2048#32
  let v231 : BitVec 32 := Scalar.muli v230 c2048_i32_135
  let v232 : BitVec 32 := v231
  ![v232.toNat]

def k0_chk76 (v119 : BitVec 32) (k0_t8 : Fin (k0_t8_loop v119).trips) (v230 : BitVec 32) : Prop :=
  (∀ (k0_h38 : k0_cond38 v119 k0_t8 = 1#1), 2048 ∣ (k0_mult77 v230).toNat) ∧
  (∀ (k0_h38 : k0_cond38 v119 k0_t8 = 1#1), ∀ a, (k0_off80 v230) a + S2048.size a ≤ S102400.size a)
theorem k0_mult77_dvd : ∀ (v119 : BitVec 32) (k0_t8 : Fin (k0_t8_loop v119).trips) (v230 : BitVec 32) (k0_hw76 : k0_chk76 v119 k0_t8 v230), ∀ (k0_h38 : k0_cond38 v119 k0_t8 = 1#1), 2048 ∣ (k0_mult77 v230).toNat := fun v119 k0_t8 v230 k0_hw76 k0_h38 => k0_hw76.1 k0_h38
theorem k0_off80_inb : ∀ (v119 : BitVec 32) (k0_t8 : Fin (k0_t8_loop v119).trips) (v230 : BitVec 32) (k0_hw76 : k0_chk76 v119 k0_t8 v230), ∀ (k0_h38 : k0_cond38 v119 k0_t8 = 1#1), ∀ a, (k0_off80 v230) a + S2048.size a ≤ S102400.size a := fun v119 k0_t8 v230 k0_hw76 k0_h38 => k0_hw76.2 k0_h38

def k0_off81 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk77 (i : grid0.Coords) (v119 : BitVec 32) (k0_t8 : Fin (k0_t8_loop v119).trips) (v234 : BitVec 32) : Prop :=
  (∀ (k0_h38 : k0_cond38 v119 k0_t8 = 1#1), 2048 ∣ (k0_mult78 i v234).toNat) ∧
  (∀ (k0_h38 : k0_cond38 v119 k0_t8 = 1#1), ∀ a, (k0_off81 i v234) a + S2048.size a ≤ S1677721600.size a)
theorem k0_mult78_dvd : ∀ (i : grid0.Coords) (v119 : BitVec 32) (k0_t8 : Fin (k0_t8_loop v119).trips) (v234 : BitVec 32) (k0_hw77 : k0_chk77 i v119 k0_t8 v234), ∀ (k0_h38 : k0_cond38 v119 k0_t8 = 1#1), 2048 ∣ (k0_mult78 i v234).toNat := fun i v119 k0_t8 v234 k0_hw77 k0_h38 => k0_hw77.1 k0_h38
theorem k0_off81_inb : ∀ (i : grid0.Coords) (v119 : BitVec 32) (k0_t8 : Fin (k0_t8_loop v119).trips) (v234 : BitVec 32) (k0_hw77 : k0_chk77 i v119 k0_t8 v234), ∀ (k0_h38 : k0_cond38 v119 k0_t8 = 1#1), ∀ a, (k0_off81 i v234) a + S2048.size a ≤ S1677721600.size a := fun i v119 k0_t8 v234 k0_hw77 k0_h38 => k0_hw77.2 k0_h38

def k0_mult79 (v230 : BitVec 32) : BitVec 32 :=
  let c2048_i32_135 : BitVec 32 := 2048#32
  let v231 : BitVec 32 := Scalar.muli v230 c2048_i32_135
  v231
def k0_cond39 (v119 : BitVec 32) (k0_t8 : Fin (k0_t8_loop v119).trips) : BitVec 1 :=
  let c0_i32_98 : BitVec 32 := 0#32
  let c0_i32_99 : BitVec 32 := 0#32
  let c1_i32_101 : BitVec 32 := 1#32
  let arg13 : BitVec 32 := Scf.iv c0_i32_99 c1_i32_101 k0_t8
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let c4_i32_121 : BitVec 32 := 4#32
  let v181 : BitVec 32 := Scalar.addi v158 c4_i32_121
  let v182 : BitVec 1 := Scalar.cmpi .slt v181 v119
  let v183 : BitVec 32 := Scalar.extui v182
  let c0_i32_122 : BitVec 32 := 0#32
  let v184 : BitVec 1 := Scalar.cmpi .ne v183 c0_i32_122
  v184

def k0_mult80 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off82 (v230 : BitVec 32) : Fin 1 → Nat :=
  let c2048_i32_135 : BitVec 32 := 2048#32
  let v231 : BitVec 32 := Scalar.muli v230 c2048_i32_135
  let v232 : BitVec 32 := v231
  ![v232.toNat]

def k0_chk78 (v119 : BitVec 32) (k0_t8 : Fin (k0_t8_loop v119).trips) (v230 : BitVec 32) : Prop :=
  (∀ (k0_h39 : k0_cond39 v119 k0_t8 = 1#1), 2048 ∣ (k0_mult79 v230).toNat) ∧
  (∀ (k0_h39 : k0_cond39 v119 k0_t8 = 1#1), ∀ a, (k0_off82 v230) a + S2048.size a ≤ S102400.size a)
theorem k0_mult79_dvd : ∀ (v119 : BitVec 32) (k0_t8 : Fin (k0_t8_loop v119).trips) (v230 : BitVec 32) (k0_hw78 : k0_chk78 v119 k0_t8 v230), ∀ (k0_h39 : k0_cond39 v119 k0_t8 = 1#1), 2048 ∣ (k0_mult79 v230).toNat := fun v119 k0_t8 v230 k0_hw78 k0_h39 => k0_hw78.1 k0_h39
theorem k0_off82_inb : ∀ (v119 : BitVec 32) (k0_t8 : Fin (k0_t8_loop v119).trips) (v230 : BitVec 32) (k0_hw78 : k0_chk78 v119 k0_t8 v230), ∀ (k0_h39 : k0_cond39 v119 k0_t8 = 1#1), ∀ a, (k0_off82 v230) a + S2048.size a ≤ S102400.size a := fun v119 k0_t8 v230 k0_hw78 k0_h39 => k0_hw78.2 k0_h39

def k0_off83 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk79 (i : grid0.Coords) (v119 : BitVec 32) (k0_t8 : Fin (k0_t8_loop v119).trips) (v234 : BitVec 32) : Prop :=
  (∀ (k0_h39 : k0_cond39 v119 k0_t8 = 1#1), 2048 ∣ (k0_mult80 i v234).toNat) ∧
  (∀ (k0_h39 : k0_cond39 v119 k0_t8 = 1#1), ∀ a, (k0_off83 i v234) a + S2048.size a ≤ S1677721600.size a)
theorem k0_mult80_dvd : ∀ (i : grid0.Coords) (v119 : BitVec 32) (k0_t8 : Fin (k0_t8_loop v119).trips) (v234 : BitVec 32) (k0_hw79 : k0_chk79 i v119 k0_t8 v234), ∀ (k0_h39 : k0_cond39 v119 k0_t8 = 1#1), 2048 ∣ (k0_mult80 i v234).toNat := fun i v119 k0_t8 v234 k0_hw79 k0_h39 => k0_hw79.1 k0_h39
theorem k0_off83_inb : ∀ (i : grid0.Coords) (v119 : BitVec 32) (k0_t8 : Fin (k0_t8_loop v119).trips) (v234 : BitVec 32) (k0_hw79 : k0_chk79 i v119 k0_t8 v234), ∀ (k0_h39 : k0_cond39 v119 k0_t8 = 1#1), ∀ a, (k0_off83 i v234) a + S2048.size a ≤ S1677721600.size a := fun i v119 k0_t8 v234 k0_hw79 k0_h39 => k0_hw79.2 k0_h39

def k0_mult81 (v230 : BitVec 32) : BitVec 32 :=
  let c2048_i32_135 : BitVec 32 := 2048#32
  let v231 : BitVec 32 := Scalar.muli v230 c2048_i32_135
  v231
def k0_cond40 (v119 : BitVec 32) (k0_t8 : Fin (k0_t8_loop v119).trips) : BitVec 1 :=
  let c0_i32_98 : BitVec 32 := 0#32
  let c0_i32_99 : BitVec 32 := 0#32
  let c1_i32_101 : BitVec 32 := 1#32
  let arg13 : BitVec 32 := Scf.iv c0_i32_99 c1_i32_101 k0_t8
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let c5_i32 : BitVec 32 := 5#32
  let v185 : BitVec 32 := Scalar.addi v158 c5_i32
  let v186 : BitVec 1 := Scalar.cmpi .slt v185 v119
  let v187 : BitVec 32 := Scalar.extui v186
  let c0_i32_123 : BitVec 32 := 0#32
  let v188 : BitVec 1 := Scalar.cmpi .ne v187 c0_i32_123
  v188

def k0_mult82 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off84 (v230 : BitVec 32) : Fin 1 → Nat :=
  let c2048_i32_135 : BitVec 32 := 2048#32
  let v231 : BitVec 32 := Scalar.muli v230 c2048_i32_135
  let v232 : BitVec 32 := v231
  ![v232.toNat]

def k0_chk80 (v119 : BitVec 32) (k0_t8 : Fin (k0_t8_loop v119).trips) (v230 : BitVec 32) : Prop :=
  (∀ (k0_h40 : k0_cond40 v119 k0_t8 = 1#1), 2048 ∣ (k0_mult81 v230).toNat) ∧
  (∀ (k0_h40 : k0_cond40 v119 k0_t8 = 1#1), ∀ a, (k0_off84 v230) a + S2048.size a ≤ S102400.size a)
theorem k0_mult81_dvd : ∀ (v119 : BitVec 32) (k0_t8 : Fin (k0_t8_loop v119).trips) (v230 : BitVec 32) (k0_hw80 : k0_chk80 v119 k0_t8 v230), ∀ (k0_h40 : k0_cond40 v119 k0_t8 = 1#1), 2048 ∣ (k0_mult81 v230).toNat := fun v119 k0_t8 v230 k0_hw80 k0_h40 => k0_hw80.1 k0_h40
theorem k0_off84_inb : ∀ (v119 : BitVec 32) (k0_t8 : Fin (k0_t8_loop v119).trips) (v230 : BitVec 32) (k0_hw80 : k0_chk80 v119 k0_t8 v230), ∀ (k0_h40 : k0_cond40 v119 k0_t8 = 1#1), ∀ a, (k0_off84 v230) a + S2048.size a ≤ S102400.size a := fun v119 k0_t8 v230 k0_hw80 k0_h40 => k0_hw80.2 k0_h40

def k0_off85 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk81 (i : grid0.Coords) (v119 : BitVec 32) (k0_t8 : Fin (k0_t8_loop v119).trips) (v234 : BitVec 32) : Prop :=
  (∀ (k0_h40 : k0_cond40 v119 k0_t8 = 1#1), 2048 ∣ (k0_mult82 i v234).toNat) ∧
  (∀ (k0_h40 : k0_cond40 v119 k0_t8 = 1#1), ∀ a, (k0_off85 i v234) a + S2048.size a ≤ S1677721600.size a)
theorem k0_mult82_dvd : ∀ (i : grid0.Coords) (v119 : BitVec 32) (k0_t8 : Fin (k0_t8_loop v119).trips) (v234 : BitVec 32) (k0_hw81 : k0_chk81 i v119 k0_t8 v234), ∀ (k0_h40 : k0_cond40 v119 k0_t8 = 1#1), 2048 ∣ (k0_mult82 i v234).toNat := fun i v119 k0_t8 v234 k0_hw81 k0_h40 => k0_hw81.1 k0_h40
theorem k0_off85_inb : ∀ (i : grid0.Coords) (v119 : BitVec 32) (k0_t8 : Fin (k0_t8_loop v119).trips) (v234 : BitVec 32) (k0_hw81 : k0_chk81 i v119 k0_t8 v234), ∀ (k0_h40 : k0_cond40 v119 k0_t8 = 1#1), ∀ a, (k0_off85 i v234) a + S2048.size a ≤ S1677721600.size a := fun i v119 k0_t8 v234 k0_hw81 k0_h40 => k0_hw81.2 k0_h40

def k0_mult83 (v230 : BitVec 32) : BitVec 32 :=
  let c2048_i32_135 : BitVec 32 := 2048#32
  let v231 : BitVec 32 := Scalar.muli v230 c2048_i32_135
  v231
def k0_cond41 (v119 : BitVec 32) (k0_t8 : Fin (k0_t8_loop v119).trips) : BitVec 1 :=
  let c0_i32_98 : BitVec 32 := 0#32
  let c0_i32_99 : BitVec 32 := 0#32
  let c1_i32_101 : BitVec 32 := 1#32
  let arg13 : BitVec 32 := Scf.iv c0_i32_99 c1_i32_101 k0_t8
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let c6_i32 : BitVec 32 := 6#32
  let v189 : BitVec 32 := Scalar.addi v158 c6_i32
  let v190 : BitVec 1 := Scalar.cmpi .slt v189 v119
  let v191 : BitVec 32 := Scalar.extui v190
  let c0_i32_124 : BitVec 32 := 0#32
  let v192 : BitVec 1 := Scalar.cmpi .ne v191 c0_i32_124
  v192

def k0_mult84 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off86 (v230 : BitVec 32) : Fin 1 → Nat :=
  let c2048_i32_135 : BitVec 32 := 2048#32
  let v231 : BitVec 32 := Scalar.muli v230 c2048_i32_135
  let v232 : BitVec 32 := v231
  ![v232.toNat]

def k0_chk82 (v119 : BitVec 32) (k0_t8 : Fin (k0_t8_loop v119).trips) (v230 : BitVec 32) : Prop :=
  (∀ (k0_h41 : k0_cond41 v119 k0_t8 = 1#1), 2048 ∣ (k0_mult83 v230).toNat) ∧
  (∀ (k0_h41 : k0_cond41 v119 k0_t8 = 1#1), ∀ a, (k0_off86 v230) a + S2048.size a ≤ S102400.size a)
theorem k0_mult83_dvd : ∀ (v119 : BitVec 32) (k0_t8 : Fin (k0_t8_loop v119).trips) (v230 : BitVec 32) (k0_hw82 : k0_chk82 v119 k0_t8 v230), ∀ (k0_h41 : k0_cond41 v119 k0_t8 = 1#1), 2048 ∣ (k0_mult83 v230).toNat := fun v119 k0_t8 v230 k0_hw82 k0_h41 => k0_hw82.1 k0_h41
theorem k0_off86_inb : ∀ (v119 : BitVec 32) (k0_t8 : Fin (k0_t8_loop v119).trips) (v230 : BitVec 32) (k0_hw82 : k0_chk82 v119 k0_t8 v230), ∀ (k0_h41 : k0_cond41 v119 k0_t8 = 1#1), ∀ a, (k0_off86 v230) a + S2048.size a ≤ S102400.size a := fun v119 k0_t8 v230 k0_hw82 k0_h41 => k0_hw82.2 k0_h41

def k0_off87 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk83 (i : grid0.Coords) (v119 : BitVec 32) (k0_t8 : Fin (k0_t8_loop v119).trips) (v234 : BitVec 32) : Prop :=
  (∀ (k0_h41 : k0_cond41 v119 k0_t8 = 1#1), 2048 ∣ (k0_mult84 i v234).toNat) ∧
  (∀ (k0_h41 : k0_cond41 v119 k0_t8 = 1#1), ∀ a, (k0_off87 i v234) a + S2048.size a ≤ S1677721600.size a)
theorem k0_mult84_dvd : ∀ (i : grid0.Coords) (v119 : BitVec 32) (k0_t8 : Fin (k0_t8_loop v119).trips) (v234 : BitVec 32) (k0_hw83 : k0_chk83 i v119 k0_t8 v234), ∀ (k0_h41 : k0_cond41 v119 k0_t8 = 1#1), 2048 ∣ (k0_mult84 i v234).toNat := fun i v119 k0_t8 v234 k0_hw83 k0_h41 => k0_hw83.1 k0_h41
theorem k0_off87_inb : ∀ (i : grid0.Coords) (v119 : BitVec 32) (k0_t8 : Fin (k0_t8_loop v119).trips) (v234 : BitVec 32) (k0_hw83 : k0_chk83 i v119 k0_t8 v234), ∀ (k0_h41 : k0_cond41 v119 k0_t8 = 1#1), ∀ a, (k0_off87 i v234) a + S2048.size a ≤ S1677721600.size a := fun i v119 k0_t8 v234 k0_hw83 k0_h41 => k0_hw83.2 k0_h41

def k0_mult85 (v230 : BitVec 32) : BitVec 32 :=
  let c2048_i32_135 : BitVec 32 := 2048#32
  let v231 : BitVec 32 := Scalar.muli v230 c2048_i32_135
  v231
def k0_cond42 (v119 : BitVec 32) (k0_t8 : Fin (k0_t8_loop v119).trips) : BitVec 1 :=
  let c0_i32_98 : BitVec 32 := 0#32
  let c0_i32_99 : BitVec 32 := 0#32
  let c1_i32_101 : BitVec 32 := 1#32
  let arg13 : BitVec 32 := Scf.iv c0_i32_99 c1_i32_101 k0_t8
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let c7_i32 : BitVec 32 := 7#32
  let v193 : BitVec 32 := Scalar.addi v158 c7_i32
  let v194 : BitVec 1 := Scalar.cmpi .slt v193 v119
  let v195 : BitVec 32 := Scalar.extui v194
  let c0_i32_125 : BitVec 32 := 0#32
  let v196 : BitVec 1 := Scalar.cmpi .ne v195 c0_i32_125
  v196

def k0_mult86 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off88 (v230 : BitVec 32) : Fin 1 → Nat :=
  let c2048_i32_135 : BitVec 32 := 2048#32
  let v231 : BitVec 32 := Scalar.muli v230 c2048_i32_135
  let v232 : BitVec 32 := v231
  ![v232.toNat]

def k0_chk84 (v119 : BitVec 32) (k0_t8 : Fin (k0_t8_loop v119).trips) (v230 : BitVec 32) : Prop :=
  (∀ (k0_h42 : k0_cond42 v119 k0_t8 = 1#1), 2048 ∣ (k0_mult85 v230).toNat) ∧
  (∀ (k0_h42 : k0_cond42 v119 k0_t8 = 1#1), ∀ a, (k0_off88 v230) a + S2048.size a ≤ S102400.size a)
theorem k0_mult85_dvd : ∀ (v119 : BitVec 32) (k0_t8 : Fin (k0_t8_loop v119).trips) (v230 : BitVec 32) (k0_hw84 : k0_chk84 v119 k0_t8 v230), ∀ (k0_h42 : k0_cond42 v119 k0_t8 = 1#1), 2048 ∣ (k0_mult85 v230).toNat := fun v119 k0_t8 v230 k0_hw84 k0_h42 => k0_hw84.1 k0_h42
theorem k0_off88_inb : ∀ (v119 : BitVec 32) (k0_t8 : Fin (k0_t8_loop v119).trips) (v230 : BitVec 32) (k0_hw84 : k0_chk84 v119 k0_t8 v230), ∀ (k0_h42 : k0_cond42 v119 k0_t8 = 1#1), ∀ a, (k0_off88 v230) a + S2048.size a ≤ S102400.size a := fun v119 k0_t8 v230 k0_hw84 k0_h42 => k0_hw84.2 k0_h42

def k0_off89 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk85 (i : grid0.Coords) (v119 : BitVec 32) (k0_t8 : Fin (k0_t8_loop v119).trips) (v234 : BitVec 32) : Prop :=
  (∀ (k0_h42 : k0_cond42 v119 k0_t8 = 1#1), 2048 ∣ (k0_mult86 i v234).toNat) ∧
  (∀ (k0_h42 : k0_cond42 v119 k0_t8 = 1#1), ∀ a, (k0_off89 i v234) a + S2048.size a ≤ S1677721600.size a)
theorem k0_mult86_dvd : ∀ (i : grid0.Coords) (v119 : BitVec 32) (k0_t8 : Fin (k0_t8_loop v119).trips) (v234 : BitVec 32) (k0_hw85 : k0_chk85 i v119 k0_t8 v234), ∀ (k0_h42 : k0_cond42 v119 k0_t8 = 1#1), 2048 ∣ (k0_mult86 i v234).toNat := fun i v119 k0_t8 v234 k0_hw85 k0_h42 => k0_hw85.1 k0_h42
theorem k0_off89_inb : ∀ (i : grid0.Coords) (v119 : BitVec 32) (k0_t8 : Fin (k0_t8_loop v119).trips) (v234 : BitVec 32) (k0_hw85 : k0_chk85 i v119 k0_t8 v234), ∀ (k0_h42 : k0_cond42 v119 k0_t8 = 1#1), ∀ a, (k0_off89 i v234) a + S2048.size a ≤ S1677721600.size a := fun i v119 k0_t8 v234 k0_hw85 k0_h42 => k0_hw85.2 k0_h42

def k0_mult87 (v230 : BitVec 32) : BitVec 32 :=
  let c2048_i32_135 : BitVec 32 := 2048#32
  let v231 : BitVec 32 := Scalar.muli v230 c2048_i32_135
  v231
def k0_cond43 (v119 : BitVec 32) (k0_t8 : Fin (k0_t8_loop v119).trips) : BitVec 1 :=
  let c0_i32_98 : BitVec 32 := 0#32
  let c0_i32_99 : BitVec 32 := 0#32
  let c1_i32_101 : BitVec 32 := 1#32
  let arg13 : BitVec 32 := Scf.iv c0_i32_99 c1_i32_101 k0_t8
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let c8_i32 : BitVec 32 := 8#32
  let v197 : BitVec 32 := Scalar.addi v158 c8_i32
  let v198 : BitVec 1 := Scalar.cmpi .slt v197 v119
  let v199 : BitVec 32 := Scalar.extui v198
  let c0_i32_126 : BitVec 32 := 0#32
  let v200 : BitVec 1 := Scalar.cmpi .ne v199 c0_i32_126
  v200

def k0_mult88 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off90 (v230 : BitVec 32) : Fin 1 → Nat :=
  let c2048_i32_135 : BitVec 32 := 2048#32
  let v231 : BitVec 32 := Scalar.muli v230 c2048_i32_135
  let v232 : BitVec 32 := v231
  ![v232.toNat]

def k0_chk86 (v119 : BitVec 32) (k0_t8 : Fin (k0_t8_loop v119).trips) (v230 : BitVec 32) : Prop :=
  (∀ (k0_h43 : k0_cond43 v119 k0_t8 = 1#1), 2048 ∣ (k0_mult87 v230).toNat) ∧
  (∀ (k0_h43 : k0_cond43 v119 k0_t8 = 1#1), ∀ a, (k0_off90 v230) a + S2048.size a ≤ S102400.size a)
theorem k0_mult87_dvd : ∀ (v119 : BitVec 32) (k0_t8 : Fin (k0_t8_loop v119).trips) (v230 : BitVec 32) (k0_hw86 : k0_chk86 v119 k0_t8 v230), ∀ (k0_h43 : k0_cond43 v119 k0_t8 = 1#1), 2048 ∣ (k0_mult87 v230).toNat := fun v119 k0_t8 v230 k0_hw86 k0_h43 => k0_hw86.1 k0_h43
theorem k0_off90_inb : ∀ (v119 : BitVec 32) (k0_t8 : Fin (k0_t8_loop v119).trips) (v230 : BitVec 32) (k0_hw86 : k0_chk86 v119 k0_t8 v230), ∀ (k0_h43 : k0_cond43 v119 k0_t8 = 1#1), ∀ a, (k0_off90 v230) a + S2048.size a ≤ S102400.size a := fun v119 k0_t8 v230 k0_hw86 k0_h43 => k0_hw86.2 k0_h43

def k0_off91 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk87 (i : grid0.Coords) (v119 : BitVec 32) (k0_t8 : Fin (k0_t8_loop v119).trips) (v234 : BitVec 32) : Prop :=
  (∀ (k0_h43 : k0_cond43 v119 k0_t8 = 1#1), 2048 ∣ (k0_mult88 i v234).toNat) ∧
  (∀ (k0_h43 : k0_cond43 v119 k0_t8 = 1#1), ∀ a, (k0_off91 i v234) a + S2048.size a ≤ S1677721600.size a)
theorem k0_mult88_dvd : ∀ (i : grid0.Coords) (v119 : BitVec 32) (k0_t8 : Fin (k0_t8_loop v119).trips) (v234 : BitVec 32) (k0_hw87 : k0_chk87 i v119 k0_t8 v234), ∀ (k0_h43 : k0_cond43 v119 k0_t8 = 1#1), 2048 ∣ (k0_mult88 i v234).toNat := fun i v119 k0_t8 v234 k0_hw87 k0_h43 => k0_hw87.1 k0_h43
theorem k0_off91_inb : ∀ (i : grid0.Coords) (v119 : BitVec 32) (k0_t8 : Fin (k0_t8_loop v119).trips) (v234 : BitVec 32) (k0_hw87 : k0_chk87 i v119 k0_t8 v234), ∀ (k0_h43 : k0_cond43 v119 k0_t8 = 1#1), ∀ a, (k0_off91 i v234) a + S2048.size a ≤ S1677721600.size a := fun i v119 k0_t8 v234 k0_hw87 k0_h43 => k0_hw87.2 k0_h43

def k0_mult89 (v230 : BitVec 32) : BitVec 32 :=
  let c2048_i32_135 : BitVec 32 := 2048#32
  let v231 : BitVec 32 := Scalar.muli v230 c2048_i32_135
  v231
def k0_cond44 (v119 : BitVec 32) (k0_t8 : Fin (k0_t8_loop v119).trips) : BitVec 1 :=
  let c0_i32_98 : BitVec 32 := 0#32
  let c0_i32_99 : BitVec 32 := 0#32
  let c1_i32_101 : BitVec 32 := 1#32
  let arg13 : BitVec 32 := Scf.iv c0_i32_99 c1_i32_101 k0_t8
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let c9_i32 : BitVec 32 := 9#32
  let v201 : BitVec 32 := Scalar.addi v158 c9_i32
  let v202 : BitVec 1 := Scalar.cmpi .slt v201 v119
  let v203 : BitVec 32 := Scalar.extui v202
  let c0_i32_127 : BitVec 32 := 0#32
  let v204 : BitVec 1 := Scalar.cmpi .ne v203 c0_i32_127
  v204

def k0_mult90 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off92 (v230 : BitVec 32) : Fin 1 → Nat :=
  let c2048_i32_135 : BitVec 32 := 2048#32
  let v231 : BitVec 32 := Scalar.muli v230 c2048_i32_135
  let v232 : BitVec 32 := v231
  ![v232.toNat]

def k0_chk88 (v119 : BitVec 32) (k0_t8 : Fin (k0_t8_loop v119).trips) (v230 : BitVec 32) : Prop :=
  (∀ (k0_h44 : k0_cond44 v119 k0_t8 = 1#1), 2048 ∣ (k0_mult89 v230).toNat) ∧
  (∀ (k0_h44 : k0_cond44 v119 k0_t8 = 1#1), ∀ a, (k0_off92 v230) a + S2048.size a ≤ S102400.size a)
theorem k0_mult89_dvd : ∀ (v119 : BitVec 32) (k0_t8 : Fin (k0_t8_loop v119).trips) (v230 : BitVec 32) (k0_hw88 : k0_chk88 v119 k0_t8 v230), ∀ (k0_h44 : k0_cond44 v119 k0_t8 = 1#1), 2048 ∣ (k0_mult89 v230).toNat := fun v119 k0_t8 v230 k0_hw88 k0_h44 => k0_hw88.1 k0_h44
theorem k0_off92_inb : ∀ (v119 : BitVec 32) (k0_t8 : Fin (k0_t8_loop v119).trips) (v230 : BitVec 32) (k0_hw88 : k0_chk88 v119 k0_t8 v230), ∀ (k0_h44 : k0_cond44 v119 k0_t8 = 1#1), ∀ a, (k0_off92 v230) a + S2048.size a ≤ S102400.size a := fun v119 k0_t8 v230 k0_hw88 k0_h44 => k0_hw88.2 k0_h44

def k0_off93 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk89 (i : grid0.Coords) (v119 : BitVec 32) (k0_t8 : Fin (k0_t8_loop v119).trips) (v234 : BitVec 32) : Prop :=
  (∀ (k0_h44 : k0_cond44 v119 k0_t8 = 1#1), 2048 ∣ (k0_mult90 i v234).toNat) ∧
  (∀ (k0_h44 : k0_cond44 v119 k0_t8 = 1#1), ∀ a, (k0_off93 i v234) a + S2048.size a ≤ S1677721600.size a)
theorem k0_mult90_dvd : ∀ (i : grid0.Coords) (v119 : BitVec 32) (k0_t8 : Fin (k0_t8_loop v119).trips) (v234 : BitVec 32) (k0_hw89 : k0_chk89 i v119 k0_t8 v234), ∀ (k0_h44 : k0_cond44 v119 k0_t8 = 1#1), 2048 ∣ (k0_mult90 i v234).toNat := fun i v119 k0_t8 v234 k0_hw89 k0_h44 => k0_hw89.1 k0_h44
theorem k0_off93_inb : ∀ (i : grid0.Coords) (v119 : BitVec 32) (k0_t8 : Fin (k0_t8_loop v119).trips) (v234 : BitVec 32) (k0_hw89 : k0_chk89 i v119 k0_t8 v234), ∀ (k0_h44 : k0_cond44 v119 k0_t8 = 1#1), ∀ a, (k0_off93 i v234) a + S2048.size a ≤ S1677721600.size a := fun i v119 k0_t8 v234 k0_hw89 k0_h44 => k0_hw89.2 k0_h44

def k0_mult91 (v230 : BitVec 32) : BitVec 32 :=
  let c2048_i32_135 : BitVec 32 := 2048#32
  let v231 : BitVec 32 := Scalar.muli v230 c2048_i32_135
  v231
def k0_cond45 (v119 : BitVec 32) (k0_t8 : Fin (k0_t8_loop v119).trips) : BitVec 1 :=
  let c0_i32_98 : BitVec 32 := 0#32
  let c0_i32_99 : BitVec 32 := 0#32
  let c1_i32_101 : BitVec 32 := 1#32
  let arg13 : BitVec 32 := Scf.iv c0_i32_99 c1_i32_101 k0_t8
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let c10_i32 : BitVec 32 := 10#32
  let v205 : BitVec 32 := Scalar.addi v158 c10_i32
  let v206 : BitVec 1 := Scalar.cmpi .slt v205 v119
  let v207 : BitVec 32 := Scalar.extui v206
  let c0_i32_128 : BitVec 32 := 0#32
  let v208 : BitVec 1 := Scalar.cmpi .ne v207 c0_i32_128
  v208

def k0_mult92 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off94 (v230 : BitVec 32) : Fin 1 → Nat :=
  let c2048_i32_135 : BitVec 32 := 2048#32
  let v231 : BitVec 32 := Scalar.muli v230 c2048_i32_135
  let v232 : BitVec 32 := v231
  ![v232.toNat]

def k0_chk90 (v119 : BitVec 32) (k0_t8 : Fin (k0_t8_loop v119).trips) (v230 : BitVec 32) : Prop :=
  (∀ (k0_h45 : k0_cond45 v119 k0_t8 = 1#1), 2048 ∣ (k0_mult91 v230).toNat) ∧
  (∀ (k0_h45 : k0_cond45 v119 k0_t8 = 1#1), ∀ a, (k0_off94 v230) a + S2048.size a ≤ S102400.size a)
theorem k0_mult91_dvd : ∀ (v119 : BitVec 32) (k0_t8 : Fin (k0_t8_loop v119).trips) (v230 : BitVec 32) (k0_hw90 : k0_chk90 v119 k0_t8 v230), ∀ (k0_h45 : k0_cond45 v119 k0_t8 = 1#1), 2048 ∣ (k0_mult91 v230).toNat := fun v119 k0_t8 v230 k0_hw90 k0_h45 => k0_hw90.1 k0_h45
theorem k0_off94_inb : ∀ (v119 : BitVec 32) (k0_t8 : Fin (k0_t8_loop v119).trips) (v230 : BitVec 32) (k0_hw90 : k0_chk90 v119 k0_t8 v230), ∀ (k0_h45 : k0_cond45 v119 k0_t8 = 1#1), ∀ a, (k0_off94 v230) a + S2048.size a ≤ S102400.size a := fun v119 k0_t8 v230 k0_hw90 k0_h45 => k0_hw90.2 k0_h45

def k0_off95 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk91 (i : grid0.Coords) (v119 : BitVec 32) (k0_t8 : Fin (k0_t8_loop v119).trips) (v234 : BitVec 32) : Prop :=
  (∀ (k0_h45 : k0_cond45 v119 k0_t8 = 1#1), 2048 ∣ (k0_mult92 i v234).toNat) ∧
  (∀ (k0_h45 : k0_cond45 v119 k0_t8 = 1#1), ∀ a, (k0_off95 i v234) a + S2048.size a ≤ S1677721600.size a)
theorem k0_mult92_dvd : ∀ (i : grid0.Coords) (v119 : BitVec 32) (k0_t8 : Fin (k0_t8_loop v119).trips) (v234 : BitVec 32) (k0_hw91 : k0_chk91 i v119 k0_t8 v234), ∀ (k0_h45 : k0_cond45 v119 k0_t8 = 1#1), 2048 ∣ (k0_mult92 i v234).toNat := fun i v119 k0_t8 v234 k0_hw91 k0_h45 => k0_hw91.1 k0_h45
theorem k0_off95_inb : ∀ (i : grid0.Coords) (v119 : BitVec 32) (k0_t8 : Fin (k0_t8_loop v119).trips) (v234 : BitVec 32) (k0_hw91 : k0_chk91 i v119 k0_t8 v234), ∀ (k0_h45 : k0_cond45 v119 k0_t8 = 1#1), ∀ a, (k0_off95 i v234) a + S2048.size a ≤ S1677721600.size a := fun i v119 k0_t8 v234 k0_hw91 k0_h45 => k0_hw91.2 k0_h45

def k0_mult93 (v230 : BitVec 32) : BitVec 32 :=
  let c2048_i32_135 : BitVec 32 := 2048#32
  let v231 : BitVec 32 := Scalar.muli v230 c2048_i32_135
  v231
def k0_cond46 (v119 : BitVec 32) (k0_t8 : Fin (k0_t8_loop v119).trips) : BitVec 1 :=
  let c0_i32_98 : BitVec 32 := 0#32
  let c0_i32_99 : BitVec 32 := 0#32
  let c1_i32_101 : BitVec 32 := 1#32
  let arg13 : BitVec 32 := Scf.iv c0_i32_99 c1_i32_101 k0_t8
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let c11_i32 : BitVec 32 := 11#32
  let v209 : BitVec 32 := Scalar.addi v158 c11_i32
  let v210 : BitVec 1 := Scalar.cmpi .slt v209 v119
  let v211 : BitVec 32 := Scalar.extui v210
  let c0_i32_129 : BitVec 32 := 0#32
  let v212 : BitVec 1 := Scalar.cmpi .ne v211 c0_i32_129
  v212

def k0_mult94 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off96 (v230 : BitVec 32) : Fin 1 → Nat :=
  let c2048_i32_135 : BitVec 32 := 2048#32
  let v231 : BitVec 32 := Scalar.muli v230 c2048_i32_135
  let v232 : BitVec 32 := v231
  ![v232.toNat]

def k0_chk92 (v119 : BitVec 32) (k0_t8 : Fin (k0_t8_loop v119).trips) (v230 : BitVec 32) : Prop :=
  (∀ (k0_h46 : k0_cond46 v119 k0_t8 = 1#1), 2048 ∣ (k0_mult93 v230).toNat) ∧
  (∀ (k0_h46 : k0_cond46 v119 k0_t8 = 1#1), ∀ a, (k0_off96 v230) a + S2048.size a ≤ S102400.size a)
theorem k0_mult93_dvd : ∀ (v119 : BitVec 32) (k0_t8 : Fin (k0_t8_loop v119).trips) (v230 : BitVec 32) (k0_hw92 : k0_chk92 v119 k0_t8 v230), ∀ (k0_h46 : k0_cond46 v119 k0_t8 = 1#1), 2048 ∣ (k0_mult93 v230).toNat := fun v119 k0_t8 v230 k0_hw92 k0_h46 => k0_hw92.1 k0_h46
theorem k0_off96_inb : ∀ (v119 : BitVec 32) (k0_t8 : Fin (k0_t8_loop v119).trips) (v230 : BitVec 32) (k0_hw92 : k0_chk92 v119 k0_t8 v230), ∀ (k0_h46 : k0_cond46 v119 k0_t8 = 1#1), ∀ a, (k0_off96 v230) a + S2048.size a ≤ S102400.size a := fun v119 k0_t8 v230 k0_hw92 k0_h46 => k0_hw92.2 k0_h46

def k0_off97 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk93 (i : grid0.Coords) (v119 : BitVec 32) (k0_t8 : Fin (k0_t8_loop v119).trips) (v234 : BitVec 32) : Prop :=
  (∀ (k0_h46 : k0_cond46 v119 k0_t8 = 1#1), 2048 ∣ (k0_mult94 i v234).toNat) ∧
  (∀ (k0_h46 : k0_cond46 v119 k0_t8 = 1#1), ∀ a, (k0_off97 i v234) a + S2048.size a ≤ S1677721600.size a)
theorem k0_mult94_dvd : ∀ (i : grid0.Coords) (v119 : BitVec 32) (k0_t8 : Fin (k0_t8_loop v119).trips) (v234 : BitVec 32) (k0_hw93 : k0_chk93 i v119 k0_t8 v234), ∀ (k0_h46 : k0_cond46 v119 k0_t8 = 1#1), 2048 ∣ (k0_mult94 i v234).toNat := fun i v119 k0_t8 v234 k0_hw93 k0_h46 => k0_hw93.1 k0_h46
theorem k0_off97_inb : ∀ (i : grid0.Coords) (v119 : BitVec 32) (k0_t8 : Fin (k0_t8_loop v119).trips) (v234 : BitVec 32) (k0_hw93 : k0_chk93 i v119 k0_t8 v234), ∀ (k0_h46 : k0_cond46 v119 k0_t8 = 1#1), ∀ a, (k0_off97 i v234) a + S2048.size a ≤ S1677721600.size a := fun i v119 k0_t8 v234 k0_hw93 k0_h46 => k0_hw93.2 k0_h46

def k0_mult95 (v230 : BitVec 32) : BitVec 32 :=
  let c2048_i32_135 : BitVec 32 := 2048#32
  let v231 : BitVec 32 := Scalar.muli v230 c2048_i32_135
  v231
def k0_cond47 (v119 : BitVec 32) (k0_t8 : Fin (k0_t8_loop v119).trips) : BitVec 1 :=
  let c0_i32_98 : BitVec 32 := 0#32
  let c0_i32_99 : BitVec 32 := 0#32
  let c1_i32_101 : BitVec 32 := 1#32
  let arg13 : BitVec 32 := Scf.iv c0_i32_99 c1_i32_101 k0_t8
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let c12_i32 : BitVec 32 := 12#32
  let v213 : BitVec 32 := Scalar.addi v158 c12_i32
  let v214 : BitVec 1 := Scalar.cmpi .slt v213 v119
  let v215 : BitVec 32 := Scalar.extui v214
  let c0_i32_130 : BitVec 32 := 0#32
  let v216 : BitVec 1 := Scalar.cmpi .ne v215 c0_i32_130
  v216

def k0_mult96 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off98 (v230 : BitVec 32) : Fin 1 → Nat :=
  let c2048_i32_135 : BitVec 32 := 2048#32
  let v231 : BitVec 32 := Scalar.muli v230 c2048_i32_135
  let v232 : BitVec 32 := v231
  ![v232.toNat]

def k0_chk94 (v119 : BitVec 32) (k0_t8 : Fin (k0_t8_loop v119).trips) (v230 : BitVec 32) : Prop :=
  (∀ (k0_h47 : k0_cond47 v119 k0_t8 = 1#1), 2048 ∣ (k0_mult95 v230).toNat) ∧
  (∀ (k0_h47 : k0_cond47 v119 k0_t8 = 1#1), ∀ a, (k0_off98 v230) a + S2048.size a ≤ S102400.size a)
theorem k0_mult95_dvd : ∀ (v119 : BitVec 32) (k0_t8 : Fin (k0_t8_loop v119).trips) (v230 : BitVec 32) (k0_hw94 : k0_chk94 v119 k0_t8 v230), ∀ (k0_h47 : k0_cond47 v119 k0_t8 = 1#1), 2048 ∣ (k0_mult95 v230).toNat := fun v119 k0_t8 v230 k0_hw94 k0_h47 => k0_hw94.1 k0_h47
theorem k0_off98_inb : ∀ (v119 : BitVec 32) (k0_t8 : Fin (k0_t8_loop v119).trips) (v230 : BitVec 32) (k0_hw94 : k0_chk94 v119 k0_t8 v230), ∀ (k0_h47 : k0_cond47 v119 k0_t8 = 1#1), ∀ a, (k0_off98 v230) a + S2048.size a ≤ S102400.size a := fun v119 k0_t8 v230 k0_hw94 k0_h47 => k0_hw94.2 k0_h47

def k0_off99 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk95 (i : grid0.Coords) (v119 : BitVec 32) (k0_t8 : Fin (k0_t8_loop v119).trips) (v234 : BitVec 32) : Prop :=
  (∀ (k0_h47 : k0_cond47 v119 k0_t8 = 1#1), 2048 ∣ (k0_mult96 i v234).toNat) ∧
  (∀ (k0_h47 : k0_cond47 v119 k0_t8 = 1#1), ∀ a, (k0_off99 i v234) a + S2048.size a ≤ S1677721600.size a)
theorem k0_mult96_dvd : ∀ (i : grid0.Coords) (v119 : BitVec 32) (k0_t8 : Fin (k0_t8_loop v119).trips) (v234 : BitVec 32) (k0_hw95 : k0_chk95 i v119 k0_t8 v234), ∀ (k0_h47 : k0_cond47 v119 k0_t8 = 1#1), 2048 ∣ (k0_mult96 i v234).toNat := fun i v119 k0_t8 v234 k0_hw95 k0_h47 => k0_hw95.1 k0_h47
theorem k0_off99_inb : ∀ (i : grid0.Coords) (v119 : BitVec 32) (k0_t8 : Fin (k0_t8_loop v119).trips) (v234 : BitVec 32) (k0_hw95 : k0_chk95 i v119 k0_t8 v234), ∀ (k0_h47 : k0_cond47 v119 k0_t8 = 1#1), ∀ a, (k0_off99 i v234) a + S2048.size a ≤ S1677721600.size a := fun i v119 k0_t8 v234 k0_hw95 k0_h47 => k0_hw95.2 k0_h47

def k0_mult97 (v230 : BitVec 32) : BitVec 32 :=
  let c2048_i32_135 : BitVec 32 := 2048#32
  let v231 : BitVec 32 := Scalar.muli v230 c2048_i32_135
  v231
def k0_cond48 (v119 : BitVec 32) (k0_t8 : Fin (k0_t8_loop v119).trips) : BitVec 1 :=
  let c0_i32_98 : BitVec 32 := 0#32
  let c0_i32_99 : BitVec 32 := 0#32
  let c1_i32_101 : BitVec 32 := 1#32
  let arg13 : BitVec 32 := Scf.iv c0_i32_99 c1_i32_101 k0_t8
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let c13_i32 : BitVec 32 := 13#32
  let v217 : BitVec 32 := Scalar.addi v158 c13_i32
  let v218 : BitVec 1 := Scalar.cmpi .slt v217 v119
  let v219 : BitVec 32 := Scalar.extui v218
  let c0_i32_131 : BitVec 32 := 0#32
  let v220 : BitVec 1 := Scalar.cmpi .ne v219 c0_i32_131
  v220

def k0_mult98 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off100 (v230 : BitVec 32) : Fin 1 → Nat :=
  let c2048_i32_135 : BitVec 32 := 2048#32
  let v231 : BitVec 32 := Scalar.muli v230 c2048_i32_135
  let v232 : BitVec 32 := v231
  ![v232.toNat]

def k0_chk96 (v119 : BitVec 32) (k0_t8 : Fin (k0_t8_loop v119).trips) (v230 : BitVec 32) : Prop :=
  (∀ (k0_h48 : k0_cond48 v119 k0_t8 = 1#1), 2048 ∣ (k0_mult97 v230).toNat) ∧
  (∀ (k0_h48 : k0_cond48 v119 k0_t8 = 1#1), ∀ a, (k0_off100 v230) a + S2048.size a ≤ S102400.size a)
theorem k0_mult97_dvd : ∀ (v119 : BitVec 32) (k0_t8 : Fin (k0_t8_loop v119).trips) (v230 : BitVec 32) (k0_hw96 : k0_chk96 v119 k0_t8 v230), ∀ (k0_h48 : k0_cond48 v119 k0_t8 = 1#1), 2048 ∣ (k0_mult97 v230).toNat := fun v119 k0_t8 v230 k0_hw96 k0_h48 => k0_hw96.1 k0_h48
theorem k0_off100_inb : ∀ (v119 : BitVec 32) (k0_t8 : Fin (k0_t8_loop v119).trips) (v230 : BitVec 32) (k0_hw96 : k0_chk96 v119 k0_t8 v230), ∀ (k0_h48 : k0_cond48 v119 k0_t8 = 1#1), ∀ a, (k0_off100 v230) a + S2048.size a ≤ S102400.size a := fun v119 k0_t8 v230 k0_hw96 k0_h48 => k0_hw96.2 k0_h48

def k0_off101 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk97 (i : grid0.Coords) (v119 : BitVec 32) (k0_t8 : Fin (k0_t8_loop v119).trips) (v234 : BitVec 32) : Prop :=
  (∀ (k0_h48 : k0_cond48 v119 k0_t8 = 1#1), 2048 ∣ (k0_mult98 i v234).toNat) ∧
  (∀ (k0_h48 : k0_cond48 v119 k0_t8 = 1#1), ∀ a, (k0_off101 i v234) a + S2048.size a ≤ S1677721600.size a)
theorem k0_mult98_dvd : ∀ (i : grid0.Coords) (v119 : BitVec 32) (k0_t8 : Fin (k0_t8_loop v119).trips) (v234 : BitVec 32) (k0_hw97 : k0_chk97 i v119 k0_t8 v234), ∀ (k0_h48 : k0_cond48 v119 k0_t8 = 1#1), 2048 ∣ (k0_mult98 i v234).toNat := fun i v119 k0_t8 v234 k0_hw97 k0_h48 => k0_hw97.1 k0_h48
theorem k0_off101_inb : ∀ (i : grid0.Coords) (v119 : BitVec 32) (k0_t8 : Fin (k0_t8_loop v119).trips) (v234 : BitVec 32) (k0_hw97 : k0_chk97 i v119 k0_t8 v234), ∀ (k0_h48 : k0_cond48 v119 k0_t8 = 1#1), ∀ a, (k0_off101 i v234) a + S2048.size a ≤ S1677721600.size a := fun i v119 k0_t8 v234 k0_hw97 k0_h48 => k0_hw97.2 k0_h48

def k0_mult99 (v230 : BitVec 32) : BitVec 32 :=
  let c2048_i32_135 : BitVec 32 := 2048#32
  let v231 : BitVec 32 := Scalar.muli v230 c2048_i32_135
  v231
def k0_cond49 (v119 : BitVec 32) (k0_t8 : Fin (k0_t8_loop v119).trips) : BitVec 1 :=
  let c0_i32_98 : BitVec 32 := 0#32
  let c0_i32_99 : BitVec 32 := 0#32
  let c1_i32_101 : BitVec 32 := 1#32
  let arg13 : BitVec 32 := Scf.iv c0_i32_99 c1_i32_101 k0_t8
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let c14_i32 : BitVec 32 := 14#32
  let v221 : BitVec 32 := Scalar.addi v158 c14_i32
  let v222 : BitVec 1 := Scalar.cmpi .slt v221 v119
  let v223 : BitVec 32 := Scalar.extui v222
  let c0_i32_132 : BitVec 32 := 0#32
  let v224 : BitVec 1 := Scalar.cmpi .ne v223 c0_i32_132
  v224

def k0_mult100 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off102 (v230 : BitVec 32) : Fin 1 → Nat :=
  let c2048_i32_135 : BitVec 32 := 2048#32
  let v231 : BitVec 32 := Scalar.muli v230 c2048_i32_135
  let v232 : BitVec 32 := v231
  ![v232.toNat]

def k0_chk98 (v119 : BitVec 32) (k0_t8 : Fin (k0_t8_loop v119).trips) (v230 : BitVec 32) : Prop :=
  (∀ (k0_h49 : k0_cond49 v119 k0_t8 = 1#1), 2048 ∣ (k0_mult99 v230).toNat) ∧
  (∀ (k0_h49 : k0_cond49 v119 k0_t8 = 1#1), ∀ a, (k0_off102 v230) a + S2048.size a ≤ S102400.size a)
theorem k0_mult99_dvd : ∀ (v119 : BitVec 32) (k0_t8 : Fin (k0_t8_loop v119).trips) (v230 : BitVec 32) (k0_hw98 : k0_chk98 v119 k0_t8 v230), ∀ (k0_h49 : k0_cond49 v119 k0_t8 = 1#1), 2048 ∣ (k0_mult99 v230).toNat := fun v119 k0_t8 v230 k0_hw98 k0_h49 => k0_hw98.1 k0_h49
theorem k0_off102_inb : ∀ (v119 : BitVec 32) (k0_t8 : Fin (k0_t8_loop v119).trips) (v230 : BitVec 32) (k0_hw98 : k0_chk98 v119 k0_t8 v230), ∀ (k0_h49 : k0_cond49 v119 k0_t8 = 1#1), ∀ a, (k0_off102 v230) a + S2048.size a ≤ S102400.size a := fun v119 k0_t8 v230 k0_hw98 k0_h49 => k0_hw98.2 k0_h49

def k0_off103 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk99 (i : grid0.Coords) (v119 : BitVec 32) (k0_t8 : Fin (k0_t8_loop v119).trips) (v234 : BitVec 32) : Prop :=
  (∀ (k0_h49 : k0_cond49 v119 k0_t8 = 1#1), 2048 ∣ (k0_mult100 i v234).toNat) ∧
  (∀ (k0_h49 : k0_cond49 v119 k0_t8 = 1#1), ∀ a, (k0_off103 i v234) a + S2048.size a ≤ S1677721600.size a)
theorem k0_mult100_dvd : ∀ (i : grid0.Coords) (v119 : BitVec 32) (k0_t8 : Fin (k0_t8_loop v119).trips) (v234 : BitVec 32) (k0_hw99 : k0_chk99 i v119 k0_t8 v234), ∀ (k0_h49 : k0_cond49 v119 k0_t8 = 1#1), 2048 ∣ (k0_mult100 i v234).toNat := fun i v119 k0_t8 v234 k0_hw99 k0_h49 => k0_hw99.1 k0_h49
theorem k0_off103_inb : ∀ (i : grid0.Coords) (v119 : BitVec 32) (k0_t8 : Fin (k0_t8_loop v119).trips) (v234 : BitVec 32) (k0_hw99 : k0_chk99 i v119 k0_t8 v234), ∀ (k0_h49 : k0_cond49 v119 k0_t8 = 1#1), ∀ a, (k0_off103 i v234) a + S2048.size a ≤ S1677721600.size a := fun i v119 k0_t8 v234 k0_hw99 k0_h49 => k0_hw99.2 k0_h49

def k0_mult101 (v230 : BitVec 32) : BitVec 32 :=
  let c2048_i32_135 : BitVec 32 := 2048#32
  let v231 : BitVec 32 := Scalar.muli v230 c2048_i32_135
  v231
def k0_cond50 (v119 : BitVec 32) (k0_t8 : Fin (k0_t8_loop v119).trips) : BitVec 1 :=
  let c0_i32_98 : BitVec 32 := 0#32
  let c0_i32_99 : BitVec 32 := 0#32
  let c1_i32_101 : BitVec 32 := 1#32
  let arg13 : BitVec 32 := Scf.iv c0_i32_99 c1_i32_101 k0_t8
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let c15_i32_133 : BitVec 32 := 15#32
  let v225 : BitVec 32 := Scalar.addi v158 c15_i32_133
  let v226 : BitVec 1 := Scalar.cmpi .slt v225 v119
  let v227 : BitVec 32 := Scalar.extui v226
  let c0_i32_134 : BitVec 32 := 0#32
  let v228 : BitVec 1 := Scalar.cmpi .ne v227 c0_i32_134
  v228

def k0_mult102 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off104 (v230 : BitVec 32) : Fin 1 → Nat :=
  let c2048_i32_135 : BitVec 32 := 2048#32
  let v231 : BitVec 32 := Scalar.muli v230 c2048_i32_135
  let v232 : BitVec 32 := v231
  ![v232.toNat]

def k0_chk100 (v119 : BitVec 32) (k0_t8 : Fin (k0_t8_loop v119).trips) (v230 : BitVec 32) : Prop :=
  (∀ (k0_h50 : k0_cond50 v119 k0_t8 = 1#1), 2048 ∣ (k0_mult101 v230).toNat) ∧
  (∀ (k0_h50 : k0_cond50 v119 k0_t8 = 1#1), ∀ a, (k0_off104 v230) a + S2048.size a ≤ S102400.size a)
theorem k0_mult101_dvd : ∀ (v119 : BitVec 32) (k0_t8 : Fin (k0_t8_loop v119).trips) (v230 : BitVec 32) (k0_hw100 : k0_chk100 v119 k0_t8 v230), ∀ (k0_h50 : k0_cond50 v119 k0_t8 = 1#1), 2048 ∣ (k0_mult101 v230).toNat := fun v119 k0_t8 v230 k0_hw100 k0_h50 => k0_hw100.1 k0_h50
theorem k0_off104_inb : ∀ (v119 : BitVec 32) (k0_t8 : Fin (k0_t8_loop v119).trips) (v230 : BitVec 32) (k0_hw100 : k0_chk100 v119 k0_t8 v230), ∀ (k0_h50 : k0_cond50 v119 k0_t8 = 1#1), ∀ a, (k0_off104 v230) a + S2048.size a ≤ S102400.size a := fun v119 k0_t8 v230 k0_hw100 k0_h50 => k0_hw100.2 k0_h50

def k0_off105 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk101 (i : grid0.Coords) (v119 : BitVec 32) (k0_t8 : Fin (k0_t8_loop v119).trips) (v234 : BitVec 32) : Prop :=
  (∀ (k0_h50 : k0_cond50 v119 k0_t8 = 1#1), 2048 ∣ (k0_mult102 i v234).toNat) ∧
  (∀ (k0_h50 : k0_cond50 v119 k0_t8 = 1#1), ∀ a, (k0_off105 i v234) a + S2048.size a ≤ S1677721600.size a)
theorem k0_mult102_dvd : ∀ (i : grid0.Coords) (v119 : BitVec 32) (k0_t8 : Fin (k0_t8_loop v119).trips) (v234 : BitVec 32) (k0_hw101 : k0_chk101 i v119 k0_t8 v234), ∀ (k0_h50 : k0_cond50 v119 k0_t8 = 1#1), 2048 ∣ (k0_mult102 i v234).toNat := fun i v119 k0_t8 v234 k0_hw101 k0_h50 => k0_hw101.1 k0_h50
theorem k0_off105_inb : ∀ (i : grid0.Coords) (v119 : BitVec 32) (k0_t8 : Fin (k0_t8_loop v119).trips) (v234 : BitVec 32) (k0_hw101 : k0_chk101 i v119 k0_t8 v234), ∀ (k0_h50 : k0_cond50 v119 k0_t8 = 1#1), ∀ a, (k0_off105 i v234) a + S2048.size a ≤ S1677721600.size a := fun i v119 k0_t8 v234 k0_hw101 k0_h50 => k0_hw101.2 k0_h50

@[reducible] def k0_t9_loop (v119 : BitVec 32) : Scf.Loop 32 :=
  let c0_i32_99 : BitVec 32 := 0#32
  let c15_i32_85 : BitVec 32 := 15#32
  let v120 : BitVec 32 := Scalar.addi v119 c15_i32_85
  let c0_i32_87 : BitVec 32 := 0#32
  let v122 : BitVec 1 := Scalar.cmpi .sgt v120 c0_i32_87
  let v123 : BitVec 32 := Scalar.extui v122
  let c0_i32_88 : BitVec 32 := 0#32
  let v124 : BitVec 1 := Scalar.cmpi .slt v120 c0_i32_88
  let v125 : BitVec 32 := Scalar.extui v124
  let v126 : BitVec 32 := Scalar.subi v123 v125
  let c16_i32_86 : BitVec 32 := 16#32
  let c0_i32_89 : BitVec 32 := 0#32
  let v127 : BitVec 1 := Scalar.cmpi .sgt c16_i32_86 c0_i32_89
  let v128 : BitVec 32 := Scalar.extui v127
  let c0_i32_90 : BitVec 32 := 0#32
  let v129 : BitVec 1 := Scalar.cmpi .slt c16_i32_86 c0_i32_90
  let v130 : BitVec 32 := Scalar.extui v129
  let v131 : BitVec 32 := Scalar.subi v128 v130
  let v132 : BitVec 1 := Scalar.cmpi .ne v126 v131
  let v133 : BitVec 32 := Scalar.remsi v120 c16_i32_86
  let c0_i32_91 : BitVec 32 := 0#32
  let v134 : BitVec 1 := Scalar.cmpi .ne v133 c0_i32_91
  let v135 : BitVec 1 := Scalar.andi v132 v134
  let v121 : BitVec 32 := Scalar.divsi v120 c16_i32_86
  let c1_i32_92 : BitVec 32 := 1#32
  let v136 : BitVec 32 := Scalar.subi v121 c1_i32_92
  let v137 : BitVec 32 := Scalar.select v135 v136 v121
  let c0_i32_93 : BitVec 32 := 0#32
  let v138 : BitVec 32 := Scalar.subi v137 c0_i32_93
  let c1_i32_94 : BitVec 32 := 1#32
  let c1_i32_95 : BitVec 32 := 1#32
  let v139 : BitVec 32 := Scalar.subi c1_i32_94 c1_i32_95
  let v140 : BitVec 32 := Scalar.addi v138 v139
  let c1_i32_96 : BitVec 32 := 1#32
  let v141 : BitVec 32 := Scalar.divsi v140 c1_i32_96
  let v142 : BitVec 32 := Scalar.subi v141 c0_i32_99
  let c1_i32_100 : BitVec 32 := 1#32
  let v144 : BitVec 32 := Scalar.divsi v142 c1_i32_100
  let v145 : BitVec 32 := Scalar.muli v144 c1_i32_100
  let v146 : BitVec 32 := Scalar.addi c0_i32_99 v145
  let v143 : BitVec 32 := Scalar.addi c0_i32_99 v142
  let c1_i32_102 : BitVec 32 := 1#32
  ⟨v146, v143, c1_i32_102⟩
def k0_mult103 (v119 : BitVec 32) (k0_t9 : Fin (k0_t9_loop v119).trips) : BitVec 32 :=
  let c0_i32_98 : BitVec 32 := 0#32
  let c0_i32_99 : BitVec 32 := 0#32
  let c15_i32_85 : BitVec 32 := 15#32
  let v120 : BitVec 32 := Scalar.addi v119 c15_i32_85
  let c0_i32_87 : BitVec 32 := 0#32
  let v122 : BitVec 1 := Scalar.cmpi .sgt v120 c0_i32_87
  let v123 : BitVec 32 := Scalar.extui v122
  let c0_i32_88 : BitVec 32 := 0#32
  let v124 : BitVec 1 := Scalar.cmpi .slt v120 c0_i32_88
  let v125 : BitVec 32 := Scalar.extui v124
  let v126 : BitVec 32 := Scalar.subi v123 v125
  let c16_i32_86 : BitVec 32 := 16#32
  let c0_i32_89 : BitVec 32 := 0#32
  let v127 : BitVec 1 := Scalar.cmpi .sgt c16_i32_86 c0_i32_89
  let v128 : BitVec 32 := Scalar.extui v127
  let c0_i32_90 : BitVec 32 := 0#32
  let v129 : BitVec 1 := Scalar.cmpi .slt c16_i32_86 c0_i32_90
  let v130 : BitVec 32 := Scalar.extui v129
  let v131 : BitVec 32 := Scalar.subi v128 v130
  let v132 : BitVec 1 := Scalar.cmpi .ne v126 v131
  let v133 : BitVec 32 := Scalar.remsi v120 c16_i32_86
  let c0_i32_91 : BitVec 32 := 0#32
  let v134 : BitVec 1 := Scalar.cmpi .ne v133 c0_i32_91
  let v135 : BitVec 1 := Scalar.andi v132 v134
  let v121 : BitVec 32 := Scalar.divsi v120 c16_i32_86
  let c1_i32_92 : BitVec 32 := 1#32
  let v136 : BitVec 32 := Scalar.subi v121 c1_i32_92
  let v137 : BitVec 32 := Scalar.select v135 v136 v121
  let c0_i32_93 : BitVec 32 := 0#32
  let v138 : BitVec 32 := Scalar.subi v137 c0_i32_93
  let c1_i32_94 : BitVec 32 := 1#32
  let c1_i32_95 : BitVec 32 := 1#32
  let v139 : BitVec 32 := Scalar.subi c1_i32_94 c1_i32_95
  let v140 : BitVec 32 := Scalar.addi v138 v139
  let c1_i32_96 : BitVec 32 := 1#32
  let v141 : BitVec 32 := Scalar.divsi v140 c1_i32_96
  let v142 : BitVec 32 := Scalar.subi v141 c0_i32_99
  let c1_i32_100 : BitVec 32 := 1#32
  let v144 : BitVec 32 := Scalar.divsi v142 c1_i32_100
  let v145 : BitVec 32 := Scalar.muli v144 c1_i32_100
  let v146 : BitVec 32 := Scalar.addi c0_i32_99 v145
  let c1_i32_102 : BitVec 32 := 1#32
  let arg13 : BitVec 32 := Scf.iv v146 c1_i32_102 k0_t9
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  v158
def k0_off106 (v119 : BitVec 32) (k0_t9 : Fin (k0_t9_loop v119).trips) : Fin 1 → Nat :=
  let c0_i32_98 : BitVec 32 := 0#32
  let c0_i32_99 : BitVec 32 := 0#32
  let c15_i32_85 : BitVec 32 := 15#32
  let v120 : BitVec 32 := Scalar.addi v119 c15_i32_85
  let c0_i32_87 : BitVec 32 := 0#32
  let v122 : BitVec 1 := Scalar.cmpi .sgt v120 c0_i32_87
  let v123 : BitVec 32 := Scalar.extui v122
  let c0_i32_88 : BitVec 32 := 0#32
  let v124 : BitVec 1 := Scalar.cmpi .slt v120 c0_i32_88
  let v125 : BitVec 32 := Scalar.extui v124
  let v126 : BitVec 32 := Scalar.subi v123 v125
  let c16_i32_86 : BitVec 32 := 16#32
  let c0_i32_89 : BitVec 32 := 0#32
  let v127 : BitVec 1 := Scalar.cmpi .sgt c16_i32_86 c0_i32_89
  let v128 : BitVec 32 := Scalar.extui v127
  let c0_i32_90 : BitVec 32 := 0#32
  let v129 : BitVec 1 := Scalar.cmpi .slt c16_i32_86 c0_i32_90
  let v130 : BitVec 32 := Scalar.extui v129
  let v131 : BitVec 32 := Scalar.subi v128 v130
  let v132 : BitVec 1 := Scalar.cmpi .ne v126 v131
  let v133 : BitVec 32 := Scalar.remsi v120 c16_i32_86
  let c0_i32_91 : BitVec 32 := 0#32
  let v134 : BitVec 1 := Scalar.cmpi .ne v133 c0_i32_91
  let v135 : BitVec 1 := Scalar.andi v132 v134
  let v121 : BitVec 32 := Scalar.divsi v120 c16_i32_86
  let c1_i32_92 : BitVec 32 := 1#32
  let v136 : BitVec 32 := Scalar.subi v121 c1_i32_92
  let v137 : BitVec 32 := Scalar.select v135 v136 v121
  let c0_i32_93 : BitVec 32 := 0#32
  let v138 : BitVec 32 := Scalar.subi v137 c0_i32_93
  let c1_i32_94 : BitVec 32 := 1#32
  let c1_i32_95 : BitVec 32 := 1#32
  let v139 : BitVec 32 := Scalar.subi c1_i32_94 c1_i32_95
  let v140 : BitVec 32 := Scalar.addi v138 v139
  let c1_i32_96 : BitVec 32 := 1#32
  let v141 : BitVec 32 := Scalar.divsi v140 c1_i32_96
  let v142 : BitVec 32 := Scalar.subi v141 c0_i32_99
  let c1_i32_100 : BitVec 32 := 1#32
  let v144 : BitVec 32 := Scalar.divsi v142 c1_i32_100
  let v145 : BitVec 32 := Scalar.muli v144 c1_i32_100
  let v146 : BitVec 32 := Scalar.addi c0_i32_99 v145
  let c1_i32_102 : BitVec 32 := 1#32
  let arg13 : BitVec 32 := Scf.iv v146 c1_i32_102 k0_t9
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let v159 : BitVec 32 := v158
  let v160 : Index := Scalar.indexCast v159
  ![v160.toNat]
def k0_mult104 (v119 : BitVec 32) (k0_t9 : Fin (k0_t9_loop v119).trips) : BitVec 32 :=
  let c0_i32_98 : BitVec 32 := 0#32
  let c0_i32_99 : BitVec 32 := 0#32
  let c15_i32_85 : BitVec 32 := 15#32
  let v120 : BitVec 32 := Scalar.addi v119 c15_i32_85
  let c0_i32_87 : BitVec 32 := 0#32
  let v122 : BitVec 1 := Scalar.cmpi .sgt v120 c0_i32_87
  let v123 : BitVec 32 := Scalar.extui v122
  let c0_i32_88 : BitVec 32 := 0#32
  let v124 : BitVec 1 := Scalar.cmpi .slt v120 c0_i32_88
  let v125 : BitVec 32 := Scalar.extui v124
  let v126 : BitVec 32 := Scalar.subi v123 v125
  let c16_i32_86 : BitVec 32 := 16#32
  let c0_i32_89 : BitVec 32 := 0#32
  let v127 : BitVec 1 := Scalar.cmpi .sgt c16_i32_86 c0_i32_89
  let v128 : BitVec 32 := Scalar.extui v127
  let c0_i32_90 : BitVec 32 := 0#32
  let v129 : BitVec 1 := Scalar.cmpi .slt c16_i32_86 c0_i32_90
  let v130 : BitVec 32 := Scalar.extui v129
  let v131 : BitVec 32 := Scalar.subi v128 v130
  let v132 : BitVec 1 := Scalar.cmpi .ne v126 v131
  let v133 : BitVec 32 := Scalar.remsi v120 c16_i32_86
  let c0_i32_91 : BitVec 32 := 0#32
  let v134 : BitVec 1 := Scalar.cmpi .ne v133 c0_i32_91
  let v135 : BitVec 1 := Scalar.andi v132 v134
  let v121 : BitVec 32 := Scalar.divsi v120 c16_i32_86
  let c1_i32_92 : BitVec 32 := 1#32
  let v136 : BitVec 32 := Scalar.subi v121 c1_i32_92
  let v137 : BitVec 32 := Scalar.select v135 v136 v121
  let c0_i32_93 : BitVec 32 := 0#32
  let v138 : BitVec 32 := Scalar.subi v137 c0_i32_93
  let c1_i32_94 : BitVec 32 := 1#32
  let c1_i32_95 : BitVec 32 := 1#32
  let v139 : BitVec 32 := Scalar.subi c1_i32_94 c1_i32_95
  let v140 : BitVec 32 := Scalar.addi v138 v139
  let c1_i32_96 : BitVec 32 := 1#32
  let v141 : BitVec 32 := Scalar.divsi v140 c1_i32_96
  let v142 : BitVec 32 := Scalar.subi v141 c0_i32_99
  let c1_i32_100 : BitVec 32 := 1#32
  let v144 : BitVec 32 := Scalar.divsi v142 c1_i32_100
  let v145 : BitVec 32 := Scalar.muli v144 c1_i32_100
  let v146 : BitVec 32 := Scalar.addi c0_i32_99 v145
  let c1_i32_102 : BitVec 32 := 1#32
  let arg13 : BitVec 32 := Scf.iv v146 c1_i32_102 k0_t9
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  v158

def k0_chk69 (v119 : BitVec 32) : Prop :=
  ((k0_t8_loop v119).OK) ∧
  (∀ k0_t8 : Fin (k0_t8_loop v119).trips, 16 ∣ (k0_mult69 v119 k0_t8).toNat) ∧
  (∀ k0_t8 : Fin (k0_t8_loop v119).trips, ∀ a, (k0_off73 v119 k0_t8) a + S16.size a ≤ S2064.size a) ∧
  (∀ k0_t8 : Fin (k0_t8_loop v119).trips, 16 ∣ (k0_mult70 v119 k0_t8).toNat) ∧
  ((k0_t9_loop v119).OK) ∧
  (∀ k0_t9 : Fin (k0_t9_loop v119).trips, 16 ∣ (k0_mult103 v119 k0_t9).toNat) ∧
  (∀ k0_t9 : Fin (k0_t9_loop v119).trips, ∀ a, (k0_off106 v119 k0_t9) a + S16.size a ≤ S2064.size a) ∧
  (∀ k0_t9 : Fin (k0_t9_loop v119).trips, 16 ∣ (k0_mult104 v119 k0_t9).toNat)
theorem k0_t8_ok : ∀ (v119 : BitVec 32) (k0_hw69 : k0_chk69 v119), (k0_t8_loop v119).OK := fun v119 k0_hw69 => k0_hw69.1
theorem k0_mult69_dvd : ∀ (v119 : BitVec 32) (k0_hw69 : k0_chk69 v119) (k0_t8 : Fin (k0_t8_loop v119).trips), 16 ∣ (k0_mult69 v119 k0_t8).toNat := fun v119 k0_hw69 k0_t8 => k0_hw69.2.1 k0_t8
theorem k0_off73_inb : ∀ (v119 : BitVec 32) (k0_hw69 : k0_chk69 v119) (k0_t8 : Fin (k0_t8_loop v119).trips), ∀ a, (k0_off73 v119 k0_t8) a + S16.size a ≤ S2064.size a := fun v119 k0_hw69 k0_t8 => k0_hw69.2.2.1 k0_t8
theorem k0_mult70_dvd : ∀ (v119 : BitVec 32) (k0_hw69 : k0_chk69 v119) (k0_t8 : Fin (k0_t8_loop v119).trips), 16 ∣ (k0_mult70 v119 k0_t8).toNat := fun v119 k0_hw69 k0_t8 => k0_hw69.2.2.2.1 k0_t8
theorem k0_t9_ok : ∀ (v119 : BitVec 32) (k0_hw69 : k0_chk69 v119), (k0_t9_loop v119).OK := fun v119 k0_hw69 => k0_hw69.2.2.2.2.1
theorem k0_mult103_dvd : ∀ (v119 : BitVec 32) (k0_hw69 : k0_chk69 v119) (k0_t9 : Fin (k0_t9_loop v119).trips), 16 ∣ (k0_mult103 v119 k0_t9).toNat := fun v119 k0_hw69 k0_t9 => k0_hw69.2.2.2.2.2.1 k0_t9
theorem k0_off106_inb : ∀ (v119 : BitVec 32) (k0_hw69 : k0_chk69 v119) (k0_t9 : Fin (k0_t9_loop v119).trips), ∀ a, (k0_off106 v119 k0_t9) a + S16.size a ≤ S2064.size a := fun v119 k0_hw69 k0_t9 => k0_hw69.2.2.2.2.2.2.1 k0_t9
theorem k0_mult104_dvd : ∀ (v119 : BitVec 32) (k0_hw69 : k0_chk69 v119) (k0_t9 : Fin (k0_t9_loop v119).trips), 16 ∣ (k0_mult104 v119 k0_t9).toNat := fun v119 k0_hw69 k0_t9 => k0_hw69.2.2.2.2.2.2.2 k0_t9

def k0_mult105 (v230 : BitVec 32) : BitVec 32 :=
  let c2048_i32_135 : BitVec 32 := 2048#32
  let v231 : BitVec 32 := Scalar.muli v230 c2048_i32_135
  v231
def k0_cond51 (v119 : BitVec 32) (k0_t9 : Fin (k0_t9_loop v119).trips) : BitVec 1 :=
  let c0_i32_98 : BitVec 32 := 0#32
  let c0_i32_99 : BitVec 32 := 0#32
  let c15_i32_85 : BitVec 32 := 15#32
  let v120 : BitVec 32 := Scalar.addi v119 c15_i32_85
  let c0_i32_87 : BitVec 32 := 0#32
  let v122 : BitVec 1 := Scalar.cmpi .sgt v120 c0_i32_87
  let v123 : BitVec 32 := Scalar.extui v122
  let c0_i32_88 : BitVec 32 := 0#32
  let v124 : BitVec 1 := Scalar.cmpi .slt v120 c0_i32_88
  let v125 : BitVec 32 := Scalar.extui v124
  let v126 : BitVec 32 := Scalar.subi v123 v125
  let c16_i32_86 : BitVec 32 := 16#32
  let c0_i32_89 : BitVec 32 := 0#32
  let v127 : BitVec 1 := Scalar.cmpi .sgt c16_i32_86 c0_i32_89
  let v128 : BitVec 32 := Scalar.extui v127
  let c0_i32_90 : BitVec 32 := 0#32
  let v129 : BitVec 1 := Scalar.cmpi .slt c16_i32_86 c0_i32_90
  let v130 : BitVec 32 := Scalar.extui v129
  let v131 : BitVec 32 := Scalar.subi v128 v130
  let v132 : BitVec 1 := Scalar.cmpi .ne v126 v131
  let v133 : BitVec 32 := Scalar.remsi v120 c16_i32_86
  let c0_i32_91 : BitVec 32 := 0#32
  let v134 : BitVec 1 := Scalar.cmpi .ne v133 c0_i32_91
  let v135 : BitVec 1 := Scalar.andi v132 v134
  let v121 : BitVec 32 := Scalar.divsi v120 c16_i32_86
  let c1_i32_92 : BitVec 32 := 1#32
  let v136 : BitVec 32 := Scalar.subi v121 c1_i32_92
  let v137 : BitVec 32 := Scalar.select v135 v136 v121
  let c0_i32_93 : BitVec 32 := 0#32
  let v138 : BitVec 32 := Scalar.subi v137 c0_i32_93
  let c1_i32_94 : BitVec 32 := 1#32
  let c1_i32_95 : BitVec 32 := 1#32
  let v139 : BitVec 32 := Scalar.subi c1_i32_94 c1_i32_95
  let v140 : BitVec 32 := Scalar.addi v138 v139
  let c1_i32_96 : BitVec 32 := 1#32
  let v141 : BitVec 32 := Scalar.divsi v140 c1_i32_96
  let v142 : BitVec 32 := Scalar.subi v141 c0_i32_99
  let c1_i32_100 : BitVec 32 := 1#32
  let v144 : BitVec 32 := Scalar.divsi v142 c1_i32_100
  let v145 : BitVec 32 := Scalar.muli v144 c1_i32_100
  let v146 : BitVec 32 := Scalar.addi c0_i32_99 v145
  let c1_i32_102 : BitVec 32 := 1#32
  let arg13 : BitVec 32 := Scf.iv v146 c1_i32_102 k0_t9
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let c0_i32_114 : BitVec 32 := 0#32
  let v165 : BitVec 32 := Scalar.addi v158 c0_i32_114
  let v166 : BitVec 1 := Scalar.cmpi .slt v165 v119
  let v167 : BitVec 32 := Scalar.extui v166
  let c0_i32_115 : BitVec 32 := 0#32
  let v168 : BitVec 1 := Scalar.cmpi .ne v167 c0_i32_115
  v168

def k0_mult106 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off107 (v230 : BitVec 32) : Fin 1 → Nat :=
  let c2048_i32_135 : BitVec 32 := 2048#32
  let v231 : BitVec 32 := Scalar.muli v230 c2048_i32_135
  let v232 : BitVec 32 := v231
  ![v232.toNat]

def k0_chk102 (v119 : BitVec 32) (k0_t9 : Fin (k0_t9_loop v119).trips) (v230 : BitVec 32) : Prop :=
  (∀ (k0_h51 : k0_cond51 v119 k0_t9 = 1#1), 2048 ∣ (k0_mult105 v230).toNat) ∧
  (∀ (k0_h51 : k0_cond51 v119 k0_t9 = 1#1), ∀ a, (k0_off107 v230) a + S2048.size a ≤ S102400.size a)
theorem k0_mult105_dvd : ∀ (v119 : BitVec 32) (k0_t9 : Fin (k0_t9_loop v119).trips) (v230 : BitVec 32) (k0_hw102 : k0_chk102 v119 k0_t9 v230), ∀ (k0_h51 : k0_cond51 v119 k0_t9 = 1#1), 2048 ∣ (k0_mult105 v230).toNat := fun v119 k0_t9 v230 k0_hw102 k0_h51 => k0_hw102.1 k0_h51
theorem k0_off107_inb : ∀ (v119 : BitVec 32) (k0_t9 : Fin (k0_t9_loop v119).trips) (v230 : BitVec 32) (k0_hw102 : k0_chk102 v119 k0_t9 v230), ∀ (k0_h51 : k0_cond51 v119 k0_t9 = 1#1), ∀ a, (k0_off107 v230) a + S2048.size a ≤ S102400.size a := fun v119 k0_t9 v230 k0_hw102 k0_h51 => k0_hw102.2 k0_h51

def k0_off108 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk103 (i : grid0.Coords) (v119 : BitVec 32) (k0_t9 : Fin (k0_t9_loop v119).trips) (v234 : BitVec 32) : Prop :=
  (∀ (k0_h51 : k0_cond51 v119 k0_t9 = 1#1), 2048 ∣ (k0_mult106 i v234).toNat) ∧
  (∀ (k0_h51 : k0_cond51 v119 k0_t9 = 1#1), ∀ a, (k0_off108 i v234) a + S2048.size a ≤ S1677721600.size a)
theorem k0_mult106_dvd : ∀ (i : grid0.Coords) (v119 : BitVec 32) (k0_t9 : Fin (k0_t9_loop v119).trips) (v234 : BitVec 32) (k0_hw103 : k0_chk103 i v119 k0_t9 v234), ∀ (k0_h51 : k0_cond51 v119 k0_t9 = 1#1), 2048 ∣ (k0_mult106 i v234).toNat := fun i v119 k0_t9 v234 k0_hw103 k0_h51 => k0_hw103.1 k0_h51
theorem k0_off108_inb : ∀ (i : grid0.Coords) (v119 : BitVec 32) (k0_t9 : Fin (k0_t9_loop v119).trips) (v234 : BitVec 32) (k0_hw103 : k0_chk103 i v119 k0_t9 v234), ∀ (k0_h51 : k0_cond51 v119 k0_t9 = 1#1), ∀ a, (k0_off108 i v234) a + S2048.size a ≤ S1677721600.size a := fun i v119 k0_t9 v234 k0_hw103 k0_h51 => k0_hw103.2 k0_h51

def k0_mult107 (v230 : BitVec 32) : BitVec 32 :=
  let c2048_i32_135 : BitVec 32 := 2048#32
  let v231 : BitVec 32 := Scalar.muli v230 c2048_i32_135
  v231
def k0_cond52 (v119 : BitVec 32) (k0_t9 : Fin (k0_t9_loop v119).trips) : BitVec 1 :=
  let c0_i32_98 : BitVec 32 := 0#32
  let c0_i32_99 : BitVec 32 := 0#32
  let c15_i32_85 : BitVec 32 := 15#32
  let v120 : BitVec 32 := Scalar.addi v119 c15_i32_85
  let c0_i32_87 : BitVec 32 := 0#32
  let v122 : BitVec 1 := Scalar.cmpi .sgt v120 c0_i32_87
  let v123 : BitVec 32 := Scalar.extui v122
  let c0_i32_88 : BitVec 32 := 0#32
  let v124 : BitVec 1 := Scalar.cmpi .slt v120 c0_i32_88
  let v125 : BitVec 32 := Scalar.extui v124
  let v126 : BitVec 32 := Scalar.subi v123 v125
  let c16_i32_86 : BitVec 32 := 16#32
  let c0_i32_89 : BitVec 32 := 0#32
  let v127 : BitVec 1 := Scalar.cmpi .sgt c16_i32_86 c0_i32_89
  let v128 : BitVec 32 := Scalar.extui v127
  let c0_i32_90 : BitVec 32 := 0#32
  let v129 : BitVec 1 := Scalar.cmpi .slt c16_i32_86 c0_i32_90
  let v130 : BitVec 32 := Scalar.extui v129
  let v131 : BitVec 32 := Scalar.subi v128 v130
  let v132 : BitVec 1 := Scalar.cmpi .ne v126 v131
  let v133 : BitVec 32 := Scalar.remsi v120 c16_i32_86
  let c0_i32_91 : BitVec 32 := 0#32
  let v134 : BitVec 1 := Scalar.cmpi .ne v133 c0_i32_91
  let v135 : BitVec 1 := Scalar.andi v132 v134
  let v121 : BitVec 32 := Scalar.divsi v120 c16_i32_86
  let c1_i32_92 : BitVec 32 := 1#32
  let v136 : BitVec 32 := Scalar.subi v121 c1_i32_92
  let v137 : BitVec 32 := Scalar.select v135 v136 v121
  let c0_i32_93 : BitVec 32 := 0#32
  let v138 : BitVec 32 := Scalar.subi v137 c0_i32_93
  let c1_i32_94 : BitVec 32 := 1#32
  let c1_i32_95 : BitVec 32 := 1#32
  let v139 : BitVec 32 := Scalar.subi c1_i32_94 c1_i32_95
  let v140 : BitVec 32 := Scalar.addi v138 v139
  let c1_i32_96 : BitVec 32 := 1#32
  let v141 : BitVec 32 := Scalar.divsi v140 c1_i32_96
  let v142 : BitVec 32 := Scalar.subi v141 c0_i32_99
  let c1_i32_100 : BitVec 32 := 1#32
  let v144 : BitVec 32 := Scalar.divsi v142 c1_i32_100
  let v145 : BitVec 32 := Scalar.muli v144 c1_i32_100
  let v146 : BitVec 32 := Scalar.addi c0_i32_99 v145
  let c1_i32_102 : BitVec 32 := 1#32
  let arg13 : BitVec 32 := Scf.iv v146 c1_i32_102 k0_t9
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let c1_i32_116 : BitVec 32 := 1#32
  let v169 : BitVec 32 := Scalar.addi v158 c1_i32_116
  let v170 : BitVec 1 := Scalar.cmpi .slt v169 v119
  let v171 : BitVec 32 := Scalar.extui v170
  let c0_i32_117 : BitVec 32 := 0#32
  let v172 : BitVec 1 := Scalar.cmpi .ne v171 c0_i32_117
  v172

def k0_mult108 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off109 (v230 : BitVec 32) : Fin 1 → Nat :=
  let c2048_i32_135 : BitVec 32 := 2048#32
  let v231 : BitVec 32 := Scalar.muli v230 c2048_i32_135
  let v232 : BitVec 32 := v231
  ![v232.toNat]

def k0_chk104 (v119 : BitVec 32) (k0_t9 : Fin (k0_t9_loop v119).trips) (v230 : BitVec 32) : Prop :=
  (∀ (k0_h52 : k0_cond52 v119 k0_t9 = 1#1), 2048 ∣ (k0_mult107 v230).toNat) ∧
  (∀ (k0_h52 : k0_cond52 v119 k0_t9 = 1#1), ∀ a, (k0_off109 v230) a + S2048.size a ≤ S102400.size a)
theorem k0_mult107_dvd : ∀ (v119 : BitVec 32) (k0_t9 : Fin (k0_t9_loop v119).trips) (v230 : BitVec 32) (k0_hw104 : k0_chk104 v119 k0_t9 v230), ∀ (k0_h52 : k0_cond52 v119 k0_t9 = 1#1), 2048 ∣ (k0_mult107 v230).toNat := fun v119 k0_t9 v230 k0_hw104 k0_h52 => k0_hw104.1 k0_h52
theorem k0_off109_inb : ∀ (v119 : BitVec 32) (k0_t9 : Fin (k0_t9_loop v119).trips) (v230 : BitVec 32) (k0_hw104 : k0_chk104 v119 k0_t9 v230), ∀ (k0_h52 : k0_cond52 v119 k0_t9 = 1#1), ∀ a, (k0_off109 v230) a + S2048.size a ≤ S102400.size a := fun v119 k0_t9 v230 k0_hw104 k0_h52 => k0_hw104.2 k0_h52

def k0_off110 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk105 (i : grid0.Coords) (v119 : BitVec 32) (k0_t9 : Fin (k0_t9_loop v119).trips) (v234 : BitVec 32) : Prop :=
  (∀ (k0_h52 : k0_cond52 v119 k0_t9 = 1#1), 2048 ∣ (k0_mult108 i v234).toNat) ∧
  (∀ (k0_h52 : k0_cond52 v119 k0_t9 = 1#1), ∀ a, (k0_off110 i v234) a + S2048.size a ≤ S1677721600.size a)
theorem k0_mult108_dvd : ∀ (i : grid0.Coords) (v119 : BitVec 32) (k0_t9 : Fin (k0_t9_loop v119).trips) (v234 : BitVec 32) (k0_hw105 : k0_chk105 i v119 k0_t9 v234), ∀ (k0_h52 : k0_cond52 v119 k0_t9 = 1#1), 2048 ∣ (k0_mult108 i v234).toNat := fun i v119 k0_t9 v234 k0_hw105 k0_h52 => k0_hw105.1 k0_h52
theorem k0_off110_inb : ∀ (i : grid0.Coords) (v119 : BitVec 32) (k0_t9 : Fin (k0_t9_loop v119).trips) (v234 : BitVec 32) (k0_hw105 : k0_chk105 i v119 k0_t9 v234), ∀ (k0_h52 : k0_cond52 v119 k0_t9 = 1#1), ∀ a, (k0_off110 i v234) a + S2048.size a ≤ S1677721600.size a := fun i v119 k0_t9 v234 k0_hw105 k0_h52 => k0_hw105.2 k0_h52

def k0_mult109 (v230 : BitVec 32) : BitVec 32 :=
  let c2048_i32_135 : BitVec 32 := 2048#32
  let v231 : BitVec 32 := Scalar.muli v230 c2048_i32_135
  v231
def k0_cond53 (v119 : BitVec 32) (k0_t9 : Fin (k0_t9_loop v119).trips) : BitVec 1 :=
  let c0_i32_98 : BitVec 32 := 0#32
  let c0_i32_99 : BitVec 32 := 0#32
  let c15_i32_85 : BitVec 32 := 15#32
  let v120 : BitVec 32 := Scalar.addi v119 c15_i32_85
  let c0_i32_87 : BitVec 32 := 0#32
  let v122 : BitVec 1 := Scalar.cmpi .sgt v120 c0_i32_87
  let v123 : BitVec 32 := Scalar.extui v122
  let c0_i32_88 : BitVec 32 := 0#32
  let v124 : BitVec 1 := Scalar.cmpi .slt v120 c0_i32_88
  let v125 : BitVec 32 := Scalar.extui v124
  let v126 : BitVec 32 := Scalar.subi v123 v125
  let c16_i32_86 : BitVec 32 := 16#32
  let c0_i32_89 : BitVec 32 := 0#32
  let v127 : BitVec 1 := Scalar.cmpi .sgt c16_i32_86 c0_i32_89
  let v128 : BitVec 32 := Scalar.extui v127
  let c0_i32_90 : BitVec 32 := 0#32
  let v129 : BitVec 1 := Scalar.cmpi .slt c16_i32_86 c0_i32_90
  let v130 : BitVec 32 := Scalar.extui v129
  let v131 : BitVec 32 := Scalar.subi v128 v130
  let v132 : BitVec 1 := Scalar.cmpi .ne v126 v131
  let v133 : BitVec 32 := Scalar.remsi v120 c16_i32_86
  let c0_i32_91 : BitVec 32 := 0#32
  let v134 : BitVec 1 := Scalar.cmpi .ne v133 c0_i32_91
  let v135 : BitVec 1 := Scalar.andi v132 v134
  let v121 : BitVec 32 := Scalar.divsi v120 c16_i32_86
  let c1_i32_92 : BitVec 32 := 1#32
  let v136 : BitVec 32 := Scalar.subi v121 c1_i32_92
  let v137 : BitVec 32 := Scalar.select v135 v136 v121
  let c0_i32_93 : BitVec 32 := 0#32
  let v138 : BitVec 32 := Scalar.subi v137 c0_i32_93
  let c1_i32_94 : BitVec 32 := 1#32
  let c1_i32_95 : BitVec 32 := 1#32
  let v139 : BitVec 32 := Scalar.subi c1_i32_94 c1_i32_95
  let v140 : BitVec 32 := Scalar.addi v138 v139
  let c1_i32_96 : BitVec 32 := 1#32
  let v141 : BitVec 32 := Scalar.divsi v140 c1_i32_96
  let v142 : BitVec 32 := Scalar.subi v141 c0_i32_99
  let c1_i32_100 : BitVec 32 := 1#32
  let v144 : BitVec 32 := Scalar.divsi v142 c1_i32_100
  let v145 : BitVec 32 := Scalar.muli v144 c1_i32_100
  let v146 : BitVec 32 := Scalar.addi c0_i32_99 v145
  let c1_i32_102 : BitVec 32 := 1#32
  let arg13 : BitVec 32 := Scf.iv v146 c1_i32_102 k0_t9
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let c2_i32_118 : BitVec 32 := 2#32
  let v173 : BitVec 32 := Scalar.addi v158 c2_i32_118
  let v174 : BitVec 1 := Scalar.cmpi .slt v173 v119
  let v175 : BitVec 32 := Scalar.extui v174
  let c0_i32_119 : BitVec 32 := 0#32
  let v176 : BitVec 1 := Scalar.cmpi .ne v175 c0_i32_119
  v176

def k0_mult110 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off111 (v230 : BitVec 32) : Fin 1 → Nat :=
  let c2048_i32_135 : BitVec 32 := 2048#32
  let v231 : BitVec 32 := Scalar.muli v230 c2048_i32_135
  let v232 : BitVec 32 := v231
  ![v232.toNat]

def k0_chk106 (v119 : BitVec 32) (k0_t9 : Fin (k0_t9_loop v119).trips) (v230 : BitVec 32) : Prop :=
  (∀ (k0_h53 : k0_cond53 v119 k0_t9 = 1#1), 2048 ∣ (k0_mult109 v230).toNat) ∧
  (∀ (k0_h53 : k0_cond53 v119 k0_t9 = 1#1), ∀ a, (k0_off111 v230) a + S2048.size a ≤ S102400.size a)
theorem k0_mult109_dvd : ∀ (v119 : BitVec 32) (k0_t9 : Fin (k0_t9_loop v119).trips) (v230 : BitVec 32) (k0_hw106 : k0_chk106 v119 k0_t9 v230), ∀ (k0_h53 : k0_cond53 v119 k0_t9 = 1#1), 2048 ∣ (k0_mult109 v230).toNat := fun v119 k0_t9 v230 k0_hw106 k0_h53 => k0_hw106.1 k0_h53
theorem k0_off111_inb : ∀ (v119 : BitVec 32) (k0_t9 : Fin (k0_t9_loop v119).trips) (v230 : BitVec 32) (k0_hw106 : k0_chk106 v119 k0_t9 v230), ∀ (k0_h53 : k0_cond53 v119 k0_t9 = 1#1), ∀ a, (k0_off111 v230) a + S2048.size a ≤ S102400.size a := fun v119 k0_t9 v230 k0_hw106 k0_h53 => k0_hw106.2 k0_h53

def k0_off112 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk107 (i : grid0.Coords) (v119 : BitVec 32) (k0_t9 : Fin (k0_t9_loop v119).trips) (v234 : BitVec 32) : Prop :=
  (∀ (k0_h53 : k0_cond53 v119 k0_t9 = 1#1), 2048 ∣ (k0_mult110 i v234).toNat) ∧
  (∀ (k0_h53 : k0_cond53 v119 k0_t9 = 1#1), ∀ a, (k0_off112 i v234) a + S2048.size a ≤ S1677721600.size a)
theorem k0_mult110_dvd : ∀ (i : grid0.Coords) (v119 : BitVec 32) (k0_t9 : Fin (k0_t9_loop v119).trips) (v234 : BitVec 32) (k0_hw107 : k0_chk107 i v119 k0_t9 v234), ∀ (k0_h53 : k0_cond53 v119 k0_t9 = 1#1), 2048 ∣ (k0_mult110 i v234).toNat := fun i v119 k0_t9 v234 k0_hw107 k0_h53 => k0_hw107.1 k0_h53
theorem k0_off112_inb : ∀ (i : grid0.Coords) (v119 : BitVec 32) (k0_t9 : Fin (k0_t9_loop v119).trips) (v234 : BitVec 32) (k0_hw107 : k0_chk107 i v119 k0_t9 v234), ∀ (k0_h53 : k0_cond53 v119 k0_t9 = 1#1), ∀ a, (k0_off112 i v234) a + S2048.size a ≤ S1677721600.size a := fun i v119 k0_t9 v234 k0_hw107 k0_h53 => k0_hw107.2 k0_h53

def k0_mult111 (v230 : BitVec 32) : BitVec 32 :=
  let c2048_i32_135 : BitVec 32 := 2048#32
  let v231 : BitVec 32 := Scalar.muli v230 c2048_i32_135
  v231
def k0_cond54 (v119 : BitVec 32) (k0_t9 : Fin (k0_t9_loop v119).trips) : BitVec 1 :=
  let c0_i32_98 : BitVec 32 := 0#32
  let c0_i32_99 : BitVec 32 := 0#32
  let c15_i32_85 : BitVec 32 := 15#32
  let v120 : BitVec 32 := Scalar.addi v119 c15_i32_85
  let c0_i32_87 : BitVec 32 := 0#32
  let v122 : BitVec 1 := Scalar.cmpi .sgt v120 c0_i32_87
  let v123 : BitVec 32 := Scalar.extui v122
  let c0_i32_88 : BitVec 32 := 0#32
  let v124 : BitVec 1 := Scalar.cmpi .slt v120 c0_i32_88
  let v125 : BitVec 32 := Scalar.extui v124
  let v126 : BitVec 32 := Scalar.subi v123 v125
  let c16_i32_86 : BitVec 32 := 16#32
  let c0_i32_89 : BitVec 32 := 0#32
  let v127 : BitVec 1 := Scalar.cmpi .sgt c16_i32_86 c0_i32_89
  let v128 : BitVec 32 := Scalar.extui v127
  let c0_i32_90 : BitVec 32 := 0#32
  let v129 : BitVec 1 := Scalar.cmpi .slt c16_i32_86 c0_i32_90
  let v130 : BitVec 32 := Scalar.extui v129
  let v131 : BitVec 32 := Scalar.subi v128 v130
  let v132 : BitVec 1 := Scalar.cmpi .ne v126 v131
  let v133 : BitVec 32 := Scalar.remsi v120 c16_i32_86
  let c0_i32_91 : BitVec 32 := 0#32
  let v134 : BitVec 1 := Scalar.cmpi .ne v133 c0_i32_91
  let v135 : BitVec 1 := Scalar.andi v132 v134
  let v121 : BitVec 32 := Scalar.divsi v120 c16_i32_86
  let c1_i32_92 : BitVec 32 := 1#32
  let v136 : BitVec 32 := Scalar.subi v121 c1_i32_92
  let v137 : BitVec 32 := Scalar.select v135 v136 v121
  let c0_i32_93 : BitVec 32 := 0#32
  let v138 : BitVec 32 := Scalar.subi v137 c0_i32_93
  let c1_i32_94 : BitVec 32 := 1#32
  let c1_i32_95 : BitVec 32 := 1#32
  let v139 : BitVec 32 := Scalar.subi c1_i32_94 c1_i32_95
  let v140 : BitVec 32 := Scalar.addi v138 v139
  let c1_i32_96 : BitVec 32 := 1#32
  let v141 : BitVec 32 := Scalar.divsi v140 c1_i32_96
  let v142 : BitVec 32 := Scalar.subi v141 c0_i32_99
  let c1_i32_100 : BitVec 32 := 1#32
  let v144 : BitVec 32 := Scalar.divsi v142 c1_i32_100
  let v145 : BitVec 32 := Scalar.muli v144 c1_i32_100
  let v146 : BitVec 32 := Scalar.addi c0_i32_99 v145
  let c1_i32_102 : BitVec 32 := 1#32
  let arg13 : BitVec 32 := Scf.iv v146 c1_i32_102 k0_t9
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let c3_i32 : BitVec 32 := 3#32
  let v177 : BitVec 32 := Scalar.addi v158 c3_i32
  let v178 : BitVec 1 := Scalar.cmpi .slt v177 v119
  let v179 : BitVec 32 := Scalar.extui v178
  let c0_i32_120 : BitVec 32 := 0#32
  let v180 : BitVec 1 := Scalar.cmpi .ne v179 c0_i32_120
  v180

def k0_mult112 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off113 (v230 : BitVec 32) : Fin 1 → Nat :=
  let c2048_i32_135 : BitVec 32 := 2048#32
  let v231 : BitVec 32 := Scalar.muli v230 c2048_i32_135
  let v232 : BitVec 32 := v231
  ![v232.toNat]

def k0_chk108 (v119 : BitVec 32) (k0_t9 : Fin (k0_t9_loop v119).trips) (v230 : BitVec 32) : Prop :=
  (∀ (k0_h54 : k0_cond54 v119 k0_t9 = 1#1), 2048 ∣ (k0_mult111 v230).toNat) ∧
  (∀ (k0_h54 : k0_cond54 v119 k0_t9 = 1#1), ∀ a, (k0_off113 v230) a + S2048.size a ≤ S102400.size a)
theorem k0_mult111_dvd : ∀ (v119 : BitVec 32) (k0_t9 : Fin (k0_t9_loop v119).trips) (v230 : BitVec 32) (k0_hw108 : k0_chk108 v119 k0_t9 v230), ∀ (k0_h54 : k0_cond54 v119 k0_t9 = 1#1), 2048 ∣ (k0_mult111 v230).toNat := fun v119 k0_t9 v230 k0_hw108 k0_h54 => k0_hw108.1 k0_h54
theorem k0_off113_inb : ∀ (v119 : BitVec 32) (k0_t9 : Fin (k0_t9_loop v119).trips) (v230 : BitVec 32) (k0_hw108 : k0_chk108 v119 k0_t9 v230), ∀ (k0_h54 : k0_cond54 v119 k0_t9 = 1#1), ∀ a, (k0_off113 v230) a + S2048.size a ≤ S102400.size a := fun v119 k0_t9 v230 k0_hw108 k0_h54 => k0_hw108.2 k0_h54

def k0_off114 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk109 (i : grid0.Coords) (v119 : BitVec 32) (k0_t9 : Fin (k0_t9_loop v119).trips) (v234 : BitVec 32) : Prop :=
  (∀ (k0_h54 : k0_cond54 v119 k0_t9 = 1#1), 2048 ∣ (k0_mult112 i v234).toNat) ∧
  (∀ (k0_h54 : k0_cond54 v119 k0_t9 = 1#1), ∀ a, (k0_off114 i v234) a + S2048.size a ≤ S1677721600.size a)
theorem k0_mult112_dvd : ∀ (i : grid0.Coords) (v119 : BitVec 32) (k0_t9 : Fin (k0_t9_loop v119).trips) (v234 : BitVec 32) (k0_hw109 : k0_chk109 i v119 k0_t9 v234), ∀ (k0_h54 : k0_cond54 v119 k0_t9 = 1#1), 2048 ∣ (k0_mult112 i v234).toNat := fun i v119 k0_t9 v234 k0_hw109 k0_h54 => k0_hw109.1 k0_h54
theorem k0_off114_inb : ∀ (i : grid0.Coords) (v119 : BitVec 32) (k0_t9 : Fin (k0_t9_loop v119).trips) (v234 : BitVec 32) (k0_hw109 : k0_chk109 i v119 k0_t9 v234), ∀ (k0_h54 : k0_cond54 v119 k0_t9 = 1#1), ∀ a, (k0_off114 i v234) a + S2048.size a ≤ S1677721600.size a := fun i v119 k0_t9 v234 k0_hw109 k0_h54 => k0_hw109.2 k0_h54

def k0_mult113 (v230 : BitVec 32) : BitVec 32 :=
  let c2048_i32_135 : BitVec 32 := 2048#32
  let v231 : BitVec 32 := Scalar.muli v230 c2048_i32_135
  v231
def k0_cond55 (v119 : BitVec 32) (k0_t9 : Fin (k0_t9_loop v119).trips) : BitVec 1 :=
  let c0_i32_98 : BitVec 32 := 0#32
  let c0_i32_99 : BitVec 32 := 0#32
  let c15_i32_85 : BitVec 32 := 15#32
  let v120 : BitVec 32 := Scalar.addi v119 c15_i32_85
  let c0_i32_87 : BitVec 32 := 0#32
  let v122 : BitVec 1 := Scalar.cmpi .sgt v120 c0_i32_87
  let v123 : BitVec 32 := Scalar.extui v122
  let c0_i32_88 : BitVec 32 := 0#32
  let v124 : BitVec 1 := Scalar.cmpi .slt v120 c0_i32_88
  let v125 : BitVec 32 := Scalar.extui v124
  let v126 : BitVec 32 := Scalar.subi v123 v125
  let c16_i32_86 : BitVec 32 := 16#32
  let c0_i32_89 : BitVec 32 := 0#32
  let v127 : BitVec 1 := Scalar.cmpi .sgt c16_i32_86 c0_i32_89
  let v128 : BitVec 32 := Scalar.extui v127
  let c0_i32_90 : BitVec 32 := 0#32
  let v129 : BitVec 1 := Scalar.cmpi .slt c16_i32_86 c0_i32_90
  let v130 : BitVec 32 := Scalar.extui v129
  let v131 : BitVec 32 := Scalar.subi v128 v130
  let v132 : BitVec 1 := Scalar.cmpi .ne v126 v131
  let v133 : BitVec 32 := Scalar.remsi v120 c16_i32_86
  let c0_i32_91 : BitVec 32 := 0#32
  let v134 : BitVec 1 := Scalar.cmpi .ne v133 c0_i32_91
  let v135 : BitVec 1 := Scalar.andi v132 v134
  let v121 : BitVec 32 := Scalar.divsi v120 c16_i32_86
  let c1_i32_92 : BitVec 32 := 1#32
  let v136 : BitVec 32 := Scalar.subi v121 c1_i32_92
  let v137 : BitVec 32 := Scalar.select v135 v136 v121
  let c0_i32_93 : BitVec 32 := 0#32
  let v138 : BitVec 32 := Scalar.subi v137 c0_i32_93
  let c1_i32_94 : BitVec 32 := 1#32
  let c1_i32_95 : BitVec 32 := 1#32
  let v139 : BitVec 32 := Scalar.subi c1_i32_94 c1_i32_95
  let v140 : BitVec 32 := Scalar.addi v138 v139
  let c1_i32_96 : BitVec 32 := 1#32
  let v141 : BitVec 32 := Scalar.divsi v140 c1_i32_96
  let v142 : BitVec 32 := Scalar.subi v141 c0_i32_99
  let c1_i32_100 : BitVec 32 := 1#32
  let v144 : BitVec 32 := Scalar.divsi v142 c1_i32_100
  let v145 : BitVec 32 := Scalar.muli v144 c1_i32_100
  let v146 : BitVec 32 := Scalar.addi c0_i32_99 v145
  let c1_i32_102 : BitVec 32 := 1#32
  let arg13 : BitVec 32 := Scf.iv v146 c1_i32_102 k0_t9
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let c4_i32_121 : BitVec 32 := 4#32
  let v181 : BitVec 32 := Scalar.addi v158 c4_i32_121
  let v182 : BitVec 1 := Scalar.cmpi .slt v181 v119
  let v183 : BitVec 32 := Scalar.extui v182
  let c0_i32_122 : BitVec 32 := 0#32
  let v184 : BitVec 1 := Scalar.cmpi .ne v183 c0_i32_122
  v184

def k0_mult114 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off115 (v230 : BitVec 32) : Fin 1 → Nat :=
  let c2048_i32_135 : BitVec 32 := 2048#32
  let v231 : BitVec 32 := Scalar.muli v230 c2048_i32_135
  let v232 : BitVec 32 := v231
  ![v232.toNat]

def k0_chk110 (v119 : BitVec 32) (k0_t9 : Fin (k0_t9_loop v119).trips) (v230 : BitVec 32) : Prop :=
  (∀ (k0_h55 : k0_cond55 v119 k0_t9 = 1#1), 2048 ∣ (k0_mult113 v230).toNat) ∧
  (∀ (k0_h55 : k0_cond55 v119 k0_t9 = 1#1), ∀ a, (k0_off115 v230) a + S2048.size a ≤ S102400.size a)
theorem k0_mult113_dvd : ∀ (v119 : BitVec 32) (k0_t9 : Fin (k0_t9_loop v119).trips) (v230 : BitVec 32) (k0_hw110 : k0_chk110 v119 k0_t9 v230), ∀ (k0_h55 : k0_cond55 v119 k0_t9 = 1#1), 2048 ∣ (k0_mult113 v230).toNat := fun v119 k0_t9 v230 k0_hw110 k0_h55 => k0_hw110.1 k0_h55
theorem k0_off115_inb : ∀ (v119 : BitVec 32) (k0_t9 : Fin (k0_t9_loop v119).trips) (v230 : BitVec 32) (k0_hw110 : k0_chk110 v119 k0_t9 v230), ∀ (k0_h55 : k0_cond55 v119 k0_t9 = 1#1), ∀ a, (k0_off115 v230) a + S2048.size a ≤ S102400.size a := fun v119 k0_t9 v230 k0_hw110 k0_h55 => k0_hw110.2 k0_h55

def k0_off116 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk111 (i : grid0.Coords) (v119 : BitVec 32) (k0_t9 : Fin (k0_t9_loop v119).trips) (v234 : BitVec 32) : Prop :=
  (∀ (k0_h55 : k0_cond55 v119 k0_t9 = 1#1), 2048 ∣ (k0_mult114 i v234).toNat) ∧
  (∀ (k0_h55 : k0_cond55 v119 k0_t9 = 1#1), ∀ a, (k0_off116 i v234) a + S2048.size a ≤ S1677721600.size a)
theorem k0_mult114_dvd : ∀ (i : grid0.Coords) (v119 : BitVec 32) (k0_t9 : Fin (k0_t9_loop v119).trips) (v234 : BitVec 32) (k0_hw111 : k0_chk111 i v119 k0_t9 v234), ∀ (k0_h55 : k0_cond55 v119 k0_t9 = 1#1), 2048 ∣ (k0_mult114 i v234).toNat := fun i v119 k0_t9 v234 k0_hw111 k0_h55 => k0_hw111.1 k0_h55
theorem k0_off116_inb : ∀ (i : grid0.Coords) (v119 : BitVec 32) (k0_t9 : Fin (k0_t9_loop v119).trips) (v234 : BitVec 32) (k0_hw111 : k0_chk111 i v119 k0_t9 v234), ∀ (k0_h55 : k0_cond55 v119 k0_t9 = 1#1), ∀ a, (k0_off116 i v234) a + S2048.size a ≤ S1677721600.size a := fun i v119 k0_t9 v234 k0_hw111 k0_h55 => k0_hw111.2 k0_h55

def k0_mult115 (v230 : BitVec 32) : BitVec 32 :=
  let c2048_i32_135 : BitVec 32 := 2048#32
  let v231 : BitVec 32 := Scalar.muli v230 c2048_i32_135
  v231
def k0_cond56 (v119 : BitVec 32) (k0_t9 : Fin (k0_t9_loop v119).trips) : BitVec 1 :=
  let c0_i32_98 : BitVec 32 := 0#32
  let c0_i32_99 : BitVec 32 := 0#32
  let c15_i32_85 : BitVec 32 := 15#32
  let v120 : BitVec 32 := Scalar.addi v119 c15_i32_85
  let c0_i32_87 : BitVec 32 := 0#32
  let v122 : BitVec 1 := Scalar.cmpi .sgt v120 c0_i32_87
  let v123 : BitVec 32 := Scalar.extui v122
  let c0_i32_88 : BitVec 32 := 0#32
  let v124 : BitVec 1 := Scalar.cmpi .slt v120 c0_i32_88
  let v125 : BitVec 32 := Scalar.extui v124
  let v126 : BitVec 32 := Scalar.subi v123 v125
  let c16_i32_86 : BitVec 32 := 16#32
  let c0_i32_89 : BitVec 32 := 0#32
  let v127 : BitVec 1 := Scalar.cmpi .sgt c16_i32_86 c0_i32_89
  let v128 : BitVec 32 := Scalar.extui v127
  let c0_i32_90 : BitVec 32 := 0#32
  let v129 : BitVec 1 := Scalar.cmpi .slt c16_i32_86 c0_i32_90
  let v130 : BitVec 32 := Scalar.extui v129
  let v131 : BitVec 32 := Scalar.subi v128 v130
  let v132 : BitVec 1 := Scalar.cmpi .ne v126 v131
  let v133 : BitVec 32 := Scalar.remsi v120 c16_i32_86
  let c0_i32_91 : BitVec 32 := 0#32
  let v134 : BitVec 1 := Scalar.cmpi .ne v133 c0_i32_91
  let v135 : BitVec 1 := Scalar.andi v132 v134
  let v121 : BitVec 32 := Scalar.divsi v120 c16_i32_86
  let c1_i32_92 : BitVec 32 := 1#32
  let v136 : BitVec 32 := Scalar.subi v121 c1_i32_92
  let v137 : BitVec 32 := Scalar.select v135 v136 v121
  let c0_i32_93 : BitVec 32 := 0#32
  let v138 : BitVec 32 := Scalar.subi v137 c0_i32_93
  let c1_i32_94 : BitVec 32 := 1#32
  let c1_i32_95 : BitVec 32 := 1#32
  let v139 : BitVec 32 := Scalar.subi c1_i32_94 c1_i32_95
  let v140 : BitVec 32 := Scalar.addi v138 v139
  let c1_i32_96 : BitVec 32 := 1#32
  let v141 : BitVec 32 := Scalar.divsi v140 c1_i32_96
  let v142 : BitVec 32 := Scalar.subi v141 c0_i32_99
  let c1_i32_100 : BitVec 32 := 1#32
  let v144 : BitVec 32 := Scalar.divsi v142 c1_i32_100
  let v145 : BitVec 32 := Scalar.muli v144 c1_i32_100
  let v146 : BitVec 32 := Scalar.addi c0_i32_99 v145
  let c1_i32_102 : BitVec 32 := 1#32
  let arg13 : BitVec 32 := Scf.iv v146 c1_i32_102 k0_t9
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let c5_i32 : BitVec 32 := 5#32
  let v185 : BitVec 32 := Scalar.addi v158 c5_i32
  let v186 : BitVec 1 := Scalar.cmpi .slt v185 v119
  let v187 : BitVec 32 := Scalar.extui v186
  let c0_i32_123 : BitVec 32 := 0#32
  let v188 : BitVec 1 := Scalar.cmpi .ne v187 c0_i32_123
  v188

def k0_mult116 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off117 (v230 : BitVec 32) : Fin 1 → Nat :=
  let c2048_i32_135 : BitVec 32 := 2048#32
  let v231 : BitVec 32 := Scalar.muli v230 c2048_i32_135
  let v232 : BitVec 32 := v231
  ![v232.toNat]

def k0_chk112 (v119 : BitVec 32) (k0_t9 : Fin (k0_t9_loop v119).trips) (v230 : BitVec 32) : Prop :=
  (∀ (k0_h56 : k0_cond56 v119 k0_t9 = 1#1), 2048 ∣ (k0_mult115 v230).toNat) ∧
  (∀ (k0_h56 : k0_cond56 v119 k0_t9 = 1#1), ∀ a, (k0_off117 v230) a + S2048.size a ≤ S102400.size a)
theorem k0_mult115_dvd : ∀ (v119 : BitVec 32) (k0_t9 : Fin (k0_t9_loop v119).trips) (v230 : BitVec 32) (k0_hw112 : k0_chk112 v119 k0_t9 v230), ∀ (k0_h56 : k0_cond56 v119 k0_t9 = 1#1), 2048 ∣ (k0_mult115 v230).toNat := fun v119 k0_t9 v230 k0_hw112 k0_h56 => k0_hw112.1 k0_h56
theorem k0_off117_inb : ∀ (v119 : BitVec 32) (k0_t9 : Fin (k0_t9_loop v119).trips) (v230 : BitVec 32) (k0_hw112 : k0_chk112 v119 k0_t9 v230), ∀ (k0_h56 : k0_cond56 v119 k0_t9 = 1#1), ∀ a, (k0_off117 v230) a + S2048.size a ≤ S102400.size a := fun v119 k0_t9 v230 k0_hw112 k0_h56 => k0_hw112.2 k0_h56

def k0_off118 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk113 (i : grid0.Coords) (v119 : BitVec 32) (k0_t9 : Fin (k0_t9_loop v119).trips) (v234 : BitVec 32) : Prop :=
  (∀ (k0_h56 : k0_cond56 v119 k0_t9 = 1#1), 2048 ∣ (k0_mult116 i v234).toNat) ∧
  (∀ (k0_h56 : k0_cond56 v119 k0_t9 = 1#1), ∀ a, (k0_off118 i v234) a + S2048.size a ≤ S1677721600.size a)
theorem k0_mult116_dvd : ∀ (i : grid0.Coords) (v119 : BitVec 32) (k0_t9 : Fin (k0_t9_loop v119).trips) (v234 : BitVec 32) (k0_hw113 : k0_chk113 i v119 k0_t9 v234), ∀ (k0_h56 : k0_cond56 v119 k0_t9 = 1#1), 2048 ∣ (k0_mult116 i v234).toNat := fun i v119 k0_t9 v234 k0_hw113 k0_h56 => k0_hw113.1 k0_h56
theorem k0_off118_inb : ∀ (i : grid0.Coords) (v119 : BitVec 32) (k0_t9 : Fin (k0_t9_loop v119).trips) (v234 : BitVec 32) (k0_hw113 : k0_chk113 i v119 k0_t9 v234), ∀ (k0_h56 : k0_cond56 v119 k0_t9 = 1#1), ∀ a, (k0_off118 i v234) a + S2048.size a ≤ S1677721600.size a := fun i v119 k0_t9 v234 k0_hw113 k0_h56 => k0_hw113.2 k0_h56

def k0_mult117 (v230 : BitVec 32) : BitVec 32 :=
  let c2048_i32_135 : BitVec 32 := 2048#32
  let v231 : BitVec 32 := Scalar.muli v230 c2048_i32_135
  v231
def k0_cond57 (v119 : BitVec 32) (k0_t9 : Fin (k0_t9_loop v119).trips) : BitVec 1 :=
  let c0_i32_98 : BitVec 32 := 0#32
  let c0_i32_99 : BitVec 32 := 0#32
  let c15_i32_85 : BitVec 32 := 15#32
  let v120 : BitVec 32 := Scalar.addi v119 c15_i32_85
  let c0_i32_87 : BitVec 32 := 0#32
  let v122 : BitVec 1 := Scalar.cmpi .sgt v120 c0_i32_87
  let v123 : BitVec 32 := Scalar.extui v122
  let c0_i32_88 : BitVec 32 := 0#32
  let v124 : BitVec 1 := Scalar.cmpi .slt v120 c0_i32_88
  let v125 : BitVec 32 := Scalar.extui v124
  let v126 : BitVec 32 := Scalar.subi v123 v125
  let c16_i32_86 : BitVec 32 := 16#32
  let c0_i32_89 : BitVec 32 := 0#32
  let v127 : BitVec 1 := Scalar.cmpi .sgt c16_i32_86 c0_i32_89
  let v128 : BitVec 32 := Scalar.extui v127
  let c0_i32_90 : BitVec 32 := 0#32
  let v129 : BitVec 1 := Scalar.cmpi .slt c16_i32_86 c0_i32_90
  let v130 : BitVec 32 := Scalar.extui v129
  let v131 : BitVec 32 := Scalar.subi v128 v130
  let v132 : BitVec 1 := Scalar.cmpi .ne v126 v131
  let v133 : BitVec 32 := Scalar.remsi v120 c16_i32_86
  let c0_i32_91 : BitVec 32 := 0#32
  let v134 : BitVec 1 := Scalar.cmpi .ne v133 c0_i32_91
  let v135 : BitVec 1 := Scalar.andi v132 v134
  let v121 : BitVec 32 := Scalar.divsi v120 c16_i32_86
  let c1_i32_92 : BitVec 32 := 1#32
  let v136 : BitVec 32 := Scalar.subi v121 c1_i32_92
  let v137 : BitVec 32 := Scalar.select v135 v136 v121
  let c0_i32_93 : BitVec 32 := 0#32
  let v138 : BitVec 32 := Scalar.subi v137 c0_i32_93
  let c1_i32_94 : BitVec 32 := 1#32
  let c1_i32_95 : BitVec 32 := 1#32
  let v139 : BitVec 32 := Scalar.subi c1_i32_94 c1_i32_95
  let v140 : BitVec 32 := Scalar.addi v138 v139
  let c1_i32_96 : BitVec 32 := 1#32
  let v141 : BitVec 32 := Scalar.divsi v140 c1_i32_96
  let v142 : BitVec 32 := Scalar.subi v141 c0_i32_99
  let c1_i32_100 : BitVec 32 := 1#32
  let v144 : BitVec 32 := Scalar.divsi v142 c1_i32_100
  let v145 : BitVec 32 := Scalar.muli v144 c1_i32_100
  let v146 : BitVec 32 := Scalar.addi c0_i32_99 v145
  let c1_i32_102 : BitVec 32 := 1#32
  let arg13 : BitVec 32 := Scf.iv v146 c1_i32_102 k0_t9
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let c6_i32 : BitVec 32 := 6#32
  let v189 : BitVec 32 := Scalar.addi v158 c6_i32
  let v190 : BitVec 1 := Scalar.cmpi .slt v189 v119
  let v191 : BitVec 32 := Scalar.extui v190
  let c0_i32_124 : BitVec 32 := 0#32
  let v192 : BitVec 1 := Scalar.cmpi .ne v191 c0_i32_124
  v192

def k0_mult118 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off119 (v230 : BitVec 32) : Fin 1 → Nat :=
  let c2048_i32_135 : BitVec 32 := 2048#32
  let v231 : BitVec 32 := Scalar.muli v230 c2048_i32_135
  let v232 : BitVec 32 := v231
  ![v232.toNat]

def k0_chk114 (v119 : BitVec 32) (k0_t9 : Fin (k0_t9_loop v119).trips) (v230 : BitVec 32) : Prop :=
  (∀ (k0_h57 : k0_cond57 v119 k0_t9 = 1#1), 2048 ∣ (k0_mult117 v230).toNat) ∧
  (∀ (k0_h57 : k0_cond57 v119 k0_t9 = 1#1), ∀ a, (k0_off119 v230) a + S2048.size a ≤ S102400.size a)
theorem k0_mult117_dvd : ∀ (v119 : BitVec 32) (k0_t9 : Fin (k0_t9_loop v119).trips) (v230 : BitVec 32) (k0_hw114 : k0_chk114 v119 k0_t9 v230), ∀ (k0_h57 : k0_cond57 v119 k0_t9 = 1#1), 2048 ∣ (k0_mult117 v230).toNat := fun v119 k0_t9 v230 k0_hw114 k0_h57 => k0_hw114.1 k0_h57
theorem k0_off119_inb : ∀ (v119 : BitVec 32) (k0_t9 : Fin (k0_t9_loop v119).trips) (v230 : BitVec 32) (k0_hw114 : k0_chk114 v119 k0_t9 v230), ∀ (k0_h57 : k0_cond57 v119 k0_t9 = 1#1), ∀ a, (k0_off119 v230) a + S2048.size a ≤ S102400.size a := fun v119 k0_t9 v230 k0_hw114 k0_h57 => k0_hw114.2 k0_h57

def k0_off120 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk115 (i : grid0.Coords) (v119 : BitVec 32) (k0_t9 : Fin (k0_t9_loop v119).trips) (v234 : BitVec 32) : Prop :=
  (∀ (k0_h57 : k0_cond57 v119 k0_t9 = 1#1), 2048 ∣ (k0_mult118 i v234).toNat) ∧
  (∀ (k0_h57 : k0_cond57 v119 k0_t9 = 1#1), ∀ a, (k0_off120 i v234) a + S2048.size a ≤ S1677721600.size a)
theorem k0_mult118_dvd : ∀ (i : grid0.Coords) (v119 : BitVec 32) (k0_t9 : Fin (k0_t9_loop v119).trips) (v234 : BitVec 32) (k0_hw115 : k0_chk115 i v119 k0_t9 v234), ∀ (k0_h57 : k0_cond57 v119 k0_t9 = 1#1), 2048 ∣ (k0_mult118 i v234).toNat := fun i v119 k0_t9 v234 k0_hw115 k0_h57 => k0_hw115.1 k0_h57
theorem k0_off120_inb : ∀ (i : grid0.Coords) (v119 : BitVec 32) (k0_t9 : Fin (k0_t9_loop v119).trips) (v234 : BitVec 32) (k0_hw115 : k0_chk115 i v119 k0_t9 v234), ∀ (k0_h57 : k0_cond57 v119 k0_t9 = 1#1), ∀ a, (k0_off120 i v234) a + S2048.size a ≤ S1677721600.size a := fun i v119 k0_t9 v234 k0_hw115 k0_h57 => k0_hw115.2 k0_h57

def k0_mult119 (v230 : BitVec 32) : BitVec 32 :=
  let c2048_i32_135 : BitVec 32 := 2048#32
  let v231 : BitVec 32 := Scalar.muli v230 c2048_i32_135
  v231
def k0_cond58 (v119 : BitVec 32) (k0_t9 : Fin (k0_t9_loop v119).trips) : BitVec 1 :=
  let c0_i32_98 : BitVec 32 := 0#32
  let c0_i32_99 : BitVec 32 := 0#32
  let c15_i32_85 : BitVec 32 := 15#32
  let v120 : BitVec 32 := Scalar.addi v119 c15_i32_85
  let c0_i32_87 : BitVec 32 := 0#32
  let v122 : BitVec 1 := Scalar.cmpi .sgt v120 c0_i32_87
  let v123 : BitVec 32 := Scalar.extui v122
  let c0_i32_88 : BitVec 32 := 0#32
  let v124 : BitVec 1 := Scalar.cmpi .slt v120 c0_i32_88
  let v125 : BitVec 32 := Scalar.extui v124
  let v126 : BitVec 32 := Scalar.subi v123 v125
  let c16_i32_86 : BitVec 32 := 16#32
  let c0_i32_89 : BitVec 32 := 0#32
  let v127 : BitVec 1 := Scalar.cmpi .sgt c16_i32_86 c0_i32_89
  let v128 : BitVec 32 := Scalar.extui v127
  let c0_i32_90 : BitVec 32 := 0#32
  let v129 : BitVec 1 := Scalar.cmpi .slt c16_i32_86 c0_i32_90
  let v130 : BitVec 32 := Scalar.extui v129
  let v131 : BitVec 32 := Scalar.subi v128 v130
  let v132 : BitVec 1 := Scalar.cmpi .ne v126 v131
  let v133 : BitVec 32 := Scalar.remsi v120 c16_i32_86
  let c0_i32_91 : BitVec 32 := 0#32
  let v134 : BitVec 1 := Scalar.cmpi .ne v133 c0_i32_91
  let v135 : BitVec 1 := Scalar.andi v132 v134
  let v121 : BitVec 32 := Scalar.divsi v120 c16_i32_86
  let c1_i32_92 : BitVec 32 := 1#32
  let v136 : BitVec 32 := Scalar.subi v121 c1_i32_92
  let v137 : BitVec 32 := Scalar.select v135 v136 v121
  let c0_i32_93 : BitVec 32 := 0#32
  let v138 : BitVec 32 := Scalar.subi v137 c0_i32_93
  let c1_i32_94 : BitVec 32 := 1#32
  let c1_i32_95 : BitVec 32 := 1#32
  let v139 : BitVec 32 := Scalar.subi c1_i32_94 c1_i32_95
  let v140 : BitVec 32 := Scalar.addi v138 v139
  let c1_i32_96 : BitVec 32 := 1#32
  let v141 : BitVec 32 := Scalar.divsi v140 c1_i32_96
  let v142 : BitVec 32 := Scalar.subi v141 c0_i32_99
  let c1_i32_100 : BitVec 32 := 1#32
  let v144 : BitVec 32 := Scalar.divsi v142 c1_i32_100
  let v145 : BitVec 32 := Scalar.muli v144 c1_i32_100
  let v146 : BitVec 32 := Scalar.addi c0_i32_99 v145
  let c1_i32_102 : BitVec 32 := 1#32
  let arg13 : BitVec 32 := Scf.iv v146 c1_i32_102 k0_t9
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let c7_i32 : BitVec 32 := 7#32
  let v193 : BitVec 32 := Scalar.addi v158 c7_i32
  let v194 : BitVec 1 := Scalar.cmpi .slt v193 v119
  let v195 : BitVec 32 := Scalar.extui v194
  let c0_i32_125 : BitVec 32 := 0#32
  let v196 : BitVec 1 := Scalar.cmpi .ne v195 c0_i32_125
  v196

def k0_mult120 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off121 (v230 : BitVec 32) : Fin 1 → Nat :=
  let c2048_i32_135 : BitVec 32 := 2048#32
  let v231 : BitVec 32 := Scalar.muli v230 c2048_i32_135
  let v232 : BitVec 32 := v231
  ![v232.toNat]

def k0_chk116 (v119 : BitVec 32) (k0_t9 : Fin (k0_t9_loop v119).trips) (v230 : BitVec 32) : Prop :=
  (∀ (k0_h58 : k0_cond58 v119 k0_t9 = 1#1), 2048 ∣ (k0_mult119 v230).toNat) ∧
  (∀ (k0_h58 : k0_cond58 v119 k0_t9 = 1#1), ∀ a, (k0_off121 v230) a + S2048.size a ≤ S102400.size a)
theorem k0_mult119_dvd : ∀ (v119 : BitVec 32) (k0_t9 : Fin (k0_t9_loop v119).trips) (v230 : BitVec 32) (k0_hw116 : k0_chk116 v119 k0_t9 v230), ∀ (k0_h58 : k0_cond58 v119 k0_t9 = 1#1), 2048 ∣ (k0_mult119 v230).toNat := fun v119 k0_t9 v230 k0_hw116 k0_h58 => k0_hw116.1 k0_h58
theorem k0_off121_inb : ∀ (v119 : BitVec 32) (k0_t9 : Fin (k0_t9_loop v119).trips) (v230 : BitVec 32) (k0_hw116 : k0_chk116 v119 k0_t9 v230), ∀ (k0_h58 : k0_cond58 v119 k0_t9 = 1#1), ∀ a, (k0_off121 v230) a + S2048.size a ≤ S102400.size a := fun v119 k0_t9 v230 k0_hw116 k0_h58 => k0_hw116.2 k0_h58

def k0_off122 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk117 (i : grid0.Coords) (v119 : BitVec 32) (k0_t9 : Fin (k0_t9_loop v119).trips) (v234 : BitVec 32) : Prop :=
  (∀ (k0_h58 : k0_cond58 v119 k0_t9 = 1#1), 2048 ∣ (k0_mult120 i v234).toNat) ∧
  (∀ (k0_h58 : k0_cond58 v119 k0_t9 = 1#1), ∀ a, (k0_off122 i v234) a + S2048.size a ≤ S1677721600.size a)
theorem k0_mult120_dvd : ∀ (i : grid0.Coords) (v119 : BitVec 32) (k0_t9 : Fin (k0_t9_loop v119).trips) (v234 : BitVec 32) (k0_hw117 : k0_chk117 i v119 k0_t9 v234), ∀ (k0_h58 : k0_cond58 v119 k0_t9 = 1#1), 2048 ∣ (k0_mult120 i v234).toNat := fun i v119 k0_t9 v234 k0_hw117 k0_h58 => k0_hw117.1 k0_h58
theorem k0_off122_inb : ∀ (i : grid0.Coords) (v119 : BitVec 32) (k0_t9 : Fin (k0_t9_loop v119).trips) (v234 : BitVec 32) (k0_hw117 : k0_chk117 i v119 k0_t9 v234), ∀ (k0_h58 : k0_cond58 v119 k0_t9 = 1#1), ∀ a, (k0_off122 i v234) a + S2048.size a ≤ S1677721600.size a := fun i v119 k0_t9 v234 k0_hw117 k0_h58 => k0_hw117.2 k0_h58

def k0_mult121 (v230 : BitVec 32) : BitVec 32 :=
  let c2048_i32_135 : BitVec 32 := 2048#32
  let v231 : BitVec 32 := Scalar.muli v230 c2048_i32_135
  v231
def k0_cond59 (v119 : BitVec 32) (k0_t9 : Fin (k0_t9_loop v119).trips) : BitVec 1 :=
  let c0_i32_98 : BitVec 32 := 0#32
  let c0_i32_99 : BitVec 32 := 0#32
  let c15_i32_85 : BitVec 32 := 15#32
  let v120 : BitVec 32 := Scalar.addi v119 c15_i32_85
  let c0_i32_87 : BitVec 32 := 0#32
  let v122 : BitVec 1 := Scalar.cmpi .sgt v120 c0_i32_87
  let v123 : BitVec 32 := Scalar.extui v122
  let c0_i32_88 : BitVec 32 := 0#32
  let v124 : BitVec 1 := Scalar.cmpi .slt v120 c0_i32_88
  let v125 : BitVec 32 := Scalar.extui v124
  let v126 : BitVec 32 := Scalar.subi v123 v125
  let c16_i32_86 : BitVec 32 := 16#32
  let c0_i32_89 : BitVec 32 := 0#32
  let v127 : BitVec 1 := Scalar.cmpi .sgt c16_i32_86 c0_i32_89
  let v128 : BitVec 32 := Scalar.extui v127
  let c0_i32_90 : BitVec 32 := 0#32
  let v129 : BitVec 1 := Scalar.cmpi .slt c16_i32_86 c0_i32_90
  let v130 : BitVec 32 := Scalar.extui v129
  let v131 : BitVec 32 := Scalar.subi v128 v130
  let v132 : BitVec 1 := Scalar.cmpi .ne v126 v131
  let v133 : BitVec 32 := Scalar.remsi v120 c16_i32_86
  let c0_i32_91 : BitVec 32 := 0#32
  let v134 : BitVec 1 := Scalar.cmpi .ne v133 c0_i32_91
  let v135 : BitVec 1 := Scalar.andi v132 v134
  let v121 : BitVec 32 := Scalar.divsi v120 c16_i32_86
  let c1_i32_92 : BitVec 32 := 1#32
  let v136 : BitVec 32 := Scalar.subi v121 c1_i32_92
  let v137 : BitVec 32 := Scalar.select v135 v136 v121
  let c0_i32_93 : BitVec 32 := 0#32
  let v138 : BitVec 32 := Scalar.subi v137 c0_i32_93
  let c1_i32_94 : BitVec 32 := 1#32
  let c1_i32_95 : BitVec 32 := 1#32
  let v139 : BitVec 32 := Scalar.subi c1_i32_94 c1_i32_95
  let v140 : BitVec 32 := Scalar.addi v138 v139
  let c1_i32_96 : BitVec 32 := 1#32
  let v141 : BitVec 32 := Scalar.divsi v140 c1_i32_96
  let v142 : BitVec 32 := Scalar.subi v141 c0_i32_99
  let c1_i32_100 : BitVec 32 := 1#32
  let v144 : BitVec 32 := Scalar.divsi v142 c1_i32_100
  let v145 : BitVec 32 := Scalar.muli v144 c1_i32_100
  let v146 : BitVec 32 := Scalar.addi c0_i32_99 v145
  let c1_i32_102 : BitVec 32 := 1#32
  let arg13 : BitVec 32 := Scf.iv v146 c1_i32_102 k0_t9
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let c8_i32 : BitVec 32 := 8#32
  let v197 : BitVec 32 := Scalar.addi v158 c8_i32
  let v198 : BitVec 1 := Scalar.cmpi .slt v197 v119
  let v199 : BitVec 32 := Scalar.extui v198
  let c0_i32_126 : BitVec 32 := 0#32
  let v200 : BitVec 1 := Scalar.cmpi .ne v199 c0_i32_126
  v200

def k0_mult122 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off123 (v230 : BitVec 32) : Fin 1 → Nat :=
  let c2048_i32_135 : BitVec 32 := 2048#32
  let v231 : BitVec 32 := Scalar.muli v230 c2048_i32_135
  let v232 : BitVec 32 := v231
  ![v232.toNat]

def k0_chk118 (v119 : BitVec 32) (k0_t9 : Fin (k0_t9_loop v119).trips) (v230 : BitVec 32) : Prop :=
  (∀ (k0_h59 : k0_cond59 v119 k0_t9 = 1#1), 2048 ∣ (k0_mult121 v230).toNat) ∧
  (∀ (k0_h59 : k0_cond59 v119 k0_t9 = 1#1), ∀ a, (k0_off123 v230) a + S2048.size a ≤ S102400.size a)
theorem k0_mult121_dvd : ∀ (v119 : BitVec 32) (k0_t9 : Fin (k0_t9_loop v119).trips) (v230 : BitVec 32) (k0_hw118 : k0_chk118 v119 k0_t9 v230), ∀ (k0_h59 : k0_cond59 v119 k0_t9 = 1#1), 2048 ∣ (k0_mult121 v230).toNat := fun v119 k0_t9 v230 k0_hw118 k0_h59 => k0_hw118.1 k0_h59
theorem k0_off123_inb : ∀ (v119 : BitVec 32) (k0_t9 : Fin (k0_t9_loop v119).trips) (v230 : BitVec 32) (k0_hw118 : k0_chk118 v119 k0_t9 v230), ∀ (k0_h59 : k0_cond59 v119 k0_t9 = 1#1), ∀ a, (k0_off123 v230) a + S2048.size a ≤ S102400.size a := fun v119 k0_t9 v230 k0_hw118 k0_h59 => k0_hw118.2 k0_h59

def k0_off124 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk119 (i : grid0.Coords) (v119 : BitVec 32) (k0_t9 : Fin (k0_t9_loop v119).trips) (v234 : BitVec 32) : Prop :=
  (∀ (k0_h59 : k0_cond59 v119 k0_t9 = 1#1), 2048 ∣ (k0_mult122 i v234).toNat) ∧
  (∀ (k0_h59 : k0_cond59 v119 k0_t9 = 1#1), ∀ a, (k0_off124 i v234) a + S2048.size a ≤ S1677721600.size a)
theorem k0_mult122_dvd : ∀ (i : grid0.Coords) (v119 : BitVec 32) (k0_t9 : Fin (k0_t9_loop v119).trips) (v234 : BitVec 32) (k0_hw119 : k0_chk119 i v119 k0_t9 v234), ∀ (k0_h59 : k0_cond59 v119 k0_t9 = 1#1), 2048 ∣ (k0_mult122 i v234).toNat := fun i v119 k0_t9 v234 k0_hw119 k0_h59 => k0_hw119.1 k0_h59
theorem k0_off124_inb : ∀ (i : grid0.Coords) (v119 : BitVec 32) (k0_t9 : Fin (k0_t9_loop v119).trips) (v234 : BitVec 32) (k0_hw119 : k0_chk119 i v119 k0_t9 v234), ∀ (k0_h59 : k0_cond59 v119 k0_t9 = 1#1), ∀ a, (k0_off124 i v234) a + S2048.size a ≤ S1677721600.size a := fun i v119 k0_t9 v234 k0_hw119 k0_h59 => k0_hw119.2 k0_h59

def k0_mult123 (v230 : BitVec 32) : BitVec 32 :=
  let c2048_i32_135 : BitVec 32 := 2048#32
  let v231 : BitVec 32 := Scalar.muli v230 c2048_i32_135
  v231
def k0_cond60 (v119 : BitVec 32) (k0_t9 : Fin (k0_t9_loop v119).trips) : BitVec 1 :=
  let c0_i32_98 : BitVec 32 := 0#32
  let c0_i32_99 : BitVec 32 := 0#32
  let c15_i32_85 : BitVec 32 := 15#32
  let v120 : BitVec 32 := Scalar.addi v119 c15_i32_85
  let c0_i32_87 : BitVec 32 := 0#32
  let v122 : BitVec 1 := Scalar.cmpi .sgt v120 c0_i32_87
  let v123 : BitVec 32 := Scalar.extui v122
  let c0_i32_88 : BitVec 32 := 0#32
  let v124 : BitVec 1 := Scalar.cmpi .slt v120 c0_i32_88
  let v125 : BitVec 32 := Scalar.extui v124
  let v126 : BitVec 32 := Scalar.subi v123 v125
  let c16_i32_86 : BitVec 32 := 16#32
  let c0_i32_89 : BitVec 32 := 0#32
  let v127 : BitVec 1 := Scalar.cmpi .sgt c16_i32_86 c0_i32_89
  let v128 : BitVec 32 := Scalar.extui v127
  let c0_i32_90 : BitVec 32 := 0#32
  let v129 : BitVec 1 := Scalar.cmpi .slt c16_i32_86 c0_i32_90
  let v130 : BitVec 32 := Scalar.extui v129
  let v131 : BitVec 32 := Scalar.subi v128 v130
  let v132 : BitVec 1 := Scalar.cmpi .ne v126 v131
  let v133 : BitVec 32 := Scalar.remsi v120 c16_i32_86
  let c0_i32_91 : BitVec 32 := 0#32
  let v134 : BitVec 1 := Scalar.cmpi .ne v133 c0_i32_91
  let v135 : BitVec 1 := Scalar.andi v132 v134
  let v121 : BitVec 32 := Scalar.divsi v120 c16_i32_86
  let c1_i32_92 : BitVec 32 := 1#32
  let v136 : BitVec 32 := Scalar.subi v121 c1_i32_92
  let v137 : BitVec 32 := Scalar.select v135 v136 v121
  let c0_i32_93 : BitVec 32 := 0#32
  let v138 : BitVec 32 := Scalar.subi v137 c0_i32_93
  let c1_i32_94 : BitVec 32 := 1#32
  let c1_i32_95 : BitVec 32 := 1#32
  let v139 : BitVec 32 := Scalar.subi c1_i32_94 c1_i32_95
  let v140 : BitVec 32 := Scalar.addi v138 v139
  let c1_i32_96 : BitVec 32 := 1#32
  let v141 : BitVec 32 := Scalar.divsi v140 c1_i32_96
  let v142 : BitVec 32 := Scalar.subi v141 c0_i32_99
  let c1_i32_100 : BitVec 32 := 1#32
  let v144 : BitVec 32 := Scalar.divsi v142 c1_i32_100
  let v145 : BitVec 32 := Scalar.muli v144 c1_i32_100
  let v146 : BitVec 32 := Scalar.addi c0_i32_99 v145
  let c1_i32_102 : BitVec 32 := 1#32
  let arg13 : BitVec 32 := Scf.iv v146 c1_i32_102 k0_t9
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let c9_i32 : BitVec 32 := 9#32
  let v201 : BitVec 32 := Scalar.addi v158 c9_i32
  let v202 : BitVec 1 := Scalar.cmpi .slt v201 v119
  let v203 : BitVec 32 := Scalar.extui v202
  let c0_i32_127 : BitVec 32 := 0#32
  let v204 : BitVec 1 := Scalar.cmpi .ne v203 c0_i32_127
  v204

def k0_mult124 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off125 (v230 : BitVec 32) : Fin 1 → Nat :=
  let c2048_i32_135 : BitVec 32 := 2048#32
  let v231 : BitVec 32 := Scalar.muli v230 c2048_i32_135
  let v232 : BitVec 32 := v231
  ![v232.toNat]

def k0_chk120 (v119 : BitVec 32) (k0_t9 : Fin (k0_t9_loop v119).trips) (v230 : BitVec 32) : Prop :=
  (∀ (k0_h60 : k0_cond60 v119 k0_t9 = 1#1), 2048 ∣ (k0_mult123 v230).toNat) ∧
  (∀ (k0_h60 : k0_cond60 v119 k0_t9 = 1#1), ∀ a, (k0_off125 v230) a + S2048.size a ≤ S102400.size a)
theorem k0_mult123_dvd : ∀ (v119 : BitVec 32) (k0_t9 : Fin (k0_t9_loop v119).trips) (v230 : BitVec 32) (k0_hw120 : k0_chk120 v119 k0_t9 v230), ∀ (k0_h60 : k0_cond60 v119 k0_t9 = 1#1), 2048 ∣ (k0_mult123 v230).toNat := fun v119 k0_t9 v230 k0_hw120 k0_h60 => k0_hw120.1 k0_h60
theorem k0_off125_inb : ∀ (v119 : BitVec 32) (k0_t9 : Fin (k0_t9_loop v119).trips) (v230 : BitVec 32) (k0_hw120 : k0_chk120 v119 k0_t9 v230), ∀ (k0_h60 : k0_cond60 v119 k0_t9 = 1#1), ∀ a, (k0_off125 v230) a + S2048.size a ≤ S102400.size a := fun v119 k0_t9 v230 k0_hw120 k0_h60 => k0_hw120.2 k0_h60

def k0_off126 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk121 (i : grid0.Coords) (v119 : BitVec 32) (k0_t9 : Fin (k0_t9_loop v119).trips) (v234 : BitVec 32) : Prop :=
  (∀ (k0_h60 : k0_cond60 v119 k0_t9 = 1#1), 2048 ∣ (k0_mult124 i v234).toNat) ∧
  (∀ (k0_h60 : k0_cond60 v119 k0_t9 = 1#1), ∀ a, (k0_off126 i v234) a + S2048.size a ≤ S1677721600.size a)
theorem k0_mult124_dvd : ∀ (i : grid0.Coords) (v119 : BitVec 32) (k0_t9 : Fin (k0_t9_loop v119).trips) (v234 : BitVec 32) (k0_hw121 : k0_chk121 i v119 k0_t9 v234), ∀ (k0_h60 : k0_cond60 v119 k0_t9 = 1#1), 2048 ∣ (k0_mult124 i v234).toNat := fun i v119 k0_t9 v234 k0_hw121 k0_h60 => k0_hw121.1 k0_h60
theorem k0_off126_inb : ∀ (i : grid0.Coords) (v119 : BitVec 32) (k0_t9 : Fin (k0_t9_loop v119).trips) (v234 : BitVec 32) (k0_hw121 : k0_chk121 i v119 k0_t9 v234), ∀ (k0_h60 : k0_cond60 v119 k0_t9 = 1#1), ∀ a, (k0_off126 i v234) a + S2048.size a ≤ S1677721600.size a := fun i v119 k0_t9 v234 k0_hw121 k0_h60 => k0_hw121.2 k0_h60

def k0_mult125 (v230 : BitVec 32) : BitVec 32 :=
  let c2048_i32_135 : BitVec 32 := 2048#32
  let v231 : BitVec 32 := Scalar.muli v230 c2048_i32_135
  v231
def k0_cond61 (v119 : BitVec 32) (k0_t9 : Fin (k0_t9_loop v119).trips) : BitVec 1 :=
  let c0_i32_98 : BitVec 32 := 0#32
  let c0_i32_99 : BitVec 32 := 0#32
  let c15_i32_85 : BitVec 32 := 15#32
  let v120 : BitVec 32 := Scalar.addi v119 c15_i32_85
  let c0_i32_87 : BitVec 32 := 0#32
  let v122 : BitVec 1 := Scalar.cmpi .sgt v120 c0_i32_87
  let v123 : BitVec 32 := Scalar.extui v122
  let c0_i32_88 : BitVec 32 := 0#32
  let v124 : BitVec 1 := Scalar.cmpi .slt v120 c0_i32_88
  let v125 : BitVec 32 := Scalar.extui v124
  let v126 : BitVec 32 := Scalar.subi v123 v125
  let c16_i32_86 : BitVec 32 := 16#32
  let c0_i32_89 : BitVec 32 := 0#32
  let v127 : BitVec 1 := Scalar.cmpi .sgt c16_i32_86 c0_i32_89
  let v128 : BitVec 32 := Scalar.extui v127
  let c0_i32_90 : BitVec 32 := 0#32
  let v129 : BitVec 1 := Scalar.cmpi .slt c16_i32_86 c0_i32_90
  let v130 : BitVec 32 := Scalar.extui v129
  let v131 : BitVec 32 := Scalar.subi v128 v130
  let v132 : BitVec 1 := Scalar.cmpi .ne v126 v131
  let v133 : BitVec 32 := Scalar.remsi v120 c16_i32_86
  let c0_i32_91 : BitVec 32 := 0#32
  let v134 : BitVec 1 := Scalar.cmpi .ne v133 c0_i32_91
  let v135 : BitVec 1 := Scalar.andi v132 v134
  let v121 : BitVec 32 := Scalar.divsi v120 c16_i32_86
  let c1_i32_92 : BitVec 32 := 1#32
  let v136 : BitVec 32 := Scalar.subi v121 c1_i32_92
  let v137 : BitVec 32 := Scalar.select v135 v136 v121
  let c0_i32_93 : BitVec 32 := 0#32
  let v138 : BitVec 32 := Scalar.subi v137 c0_i32_93
  let c1_i32_94 : BitVec 32 := 1#32
  let c1_i32_95 : BitVec 32 := 1#32
  let v139 : BitVec 32 := Scalar.subi c1_i32_94 c1_i32_95
  let v140 : BitVec 32 := Scalar.addi v138 v139
  let c1_i32_96 : BitVec 32 := 1#32
  let v141 : BitVec 32 := Scalar.divsi v140 c1_i32_96
  let v142 : BitVec 32 := Scalar.subi v141 c0_i32_99
  let c1_i32_100 : BitVec 32 := 1#32
  let v144 : BitVec 32 := Scalar.divsi v142 c1_i32_100
  let v145 : BitVec 32 := Scalar.muli v144 c1_i32_100
  let v146 : BitVec 32 := Scalar.addi c0_i32_99 v145
  let c1_i32_102 : BitVec 32 := 1#32
  let arg13 : BitVec 32 := Scf.iv v146 c1_i32_102 k0_t9
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let c10_i32 : BitVec 32 := 10#32
  let v205 : BitVec 32 := Scalar.addi v158 c10_i32
  let v206 : BitVec 1 := Scalar.cmpi .slt v205 v119
  let v207 : BitVec 32 := Scalar.extui v206
  let c0_i32_128 : BitVec 32 := 0#32
  let v208 : BitVec 1 := Scalar.cmpi .ne v207 c0_i32_128
  v208

def k0_mult126 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off127 (v230 : BitVec 32) : Fin 1 → Nat :=
  let c2048_i32_135 : BitVec 32 := 2048#32
  let v231 : BitVec 32 := Scalar.muli v230 c2048_i32_135
  let v232 : BitVec 32 := v231
  ![v232.toNat]

def k0_chk122 (v119 : BitVec 32) (k0_t9 : Fin (k0_t9_loop v119).trips) (v230 : BitVec 32) : Prop :=
  (∀ (k0_h61 : k0_cond61 v119 k0_t9 = 1#1), 2048 ∣ (k0_mult125 v230).toNat) ∧
  (∀ (k0_h61 : k0_cond61 v119 k0_t9 = 1#1), ∀ a, (k0_off127 v230) a + S2048.size a ≤ S102400.size a)
theorem k0_mult125_dvd : ∀ (v119 : BitVec 32) (k0_t9 : Fin (k0_t9_loop v119).trips) (v230 : BitVec 32) (k0_hw122 : k0_chk122 v119 k0_t9 v230), ∀ (k0_h61 : k0_cond61 v119 k0_t9 = 1#1), 2048 ∣ (k0_mult125 v230).toNat := fun v119 k0_t9 v230 k0_hw122 k0_h61 => k0_hw122.1 k0_h61
theorem k0_off127_inb : ∀ (v119 : BitVec 32) (k0_t9 : Fin (k0_t9_loop v119).trips) (v230 : BitVec 32) (k0_hw122 : k0_chk122 v119 k0_t9 v230), ∀ (k0_h61 : k0_cond61 v119 k0_t9 = 1#1), ∀ a, (k0_off127 v230) a + S2048.size a ≤ S102400.size a := fun v119 k0_t9 v230 k0_hw122 k0_h61 => k0_hw122.2 k0_h61

def k0_off128 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk123 (i : grid0.Coords) (v119 : BitVec 32) (k0_t9 : Fin (k0_t9_loop v119).trips) (v234 : BitVec 32) : Prop :=
  (∀ (k0_h61 : k0_cond61 v119 k0_t9 = 1#1), 2048 ∣ (k0_mult126 i v234).toNat) ∧
  (∀ (k0_h61 : k0_cond61 v119 k0_t9 = 1#1), ∀ a, (k0_off128 i v234) a + S2048.size a ≤ S1677721600.size a)
theorem k0_mult126_dvd : ∀ (i : grid0.Coords) (v119 : BitVec 32) (k0_t9 : Fin (k0_t9_loop v119).trips) (v234 : BitVec 32) (k0_hw123 : k0_chk123 i v119 k0_t9 v234), ∀ (k0_h61 : k0_cond61 v119 k0_t9 = 1#1), 2048 ∣ (k0_mult126 i v234).toNat := fun i v119 k0_t9 v234 k0_hw123 k0_h61 => k0_hw123.1 k0_h61
theorem k0_off128_inb : ∀ (i : grid0.Coords) (v119 : BitVec 32) (k0_t9 : Fin (k0_t9_loop v119).trips) (v234 : BitVec 32) (k0_hw123 : k0_chk123 i v119 k0_t9 v234), ∀ (k0_h61 : k0_cond61 v119 k0_t9 = 1#1), ∀ a, (k0_off128 i v234) a + S2048.size a ≤ S1677721600.size a := fun i v119 k0_t9 v234 k0_hw123 k0_h61 => k0_hw123.2 k0_h61

def k0_mult127 (v230 : BitVec 32) : BitVec 32 :=
  let c2048_i32_135 : BitVec 32 := 2048#32
  let v231 : BitVec 32 := Scalar.muli v230 c2048_i32_135
  v231
def k0_cond62 (v119 : BitVec 32) (k0_t9 : Fin (k0_t9_loop v119).trips) : BitVec 1 :=
  let c0_i32_98 : BitVec 32 := 0#32
  let c0_i32_99 : BitVec 32 := 0#32
  let c15_i32_85 : BitVec 32 := 15#32
  let v120 : BitVec 32 := Scalar.addi v119 c15_i32_85
  let c0_i32_87 : BitVec 32 := 0#32
  let v122 : BitVec 1 := Scalar.cmpi .sgt v120 c0_i32_87
  let v123 : BitVec 32 := Scalar.extui v122
  let c0_i32_88 : BitVec 32 := 0#32
  let v124 : BitVec 1 := Scalar.cmpi .slt v120 c0_i32_88
  let v125 : BitVec 32 := Scalar.extui v124
  let v126 : BitVec 32 := Scalar.subi v123 v125
  let c16_i32_86 : BitVec 32 := 16#32
  let c0_i32_89 : BitVec 32 := 0#32
  let v127 : BitVec 1 := Scalar.cmpi .sgt c16_i32_86 c0_i32_89
  let v128 : BitVec 32 := Scalar.extui v127
  let c0_i32_90 : BitVec 32 := 0#32
  let v129 : BitVec 1 := Scalar.cmpi .slt c16_i32_86 c0_i32_90
  let v130 : BitVec 32 := Scalar.extui v129
  let v131 : BitVec 32 := Scalar.subi v128 v130
  let v132 : BitVec 1 := Scalar.cmpi .ne v126 v131
  let v133 : BitVec 32 := Scalar.remsi v120 c16_i32_86
  let c0_i32_91 : BitVec 32 := 0#32
  let v134 : BitVec 1 := Scalar.cmpi .ne v133 c0_i32_91
  let v135 : BitVec 1 := Scalar.andi v132 v134
  let v121 : BitVec 32 := Scalar.divsi v120 c16_i32_86
  let c1_i32_92 : BitVec 32 := 1#32
  let v136 : BitVec 32 := Scalar.subi v121 c1_i32_92
  let v137 : BitVec 32 := Scalar.select v135 v136 v121
  let c0_i32_93 : BitVec 32 := 0#32
  let v138 : BitVec 32 := Scalar.subi v137 c0_i32_93
  let c1_i32_94 : BitVec 32 := 1#32
  let c1_i32_95 : BitVec 32 := 1#32
  let v139 : BitVec 32 := Scalar.subi c1_i32_94 c1_i32_95
  let v140 : BitVec 32 := Scalar.addi v138 v139
  let c1_i32_96 : BitVec 32 := 1#32
  let v141 : BitVec 32 := Scalar.divsi v140 c1_i32_96
  let v142 : BitVec 32 := Scalar.subi v141 c0_i32_99
  let c1_i32_100 : BitVec 32 := 1#32
  let v144 : BitVec 32 := Scalar.divsi v142 c1_i32_100
  let v145 : BitVec 32 := Scalar.muli v144 c1_i32_100
  let v146 : BitVec 32 := Scalar.addi c0_i32_99 v145
  let c1_i32_102 : BitVec 32 := 1#32
  let arg13 : BitVec 32 := Scf.iv v146 c1_i32_102 k0_t9
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let c11_i32 : BitVec 32 := 11#32
  let v209 : BitVec 32 := Scalar.addi v158 c11_i32
  let v210 : BitVec 1 := Scalar.cmpi .slt v209 v119
  let v211 : BitVec 32 := Scalar.extui v210
  let c0_i32_129 : BitVec 32 := 0#32
  let v212 : BitVec 1 := Scalar.cmpi .ne v211 c0_i32_129
  v212

def k0_mult128 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off129 (v230 : BitVec 32) : Fin 1 → Nat :=
  let c2048_i32_135 : BitVec 32 := 2048#32
  let v231 : BitVec 32 := Scalar.muli v230 c2048_i32_135
  let v232 : BitVec 32 := v231
  ![v232.toNat]

def k0_chk124 (v119 : BitVec 32) (k0_t9 : Fin (k0_t9_loop v119).trips) (v230 : BitVec 32) : Prop :=
  (∀ (k0_h62 : k0_cond62 v119 k0_t9 = 1#1), 2048 ∣ (k0_mult127 v230).toNat) ∧
  (∀ (k0_h62 : k0_cond62 v119 k0_t9 = 1#1), ∀ a, (k0_off129 v230) a + S2048.size a ≤ S102400.size a)
theorem k0_mult127_dvd : ∀ (v119 : BitVec 32) (k0_t9 : Fin (k0_t9_loop v119).trips) (v230 : BitVec 32) (k0_hw124 : k0_chk124 v119 k0_t9 v230), ∀ (k0_h62 : k0_cond62 v119 k0_t9 = 1#1), 2048 ∣ (k0_mult127 v230).toNat := fun v119 k0_t9 v230 k0_hw124 k0_h62 => k0_hw124.1 k0_h62
theorem k0_off129_inb : ∀ (v119 : BitVec 32) (k0_t9 : Fin (k0_t9_loop v119).trips) (v230 : BitVec 32) (k0_hw124 : k0_chk124 v119 k0_t9 v230), ∀ (k0_h62 : k0_cond62 v119 k0_t9 = 1#1), ∀ a, (k0_off129 v230) a + S2048.size a ≤ S102400.size a := fun v119 k0_t9 v230 k0_hw124 k0_h62 => k0_hw124.2 k0_h62

def k0_off130 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk125 (i : grid0.Coords) (v119 : BitVec 32) (k0_t9 : Fin (k0_t9_loop v119).trips) (v234 : BitVec 32) : Prop :=
  (∀ (k0_h62 : k0_cond62 v119 k0_t9 = 1#1), 2048 ∣ (k0_mult128 i v234).toNat) ∧
  (∀ (k0_h62 : k0_cond62 v119 k0_t9 = 1#1), ∀ a, (k0_off130 i v234) a + S2048.size a ≤ S1677721600.size a)
theorem k0_mult128_dvd : ∀ (i : grid0.Coords) (v119 : BitVec 32) (k0_t9 : Fin (k0_t9_loop v119).trips) (v234 : BitVec 32) (k0_hw125 : k0_chk125 i v119 k0_t9 v234), ∀ (k0_h62 : k0_cond62 v119 k0_t9 = 1#1), 2048 ∣ (k0_mult128 i v234).toNat := fun i v119 k0_t9 v234 k0_hw125 k0_h62 => k0_hw125.1 k0_h62
theorem k0_off130_inb : ∀ (i : grid0.Coords) (v119 : BitVec 32) (k0_t9 : Fin (k0_t9_loop v119).trips) (v234 : BitVec 32) (k0_hw125 : k0_chk125 i v119 k0_t9 v234), ∀ (k0_h62 : k0_cond62 v119 k0_t9 = 1#1), ∀ a, (k0_off130 i v234) a + S2048.size a ≤ S1677721600.size a := fun i v119 k0_t9 v234 k0_hw125 k0_h62 => k0_hw125.2 k0_h62

def k0_mult129 (v230 : BitVec 32) : BitVec 32 :=
  let c2048_i32_135 : BitVec 32 := 2048#32
  let v231 : BitVec 32 := Scalar.muli v230 c2048_i32_135
  v231
def k0_cond63 (v119 : BitVec 32) (k0_t9 : Fin (k0_t9_loop v119).trips) : BitVec 1 :=
  let c0_i32_98 : BitVec 32 := 0#32
  let c0_i32_99 : BitVec 32 := 0#32
  let c15_i32_85 : BitVec 32 := 15#32
  let v120 : BitVec 32 := Scalar.addi v119 c15_i32_85
  let c0_i32_87 : BitVec 32 := 0#32
  let v122 : BitVec 1 := Scalar.cmpi .sgt v120 c0_i32_87
  let v123 : BitVec 32 := Scalar.extui v122
  let c0_i32_88 : BitVec 32 := 0#32
  let v124 : BitVec 1 := Scalar.cmpi .slt v120 c0_i32_88
  let v125 : BitVec 32 := Scalar.extui v124
  let v126 : BitVec 32 := Scalar.subi v123 v125
  let c16_i32_86 : BitVec 32 := 16#32
  let c0_i32_89 : BitVec 32 := 0#32
  let v127 : BitVec 1 := Scalar.cmpi .sgt c16_i32_86 c0_i32_89
  let v128 : BitVec 32 := Scalar.extui v127
  let c0_i32_90 : BitVec 32 := 0#32
  let v129 : BitVec 1 := Scalar.cmpi .slt c16_i32_86 c0_i32_90
  let v130 : BitVec 32 := Scalar.extui v129
  let v131 : BitVec 32 := Scalar.subi v128 v130
  let v132 : BitVec 1 := Scalar.cmpi .ne v126 v131
  let v133 : BitVec 32 := Scalar.remsi v120 c16_i32_86
  let c0_i32_91 : BitVec 32 := 0#32
  let v134 : BitVec 1 := Scalar.cmpi .ne v133 c0_i32_91
  let v135 : BitVec 1 := Scalar.andi v132 v134
  let v121 : BitVec 32 := Scalar.divsi v120 c16_i32_86
  let c1_i32_92 : BitVec 32 := 1#32
  let v136 : BitVec 32 := Scalar.subi v121 c1_i32_92
  let v137 : BitVec 32 := Scalar.select v135 v136 v121
  let c0_i32_93 : BitVec 32 := 0#32
  let v138 : BitVec 32 := Scalar.subi v137 c0_i32_93
  let c1_i32_94 : BitVec 32 := 1#32
  let c1_i32_95 : BitVec 32 := 1#32
  let v139 : BitVec 32 := Scalar.subi c1_i32_94 c1_i32_95
  let v140 : BitVec 32 := Scalar.addi v138 v139
  let c1_i32_96 : BitVec 32 := 1#32
  let v141 : BitVec 32 := Scalar.divsi v140 c1_i32_96
  let v142 : BitVec 32 := Scalar.subi v141 c0_i32_99
  let c1_i32_100 : BitVec 32 := 1#32
  let v144 : BitVec 32 := Scalar.divsi v142 c1_i32_100
  let v145 : BitVec 32 := Scalar.muli v144 c1_i32_100
  let v146 : BitVec 32 := Scalar.addi c0_i32_99 v145
  let c1_i32_102 : BitVec 32 := 1#32
  let arg13 : BitVec 32 := Scf.iv v146 c1_i32_102 k0_t9
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let c12_i32 : BitVec 32 := 12#32
  let v213 : BitVec 32 := Scalar.addi v158 c12_i32
  let v214 : BitVec 1 := Scalar.cmpi .slt v213 v119
  let v215 : BitVec 32 := Scalar.extui v214
  let c0_i32_130 : BitVec 32 := 0#32
  let v216 : BitVec 1 := Scalar.cmpi .ne v215 c0_i32_130
  v216

def k0_mult130 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off131 (v230 : BitVec 32) : Fin 1 → Nat :=
  let c2048_i32_135 : BitVec 32 := 2048#32
  let v231 : BitVec 32 := Scalar.muli v230 c2048_i32_135
  let v232 : BitVec 32 := v231
  ![v232.toNat]

def k0_chk126 (v119 : BitVec 32) (k0_t9 : Fin (k0_t9_loop v119).trips) (v230 : BitVec 32) : Prop :=
  (∀ (k0_h63 : k0_cond63 v119 k0_t9 = 1#1), 2048 ∣ (k0_mult129 v230).toNat) ∧
  (∀ (k0_h63 : k0_cond63 v119 k0_t9 = 1#1), ∀ a, (k0_off131 v230) a + S2048.size a ≤ S102400.size a)
theorem k0_mult129_dvd : ∀ (v119 : BitVec 32) (k0_t9 : Fin (k0_t9_loop v119).trips) (v230 : BitVec 32) (k0_hw126 : k0_chk126 v119 k0_t9 v230), ∀ (k0_h63 : k0_cond63 v119 k0_t9 = 1#1), 2048 ∣ (k0_mult129 v230).toNat := fun v119 k0_t9 v230 k0_hw126 k0_h63 => k0_hw126.1 k0_h63
theorem k0_off131_inb : ∀ (v119 : BitVec 32) (k0_t9 : Fin (k0_t9_loop v119).trips) (v230 : BitVec 32) (k0_hw126 : k0_chk126 v119 k0_t9 v230), ∀ (k0_h63 : k0_cond63 v119 k0_t9 = 1#1), ∀ a, (k0_off131 v230) a + S2048.size a ≤ S102400.size a := fun v119 k0_t9 v230 k0_hw126 k0_h63 => k0_hw126.2 k0_h63

def k0_off132 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk127 (i : grid0.Coords) (v119 : BitVec 32) (k0_t9 : Fin (k0_t9_loop v119).trips) (v234 : BitVec 32) : Prop :=
  (∀ (k0_h63 : k0_cond63 v119 k0_t9 = 1#1), 2048 ∣ (k0_mult130 i v234).toNat) ∧
  (∀ (k0_h63 : k0_cond63 v119 k0_t9 = 1#1), ∀ a, (k0_off132 i v234) a + S2048.size a ≤ S1677721600.size a)
theorem k0_mult130_dvd : ∀ (i : grid0.Coords) (v119 : BitVec 32) (k0_t9 : Fin (k0_t9_loop v119).trips) (v234 : BitVec 32) (k0_hw127 : k0_chk127 i v119 k0_t9 v234), ∀ (k0_h63 : k0_cond63 v119 k0_t9 = 1#1), 2048 ∣ (k0_mult130 i v234).toNat := fun i v119 k0_t9 v234 k0_hw127 k0_h63 => k0_hw127.1 k0_h63
theorem k0_off132_inb : ∀ (i : grid0.Coords) (v119 : BitVec 32) (k0_t9 : Fin (k0_t9_loop v119).trips) (v234 : BitVec 32) (k0_hw127 : k0_chk127 i v119 k0_t9 v234), ∀ (k0_h63 : k0_cond63 v119 k0_t9 = 1#1), ∀ a, (k0_off132 i v234) a + S2048.size a ≤ S1677721600.size a := fun i v119 k0_t9 v234 k0_hw127 k0_h63 => k0_hw127.2 k0_h63

def k0_mult131 (v230 : BitVec 32) : BitVec 32 :=
  let c2048_i32_135 : BitVec 32 := 2048#32
  let v231 : BitVec 32 := Scalar.muli v230 c2048_i32_135
  v231
def k0_cond64 (v119 : BitVec 32) (k0_t9 : Fin (k0_t9_loop v119).trips) : BitVec 1 :=
  let c0_i32_98 : BitVec 32 := 0#32
  let c0_i32_99 : BitVec 32 := 0#32
  let c15_i32_85 : BitVec 32 := 15#32
  let v120 : BitVec 32 := Scalar.addi v119 c15_i32_85
  let c0_i32_87 : BitVec 32 := 0#32
  let v122 : BitVec 1 := Scalar.cmpi .sgt v120 c0_i32_87
  let v123 : BitVec 32 := Scalar.extui v122
  let c0_i32_88 : BitVec 32 := 0#32
  let v124 : BitVec 1 := Scalar.cmpi .slt v120 c0_i32_88
  let v125 : BitVec 32 := Scalar.extui v124
  let v126 : BitVec 32 := Scalar.subi v123 v125
  let c16_i32_86 : BitVec 32 := 16#32
  let c0_i32_89 : BitVec 32 := 0#32
  let v127 : BitVec 1 := Scalar.cmpi .sgt c16_i32_86 c0_i32_89
  let v128 : BitVec 32 := Scalar.extui v127
  let c0_i32_90 : BitVec 32 := 0#32
  let v129 : BitVec 1 := Scalar.cmpi .slt c16_i32_86 c0_i32_90
  let v130 : BitVec 32 := Scalar.extui v129
  let v131 : BitVec 32 := Scalar.subi v128 v130
  let v132 : BitVec 1 := Scalar.cmpi .ne v126 v131
  let v133 : BitVec 32 := Scalar.remsi v120 c16_i32_86
  let c0_i32_91 : BitVec 32 := 0#32
  let v134 : BitVec 1 := Scalar.cmpi .ne v133 c0_i32_91
  let v135 : BitVec 1 := Scalar.andi v132 v134
  let v121 : BitVec 32 := Scalar.divsi v120 c16_i32_86
  let c1_i32_92 : BitVec 32 := 1#32
  let v136 : BitVec 32 := Scalar.subi v121 c1_i32_92
  let v137 : BitVec 32 := Scalar.select v135 v136 v121
  let c0_i32_93 : BitVec 32 := 0#32
  let v138 : BitVec 32 := Scalar.subi v137 c0_i32_93
  let c1_i32_94 : BitVec 32 := 1#32
  let c1_i32_95 : BitVec 32 := 1#32
  let v139 : BitVec 32 := Scalar.subi c1_i32_94 c1_i32_95
  let v140 : BitVec 32 := Scalar.addi v138 v139
  let c1_i32_96 : BitVec 32 := 1#32
  let v141 : BitVec 32 := Scalar.divsi v140 c1_i32_96
  let v142 : BitVec 32 := Scalar.subi v141 c0_i32_99
  let c1_i32_100 : BitVec 32 := 1#32
  let v144 : BitVec 32 := Scalar.divsi v142 c1_i32_100
  let v145 : BitVec 32 := Scalar.muli v144 c1_i32_100
  let v146 : BitVec 32 := Scalar.addi c0_i32_99 v145
  let c1_i32_102 : BitVec 32 := 1#32
  let arg13 : BitVec 32 := Scf.iv v146 c1_i32_102 k0_t9
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let c13_i32 : BitVec 32 := 13#32
  let v217 : BitVec 32 := Scalar.addi v158 c13_i32
  let v218 : BitVec 1 := Scalar.cmpi .slt v217 v119
  let v219 : BitVec 32 := Scalar.extui v218
  let c0_i32_131 : BitVec 32 := 0#32
  let v220 : BitVec 1 := Scalar.cmpi .ne v219 c0_i32_131
  v220

def k0_mult132 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off133 (v230 : BitVec 32) : Fin 1 → Nat :=
  let c2048_i32_135 : BitVec 32 := 2048#32
  let v231 : BitVec 32 := Scalar.muli v230 c2048_i32_135
  let v232 : BitVec 32 := v231
  ![v232.toNat]

def k0_chk128 (v119 : BitVec 32) (k0_t9 : Fin (k0_t9_loop v119).trips) (v230 : BitVec 32) : Prop :=
  (∀ (k0_h64 : k0_cond64 v119 k0_t9 = 1#1), 2048 ∣ (k0_mult131 v230).toNat) ∧
  (∀ (k0_h64 : k0_cond64 v119 k0_t9 = 1#1), ∀ a, (k0_off133 v230) a + S2048.size a ≤ S102400.size a)
theorem k0_mult131_dvd : ∀ (v119 : BitVec 32) (k0_t9 : Fin (k0_t9_loop v119).trips) (v230 : BitVec 32) (k0_hw128 : k0_chk128 v119 k0_t9 v230), ∀ (k0_h64 : k0_cond64 v119 k0_t9 = 1#1), 2048 ∣ (k0_mult131 v230).toNat := fun v119 k0_t9 v230 k0_hw128 k0_h64 => k0_hw128.1 k0_h64
theorem k0_off133_inb : ∀ (v119 : BitVec 32) (k0_t9 : Fin (k0_t9_loop v119).trips) (v230 : BitVec 32) (k0_hw128 : k0_chk128 v119 k0_t9 v230), ∀ (k0_h64 : k0_cond64 v119 k0_t9 = 1#1), ∀ a, (k0_off133 v230) a + S2048.size a ≤ S102400.size a := fun v119 k0_t9 v230 k0_hw128 k0_h64 => k0_hw128.2 k0_h64

def k0_off134 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk129 (i : grid0.Coords) (v119 : BitVec 32) (k0_t9 : Fin (k0_t9_loop v119).trips) (v234 : BitVec 32) : Prop :=
  (∀ (k0_h64 : k0_cond64 v119 k0_t9 = 1#1), 2048 ∣ (k0_mult132 i v234).toNat) ∧
  (∀ (k0_h64 : k0_cond64 v119 k0_t9 = 1#1), ∀ a, (k0_off134 i v234) a + S2048.size a ≤ S1677721600.size a)
theorem k0_mult132_dvd : ∀ (i : grid0.Coords) (v119 : BitVec 32) (k0_t9 : Fin (k0_t9_loop v119).trips) (v234 : BitVec 32) (k0_hw129 : k0_chk129 i v119 k0_t9 v234), ∀ (k0_h64 : k0_cond64 v119 k0_t9 = 1#1), 2048 ∣ (k0_mult132 i v234).toNat := fun i v119 k0_t9 v234 k0_hw129 k0_h64 => k0_hw129.1 k0_h64
theorem k0_off134_inb : ∀ (i : grid0.Coords) (v119 : BitVec 32) (k0_t9 : Fin (k0_t9_loop v119).trips) (v234 : BitVec 32) (k0_hw129 : k0_chk129 i v119 k0_t9 v234), ∀ (k0_h64 : k0_cond64 v119 k0_t9 = 1#1), ∀ a, (k0_off134 i v234) a + S2048.size a ≤ S1677721600.size a := fun i v119 k0_t9 v234 k0_hw129 k0_h64 => k0_hw129.2 k0_h64

def k0_mult133 (v230 : BitVec 32) : BitVec 32 :=
  let c2048_i32_135 : BitVec 32 := 2048#32
  let v231 : BitVec 32 := Scalar.muli v230 c2048_i32_135
  v231
def k0_cond65 (v119 : BitVec 32) (k0_t9 : Fin (k0_t9_loop v119).trips) : BitVec 1 :=
  let c0_i32_98 : BitVec 32 := 0#32
  let c0_i32_99 : BitVec 32 := 0#32
  let c15_i32_85 : BitVec 32 := 15#32
  let v120 : BitVec 32 := Scalar.addi v119 c15_i32_85
  let c0_i32_87 : BitVec 32 := 0#32
  let v122 : BitVec 1 := Scalar.cmpi .sgt v120 c0_i32_87
  let v123 : BitVec 32 := Scalar.extui v122
  let c0_i32_88 : BitVec 32 := 0#32
  let v124 : BitVec 1 := Scalar.cmpi .slt v120 c0_i32_88
  let v125 : BitVec 32 := Scalar.extui v124
  let v126 : BitVec 32 := Scalar.subi v123 v125
  let c16_i32_86 : BitVec 32 := 16#32
  let c0_i32_89 : BitVec 32 := 0#32
  let v127 : BitVec 1 := Scalar.cmpi .sgt c16_i32_86 c0_i32_89
  let v128 : BitVec 32 := Scalar.extui v127
  let c0_i32_90 : BitVec 32 := 0#32
  let v129 : BitVec 1 := Scalar.cmpi .slt c16_i32_86 c0_i32_90
  let v130 : BitVec 32 := Scalar.extui v129
  let v131 : BitVec 32 := Scalar.subi v128 v130
  let v132 : BitVec 1 := Scalar.cmpi .ne v126 v131
  let v133 : BitVec 32 := Scalar.remsi v120 c16_i32_86
  let c0_i32_91 : BitVec 32 := 0#32
  let v134 : BitVec 1 := Scalar.cmpi .ne v133 c0_i32_91
  let v135 : BitVec 1 := Scalar.andi v132 v134
  let v121 : BitVec 32 := Scalar.divsi v120 c16_i32_86
  let c1_i32_92 : BitVec 32 := 1#32
  let v136 : BitVec 32 := Scalar.subi v121 c1_i32_92
  let v137 : BitVec 32 := Scalar.select v135 v136 v121
  let c0_i32_93 : BitVec 32 := 0#32
  let v138 : BitVec 32 := Scalar.subi v137 c0_i32_93
  let c1_i32_94 : BitVec 32 := 1#32
  let c1_i32_95 : BitVec 32 := 1#32
  let v139 : BitVec 32 := Scalar.subi c1_i32_94 c1_i32_95
  let v140 : BitVec 32 := Scalar.addi v138 v139
  let c1_i32_96 : BitVec 32 := 1#32
  let v141 : BitVec 32 := Scalar.divsi v140 c1_i32_96
  let v142 : BitVec 32 := Scalar.subi v141 c0_i32_99
  let c1_i32_100 : BitVec 32 := 1#32
  let v144 : BitVec 32 := Scalar.divsi v142 c1_i32_100
  let v145 : BitVec 32 := Scalar.muli v144 c1_i32_100
  let v146 : BitVec 32 := Scalar.addi c0_i32_99 v145
  let c1_i32_102 : BitVec 32 := 1#32
  let arg13 : BitVec 32 := Scf.iv v146 c1_i32_102 k0_t9
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let c14_i32 : BitVec 32 := 14#32
  let v221 : BitVec 32 := Scalar.addi v158 c14_i32
  let v222 : BitVec 1 := Scalar.cmpi .slt v221 v119
  let v223 : BitVec 32 := Scalar.extui v222
  let c0_i32_132 : BitVec 32 := 0#32
  let v224 : BitVec 1 := Scalar.cmpi .ne v223 c0_i32_132
  v224

def k0_mult134 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off135 (v230 : BitVec 32) : Fin 1 → Nat :=
  let c2048_i32_135 : BitVec 32 := 2048#32
  let v231 : BitVec 32 := Scalar.muli v230 c2048_i32_135
  let v232 : BitVec 32 := v231
  ![v232.toNat]

def k0_chk130 (v119 : BitVec 32) (k0_t9 : Fin (k0_t9_loop v119).trips) (v230 : BitVec 32) : Prop :=
  (∀ (k0_h65 : k0_cond65 v119 k0_t9 = 1#1), 2048 ∣ (k0_mult133 v230).toNat) ∧
  (∀ (k0_h65 : k0_cond65 v119 k0_t9 = 1#1), ∀ a, (k0_off135 v230) a + S2048.size a ≤ S102400.size a)
theorem k0_mult133_dvd : ∀ (v119 : BitVec 32) (k0_t9 : Fin (k0_t9_loop v119).trips) (v230 : BitVec 32) (k0_hw130 : k0_chk130 v119 k0_t9 v230), ∀ (k0_h65 : k0_cond65 v119 k0_t9 = 1#1), 2048 ∣ (k0_mult133 v230).toNat := fun v119 k0_t9 v230 k0_hw130 k0_h65 => k0_hw130.1 k0_h65
theorem k0_off135_inb : ∀ (v119 : BitVec 32) (k0_t9 : Fin (k0_t9_loop v119).trips) (v230 : BitVec 32) (k0_hw130 : k0_chk130 v119 k0_t9 v230), ∀ (k0_h65 : k0_cond65 v119 k0_t9 = 1#1), ∀ a, (k0_off135 v230) a + S2048.size a ≤ S102400.size a := fun v119 k0_t9 v230 k0_hw130 k0_h65 => k0_hw130.2 k0_h65

def k0_off136 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk131 (i : grid0.Coords) (v119 : BitVec 32) (k0_t9 : Fin (k0_t9_loop v119).trips) (v234 : BitVec 32) : Prop :=
  (∀ (k0_h65 : k0_cond65 v119 k0_t9 = 1#1), 2048 ∣ (k0_mult134 i v234).toNat) ∧
  (∀ (k0_h65 : k0_cond65 v119 k0_t9 = 1#1), ∀ a, (k0_off136 i v234) a + S2048.size a ≤ S1677721600.size a)
theorem k0_mult134_dvd : ∀ (i : grid0.Coords) (v119 : BitVec 32) (k0_t9 : Fin (k0_t9_loop v119).trips) (v234 : BitVec 32) (k0_hw131 : k0_chk131 i v119 k0_t9 v234), ∀ (k0_h65 : k0_cond65 v119 k0_t9 = 1#1), 2048 ∣ (k0_mult134 i v234).toNat := fun i v119 k0_t9 v234 k0_hw131 k0_h65 => k0_hw131.1 k0_h65
theorem k0_off136_inb : ∀ (i : grid0.Coords) (v119 : BitVec 32) (k0_t9 : Fin (k0_t9_loop v119).trips) (v234 : BitVec 32) (k0_hw131 : k0_chk131 i v119 k0_t9 v234), ∀ (k0_h65 : k0_cond65 v119 k0_t9 = 1#1), ∀ a, (k0_off136 i v234) a + S2048.size a ≤ S1677721600.size a := fun i v119 k0_t9 v234 k0_hw131 k0_h65 => k0_hw131.2 k0_h65

def k0_mult135 (v230 : BitVec 32) : BitVec 32 :=
  let c2048_i32_135 : BitVec 32 := 2048#32
  let v231 : BitVec 32 := Scalar.muli v230 c2048_i32_135
  v231
def k0_cond66 (v119 : BitVec 32) (k0_t9 : Fin (k0_t9_loop v119).trips) : BitVec 1 :=
  let c0_i32_98 : BitVec 32 := 0#32
  let c0_i32_99 : BitVec 32 := 0#32
  let c15_i32_85 : BitVec 32 := 15#32
  let v120 : BitVec 32 := Scalar.addi v119 c15_i32_85
  let c0_i32_87 : BitVec 32 := 0#32
  let v122 : BitVec 1 := Scalar.cmpi .sgt v120 c0_i32_87
  let v123 : BitVec 32 := Scalar.extui v122
  let c0_i32_88 : BitVec 32 := 0#32
  let v124 : BitVec 1 := Scalar.cmpi .slt v120 c0_i32_88
  let v125 : BitVec 32 := Scalar.extui v124
  let v126 : BitVec 32 := Scalar.subi v123 v125
  let c16_i32_86 : BitVec 32 := 16#32
  let c0_i32_89 : BitVec 32 := 0#32
  let v127 : BitVec 1 := Scalar.cmpi .sgt c16_i32_86 c0_i32_89
  let v128 : BitVec 32 := Scalar.extui v127
  let c0_i32_90 : BitVec 32 := 0#32
  let v129 : BitVec 1 := Scalar.cmpi .slt c16_i32_86 c0_i32_90
  let v130 : BitVec 32 := Scalar.extui v129
  let v131 : BitVec 32 := Scalar.subi v128 v130
  let v132 : BitVec 1 := Scalar.cmpi .ne v126 v131
  let v133 : BitVec 32 := Scalar.remsi v120 c16_i32_86
  let c0_i32_91 : BitVec 32 := 0#32
  let v134 : BitVec 1 := Scalar.cmpi .ne v133 c0_i32_91
  let v135 : BitVec 1 := Scalar.andi v132 v134
  let v121 : BitVec 32 := Scalar.divsi v120 c16_i32_86
  let c1_i32_92 : BitVec 32 := 1#32
  let v136 : BitVec 32 := Scalar.subi v121 c1_i32_92
  let v137 : BitVec 32 := Scalar.select v135 v136 v121
  let c0_i32_93 : BitVec 32 := 0#32
  let v138 : BitVec 32 := Scalar.subi v137 c0_i32_93
  let c1_i32_94 : BitVec 32 := 1#32
  let c1_i32_95 : BitVec 32 := 1#32
  let v139 : BitVec 32 := Scalar.subi c1_i32_94 c1_i32_95
  let v140 : BitVec 32 := Scalar.addi v138 v139
  let c1_i32_96 : BitVec 32 := 1#32
  let v141 : BitVec 32 := Scalar.divsi v140 c1_i32_96
  let v142 : BitVec 32 := Scalar.subi v141 c0_i32_99
  let c1_i32_100 : BitVec 32 := 1#32
  let v144 : BitVec 32 := Scalar.divsi v142 c1_i32_100
  let v145 : BitVec 32 := Scalar.muli v144 c1_i32_100
  let v146 : BitVec 32 := Scalar.addi c0_i32_99 v145
  let c1_i32_102 : BitVec 32 := 1#32
  let arg13 : BitVec 32 := Scf.iv v146 c1_i32_102 k0_t9
  let c1_i32_97 : BitVec 32 := 1#32
  let v156 : BitVec 32 := Scalar.muli arg13 c1_i32_97
  let v157 : BitVec 32 := Scalar.addi c0_i32_98 v156
  let c16_i32_113 : BitVec 32 := 16#32
  let v158 : BitVec 32 := Scalar.muli v157 c16_i32_113
  let c15_i32_133 : BitVec 32 := 15#32
  let v225 : BitVec 32 := Scalar.addi v158 c15_i32_133
  let v226 : BitVec 1 := Scalar.cmpi .slt v225 v119
  let v227 : BitVec 32 := Scalar.extui v226
  let c0_i32_134 : BitVec 32 := 0#32
  let v228 : BitVec 1 := Scalar.cmpi .ne v227 c0_i32_134
  v228

def k0_mult136 (i : grid0.Coords) (v234 : BitVec 32) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  v236

def k0_off137 (v230 : BitVec 32) : Fin 1 → Nat :=
  let c2048_i32_135 : BitVec 32 := 2048#32
  let v231 : BitVec 32 := Scalar.muli v230 c2048_i32_135
  let v232 : BitVec 32 := v231
  ![v232.toNat]

def k0_chk132 (v119 : BitVec 32) (k0_t9 : Fin (k0_t9_loop v119).trips) (v230 : BitVec 32) : Prop :=
  (∀ (k0_h66 : k0_cond66 v119 k0_t9 = 1#1), 2048 ∣ (k0_mult135 v230).toNat) ∧
  (∀ (k0_h66 : k0_cond66 v119 k0_t9 = 1#1), ∀ a, (k0_off137 v230) a + S2048.size a ≤ S102400.size a)
theorem k0_mult135_dvd : ∀ (v119 : BitVec 32) (k0_t9 : Fin (k0_t9_loop v119).trips) (v230 : BitVec 32) (k0_hw132 : k0_chk132 v119 k0_t9 v230), ∀ (k0_h66 : k0_cond66 v119 k0_t9 = 1#1), 2048 ∣ (k0_mult135 v230).toNat := fun v119 k0_t9 v230 k0_hw132 k0_h66 => k0_hw132.1 k0_h66
theorem k0_off137_inb : ∀ (v119 : BitVec 32) (k0_t9 : Fin (k0_t9_loop v119).trips) (v230 : BitVec 32) (k0_hw132 : k0_chk132 v119 k0_t9 v230), ∀ (k0_h66 : k0_cond66 v119 k0_t9 = 1#1), ∀ a, (k0_off137 v230) a + S2048.size a ≤ S102400.size a := fun v119 k0_t9 v230 k0_hw132 k0_h66 => k0_hw132.2 k0_h66

def k0_off138 (i : grid0.Coords) (v234 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c102400_i32 : BitVec 32 := 102400#32
  let v30 : BitVec 32 := Scalar.muli v18 c102400_i32
  let v235 : BitVec 32 := Scalar.addi v30 v234
  let c2048_i32_136 : BitVec 32 := 2048#32
  let v236 : BitVec 32 := Scalar.muli v235 c2048_i32_136
  let v237 : BitVec 32 := v236
  ![v237.toNat]

def k0_chk133 (i : grid0.Coords) (v119 : BitVec 32) (k0_t9 : Fin (k0_t9_loop v119).trips) (v234 : BitVec 32) : Prop :=
  (∀ (k0_h66 : k0_cond66 v119 k0_t9 = 1#1), 2048 ∣ (k0_mult136 i v234).toNat) ∧
  (∀ (k0_h66 : k0_cond66 v119 k0_t9 = 1#1), ∀ a, (k0_off138 i v234) a + S2048.size a ≤ S1677721600.size a)
theorem k0_mult136_dvd : ∀ (i : grid0.Coords) (v119 : BitVec 32) (k0_t9 : Fin (k0_t9_loop v119).trips) (v234 : BitVec 32) (k0_hw133 : k0_chk133 i v119 k0_t9 v234), ∀ (k0_h66 : k0_cond66 v119 k0_t9 = 1#1), 2048 ∣ (k0_mult136 i v234).toNat := fun i v119 k0_t9 v234 k0_hw133 k0_h66 => k0_hw133.1 k0_h66
theorem k0_off138_inb : ∀ (i : grid0.Coords) (v119 : BitVec 32) (k0_t9 : Fin (k0_t9_loop v119).trips) (v234 : BitVec 32) (k0_hw133 : k0_chk133 i v119 k0_t9 v234), ∀ (k0_h66 : k0_cond66 v119 k0_t9 = 1#1), ∀ a, (k0_off138 i v234) a + S2048.size a ≤ S1677721600.size a := fun i v119 k0_t9 v234 k0_hw133 k0_h66 => k0_hw133.2 k0_h66

@[reducible] def k0_t10_loop (v67 : BitVec 32) : Scf.Loop 32 :=
  let c0_i32_109 : BitVec 32 := 0#32
  let c0_i32_103 : BitVec 32 := 0#32
  let v147 : BitVec 32 := Scalar.subi v67 c0_i32_103
  let c1_i32_104 : BitVec 32 := 1#32
  let c1_i32_105 : BitVec 32 := 1#32
  let v148 : BitVec 32 := Scalar.subi c1_i32_104 c1_i32_105
  let v149 : BitVec 32 := Scalar.addi v147 v148
  let c1_i32_106 : BitVec 32 := 1#32
  let v150 : BitVec 32 := Scalar.divsi v149 c1_i32_106
  let v151 : BitVec 32 := Scalar.subi v150 c0_i32_109
  let c1_i32_110 : BitVec 32 := 1#32
  let v153 : BitVec 32 := Scalar.divsi v151 c1_i32_110
  let v154 : BitVec 32 := Scalar.muli v153 c1_i32_110
  let v155 : BitVec 32 := Scalar.addi c0_i32_109 v154
  let c1_i32_111 : BitVec 32 := 1#32
  ⟨c0_i32_109, v155, c1_i32_111⟩
@[reducible] def k0_t11_loop (v67 : BitVec 32) : Scf.Loop 32 :=
  let c0_i32_109 : BitVec 32 := 0#32
  let c0_i32_103 : BitVec 32 := 0#32
  let v147 : BitVec 32 := Scalar.subi v67 c0_i32_103
  let c1_i32_104 : BitVec 32 := 1#32
  let c1_i32_105 : BitVec 32 := 1#32
  let v148 : BitVec 32 := Scalar.subi c1_i32_104 c1_i32_105
  let v149 : BitVec 32 := Scalar.addi v147 v148
  let c1_i32_106 : BitVec 32 := 1#32
  let v150 : BitVec 32 := Scalar.divsi v149 c1_i32_106
  let v151 : BitVec 32 := Scalar.subi v150 c0_i32_109
  let c1_i32_110 : BitVec 32 := 1#32
  let v153 : BitVec 32 := Scalar.divsi v151 c1_i32_110
  let v154 : BitVec 32 := Scalar.muli v153 c1_i32_110
  let v155 : BitVec 32 := Scalar.addi c0_i32_109 v154
  let v152 : BitVec 32 := Scalar.addi c0_i32_109 v151
  let c1_i32_112 : BitVec 32 := 1#32
  ⟨v155, v152, c1_i32_112⟩

def k0_chk2 (v67 : BitVec 32) : Prop :=
  ((k0_t3_loop v67).OK) ∧
  (∀ k0_t3 : Fin (k0_t3_loop v67).trips, 16 ∣ (k0_mult1 v67 k0_t3).toNat) ∧
  (∀ k0_t3 : Fin (k0_t3_loop v67).trips, ∀ a, (k0_off5 v67 k0_t3) a + S16.size a ≤ S2064.size a) ∧
  (∀ k0_t3 : Fin (k0_t3_loop v67).trips, 16 ∣ (k0_mult2 v67 k0_t3).toNat) ∧
  ((k0_t4_loop v67).OK) ∧
  (∀ k0_t4 : Fin (k0_t4_loop v67).trips, 16 ∣ (k0_mult35 v67 k0_t4).toNat) ∧
  (∀ k0_t4 : Fin (k0_t4_loop v67).trips, ∀ a, (k0_off38 v67 k0_t4) a + S16.size a ≤ S2064.size a) ∧
  (∀ k0_t4 : Fin (k0_t4_loop v67).trips, 16 ∣ (k0_mult36 v67 k0_t4).toNat) ∧
  ((k0_t10_loop v67).OK) ∧
  ((k0_t11_loop v67).OK)
theorem k0_t3_ok : ∀ (v67 : BitVec 32) (k0_hw2 : k0_chk2 v67), (k0_t3_loop v67).OK := fun v67 k0_hw2 => k0_hw2.1
theorem k0_mult1_dvd : ∀ (v67 : BitVec 32) (k0_hw2 : k0_chk2 v67) (k0_t3 : Fin (k0_t3_loop v67).trips), 16 ∣ (k0_mult1 v67 k0_t3).toNat := fun v67 k0_hw2 k0_t3 => k0_hw2.2.1 k0_t3
theorem k0_off5_inb : ∀ (v67 : BitVec 32) (k0_hw2 : k0_chk2 v67) (k0_t3 : Fin (k0_t3_loop v67).trips), ∀ a, (k0_off5 v67 k0_t3) a + S16.size a ≤ S2064.size a := fun v67 k0_hw2 k0_t3 => k0_hw2.2.2.1 k0_t3
theorem k0_mult2_dvd : ∀ (v67 : BitVec 32) (k0_hw2 : k0_chk2 v67) (k0_t3 : Fin (k0_t3_loop v67).trips), 16 ∣ (k0_mult2 v67 k0_t3).toNat := fun v67 k0_hw2 k0_t3 => k0_hw2.2.2.2.1 k0_t3
theorem k0_t4_ok : ∀ (v67 : BitVec 32) (k0_hw2 : k0_chk2 v67), (k0_t4_loop v67).OK := fun v67 k0_hw2 => k0_hw2.2.2.2.2.1
theorem k0_mult35_dvd : ∀ (v67 : BitVec 32) (k0_hw2 : k0_chk2 v67) (k0_t4 : Fin (k0_t4_loop v67).trips), 16 ∣ (k0_mult35 v67 k0_t4).toNat := fun v67 k0_hw2 k0_t4 => k0_hw2.2.2.2.2.2.1 k0_t4
theorem k0_off38_inb : ∀ (v67 : BitVec 32) (k0_hw2 : k0_chk2 v67) (k0_t4 : Fin (k0_t4_loop v67).trips), ∀ a, (k0_off38 v67 k0_t4) a + S16.size a ≤ S2064.size a := fun v67 k0_hw2 k0_t4 => k0_hw2.2.2.2.2.2.2.1 k0_t4
theorem k0_mult36_dvd : ∀ (v67 : BitVec 32) (k0_hw2 : k0_chk2 v67) (k0_t4 : Fin (k0_t4_loop v67).trips), 16 ∣ (k0_mult36 v67 k0_t4).toNat := fun v67 k0_hw2 k0_t4 => k0_hw2.2.2.2.2.2.2.2.1 k0_t4
theorem k0_t10_ok : ∀ (v67 : BitVec 32) (k0_hw2 : k0_chk2 v67), (k0_t10_loop v67).OK := fun v67 k0_hw2 => k0_hw2.2.2.2.2.2.2.2.2.1
theorem k0_t11_ok : ∀ (v67 : BitVec 32) (k0_hw2 : k0_chk2 v67), (k0_t11_loop v67).OK := fun v67 k0_hw2 => k0_hw2.2.2.2.2.2.2.2.2.2

@[reducible] def k0_t12_loop (v43 : BitVec 32) : Scf.Loop 32 :=
  let c0_i32_25 : BitVec 32 := 0#32
  let c0_i32_19 : BitVec 32 := 0#32
  let v44 : BitVec 32 := Scalar.subi v43 c0_i32_19
  let c1_i32_20 : BitVec 32 := 1#32
  let c1_i32_21 : BitVec 32 := 1#32
  let v45 : BitVec 32 := Scalar.subi c1_i32_20 c1_i32_21
  let v46 : BitVec 32 := Scalar.addi v44 v45
  let c1_i32_22 : BitVec 32 := 1#32
  let v47 : BitVec 32 := Scalar.divsi v46 c1_i32_22
  let v48 : BitVec 32 := Scalar.subi v47 c0_i32_25
  let c1_i32_26 : BitVec 32 := 1#32
  let v50 : BitVec 32 := Scalar.divsi v48 c1_i32_26
  let v51 : BitVec 32 := Scalar.muli v50 c1_i32_26
  let v52 : BitVec 32 := Scalar.addi c0_i32_25 v51
  let c1_i32_27 : BitVec 32 := 1#32
  ⟨c0_i32_25, v52, c1_i32_27⟩

@[reducible] def k0_t13_loop (v43 : BitVec 32) : Scf.Loop 32 :=
  let c0_i32_25 : BitVec 32 := 0#32
  let c0_i32_19 : BitVec 32 := 0#32
  let v44 : BitVec 32 := Scalar.subi v43 c0_i32_19
  let c1_i32_20 : BitVec 32 := 1#32
  let c1_i32_21 : BitVec 32 := 1#32
  let v45 : BitVec 32 := Scalar.subi c1_i32_20 c1_i32_21
  let v46 : BitVec 32 := Scalar.addi v44 v45
  let c1_i32_22 : BitVec 32 := 1#32
  let v47 : BitVec 32 := Scalar.divsi v46 c1_i32_22
  let v48 : BitVec 32 := Scalar.subi v47 c0_i32_25
  let c1_i32_26 : BitVec 32 := 1#32
  let v50 : BitVec 32 := Scalar.divsi v48 c1_i32_26
  let v51 : BitVec 32 := Scalar.muli v50 c1_i32_26
  let v52 : BitVec 32 := Scalar.addi c0_i32_25 v51
  let v49 : BitVec 32 := Scalar.addi c0_i32_25 v48
  let c1_i32_28 : BitVec 32 := 1#32
  ⟨v52, v49, c1_i32_28⟩

def k0_chk134 (v43 : BitVec 32) : Prop :=
  ((k0_t12_loop v43).OK) ∧
  ((k0_t13_loop v43).OK)
theorem k0_t12_ok : ∀ (v43 : BitVec 32) (k0_hw134 : k0_chk134 v43), (k0_t12_loop v43).OK := fun v43 k0_hw134 => k0_hw134.1
theorem k0_t13_ok : ∀ (v43 : BitVec 32) (k0_hw134 : k0_chk134 v43), (k0_t13_loop v43).OK := fun v43 k0_hw134 => k0_hw134.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4096x200 : Shape := ⟨2, ![4096, 200]⟩
abbrev S200x2048 : Shape := ⟨2, ![200, 2048]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x2048 : Shape := ⟨3, ![4096, 200, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S200x2048, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x2048, .f32⟩
  | .hbm, ⟨21, _⟩ => ⟨S4096x200x2048, .i1⟩
  | .hbm, ⟨22, _⟩ => ⟨S_, .f32⟩
  | .hbm, ⟨23, _⟩ => ⟨S4096x200x2048, .f32⟩
  | .hbm, ⟨24, _⟩ => ⟨S4096x200x2048, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Words.lean ====
/-
  Arithmetic of the compaction. A tile's group of the index list is a sequence of words `iw`; a word is a HIT of the
  tile's part when it lies in the fifty table rows that start at `lo`. This module states, over plain words, what the
  prefix sum, the prefix maximum and the masked scatter of one vector of sixteen words leave.
-/
module

public import Idealize.ShloMosaic.Lib.Tactic
public import Mathlib.Data.Nat.Count

@[expose] public section

noncomputable section

namespace Cert.Proof.Words

open Idealize.ShloMosaic

/-- The index of a rank-one shape at position `k`. -/
def ix1 {N : ℕ} (k : ℕ) (h : k < N) : (⟨1, ![N]⟩ : Shape).Idx :=
  fun a => ⟨k, by obtain rfl : a = 0 := Subsingleton.elim _ _; exact h⟩

/-- The coordinate of the rank-1 index at `k` is `k`. -/
theorem ix1_val {N : ℕ} (k : ℕ) (h : k < N) (a : Fin 1) : (ix1 (N := N) k h a).val = k := rfl

/-- Rank-1 indices with one coordinate are equal. -/
theorem idx1_ext {N : ℕ} {x y : (⟨1, ![N]⟩ : Shape).Idx} (h : (x 0).val = (y 0).val) : x = y := by
  funext a; obtain rfl : a = 0 := Subsingleton.elim _ _; exact Fin.ext h

/-! ## Hits and their count -/

/-- Word `p` of the group names one of the fifty table rows that start at `lo`. -/
def hit (iw : ℕ → BitVec 32) (lo : BitVec 32) (p : ℕ) : Prop := (iw p - lo).toNat < 50

instance (iw : ℕ → BitVec 32) (lo : BitVec 32) : DecidablePred (hit iw lo) := fun p => by unfold hit; infer_instance

/-- The number of hits before word `p`. -/
def cnt (iw : ℕ → BitVec 32) (lo : BitVec 32) (p : ℕ) : ℕ := Nat.count (hit iw lo) p

/-- The place of hit number `t`. -/
def pos (iw : ℕ → BitVec 32) (lo : BitVec 32) (t : ℕ) : ℕ := Classical.epsilon fun p => hit iw lo p ∧ cnt iw lo p = t

section
variable (iw : ℕ → BitVec 32) (lo : BitVec 32)

/-- The count of hits is monotone. -/
theorem cnt_mono {a b : ℕ} (h : a ≤ b) : cnt iw lo a ≤ cnt iw lo b := Nat.count_monotone _ h

/-- No hit lies before position zero. -/
theorem cnt_zero : cnt iw lo 0 = 0 := Nat.count_zero _

/-- The count grows by one at a hit and stays otherwise. -/
theorem cnt_succ (a : ℕ) : cnt iw lo (a + 1) = cnt iw lo a + if hit iw lo a then 1 else 0 := Nat.count_succ _ _

/-- Over `b` positions the count grows by at most `b`. -/
theorem cnt_le_add (a b : ℕ) : cnt iw lo (a + b) ≤ cnt iw lo a + b := by
  induction b with
  | zero => simp
  | succ b ih => rw [← Nat.add_assoc, cnt_succ]; split <;> omega

/-- There are at most as many hits as positions. -/
theorem cnt_le (a : ℕ) : cnt iw lo a ≤ a := Nat.count_le _

/-- The count grows strictly past a hit. -/
theorem cnt_lt {p a : ℕ} (hp : hit iw lo p) (h : p < a) : cnt iw lo p < cnt iw lo a := Nat.count_strict_mono hp h

/-- Two hits with the same count before them are one. -/
theorem cnt_inj {p q : ℕ} (hp : hit iw lo p) (hq : hit iw lo q) (h : cnt iw lo p = cnt iw lo q) : p = q :=
  Nat.count_injective hp hq h

/-- The hit numbered by its own count is itself. -/
theorem pos_cnt {p : ℕ} (hp : hit iw lo p) : pos iw lo (cnt iw lo p) = p :=
  have h := Classical.epsilon_spec (p := fun q => hit iw lo q ∧ cnt iw lo q = cnt iw lo p) ⟨p, hp, rfl⟩
  cnt_inj iw lo h.1 hp h.2

/-- Every number between two counts is the count before some hit between the two places. -/
theorem exists_hit {a b t : ℕ} (ha : cnt iw lo a ≤ t) (hb : t < cnt iw lo b) (hab : a ≤ b) :
    ∃ p, a ≤ p ∧ p < b ∧ hit iw lo p ∧ cnt iw lo p = t := by
  induction b, hab using Nat.le_induction with
  | base => omega
  | succ b hab ih =>
    by_cases h : t < cnt iw lo b
    · obtain ⟨p, h1, h2, h3, h4⟩ := ih h
      exact ⟨p, h1, by omega, h3, h4⟩
    · rw [cnt_succ] at hb
      by_cases hh : hit iw lo b
      · rw [if_pos hh] at hb; exact ⟨b, hab, by omega, hh, by omega⟩
      · rw [if_neg hh] at hb; omega

/-- The `t`-th hit is a hit, with `t` hits before it. -/
theorem pos_spec {b t : ℕ} (hb : t < cnt iw lo b) : pos iw lo t < b ∧ hit iw lo (pos iw lo t) ∧ cnt iw lo (pos iw lo t) = t := by
  obtain ⟨p, -, h2, h3, h4⟩ := exists_hit iw lo (a := 0) (by rw [cnt_zero]; omega) hb (Nat.zero_le _)
  have : pos iw lo t = p := by rw [← h4]; exact pos_cnt iw lo h3
  rw [this]; exact ⟨h2, h3, h4⟩

/-- The hits among the first `j + 1` words after `base`, as a sum of ones and zeros. -/
theorem cnt_add_sum (base j : ℕ) :
    ((∑ k ∈ Finset.range j, if hit iw lo (base + k) then (1 : ℕ) else 0)) = cnt iw lo (base + j) - cnt iw lo base := by
  induction j with
  | zero => simp
  | succ j ih =>
    rw [Finset.sum_range_succ, ih, ← Nat.add_assoc, cnt_succ]
    have := cnt_mono iw lo (Nat.le_add_right base j)
    split <;> omega

end

/-! ## The scans of one vector -/

/-- A fold of wrapping additions is the start plus the sum over the list. -/
theorem foldl_addi {α : Type} (g : α → BitVec 32) (l : List α) (r : BitVec 32) :
    l.foldl (fun r k => ScanKind.step .sum r (g k)) r = r + (l.map g).sum := by
  induction l generalizing r with
  | nil => simp
  | cons a l ih =>
    rw [List.foldl_cons, ih, List.map_cons, List.sum_cons]
    show (r + g a) + _ = _
    rw [BitVec.add_assoc]

/-- A fold of unsigned maxima that starts at or below a member of the list which bounds the list is that member. -/
theorem foldl_maxui {α : Type} (g : α → BitVec 32) (l : List α) (r b : BitVec 32) (hr : r.toNat ≤ b.toNat)
    (hl : ∀ k ∈ l, (g k).toNat ≤ b.toNat) (hb : r = b ∨ ∃ k ∈ l, g k = b) :
    l.foldl (fun r k => ScanKind.step .max r (g k)) r = b := by
  induction l generalizing r with
  | nil => rcases hb with h | ⟨k, hk, -⟩; exacts [h, absurd hk (by simp)]
  | cons a l ih =>
    rw [List.foldl_cons]
    have ha := hl a (by simp)
    have hs : ScanKind.step .max r (g a) = r ∨ ScanKind.step .max r (g a) = g a := by
      show IntOp.maxui r (g a) = r ∨ IntOp.maxui r (g a) = g a
      unfold IntOp.maxui; split <;> simp
    have hge : r.toNat ≤ (ScanKind.step .max r (g a)).toNat ∧ (g a).toNat ≤ (ScanKind.step .max r (g a)).toNat := by
      show r.toNat ≤ (IntOp.maxui r (g a)).toNat ∧ (g a).toNat ≤ (IntOp.maxui r (g a)).toNat
      unfold IntOp.maxui; split <;> rename_i h <;> simp [BitVec.ult, BitVec.ule] at h ⊢ <;> omega
    refine ih _ ?_ (fun k hk => hl k (by simp [hk])) ?_
    · rcases hs with h | h <;> rw [h] <;> assumption
    · rcases hb with h | ⟨k, hk, h⟩
      · left; apply BitVec.eq_of_toNat_eq
        subst h
        rcases hs with h | h <;> rw [h] at hge ⊢; omega
      · rcases List.mem_cons.mp hk with rfl | hk
        · left; apply BitVec.eq_of_toNat_eq
          subst h
          rcases hs with h | h <;> rw [h] at hge ⊢; omega
        · exact .inr ⟨k, hk, h⟩

/-- Lane `k` of a vector of sixteen. -/
abbrev lane (k : Fin 16) : (⟨1, ![16]⟩ : Shape).Idx := Shape.ofLane (d := ![16]) k

/-- A rank-1 index is the lane of its coordinate. -/
theorem lane_zero (x : (⟨1, ![16]⟩ : Shape).Idx) : lane (x 0) = x := idx1_ext rfl

/-- The lanes from one up to `j`. -/
theorem filter_lanes : ∀ j : Fin 16,
    ((List.finRange 16).filter fun k => decide (0 < k.val ∧ k.val ≤ j.val)).map Fin.val = List.range' 1 j.val := by decide

/-- The lanes from one up to `j` are at most `j`. -/
theorem mem_lanes (j k : Fin 16) (h : k ∈ (List.finRange 16).filter fun k => decide (0 < k.val ∧ k.val ≤ j.val)) : k.val ≤ j.val := by
  simp only [List.mem_filter, decide_eq_true_eq] at h; exact h.2.2

section
variable (iw : ℕ → BitVec 32) (lo : BitVec 32) (base : ℕ)

/-- The mark of word `base + k`: one at a hit, zero elsewhere. -/
def mark (k : ℕ) : BitVec 32 := if hit iw lo (base + k) then 1#32 else 0#32

/-- The sum of `n` marks is the number of hits among them. -/
theorem sum_marks (n : ℕ) : ((List.range n).map (mark iw lo base)).sum = BitVec.ofNat 32 (cnt iw lo (base + n) - cnt iw lo base) := by
  induction n with
  | zero => simp
  | succ n ih =>
    rw [List.range_succ, List.map_append, List.sum_append, ih, ← Nat.add_assoc, cnt_succ]
    have := cnt_mono iw lo (Nat.le_add_right base n)
    simp only [List.map_cons, List.map_nil, List.sum_cons, List.sum_nil, mark]
    split
    · rw [show cnt iw lo (base + n) + 1 - cnt iw lo base = cnt iw lo (base + n) - cnt iw lo base + 1 by omega, BitVec.ofNat_add]; simp
    · simp

variable {v : IVec ⟨1, ![16]⟩ 32}

/-- The prefix sum of the marks at lane `j` counts the hits up to lane `j`. -/
theorem scan_sum_marks (hv : ∀ k : Fin 16, v (lane k) = mark iw lo base k) (j : Fin 16) :
    scan .sum v (lane j) = BitVec.ofNat 32 (cnt iw lo (base + (j.val + 1)) - cnt iw lo base) := by
  have h : scan .sum v (lane j) = ((List.finRange 16).filter fun k => decide (0 < k.val ∧ k.val ≤ j.val)).foldl
      (fun r k => ScanKind.step .sum r (mark iw lo base k.val)) (mark iw lo base 0) := by
    show List.foldl (fun r k => ScanKind.step .sum r (v (lane k))) (v (lane 0)) _ = _
    simp only [hv]; rfl
  rw [h, foldl_addi (fun k : Fin 16 => mark iw lo base k.val), ← sum_marks, List.range_eq_range', List.range'_succ, List.map_cons, List.sum_cons,
    Nat.zero_add, ← filter_lanes, List.map_map]
  rfl

/-- The prefix maximum, read with the sign bit flipped before and after, of words that do not decrease and lie
    below `2 ^ 31`, is the last word. -/
theorem scan_max_last {u : IVec ⟨1, ![16]⟩ 32} (hlt : ∀ k : Fin 16, (u (lane k)).toNat < 2 ^ 31)
    (hmono : ∀ k : Fin 16, (u (lane k)).toNat ≤ (u (lane 15)).toNat) :
    scan .max (fun x => u x ^^^ 2147483648#32) (lane 15) ^^^ 2147483648#32 = u (lane 15) := by
  have key : ∀ w : BitVec 32, w.toNat < 2 ^ 31 → (w ^^^ 2147483648#32).toNat = w.toNat + 2 ^ 31 := by
    intro w hw
    have hb : ∀ i, i < 32 → (w.getLsbD i && (2147483648#32).getLsbD i) = false := by
      intro i hi
      by_cases h : i = 31
      · subst h
        have : w.getLsbD 31 = false := by
          rw [← BitVec.msb_eq_getLsbD_last, BitVec.msb_eq_false_iff_two_mul_lt]; omega
        rw [this]; simp
      · have : (2147483648#32).getLsbD i = false := by
          revert h; revert i; decide
        rw [this]; simp
    have : w ^^^ 2147483648#32 = w + 2147483648#32 := by
      rw [BitVec.add_eq_or_of_and_eq_zero]
      · apply BitVec.eq_of_getLsbD_eq
        intro i hi
        have := hb i hi
        rw [BitVec.getLsbD_xor, BitVec.getLsbD_or]
        revert this; cases w.getLsbD i <;> cases (2147483648#32).getLsbD i <;> simp
      · apply BitVec.eq_of_getLsbD_eq
        intro i hi
        rw [BitVec.getLsbD_and, hb i hi]; simp
    rw [this, BitVec.toNat_add]; simp; omega
  have h : scan .max (fun x => u x ^^^ 2147483648#32) (lane 15) = u (lane 15) ^^^ 2147483648#32 := by
    show List.foldl (fun r k => ScanKind.step .max r (u (lane k) ^^^ 2147483648#32)) (u (lane 0) ^^^ 2147483648#32)
      ((List.finRange 16).filter fun k => decide (0 < k.val ∧ k.val ≤ (15 : Fin 16).val)) = _
    refine foldl_maxui (fun k : Fin 16 => u (lane k) ^^^ 2147483648#32) _ _ _ ?_ ?_ (.inr ⟨15, by decide, rfl⟩)
    · rw [key _ (hlt _), key _ (hlt _)]; have := hmono 0; omega
    · intro k _; rw [key _ (hlt _), key _ (hlt _)]; have := hmono k; omega
  rw [h, BitVec.xor_assoc]; simp

end

/-! ## The masked scatter of one vector -/

section Scatter
variable {F : FTy → Type} [FloatOps F]

/-- One lane's store of the scatter. -/
abbrev put {N : ℕ} (dest v : Fin 16 → BitVec 32) (on : Fin 16 → Prop) [DecidablePred on] (g : (⟨1, ![N]⟩ : Shape).Idx → BitVec 32) (k : Fin 16) :
    (⟨1, ![N]⟩ : Shape).Idx → BitVec 32 :=
  if on k then fun j => if (j 0).val = (dest k).toNat then v k else g j else g

/-- A masked store leaves an element that no lane names. -/
theorem foldl_put_off {N : ℕ} (dest v : Fin 16 → BitVec 32) (on : Fin 16 → Prop) [DecidablePred on] (l : List (Fin 16)) (j : (⟨1, ![N]⟩ : Shape).Idx)
    (h : ∀ k ∈ l, on k → (j 0).val ≠ (dest k).toNat) (g : (⟨1, ![N]⟩ : Shape).Idx → BitVec 32) : l.foldl (put dest v on) g j = g j := by
  induction l generalizing g with
  | nil => rfl
  | cons a l ih =>
    rw [List.foldl_cons, ih fun k hk => h k (by simp [hk])]
    unfold put
    by_cases ha : on a
    · rw [if_pos ha, if_neg (h a (by simp) ha)]
    · rw [if_neg ha]

/-- A masked store puts the value of the one lane that names an element. -/
theorem foldl_put_on {N : ℕ} (dest v : Fin 16 → BitVec 32) (on : Fin 16 → Prop) [DecidablePred on] (l : List (Fin 16)) (j : (⟨1, ![N]⟩ : Shape).Idx)
    (k : Fin 16) (hk : k ∈ l) (hon : on k) (hj : (j 0).val = (dest k).toNat)
    (h : ∀ k' ∈ l, on k' → (j 0).val = (dest k').toNat → k' = k) (g : (⟨1, ![N]⟩ : Shape).Idx → BitVec 32) :
    l.foldl (put dest v on) g j = v k := by
  induction l generalizing g with
  | nil => simp at hk
  | cons a l ih =>
    rw [List.foldl_cons]
    by_cases hkl : k ∈ l
    · exact ih hkl (fun k' hk' => h k' (by simp [hk'])) _
    · obtain rfl : k = a := by rcases List.mem_cons.mp hk with h | h; exacts [h, absurd h hkl]
      rw [foldl_put_off dest v on l j fun k' hk' hon' he => hkl (h k' (by simp [hk']) hon' he ▸ hk')]
      unfold put; rw [if_pos hon, if_pos hj]

/-- The masked scatter of a vector of sixteen, as a fold over its lanes. -/
theorem storeIdx_eq {N : ℕ} (f : Vec F ⟨1, ![N]⟩ .i32) (dest v : IVec ⟨1, ![16]⟩ 32) (mask : IVec ⟨1, ![16]⟩ 1)
    (h : ∀ a x, ((![dest] : Fin 1 → IVec ⟨1, ![16]⟩ 32) a x).toNat < (⟨1, ![N]⟩ : Shape).size a) :
    storeIdx (F := F) (e := .i32) f ![dest] v mask false h
      = (List.finRange 16).foldl (put (fun k => dest (lane k)) (fun k => v (lane k)) (fun k => mask (lane k) = 1)) f := by
  unfold storeIdx
  show List.foldl _ f (List.finRange 16) = _
  congr 1
  funext g k
  unfold put
  simp only [Bool.false_eq_true, if_false]
  split
  · funext j
    by_cases hj : (j 0).val = (dest (lane k)).toNat
    · rw [if_pos hj, if_pos fun a => by obtain rfl : a = 0 := Subsingleton.elim _ _; exact hj]
    · rw [if_neg hj, if_neg fun hh => hj (hh 0)]
  · rfl

/-- What a list of hits' data holds: datum `val p` of every hit `p` from word `s` up to word `b`, at place
    `cnt p - cnt s`. -/
def Holds {N : ℕ} (iw : ℕ → BitVec 32) (lo : BitVec 32) (val : ℕ → BitVec 32) (s b : ℕ) (f : (⟨1, ![N]⟩ : Shape).Idx → BitVec 32) : Prop :=
  ∀ p, s ≤ p → p < b → hit iw lo p → ∀ h : cnt iw lo p - cnt iw lo s < N, f (ix1 (cnt iw lo p - cnt iw lo s) h) = val p

/-- Nothing is listed at the start. -/
theorem Holds.init {N : ℕ} (iw : ℕ → BitVec 32) (lo : BitVec 32) (val : ℕ → BitVec 32) (s : ℕ) (f : (⟨1, ![N]⟩ : Shape).Idx → BitVec 32) :
    Holds iw lo val s s f := fun p h1 h2 => by omega

/-- One vector's scatter carries the list from word `b` to word `b + 16`. -/
theorem Holds.scatter {N : ℕ} {iw : ℕ → BitVec 32} {lo : BitVec 32} {val : ℕ → BitVec 32} {s b : ℕ} {f : Vec F ⟨1, ![N]⟩ .i32}
    (hf : Holds iw lo val s b f) (hsb : s ≤ b) (hN : b + 16 - s ≤ N) (hN' : N < 2 ^ 32) {dest v : IVec ⟨1, ![16]⟩ 32} {mask : IVec ⟨1, ![16]⟩ 1}
    (h : ∀ a x, ((![dest] : Fin 1 → IVec ⟨1, ![16]⟩ 32) a x).toNat < (⟨1, ![N]⟩ : Shape).size a)
    (hd : ∀ k : Fin 16, dest (lane k) = BitVec.ofNat 32 (cnt iw lo (b + k) - cnt iw lo s))
    (hv : ∀ k : Fin 16, hit iw lo (b + k) → v (lane k) = val (b + k)) (hm : ∀ k : Fin 16, mask (lane k) = 1 ↔ hit iw lo (b + k)) :
    Holds iw lo val s (b + 16) (storeIdx (F := F) (e := .i32) f ![dest] v mask false h) := by
  have hdn : ∀ k : Fin 16, (dest (lane k)).toNat = cnt iw lo (b + k) - cnt iw lo s := by
    intro k
    rw [hd, BitVec.toNat_ofNat, Nat.mod_eq_of_lt]
    have h1 := cnt_le_add iw lo s (b + k - s)
    rw [show s + (b + k.val - s) = b + k by omega] at h1
    have := k.isLt; omega
  intro p h1 h2 h3 h4
  rw [storeIdx_eq]
  by_cases hpb : p < b
  · rw [foldl_put_off]
    · exact hf p h1 hpb h3 h4
    · intro k _ hk he
      rw [hdn, ix1_val] at he
      have e1 := cnt_lt iw lo h3 hpb
      have e2 := cnt_mono iw lo (Nat.le_add_right b k)
      have e3 := cnt_mono iw lo h1
      omega
  · obtain ⟨k, rfl⟩ : ∃ k : Fin 16, p = b + k := ⟨⟨p - b, by omega⟩, by simp; omega⟩
    rw [foldl_put_on _ _ _ _ _ k (List.mem_finRange k) ((hm k).mpr h3) (by rw [hdn, ix1_val])]
    · exact hv k h3
    · intro k' _ hk' he
      rw [hdn, ix1_val] at he
      have e3 := cnt_mono iw lo h1
      have e4 := cnt_mono iw lo (show s ≤ b + k' by omega)
      have := cnt_inj iw lo ((hm k').mp hk') h3 (by omega)
      exact Fin.ext (by omega)

end Scatter

end Cert.Proof.Words

end
-- ==== Proof.Vectors.lean ====
/-
  What the printed payloads of one scan step, the loops' bounds and the tile's two base words are, in closed form.
-/
module

public import proofs.«01_k».proof.Proof.Words
public import proofs.«01_k».proof.Proof.Gen.KernelIdeal.Skeleton

@[expose] public section

noncomputable section

namespace Cert.Proof.Vectors

open Cert.KernelIdeal Cert.KernelIdeal.Gen
open Idealize.ShloMosaic
open Cert.Proof.Words

variable {F : FTy → Type} [FloatOps F]

/-! ## Loop bounds -/

/-- A loop from zero to `n` by one has `n` trips. -/
theorem loop_trips {n : ℕ} (h : n < 2 ^ 31) : Scf.trips 0#32 (BitVec.ofNat 32 n) 1#32 = n := by
  unfold Scf.trips
  have : (BitVec.ofNat 32 n).toInt = n := by
    rw [BitVec.toInt_ofNat', Int.bmod_eq_of_le] <;> omega
  rw [this]; simp

/-- A loop from zero to `n` by one is well formed. -/
theorem loop_ok {n : ℕ} (h : n < 2 ^ 31) : Scf.OK 0#32 (BitVec.ofNat 32 n) 1#32 := by
  unfold Scf.OK
  rw [loop_trips h]; simp; omega

/-- A loop from a bound to itself has no trips. -/
theorem dead_trips {x : BitVec 32} : Scf.trips x x 1#32 = 0 := by
  unfold Scf.trips; simp

/-- A loop from a bound to itself is well formed. -/
theorem dead_ok {x : BitVec 32} : Scf.OK x x 1#32 := by
  unfold Scf.OK
  rw [dead_trips]; simp
  have := BitVec.toInt_lt (x := x); simpa using this

/-- The firing loop over `m` hits makes one trip for every sixteen of them, rounded up. -/
theorem t3_ub : ∀ m : Fin 2049, (k0_t3_loop (BitVec.ofNat 32 m)).ub = BitVec.ofNat 32 ((m.val + 15) / 16) := by decide +kernel
/-- With `m` hits in the block, loop 3 runs from zero to the number of groups of sixteen. -/
theorem t3_loop (m : Fin 2049) : k0_t3_loop (BitVec.ofNat 32 m) = ⟨0#32, BitVec.ofNat 32 ((m.val + 15) / 16), 1#32⟩ :=
  congrArg (fun u => (⟨0#32, u, 1#32⟩ : Scf.Loop 32)) (t3_ub m)
/-- With `m` hits in the block, loop 8 runs from zero to the number of groups of sixteen. -/
theorem t8_loop (m : Fin 2049) : k0_t8_loop (BitVec.ofNat 32 m) = ⟨0#32, BitVec.ofNat 32 ((m.val + 15) / 16), 1#32⟩ := t3_loop m
/-- Its remainder loop makes none. -/
theorem t4_ub : ∀ m : Fin 2049, (k0_t4_loop (BitVec.ofNat 32 m)).ub = BitVec.ofNat 32 ((m.val + 15) / 16) := by decide +kernel
/-- With `m` hits in the block, loop 4 runs from the number of groups to itself. -/
theorem t4_loop (m : Fin 2049) : k0_t4_loop (BitVec.ofNat 32 m) = ⟨BitVec.ofNat 32 ((m.val + 15) / 16), BitVec.ofNat 32 ((m.val + 15) / 16), 1#32⟩ :=
  (congrArg (fun l => (⟨l, (k0_t4_loop (BitVec.ofNat 32 m)).ub, 1#32⟩ : Scf.Loop 32)) (t3_ub m)).trans
    (congrArg (fun u => (⟨BitVec.ofNat 32 ((m.val + 15) / 16), u, 1#32⟩ : Scf.Loop 32)) (t4_ub m))
/-- With `m` hits in the block, loop 9 runs from the number of groups to itself. -/
theorem t9_loop (m : Fin 2049) : k0_t9_loop (BitVec.ofNat 32 m) = ⟨BitVec.ofNat 32 ((m.val + 15) / 16), BitVec.ofNat 32 ((m.val + 15) / 16), 1#32⟩ := t4_loop m
/-- A draining loop over `m` copies makes `m` trips. -/
theorem t5_ub : ∀ m : Fin 2049, (k0_t5_loop (BitVec.ofNat 32 m)).ub = BitVec.ofNat 32 m := by decide +kernel
/-- With `m` hits in the block, loop 5 runs from zero to `m`. -/
theorem t5_loop (m : Fin 2049) : k0_t5_loop (BitVec.ofNat 32 m) = ⟨0#32, BitVec.ofNat 32 m, 1#32⟩ :=
  congrArg (fun u => (⟨0#32, u, 1#32⟩ : Scf.Loop 32)) (t5_ub m)
/-- With `m` hits in the block, loop 10 runs from zero to `m`. -/
theorem t10_loop (m : Fin 2049) : k0_t10_loop (BitVec.ofNat 32 m) = ⟨0#32, BitVec.ofNat 32 m, 1#32⟩ := t5_loop m
/-- With `m` hits in the block, loop 12 runs from zero to `m`. -/
theorem t12_loop (m : Fin 2049) : k0_t12_loop (BitVec.ofNat 32 m) = ⟨0#32, BitVec.ofNat 32 m, 1#32⟩ := t5_loop m
/-- Loop 6 has no trips. -/
theorem t6_trips (m : Fin 2049) : (k0_t6_loop (BitVec.ofNat 32 m)).trips = 0 := Nat.le_zero.mp (k0_t6_abs _).2.1
/-- Loop 11 has no trips. -/
theorem t11_trips (m : Fin 2049) : (k0_t11_loop (BitVec.ofNat 32 m)).trips = 0 := Nat.le_zero.mp (k0_t6_abs _).2.1
/-- Loop 13 has no trips. -/
theorem t13_trips (m : Fin 2049) : (k0_t13_loop (BitVec.ofNat 32 m)).trips = 0 := Nat.le_zero.mp (k0_t13_abs _).2.1

/-- Loop 3 has one trip per group of sixteen hits. -/
theorem t3_trips (m : Fin 2049) : (k0_t3_loop (BitVec.ofNat 32 m)).trips = (m.val + 15) / 16 := by
  show Scf.trips _ _ _ = _; rw [t3_loop]; exact loop_trips (by have := m.isLt; omega)
/-- Loop 8 has one trip per group of sixteen hits. -/
theorem t8_trips (m : Fin 2049) : (k0_t8_loop (BitVec.ofNat 32 m)).trips = (m.val + 15) / 16 := t3_trips m
/-- Loop 4 has no trips. -/
theorem t4_trips (m : Fin 2049) : (k0_t4_loop (BitVec.ofNat 32 m)).trips = 0 := by
  show Scf.trips _ _ _ = _; rw [t4_loop]; exact dead_trips
/-- Loop 9 has no trips. -/
theorem t9_trips (m : Fin 2049) : (k0_t9_loop (BitVec.ofNat 32 m)).trips = 0 := t4_trips m
/-- Loop 5 has one trip per hit. -/
theorem t5_trips (m : Fin 2049) : (k0_t5_loop (BitVec.ofNat 32 m)).trips = m := by
  show Scf.trips _ _ _ = _; rw [t5_loop]; exact loop_trips (by have := m.isLt; omega)
/-- Loop 10 has one trip per hit. -/
theorem t10_trips (m : Fin 2049) : (k0_t10_loop (BitVec.ofNat 32 m)).trips = m := t5_trips m
/-- Loop 12 has one trip per hit. -/
theorem t12_trips (m : Fin 2049) : (k0_t12_loop (BitVec.ofNat 32 m)).trips = m := t5_trips m

/-- Loop 1 has 25 trips. -/
theorem t1_trips : k0_t1_loop.trips = 25 := by decide +kernel
/-- Loop 2 has 128 trips. -/
theorem t2_trips : k0_t2_loop.trips = 128 := by decide +kernel
/-- Loop 7 has 128 trips. -/
theorem t7_trips : k0_t7_loop.trips = 128 := by decide +kernel

/-- The loads of a firing trip start at sixteen times the trip. -/
theorem off5 (m : Fin 2049) (g : Fin (k0_t3_loop (BitVec.ofNat 32 m)).trips) : k0_off5 _ g = ![16 * g.val] := by
  have hg : g.val < 129 := by have := Nat.lt_of_lt_of_eq g.isLt (t3_trips m); have := m.isLt; omega
  have key : ∀ k : Fin 129, (Scalar.indexCast (Scalar.muli (Scalar.addi 0#32 (Scalar.muli (Scf.iv 0#32 1#32 k.val) 1#32)) 16#32)).toNat = 16 * k.val := by
    decide +kernel
  unfold k0_off5
  exact congrArg (fun n => (![n] : Fin 1 → ℕ)) (key ⟨g.val, hg⟩)

/-- Group `g` of the odd block reads the lists from entry `16 g`. -/
theorem off73 (m : Fin 2049) (g : Fin (k0_t8_loop (BitVec.ofNat 32 m)).trips) : k0_off73 _ g = ![16 * g.val] := off5 m g

/-- The side condition assumed of the number of hits of an even block holds of every number a block can give. -/
theorem chk2 (m : Fin 2049) : k0_chk2 (BitVec.ofNat 32 m) := by
  have hd : ∀ n : ℕ, ∀ f : Fin n → Prop, n = 0 → ∀ t, f t := fun n f h t => absurd t.isLt (by omega)
  have hb : ∀ g : Fin (k0_t3_loop (BitVec.ofNat 32 m)).trips, 16 * g.val + 16 ≤ 2064 := by
    intro g; have := Nat.lt_of_lt_of_eq g.isLt (t3_trips m); have := m.isLt; omega
  have hm : ∀ g : Fin (k0_t3_loop (BitVec.ofNat 32 m)).trips, 16 ∣ (k0_mult1 _ g).toNat := by
    intro g
    have h := congrFun (off5 m g) 0
    exact ⟨g.val, h⟩
  refine ⟨?_, hm, ?_, hm, ?_, hd _ _ (t4_trips m), hd _ _ (t4_trips m), hd _ _ (t4_trips m), ?_, ?_⟩
  · show Scf.OK _ _ _; rw [t3_loop]; exact loop_ok (by have := m.isLt; omega)
  · intro g a
    rw [off5]
    obtain rfl : a = 0 := Subsingleton.elim _ _
    exact hb g
  · show Scf.OK _ _ _; rw [t4_loop]; exact dead_ok
  · show Scf.OK _ _ _; exact (k0_t5_abs _).1
  · show Scf.OK _ _ _; exact (k0_t6_abs _).1

/-- The odd block's side conditions hold for any count. -/
theorem chk69 (m : Fin 2049) : k0_chk69 (BitVec.ofNat 32 m) := ⟨(chk2 m).1, (chk2 m).2.1, (chk2 m).2.2.1, (chk2 m).2.2.2.1, (chk2 m).2.2.2.2.1, (chk2 m).2.2.2.2.2.1, (chk2 m).2.2.2.2.2.2.1, (chk2 m).2.2.2.2.2.2.2.1⟩

/-- A next block is prefetched from the even block always, from the odd block unless it is the last. -/
theorem cond1 : ∀ t : Fin k0_t1_loop.trips, k0_cond1 t = 1#1 := by decide +kernel
/-- The next even block is fetched in every trip but the last, the 25th. -/
theorem cond34 : ∀ t : Fin k0_t1_loop.trips, k0_cond34 t = 1#1 ↔ t.val < 24 := by decide +kernel

/-! ## The scan step -/

/-- The element of a block's row that lane `k` of its vector reads. -/
def ix2 (k : Fin 16) : S1x16.Idx := fun a => match a with | 0 => (0 : Fin 1) | 1 => k

/-- Lane `k` of sixteen is column `k` of the one row loaded. -/
theorem lane_row : ∀ k : Fin 16, Shape.reshapeEquiv shapeCasts_S1x16_S16 (lane k) = ix2 k := by
  intro k; funext a; revert a k; decide +kernel

/-- The difference of a loaded word and the part's first row. -/
theorem pay125 (v29 : BitVec 32) (ld : Vec F S1x16 .i32) (k : Fin 16) :
    k0_pay125 (F := F) v29 ld (lane k) = (show BitVec 32 from ld (ix2 k)) - v29 := by
  show (show BitVec 32 from ld (Shape.reshapeEquiv shapeCasts_S1x16_S16 (lane k))) - v29 = _
  rw [lane_row]

/-- A word lies in `[0, 50)` signed exactly when it lies below fifty unsigned. -/
theorem range_iff (w : BitVec 32) : IntOp.andi (IntOp.cmpi .sge w 0#32) (IntOp.cmpi .slt w 50#32) = 1#1 ↔ w.toNat < 50 := by
  have h1 : (IntOp.andi (IntOp.cmpi .sge w 0#32) (IntOp.cmpi .slt w 50#32) = 1#1) ↔ ((0#32).sle w = true ∧ w.slt 50#32 = true) := by
    show (BitVec.ofBool ((0#32).sle w) &&& BitVec.ofBool (w.slt 50#32)) = 1#1 ↔ _
    cases (0#32).sle w <;> cases w.slt 50#32 <;> decide
  rw [h1, BitVec.sle_iff_toInt_le, BitVec.slt_iff_toInt_lt]
  rw [show (0#32 : BitVec 32).toInt = 0 by decide, show (50#32 : BitVec 32).toInt = 50 by decide, BitVec.toInt_eq_toNat_cond]
  have := w.isLt
  split <;> omega

section
variable (iw : ℕ → BitVec 32) (v29 : BitVec 32) (base s : ℕ) (ld : Vec F S1x16 .i32) (m : BitVec 32)

/-- The mask is set at a lane exactly when the lane's word is a hit. -/
theorem pay126 (hld : ∀ k : Fin 16, ld (ix2 k) = iw (base + k)) (k : Fin 16) :
    k0_pay126 (F := F) v29 ld (lane k) = 1 ↔ hit iw v29 (base + k) := by
  have := range_iff (k0_pay125 (F := F) v29 ld (lane k))
  rw [pay125, hld] at this
  rw [hit, ← this, ← hld, ← pay125]
  rfl

/-- The mask widened to a word is the lane's mark, one at a hit and zero elsewhere. -/
theorem pay127 (hld : ∀ k : Fin 16, ld (ix2 k) = iw (base + k)) (k : Fin 16) :
    k0_pay127 (F := F) v29 ld (lane k) = mark iw v29 base k := by
  have h := pay126 iw v29 base ld hld k
  show (k0_pay126 (F := F) v29 ld (lane k)).setWidth 32 = _
  unfold mark
  generalize k0_pay126 (F := F) v29 ld (lane k) = w at h
  have hw : ∀ w : BitVec 1, w = 0#1 ∨ w = 1#1 := by decide
  rcases hw w with rfl | rfl
  · rw [if_neg (fun hh => absurd (h.mpr hh) (by decide))]; rfl
  · rw [if_pos (h.mp rfl)]; rfl

/-- The prefix sum at a lane is the number of hits up to and including it. -/
theorem pay128 (hld : ∀ k : Fin 16, ld (ix2 k) = iw (base + k)) (k : Fin 16) :
    k0_pay128 (F := F) v29 ld (lane k) = BitVec.ofNat 32 (cnt iw v29 (base + (k.val + 1)) - cnt iw v29 base) :=
  scan_sum_marks iw v29 base (pay127 iw v29 base ld hld) k

/-- Every lane's destination is the number of hits before its word, counted from word `s`. -/
theorem pay129 (hld : ∀ k : Fin 16, ld (ix2 k) = iw (base + k)) (hs : s ≤ base) (hm : m = BitVec.ofNat 32 (cnt iw v29 base - cnt iw v29 s)) (k : Fin 16) :
    k0_pay129 (F := F) v29 m ld (lane k) = BitVec.ofNat 32 (cnt iw v29 (base + k) - cnt iw v29 s) := by
  show m + k0_pay128 (F := F) v29 ld (lane k) - k0_pay127 (F := F) v29 ld (lane k) = _
  rw [pay128 iw v29 base ld hld, pay127 iw v29 base ld hld, hm, ← BitVec.ofNat_add]
  have e1 := cnt_mono iw v29 hs
  have e2 := cnt_mono iw v29 (Nat.le_add_right base k.val)
  rw [← Nat.add_assoc base, cnt_succ]
  unfold mark
  split
  · rw [show cnt iw v29 base - cnt iw v29 s + (cnt iw v29 (base + k) + 1 - cnt iw v29 base) = (cnt iw v29 (base + k) - cnt iw v29 s) + 1 by omega,
      BitVec.ofNat_add, BitVec.add_sub_cancel]
  · rw [show cnt iw v29 base - cnt iw v29 s + (cnt iw v29 (base + k) + 0 - cnt iw v29 base) = (cnt iw v29 (base + k) - cnt iw v29 s) by omega]
    simp

/-- The last lane of the maximum of the prefix sums counts the vector's hits. -/
theorem pay131 (hld : ∀ k : Fin 16, ld (ix2 k) = iw (base + k)) :
    extractAt ![15] (k0_pay131 (F := F) v29 ld) inpos_S16_p15 = BitVec.ofNat 32 (cnt iw v29 (base + 16) - cnt iw v29 base) := by
  have hn : ∀ k : Fin 16, (k0_pay128 (F := F) v29 ld (lane k)).toNat = cnt iw v29 (base + (k.val + 1)) - cnt iw v29 base := by
    intro k
    rw [pay128 iw v29 base ld hld, BitVec.toNat_ofNat, Nat.mod_eq_of_lt]
    have := cnt_le_add iw v29 base (k.val + 1)
    have := k.isLt; omega
  have h := scan_max_last (u := k0_pay128 (F := F) v29 ld) (fun k => by
      rw [hn]; have := cnt_le_add iw v29 base (k.val + 1); have := k.isLt; omega)
    (fun k => by
      rw [hn, hn]
      have := cnt_mono iw v29 (show base + (k.val + 1) ≤ base + ((15 : Fin 16).val + 1) by have := k.isLt; show _ ≤ base + 16; omega)
      omega)
  rw [pay128 iw v29 base ld hld] at h
  exact h

/-- The positions stored are the words' own. -/
theorem pay130 (t1 : Fin k0_t1_loop.trips) (t2 : Fin k0_t2_loop.trips) (k : Fin 16) :
    k0_pay130 (iota .scVector S16 32 [0] iota_S16_d0_w32_scVector) 0#32 1#32 t1 t2 (lane k) = BitVec.ofNat 32 (2 * t1.val * 2048 + 16 * t2.val + k.val) := by
  have key : ∀ (a b c : ℕ), ((0#32 + BitVec.ofNat 32 a * 1#32) * 2#32) * 2048#32 + (0#32 + BitVec.ofNat 32 b * 1#32) * 16#32 + BitVec.ofNat 32 c
      = BitVec.ofNat 32 (2 * a * 2048 + 16 * b + c) := by
    intro a b c
    simp only [BitVec.ofNat_add, BitVec.ofNat_mul, BitVec.mul_one, BitVec.zero_add]
    rw [BitVec.mul_comm (BitVec.ofNat 32 a), BitVec.mul_comm (BitVec.ofNat 32 b)]
  refine Eq.trans ?_ (key t1.val t2.val k.val)
  show _ + BitVec.ofNat 32 (0 * 16 + k.val) = _
  rw [Nat.zero_mul, Nat.zero_add]; rfl

/-- A lane's position in the group. -/
theorem pay141 (v105 : BitVec 32) (n : ℕ) (hv : v105 = BitVec.ofNat 32 n) (t2 : Fin k0_t7_loop.trips) (k : Fin 16) :
    k0_pay141 (iota .scVector S16 32 [0] iota_S16_d0_w32_scVector) v105 t2 (lane k) = BitVec.ofNat 32 (n * 2048 + 16 * t2.val + k.val) := by
  have key : ∀ (a b c : ℕ), BitVec.ofNat 32 a * 2048#32 + (0#32 + BitVec.ofNat 32 b * 1#32) * 16#32 + BitVec.ofNat 32 c
      = BitVec.ofNat 32 (a * 2048 + 16 * b + c) := by
    intro a b c
    simp only [BitVec.ofNat_add, BitVec.ofNat_mul, BitVec.mul_one, BitVec.zero_add]
    rw [BitVec.mul_comm (BitVec.ofNat 32 b)]
  subst hv
  refine Eq.trans ?_ (key n t2.val k.val)
  show _ + BitVec.ofNat 32 (0 * 16 + k.val) = _
  rw [Nat.zero_mul, Nat.zero_add]; rfl

end

/-- The destinations of one scan step lie inside the list. -/
theorem chk1 (iw : ℕ → BitVec 32) (v29 : BitVec 32) (s b : ℕ) (hsb : s ≤ b) (hb : b + 16 - s ≤ 2064) (dest : IVec S16 32)
    (hd : ∀ k : Fin 16, dest (lane k) = BitVec.ofNat 32 (cnt iw v29 (b + k) - cnt iw v29 s)) (a : Fin 1) (x : S16.Idx) :
    ((![dest] : Fin 1 → IVec S16 32) a x).toNat < S2064.size a := by
  obtain rfl : a = 0 := Subsingleton.elim _ _
  show (dest x).toNat < 2064
  obtain ⟨k, rfl⟩ : ∃ k : Fin 16, lane k = x := ⟨x 0, lane_zero x⟩
  have h1 := cnt_le_add iw v29 s (b + k.val - s)
  rw [show s + (b + k.val - s) = b + k.val by omega] at h1
  have := k.isLt
  rw [hd, BitVec.toNat_ofNat, Nat.mod_eq_of_lt] <;> omega

end Cert.Proof.Vectors

end
-- ==== Proof.Setup.lean ====
/-
  The launch as its theorem sees it, and what one tile works on: its coordinates, its group of the index list, its part
  of the table, the rows it writes, and the resources of the row copies it has in flight.
-/
module

public import proofs.«01_k».proof.Defs
public import proofs.«01_k».proof.Proof.Vectors
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Batch
public import Idealize.ShloMosaic.Lib.Pipeline.Value
public import proofs.«01_k».proof.Proof.Gen.KernelIdeal
public import proofs.«01_k».proof.Proof.Gen.KernelIdeal.Skeleton

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's stated facts hold. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
/-- The counters of the copies in flight. -/
abbrev EC : UEmb Counters (MT nD τ sig (HIx 1) (Elt F) ℕ UU ℕ) := countersEmb (U := UU)

/-! ## One tile's coordinates -/

section Coords

variable (L : grid0.Coords)

abbrev cV : Fin τ.nSC := (L 0).castLE hcore0
abbrev jV : Fin τ.nSub := (L 1).castLE hsub0
abbrev thr (d : Dev nD) : Thread nD τ := V d (cV L) (jV L)

/-- The tile's number among the thirty-two, its group of the index list and its part of the table. -/
def wid : ℕ := 2 * (L 1).val + (L 0).val
def grp : ℕ := wid L / 4
def part : ℕ := wid L % 4
/-- The first of the tile's fifty table rows, and the first of its words of the index list. -/
def lo : BitVec 32 := BitVec.ofNat 32 (part L * 50)
def gb : ℕ := grp L * 102400

/-- There are eight groups. -/
theorem grp_lt : grp L < 8 := by
  have h0 : (L 0).val < 2 := (L 0).isLt
  have h1 : (L 1).val < 16 := (L 1).isLt
  unfold grp wid; omega
/-- There are four parts. -/
theorem part_lt : part L < 4 := Nat.mod_lt _ (by decide)

/-- The printed text of the two base words. -/
def loChain : BitVec 32 :=
  let v1 : BitVec 32 := Scalar.addi (Scalar.muli (BitVec.ofNat 32 (L 1).val) 2#32) (BitVec.ofNat 32 (L 0).val)
  let v20 : BitVec 32 := Scalar.select (Scalar.cmpi .eq 4#32 0#32) 1#32 4#32
  let v21 : BitVec 32 := Scalar.remsi v1 v20
  Scalar.muli (Scalar.select (Scalar.andi (Scalar.xori (Scalar.cmpi .slt v21 0#32) (Scalar.cmpi .slt v20 0#32)) (Scalar.cmpi .ne v21 0#32)) (Scalar.addi v21 v20) v21) 50#32
def gbChain : BitVec 32 :=
  let v1 : BitVec 32 := Scalar.addi (Scalar.muli (BitVec.ofNat 32 (L 1).val) 2#32) (BitVec.ofNat 32 (L 0).val)
  let v7 : BitVec 32 := Scalar.subi (Scalar.extui (Scalar.cmpi .sgt v1 0#32)) (Scalar.extui (Scalar.cmpi .slt v1 0#32))
  let v12 : BitVec 32 := Scalar.subi (Scalar.extui (Scalar.cmpi .sgt 4#32 0#32)) (Scalar.extui (Scalar.cmpi .slt 4#32 0#32))
  let v16 : BitVec 1 := Scalar.andi (Scalar.cmpi .ne v7 v12) (Scalar.cmpi .ne (Scalar.remsi v1 4#32) 0#32)
  let v2 : BitVec 32 := Scalar.divsi v1 4#32
  Scalar.muli (Scalar.select v16 (Scalar.subi v2 1#32) v2) 102400#32

/-- The body's arithmetic for the first table row of the part gives `lo`. -/
theorem loChain_eq : ∀ L : grid0.Coords, loChain L = lo L := by decide +kernel
/-- The body's arithmetic for the group's first row gives `gb`. -/
theorem gbChain_eq : ∀ L : grid0.Coords, gbChain L = BitVec.ofNat 32 (gb L) := by decide +kernel

/-- The offsets of the table part and of the index blocks. -/
theorem off1 : ∀ L : grid0.Coords, k0_off1 L 0 = part L * 102400 := by decide +kernel
/-- The first block is fetched from the group's first index. -/
theorem off2 : ∀ L : grid0.Coords, k0_off2 L 0 = gb L := by decide +kernel
/-- In trip `t` the odd block fetched is block `2 t + 1` of the group. -/
theorem off3 : ∀ (L : grid0.Coords) (t : Fin k0_t1_loop.trips), k0_off3 L t 0 = gb L + (2 * t.val + 1) * 2048 := by decide +kernel
/-- In trip `t` the next even block fetched is block `2 t + 2` of the group. -/
theorem off71 : ∀ (L : grid0.Coords) (t : Fin k0_t1_loop.trips), k0_off71 L t 0 = gb L + (2 * t.val + 2) * 2048 := by decide +kernel

/-- A row's offset in the output, from the position word the list holds. -/
theorem off7 (w : BitVec 32) (p : ℕ) (hw : w = BitVec.ofNat 32 p) (hp : p < 102400) : k0_off7 L w = ![(gb L + p) * 2048] := by
  have h : k0_off7 L w = ![(Scalar.muli (Scalar.addi (gbChain L) w) 2048#32).toNat] := rfl
  rw [h, gbChain_eq, hw]
  show ![((BitVec.ofNat 32 (gb L) + BitVec.ofNat 32 p) * 2048#32).toNat] = _
  have := grp_lt L
  rw [← BitVec.ofNat_add, ← BitVec.ofNat_mul, BitVec.toNat_ofNat, Nat.mod_eq_of_lt]
  unfold gb; omega

/-- A row of the table part starts at 2048 times its number. -/
theorem off6 (w : BitVec 32) (hw : w.toNat < 50) : k0_off6 w = ![w.toNat * 2048] := by
  show ![(w * 2048#32).toNat] = _
  rw [BitVec.toNat_mul, Nat.mod_eq_of_lt] <;> simp; omega

end Coords

/-! ## Values: the group's words, the tile's part of the table, the output -/

section Values

variable (L : grid0.Coords)
variable (fi : S819200.Idx → BitVec 32) (ft : S409600.Idx → Elt F .f32) (fo : S1677721600.Idx → Elt F .f32)

/-- Word `p` of the tile's group. -/
def iw (p : ℕ) : BitVec 32 := if h : gb L + p < 819200 then fi (ix1 _ h) else 0

/-- The number of hits before block `b`, and of all the tile's hits. -/
def C (b : ℕ) : ℕ := cnt (iw L fi) (lo L) (b * 2048)
abbrev nh : ℕ := C L fi 50

/-- The number of hits grows with the number of blocks. -/
theorem C_mono {a b : ℕ} (h : a ≤ b) : C L fi a ≤ C L fi b := cnt_mono _ _ (by omega)
/-- No block has no hit. -/
theorem C_zero : C L fi 0 = 0 := by unfold C; rw [Nat.zero_mul, cnt_zero]
/-- A block has at most 2048 hits. -/
theorem C_step (b : ℕ) : C L fi (b + 1) - C L fi b ≤ 2048 := by
  unfold C
  have := cnt_le_add (iw L fi) (lo L) (b * 2048) 2048
  rw [show (b + 1) * 2048 = b * 2048 + 2048 by omega]; omega

/-- The place of the tile's hit number `t` and the table row it names, counted from the tile's first. -/
def ps (t : ℕ) : ℕ := pos (iw L fi) (lo L) t
def rl (t : ℕ) : ℕ := (iw L fi (ps L fi t) - lo L).toNat

/-- A hit's position is inside the group. -/
theorem ps_lt {t : ℕ} (h : t < nh L fi) : ps L fi t < 102400 := (pos_spec _ _ (show t < cnt (iw L fi) (lo L) (50 * 2048) from h)).1
/-- A hit's row is inside the part. -/
theorem rl_lt {t : ℕ} (h : t < nh L fi) : rl L fi t < 50 := (pos_spec _ _ (show t < cnt (iw L fi) (lo L) (50 * 2048) from h)).2.1
/-- Before the `t`-th hit lie `t` hits. -/
theorem cnt_ps {t : ℕ} (h : t < nh L fi) : cnt (iw L fi) (lo L) (ps L fi t) = t :=
  (pos_spec _ _ (show t < cnt (iw L fi) (lo L) (50 * 2048) from h)).2.2

/-- The tile's part of the table. -/
def tab : S102400.Idx → Elt F .f32 := fun x => ft (ix1 (part L * 102400 + (x 0).val) (by
  have := part_lt L; have : (x 0).val < 102400 := (x 0).isLt; omega))

/-- The output in full: row `R` is the table row word `R` of the index list names, when there is one. -/
def out : S1677721600.Idx → Elt F .f32 := fun x =>
  if h : (fi (ix1 ((x 0).val / 2048) (by have : (x 0).val < 1677721600 := (x 0).isLt; omega))).toNat < 200 then
    ft (ix1 ((fi (ix1 ((x 0).val / 2048) (by have : (x 0).val < 1677721600 := (x 0).isLt; omega))).toNat * 2048 + (x 0).val % 2048) (by omega))
  else fo x

/-- Row `r` of the tile's part of the table and row `R` of the output, as sets of elements. -/
def tRow (r : ℕ) : Finset S102400.Idx := Finset.univ.filter fun x => (x 0).val / 2048 = r
def oRow (R : ℕ) : Finset S1677721600.Idx := Finset.univ.filter fun x => (x 0).val / 2048 = R

/-- A row of the tile's part holds what the output shall hold at the row the hit names. -/
theorem tab_eq_out {t : ℕ} (h : t < nh L fi) (x : S102400.Idx) (y : S1677721600.Idx) (q : ℕ) (hq : q < 2048)
    (hx : (x 0).val = rl L fi t * 2048 + q) (hy : (y 0).val = (gb L + ps L fi t) * 2048 + q) : tab L ft x = out fi ft fo y := by
  have h1 := ps_lt L fi h
  have h2 := rl_lt L fi h
  have h3 := part_lt L
  have h4 := grp_lt L
  have hw : iw L fi (ps L fi t) = fi (ix1 ((y 0).val / 2048) (by have : (y 0).val < 1677721600 := (y 0).isLt; omega)) := by
    unfold iw
    rw [dif_pos (by unfold gb; omega)]
    congr 1; apply idx1_ext; rw [ix1_val, ix1_val]; omega
  have hv : (iw L fi (ps L fi t)).toNat = part L * 50 + rl L fi t := by
    have : iw L fi (ps L fi t) = lo L + (iw L fi (ps L fi t) - lo L) := by rw [BitVec.add_comm, BitVec.sub_add_cancel]
    rw [this, BitVec.toNat_add]
    show ((lo L).toNat + rl L fi t) % 2 ^ 32 = _
    unfold lo
    rw [BitVec.toNat_ofNat]; omega
  unfold out tab
  rw [dif_pos (by rw [← hw, hv]; omega)]
  congr 1; apply idx1_ext; rw [ix1_val, ix1_val, ← hw, hv]; omega

end Values

/-! ## The buffers in the body's spelling -/

local notation "xV" => (Memref.whole Cert.KernelIdeal.main_v0_scv : Memref Cert.KernelIdeal.sig Kind.scVector Space.hbm Cert.KernelIdeal.S819200 EltTy.i32)
local notation "tV" => (Memref.whole Cert.KernelIdeal.main_v1_scv : Memref Cert.KernelIdeal.sig Kind.scVector Space.hbm Cert.KernelIdeal.S409600 EltTy.f32)
local notation "oV" => (Memref.whole Cert.KernelIdeal.main_v2_scv : Memref Cert.KernelIdeal.sig Kind.scVector Space.hbm Cert.KernelIdeal.S1677721600 EltTy.f32)
local notation "sT" => (Memref.whole Cert.KernelIdeal.cc0_scratch0 : Memref Cert.KernelIdeal.sig Kind.scVector Space.vmem Cert.KernelIdeal.S102400 EltTy.f32)

/-- A row of the output and a row of the tile's table part, at any offset. -/
abbrev oSl (off : Fin 1 → ℕ) (h : ∀ a, off a + S2048.size a ≤ S1677721600.size a) : Memref sig .scVector .hbm S2048 .f32 :=
  (oV).slice (Rect.unit (s := S1677721600) off S2048.size h) (fun _ => rfl)
abbrev tSl (off : Fin 1 → ℕ) (h : ∀ a, off a + S2048.size a ≤ S102400.size a) : Memref sig .scVector .vmem S2048 .f32 :=
  (sT).slice (Rect.unit (s := S102400) off S2048.size h) (fun _ => rfl)

/-- The slice of the output covers its row. -/
theorem set_oSl (R : ℕ) (h) : (oSl ![R * 2048] h).view.set = oRow R := by
  ext x
  show x ∈ ((View.whole main_v2_scv).slice (Rect.unit (s := S1677721600) ![R * 2048] S2048.size h)).set ↔ _
  rw [View.set_slice_whole, Rect.mem_set_unit]
  unfold oRow
  rw [Finset.mem_filter]
  constructor
  · intro hx
    have := hx 0
    have e1 : R * 2048 ≤ (x 0).val := this.1
    have e2 : (x 0).val < R * 2048 + 2048 := this.2
    exact ⟨Finset.mem_univ _, by omega⟩
  · rintro ⟨-, hx⟩ a
    obtain rfl : a = (0 : Fin 1) := Subsingleton.elim (α := Fin 1) _ _
    have e1 : R * 2048 ≤ (x 0).val := by omega
    have e2 : (x 0).val < R * 2048 + 2048 := by omega
    exact ⟨e1, e2⟩

/-- The slice of the table part covers its row. -/
theorem set_tSl (r : ℕ) (h) : (tSl ![r * 2048] h).view.set = tRow r := by
  ext x
  show x ∈ ((View.whole cc0_scratch0).slice (Rect.unit (s := S102400) ![r * 2048] S2048.size h)).set ↔ _
  rw [View.set_slice_whole, Rect.mem_set_unit]
  unfold tRow
  rw [Finset.mem_filter]
  constructor
  · intro hx
    have := hx 0
    have e1 : r * 2048 ≤ (x 0).val := this.1
    have e2 : (x 0).val < r * 2048 + 2048 := this.2
    exact ⟨Finset.mem_univ _, by omega⟩
  · rintro ⟨-, hx⟩ a
    obtain rfl : a = (0 : Fin 1) := Subsingleton.elim (α := Fin 1) _ _
    have e1 : r * 2048 ≤ (x 0).val := by omega
    have e2 : (x 0).val < r * 2048 + 2048 := by omega
    exact ⟨e1, e2⟩

/-! ## The copies in flight -/

section Fire

variable (d : Dev nD) (L : grid0.Coords)
variable (fi : S819200.Idx → BitVec 32) (ft : S409600.Idx → Elt F .f32) (fo : S1677721600.Idx → Elt F .f32)

abbrev tLoc : Loc nD τ sig := (sT).view.loc (thr L d)
abbrev oLoc : Loc nD τ sig := (oV).view.loc (thr L d)

/-- The row of the table part hit `t`'s copy reads, at its own read share. -/
def tTok (t : Fin (nh L fi)) : sProp 𝕄 :=
  iprop(tLoc d L ↦[tRow (rl L fi t.val)]{Transfers.shareTok fullShare (nh L fi) t} tab L ft)
/-- Before hit `t`'s copy: its output row at the old contents; after it: at the new. -/
def before (t : Fin (nh L fi)) : sProp 𝕄 :=
  iprop(tTok d L fi ft t ∗ oLoc d L ↦[oRow (gb L + ps L fi t.val)]{fullShare} fo)
def after (t : Fin (nh L fi)) : sProp 𝕄 :=
  iprop(tTok d L fi ft t ∗ oLoc d L ↦[oRow (gb L + ps L fi t.val)]{fullShare} out fi ft fo)

/-- The units one row copy signals. -/
def NU : ℕ := (oSl ![0] inb_S1677721600_S2048_0).view.dmaCredit

/-- With `j` row copies issued and `u` units waited for. -/
def Fired (j u : ℕ) : sProp 𝕄 :=
  iprop(Transfers.Batch EC (thr L d) (.dma cc0_scratch5.sem) (default : HIx 1) NU (after d L fi ft fo) j u
    ∗ bigSep (Transfers.pending j) (before d L fi ft fo))

end Fire

end Cert.Proof.Tile

end
-- ==== Proof.Fire.lean ====
/-
  The row copies: one lane's guarded copy from the tile's part of the table to the output, and a trip of the loop that
  issues sixteen of them.
-/
module

public import proofs.«01_k».proof.Proof.Setup
public import Idealize.ShloMosaic.Lib.Pipeline.ValueKit.Geometry

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Words Cert.Proof.Vectors

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S819200 EltTy.i32)
local notation "tV" => (Memref.whole Cert.KernelIdeal.main_v1_scv : Memref Cert.KernelIdeal.sig Kind.scVector Space.hbm Cert.KernelIdeal.S409600 EltTy.f32)
local notation "oV" => (Memref.whole Cert.KernelIdeal.main_v2_scv : Memref Cert.KernelIdeal.sig Kind.scVector Space.hbm Cert.KernelIdeal.S1677721600 EltTy.f32)
local notation "sT" => (Memref.whole Cert.KernelIdeal.cc0_scratch0 : Memref Cert.KernelIdeal.sig Kind.scVector Space.vmem Cert.KernelIdeal.S102400 EltTy.f32)
local notation "sI" => (Memref.whole Cert.KernelIdeal.cc0_scratch1 : Memref Cert.KernelIdeal.sig Kind.scVector Space.vmem Cert.KernelIdeal.S2x2048 EltTy.i32)
local notation "sP" => (Memref.whole Cert.KernelIdeal.cc0_scratch2 : Memref Cert.KernelIdeal.sig Kind.scVector Space.vmem Cert.KernelIdeal.S2064 EltTy.i32)
local notation "sR" => (Memref.whole Cert.KernelIdeal.cc0_scratch3 : Memref Cert.KernelIdeal.sig Kind.scVector Space.vmem Cert.KernelIdeal.S2064 EltTy.i32)

/-! ## The guard of one lane -/

/-- The printed guard of lane `l` in trip `g`: place `16 g + l` lies below the count `w`. -/
def laneCond (w : BitVec 32) (g : ℕ) (l : BitVec 32) : BitVec 1 :=
  Scalar.cmpi .ne ((Scalar.extui (Scalar.cmpi .slt (Scalar.addi (Scalar.muli (Scalar.addi 0#32 (Scalar.muli (Scf.iv 0#32 1#32 g) 1#32)) 16#32) l) w)) : BitVec 32) 0#32

/-- The lane condition holds exactly when the lane's entry is among the first `m`. -/
theorem laneCond_iff {w : BitVec 32} {m : ℕ} (hw : w = BitVec.ofNat 32 m) (hm : m < 2049) (g l : ℕ) (hg : g < 129) (hl : l < 16) :
    laneCond w g (BitVec.ofNat 32 l) = 1#1 ↔ 16 * g + l < m := by
  have e : Scalar.addi (Scalar.muli (Scalar.addi 0#32 (Scalar.muli (Scf.iv 0#32 1#32 g) 1#32)) 16#32) (BitVec.ofNat 32 l) = BitVec.ofNat 32 (16 * g + l) := by
    show (0#32 + (0#32 + BitVec.ofNat 32 g * 1#32) * 1#32) * 16#32 + BitVec.ofNat 32 l = _
    simp only [BitVec.ofNat_add, BitVec.ofNat_mul, BitVec.mul_one, BitVec.zero_add]
    rw [BitVec.mul_comm]
  unfold laneCond
  rw [e, hw]
  have hs : (BitVec.ofNat 32 (16 * g + l)).slt (BitVec.ofNat 32 m) = decide (16 * g + l < m) := by
    rw [BitVec.slt, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    exact decide_eq_decide.2 (by omega)
  show BitVec.ofBool ((BitVec.ofBool ((BitVec.ofNat 32 (16 * g + l)).slt (BitVec.ofNat 32 m))).setWidth 32 != 0#32) = 1#1 ↔ _
  rw [hs]
  by_cases h : 16 * g + l < m
  · simp [h]
  · simp [h]

section Lane

variable (d : Dev nD) (L : grid0.Coords)
variable (fi : S819200.Idx → BitVec 32) (ft : S409600.Idx → Elt F .f32) (fo : S1677721600.Idx → Elt F .f32)

/-- Sixteen places of the two lists from place `16 g` on: each below the count `m` names its hit. -/
def Pos16 (c m g : ℕ) (v : Vec F S16 .i32) : Prop := ∀ k : Fin 16, 16 * g + k.val < m → v (lane k) = BitVec.ofNat 32 (ps L fi (c + (16 * g + k.val)))
def Row16 (c m g : ℕ) (v : Vec F S16 .i32) : Prop := ∀ k : Fin 16, 16 * g + k.val < m → v (lane k) = iw L fi (ps L fi (c + (16 * g + k.val))) - lo L

/-- The written row holds what the output shall hold there. -/
theorem copy_value (j : ℕ) (hj : j < nh L fi) (inbT : ∀ a, (![rl L fi j * 2048] : Fin 1 → ℕ) a + S2048.size a ≤ S102400.size a)
    (inbO : ∀ a, (![(gb L + ps L fi j) * 2048] : Fin 1 → ℕ) a + S2048.size a ≤ S1677721600.size a) :
    ∀ y ∈ oRow (gb L + ps L fi j),
      (oSl ![(gb L + ps L fi j) * 2048] inbO).view.write (Elt F) fo (ReadAs.same.apply ((tSl ![rl L fi j * 2048] inbT).view.read (Elt F) (tab L ft))) Finset.univ y
        = out fi ft fo y := by
  intro y hy
  have hy' : (y 0).val / 2048 = gb L + ps L fi j := (Finset.mem_filter.1 hy).2
  let x : S2048.Idx := ix1 ((y 0).val % 2048) (Nat.mod_lt _ (by decide))
  have hx : (x 0).val = (y 0).val % 2048 := rfl
  have e : (oSl ![(gb L + ps L fi j) * 2048] inbO).view.emb x = y := by
    apply idx1_ext
    refine (ValueKit.view_emb_slice_whole_unit_val main_v2_scv ![(gb L + ps L fi j) * 2048] S2048.size inbO x 0).trans ?_
    show (gb L + ps L fi j) * 2048 + (x 0).val = _
    rw [hx, ← hy']; exact Nat.div_add_mod' _ _
  rw [← e, View.write_emb_of_mem _ _ (Finset.mem_univ x), e]
  refine tab_eq_out L fi ft fo hj ((tSl ![rl L fi j * 2048] inbT).view.emb x) y ((y 0).val % 2048) (Nat.mod_lt _ (by decide)) ?_ ?_
  · exact ValueKit.view_emb_slice_whole_unit_val cc0_scratch0 ![rl L fi j * 2048] S2048.size inbT x 0
  · rw [← hy']; exact (Nat.div_add_mod' _ _).symm

/-- One copy: from `j` copies issued to `j + 1`. -/
theorem copy_wp {α : Type} {Q : α → sProp 𝕄} (j u : ℕ) (hj : j < nh L fi) (hu : u ≤ j * NU)
    {offT : Fin 1 → ℕ} {offO : Fin 1 → ℕ} (hT : offT = ![rl L fi j * 2048]) (hO : offO = ![(gb L + ps L fi j) * 2048])
    (inbT : ∀ a, offT a + S2048.size a ≤ S102400.size a) (inbO : ∀ a, offO a + S2048.size a ≤ S1677721600.size a)
    (e1 : (tSl offT inbT).view.WordExact) (e2 : (oSl offO inbO).view.WordExact)
    (e3 : (DmaTarget.here (oSl offO inbO) : DmaTarget nD τ sig (.scVector (cV L) (jV L)) .hbm S2048 .f32).Typed .vmem (.dma cc0_scratch5.sem))
    (k : PUnit → Prog (TpuEff nD τ sig (Elt F) Λ₀ (.scVector (cV L) (jV L))) α) :
    Fired d L fi ft fo j u
      ⊢ iprop((Fired d L fi ft fo (j + 1) u -∗ wp frame (wpE (defs₀ (F := F)) 𝒱₀ (thr L d) none) Set.univ (k ⟨⟩) Q)
        -∗ wp frame (wpE (defs₀ (F := F)) 𝒱₀ (thr L d) none) Set.univ
          (.op (.enqueueDma (tSl offT inbT) (.here (oSl offO inbO)) (.dma cc0_scratch5.sem) e1 e2 e3) k) Q) := by
  subst hT hO
  unfold Fired
  rw [Transfers.bigSep_pending_step _ j hj]
  iintro ⟨HB, Hb, Hrest⟩ Hk
  unfold before tTok
  icases Hb with ⟨Ht, Ho⟩
  have hst := set_tSl (rl L fi j) inbT
  have hso := set_oSl (gb L + ps L fi j) inbO
  iapply (Transfers.wp_dmaBatch EC 𝒱₀ (thr L d) none (src := tSl ![rl L fi j * 2048] inbT) (dst := oSl ![(gb L + ps L fi j) * 2048] inbO)
      (sm := .dma cc0_scratch5.sem) (via := .same) (D := after d L fi ft fo) (Sd := oRow (gb L + ps L fi j)) (fs := tab L ft) (fd := fo)
      (q := Transfers.shareTok fullShare (nh L fi) ⟨j, hj⟩)
      (default : HIx 1) NU rfl hso.subset hj hu ?_) $$ [Ht Ho HB]
  · show _ ⊢ iprop(tTok d L fi ft ⟨j, hj⟩ ∗ oLoc d L ↦[oRow (gb L + ps L fi j)]{fullShare} out fi ft fo)
    unfold tTok
    rw [hst, pointsTo_congr (copy_value L fi ft fo j hj inbT inbO)]
    iintro ⟨Ho, Ht⟩
    isplitl [Ht]; · iexact Ht
    iexact Ho
  · rw [hst]
    isplitl [Ht]; · iexact Ht
    isplitl [Ho]; · iexact Ho
    iexact HB
  iintro HB
  iapply Hk
  isplitl [HB]; · iexact HB
  iexact Hrest

/-- The printed constants of a copy's two rows, from the words the lists hold. -/
theorem row_word (j : ℕ) (hj : j < nh L fi) {w : BitVec 32} (hw : w = iw L fi (ps L fi j) - lo L) :
    2048 ∣ (k0_mult3 w).toNat ∧ k0_off6 w = ![rl L fi j * 2048] ∧ ∀ a, k0_off6 w a + S2048.size a ≤ S102400.size a := by
  have h1 : w.toNat = rl L fi j := by rw [hw]; rfl
  have h2 := rl_lt L fi hj
  have h3 := off6 w (by omega)
  have h4 : (k0_mult3 w).toNat = rl L fi j * 2048 := by
    have := congrFun h3 0
    rw [h1] at this; exact this
  rw [h1] at h3
  refine ⟨h4 ▸ Dvd.intro_left _ rfl, h3, ?_⟩
  rw [h3]
  intro a
  obtain rfl : a = 0 := Subsingleton.elim _ _
  show rl L fi j * 2048 + 2048 ≤ 102400
  omega

/-- A listed position gives an aligned word offset, that of its row in the output, inside the output. -/
theorem pos_word (j : ℕ) (hj : j < nh L fi) {w : BitVec 32} (hw : w = BitVec.ofNat 32 (ps L fi j)) :
    2048 ∣ (k0_mult4 L w).toNat ∧ k0_off7 L w = ![(gb L + ps L fi j) * 2048] ∧ ∀ a, k0_off7 L w a + S2048.size a ≤ S1677721600.size a := by
  have h2 := ps_lt L fi hj
  have h3 := off7 L w _ hw h2
  have h4 : (k0_mult4 L w).toNat = (gb L + ps L fi j) * 2048 := congrFun h3 0
  have := grp_lt L
  refine ⟨h4 ▸ Dvd.intro_left _ rfl, h3, ?_⟩
  rw [h3]
  intro a
  obtain rfl : a = 0 := Subsingleton.elim _ _
  show (gb L + ps L fi j) * 2048 + 2048 ≤ 1677721600
  unfold gb
  omega

/-- One lane of a trip: its copy when its place lies below the count, nothing otherwise. -/
theorem lane_wp {α : Type} {Q : α → sProp 𝕄} (c m g u : ℕ) (l : ℕ) (hl : l < 16) (hg : g < 129) (hm : m < 2049) (hcm : c + m ≤ nh L fi) (hu : u ≤ c * NU)
    {w wT wO : BitVec 32} (hw : w = BitVec.ofNat 32 m) {v161 v164 : Vec F S16 .i32} (hP : Pos16 (F := F) L fi c m g v161) (hR : Row16 (F := F) L fi c m g v164)
    (eT : wT = v164 (lane ⟨l, hl⟩)) (eO : wO = v161 (lane ⟨l, hl⟩))
    {cond : BitVec 1} (hc : cond = laneCond w g (BitVec.ofNat 32 l)) {cT cO : Prop} {dT : Decidable cT} {dO : Decidable cO}
    {offT offO : Fin 1 → ℕ} (hoT : offT = k0_off6 wT) (hoO : offO = k0_off7 L wO)
    (hcT : 2048 ∣ (k0_mult3 wT).toNat → (∀ a, k0_off6 wT a + S2048.size a ≤ S102400.size a) → cT)
    (hcO : 2048 ∣ (k0_mult4 L wO).toNat → (∀ a, k0_off7 L wO a + S2048.size a ≤ S1677721600.size a) → cO)
    (inbT : cT → cond = 1#1 → ∀ a, offT a + S2048.size a ≤ S102400.size a) (inbO : cO → cond = 1#1 → ∀ a, offO a + S2048.size a ≤ S1677721600.size a)
    (e1 : ∀ h h', (tSl offT (inbT h h')).view.WordExact) (e2 : ∀ h h', (oSl offO (inbO h h')).view.WordExact)
    (e3 : ∀ h h', (DmaTarget.here (oSl offO (inbO h h')) : DmaTarget nD τ sig (.scVector (cV L) (jV L)) .hbm S2048 .f32).Typed .vmem (.dma cc0_scratch5.sem))
    (k : Prog (TpuEff nD τ sig (Elt F) Λ₀ (.scVector (cV L) (jV L))) α) :
    Fired d L fi ft fo (c + min (16 * g + l) m) u
      ⊢ iprop((Fired d L fi ft fo (c + min (16 * g + (l + 1)) m) u -∗ wp frame (wpE (defs₀ (F := F)) 𝒱₀ (thr L d) none) Set.univ k Q)
        -∗ wp frame (wpE (defs₀ (F := F)) 𝒱₀ (thr L d) none) Set.univ
          (if h : cond = 1#1 then
            Prog.lift (.assume cT dT) >>= fun x => Prog.lift (.assume cO dO) >>= fun y =>
              Prog.lift (.enqueueDma (tSl offT (inbT x.down h)) (.here (oSl offO (inbO y.down h))) (.dma cc0_scratch5.sem) (e1 x.down h) (e2 y.down h) (e3 y.down h)) >>= fun _ => k
          else k) Q) := by
  have hci := laneCond_iff hw hm g l hg hl
  rw [← hc] at hci
  by_cases h : cond = 1#1
  · have hlt := hci.1 h
    have hj : c + (16 * g + l) < nh L fi := by omega
    obtain ⟨d1, o1, i1⟩ := row_word L fi _ hj (eT.trans (hR ⟨l, hl⟩ hlt))
    obtain ⟨d2, o2, i2⟩ := pos_word L fi _ hj (eO.trans (hP ⟨l, hl⟩ hlt))
    rw [dif_pos h]
    show _ ⊢ iprop(_ -∗ wp frame _ _ (.op (.assume cT dT) fun x => .op (.assume cO dO) fun y => .op _ fun _ => k) Q)
    rw [wp_assume_of _ _ _ _ (hcT d1 i1), wp_assume_of _ _ _ _ (hcO d2 i2), Nat.min_eq_left (Nat.le_of_lt hlt), Nat.min_eq_left (show 16 * g + (l + 1) ≤ m by omega)]
    exact copy_wp d L fi ft fo (c + (16 * g + l)) u hj (hu.trans (Nat.mul_le_mul_right _ (by omega))) (hoT.trans o1) (hoO.trans o2) _ _ _ _ _ (fun _ => k)
  · have hge : m ≤ 16 * g + l := by by_contra hcon; exact h (hci.2 (by omega))
    rw [dif_neg h, Nat.min_eq_right hge, Nat.min_eq_right (by omega)]
    iintro HF Hk
    iapply Hk
    iexact HF

/-- A trip of the second block's loop is the same program as a trip of the first's. -/
theorem t8_eq (v30 w : BitVec 32) (h2 : k0_chk2 w) (h69 : k0_chk69 w) (hw67 : k0_chk67 w) (a b : BitVec 32) (c : BitVec 1) (e : BitVec 32) (t : Fin (k0_t3_loop w).trips) :
    k0_t8_body (F := F) L xV (Memref.isWhole_whole _) tV (Memref.isWhole_whole _) oV (Memref.isWhole_whole _) sT (Memref.isWhole_whole _) sI (Memref.isWhole_whole _)
        sP (Memref.isWhole_whole _) sR (Memref.isWhole_whole _) cc0_scratch4 cc0_scratch5 cc0_scoped0 v30 w h69 1#32 0#32 0#32 t ()
      = k0_t3_body (F := F) L xV (Memref.isWhole_whole _) tV (Memref.isWhole_whole _) oV (Memref.isWhole_whole _) sT (Memref.isWhole_whole _) sI (Memref.isWhole_whole _)
        sP (Memref.isWhole_whole _) sR (Memref.isWhole_whole _) cc0_scratch4 cc0_scratch5 cc0_scoped0 v30 w hw67 a w h2 b c e t () := rfl

/-- One lane slices out of sixteen. -/
theorem slices16 (l : ℕ) (hl : l < 16) : S16.Slices ![l] S1 :=
  ⟨rfl, fun a => by obtain rfl : a = 0 := Subsingleton.elim _ _; show l + 1 ≤ 16; omega⟩

/-- One lane cut out of a vector of sixteen. -/
theorem extract16 (l : ℕ) (hl : l < 16) (v : Vec F S16 .i32) :
    extractAt ![0] (extractStridedSlice S1 ![l] v (slices16 l hl)) inpos_S1_p0 = v (lane ⟨l, hl⟩) := by
  show v _ = v _
  congr 1
  exact idx1_ext rfl

/-- `lane_wp` with what stands beside the copies. -/
theorem lane_step {α : Type} {Q : α → sProp 𝕄} {R : sProp 𝕄} {c m g u : ℕ} (l : ℕ) {hl : l < 16} (hg : g < 129) (hm : m < 2049) (hcm : c + m ≤ nh L fi) (hu : u ≤ c * NU)
    {w wT wO : BitVec 32} (hw : w = BitVec.ofNat 32 m) {v161 v164 : Vec F S16 .i32} (hP : Pos16 (F := F) L fi c m g v161) (hR : Row16 (F := F) L fi c m g v164)
    (eT : wT = extractAt ![0] (extractStridedSlice S1 ![l] v164 (slices16 l hl)) inpos_S1_p0) (eO : wO = extractAt ![0] (extractStridedSlice S1 ![l] v161 (slices16 l hl)) inpos_S1_p0)
    {cond : BitVec 1} (hc : cond = laneCond w g (BitVec.ofNat 32 l)) {cT cO : Prop} {dT : Decidable cT} {dO : Decidable cO}
    {offT offO : Fin 1 → ℕ} (hoT : offT = k0_off6 wT) (hoO : offO = k0_off7 L wO)
    (hcT : 2048 ∣ (k0_mult3 wT).toNat → (∀ a, k0_off6 wT a + S2048.size a ≤ S102400.size a) → cT)
    (hcO : 2048 ∣ (k0_mult4 L wO).toNat → (∀ a, k0_off7 L wO a + S2048.size a ≤ S1677721600.size a) → cO)
    (inbT : cT → cond = 1#1 → ∀ a, offT a + S2048.size a ≤ S102400.size a) (inbO : cO → cond = 1#1 → ∀ a, offO a + S2048.size a ≤ S1677721600.size a)
    (e1 : ∀ h h', (tSl offT (inbT h h')).view.WordExact) (e2 : ∀ h h', (oSl offO (inbO h h')).view.WordExact)
    (e3 : ∀ h h', (DmaTarget.here (oSl offO (inbO h h')) : DmaTarget nD τ sig (.scVector (cV L) (jV L)) .hbm S2048 .f32).Typed .vmem (.dma cc0_scratch5.sem))
    {k : Prog (TpuEff nD τ sig (Elt F) Λ₀ (.scVector (cV L) (jV L))) α}
    (H : iprop(Fired d L fi ft fo (c + min (16 * g + (l + 1)) m) u ∗ R) ⊢ wp frame (wpE (defs₀ (F := F)) 𝒱₀ (thr L d) none) Set.univ k Q) :
    iprop(Fired d L fi ft fo (c + min (16 * g + l) m) u ∗ R)
      ⊢ wp frame (wpE (defs₀ (F := F)) 𝒱₀ (thr L d) none) Set.univ
          (if h : cond = 1#1 then
            Prog.lift (.assume cT dT) >>= fun x => Prog.lift (.assume cO dO) >>= fun y =>
              Prog.lift (.enqueueDma (tSl offT (inbT x.down h)) (.here (oSl offO (inbO y.down h))) (.dma cc0_scratch5.sem) (e1 x.down h) (e2 y.down h) (e3 y.down h)) >>= fun _ => k
          else k) Q := by
  iintro ⟨HF, HR⟩
  iapply (lane_wp d L fi ft fo c m g u l hl hg hm hcm hu hw hP hR (eT.trans (extract16 l hl v164)) (eO.trans (extract16 l hl v161)) hc hoT hoO hcT hcO inbT inbO e1 e2 e3 k) $$ HF
  iintro HF
  iapply H
  isplitl [HF]; · iexact HF
  iexact HR

/-- A program that has returned. -/
theorem pure_step {α : Type} {Q : α → sProp 𝕄} {P : sProp 𝕄} {a : α} (H : P ⊢ Q a) :
    P ⊢ wp frame (wpE (defs₀ (F := F)) 𝒱₀ (thr L d) none) Set.univ (pure a : Prog (TpuEff nD τ sig (Elt F) Λ₀ (.scVector (cV L) (jV L))) α) Q := by
  rw [wp_pure]
  exact H.trans fupd_intro

/-- A load between what stands on its two sides. -/
theorem load_mid {α : Type} {Q : α → sProp 𝕄} {A B : sProp 𝕄} {cs : CoreSpace} {s : Shape} {e : EltTy} {m : Memref sig .scVector cs s e} {r : LoadRect s} {hl : m.view.LoadsAt r}
    {f : Buf (Elt F) (m.view.loc (thr L d))} {k : (r.shape.Idx → Elt F e) → Prog (TpuEff nD τ sig (Elt F) Λ₀ (.scVector (cV L) (jV L))) α}
    (H : iprop(A ∗ (m.view.loc (thr L d) ↦{fullShare} f) ∗ B) ⊢ wp frame (wpE (defs₀ (F := F)) 𝒱₀ (thr L d) none) Set.univ (k (m.view.readAt (Elt F) r f)) Q) :
    iprop(A ∗ (m.view.loc (thr L d) ↦{fullShare} f) ∗ B) ⊢ wp frame (wpE (defs₀ (F := F)) 𝒱₀ (thr L d) none) Set.univ (Prog.lift (.load m r hl) >>= k) Q := by
  iintro ⟨HA, HP, HB⟩
  iapply (wp_load 𝒱₀ (thr L d) none Set.univ (m := m) (S := Finset.univ) (Finset.subset_univ _)) $$ HP
  iintro HP
  iapply H
  isplitl [HA]; · iexact HA
  isplitl [HP]; · iexact HP
  iexact HB

/-- A load step whose buffer is the last resource held. -/
theorem load_last {α : Type} {Q : α → sProp 𝕄} {A B : sProp 𝕄} {cs : CoreSpace} {s : Shape} {e : EltTy} {m : Memref sig .scVector cs s e} {r : LoadRect s} {hl : m.view.LoadsAt r}
    {f : Buf (Elt F) (m.view.loc (thr L d))} {k : (r.shape.Idx → Elt F e) → Prog (TpuEff nD τ sig (Elt F) Λ₀ (.scVector (cV L) (jV L))) α}
    (H : iprop(A ∗ B ∗ (m.view.loc (thr L d) ↦{fullShare} f)) ⊢ wp frame (wpE (defs₀ (F := F)) 𝒱₀ (thr L d) none) Set.univ (k (m.view.readAt (Elt F) r f)) Q) :
    iprop(A ∗ B ∗ (m.view.loc (thr L d) ↦{fullShare} f)) ⊢ wp frame (wpE (defs₀ (F := F)) 𝒱₀ (thr L d) none) Set.univ (Prog.lift (.load m r hl) >>= k) Q := by
  iintro ⟨HA, HB, HP⟩
  iapply (wp_load 𝒱₀ (thr L d) none Set.univ (m := m) (S := Finset.univ) (Finset.subset_univ _)) $$ HP
  iintro HP
  iapply H
  isplitl [HA]; · iexact HA
  isplitl [HB]; · iexact HB
  iexact HP

/-- The first seven lanes of a trip, after the loads of the two lists. -/
theorem part1_wp {Q : (Σ' (_ : BitVec 32) (_ : Vec F S16 .i32), Vec F S16 .i32) → sProp 𝕄} {c m u : ℕ} (hm : m < 2049) (hcm : c + m ≤ nh L fi) (hu : u ≤ c * NU)
    {w : BitVec 32} (hw : w = BitVec.ofNat 32 m) (v30 : BitVec 32) (h2 : k0_chk2 w) (t : Fin (k0_t3_loop w).trips) (hg : t.val < 129)
    (fp fr : S2064.Idx → BitVec 32)
    (hP : Pos16 (F := F) L fi c m t.val ((sP).view.readAt (Elt F) (Rect.unit (s := S2064) (k0_off5 w t) S16.size (k0_off5_inb w h2 t)).toLoadRect fp))
    (hR : Row16 (F := F) L fi c m t.val ((sR).view.readAt (Elt F) (Rect.unit (s := S2064) (k0_off5 w t) S16.size (k0_off5_inb w h2 t)).toLoadRect fr))
    (H : ∀ r : (Σ' (_ : BitVec 32) (_ : Vec F S16 .i32), Vec F S16 .i32), Pos16 (F := F) L fi c m t.val r.2.1 → Row16 (F := F) L fi c m t.val r.2.2 →
      iprop(Fired d L fi ft fo (c + min (16 * t.val + 7) m) u ∗ ((sP).view.loc (thr L d) ↦{fullShare} fp) ∗ ((sR).view.loc (thr L d) ↦{fullShare} fr)) ⊢ Q r) :
    iprop(Fired d L fi ft fo (c + min (16 * t.val + 0) m) u ∗ ((sP).view.loc (thr L d) ↦{fullShare} fp) ∗ ((sR).view.loc (thr L d) ↦{fullShare} fr))
      ⊢ wp frame (wpE (defs₀ (F := F)) 𝒱₀ (thr L d) none) Set.univ
      (k0_part1 (F := F) L xV (Memref.isWhole_whole _) tV (Memref.isWhole_whole _) oV (Memref.isWhole_whole _) sT (Memref.isWhole_whole _) sI (Memref.isWhole_whole _)
        sP (Memref.isWhole_whole _) sR (Memref.isWhole_whole _) cc0_scratch4 cc0_scratch5 cc0_scoped0 v30 w h2 1#32 0#32 0#32 1#32 t) Q := by
  rw [k0_part1_eq_skeleton]
  unfold k0_part1_skel
  refine load_mid d L ?_
  refine load_last d L ?_
  refine lane_step d L fi ft fo 0 (hl := by decide) hg hm hcm hu hw hP hR (by rfl) (by rfl) (by rfl) (by rfl) (by rfl) (fun a b => ⟨fun _ => a, fun _ => b⟩) (fun a b => ⟨fun _ => a, fun _ => b⟩)
    (k0_off6_inb w t _) (k0_off7_inb L w t _) (fun _ _ => View.wordExact_bits rfl) (fun _ _ => View.wordExact_bits rfl) (fun _ _ => ⟨Or.inl rfl, trivial⟩) ?_
  refine lane_step d L fi ft fo 1 (hl := by decide) hg hm hcm hu hw hP hR (by rfl) (by rfl) (by rfl) (by rfl) (by rfl) (fun a b => ⟨fun _ => a, fun _ => b⟩) (fun a b => ⟨fun _ => a, fun _ => b⟩)
    (k0_off8_inb w t _) (k0_off9_inb L w t _) (fun _ _ => View.wordExact_bits rfl) (fun _ _ => View.wordExact_bits rfl) (fun _ _ => ⟨Or.inl rfl, trivial⟩) ?_
  refine lane_step d L fi ft fo 2 (hl := by decide) hg hm hcm hu hw hP hR (by rfl) (by rfl) (by rfl) (by rfl) (by rfl) (fun a b => ⟨fun _ => a, fun _ => b⟩) (fun a b => ⟨fun _ => a, fun _ => b⟩)
    (k0_off10_inb w t _) (k0_off11_inb L w t _) (fun _ _ => View.wordExact_bits rfl) (fun _ _ => View.wordExact_bits rfl) (fun _ _ => ⟨Or.inl rfl, trivial⟩) ?_
  refine lane_step d L fi ft fo 3 (hl := by decide) hg hm hcm hu hw hP hR (by rfl) (by rfl) (by rfl) (by rfl) (by rfl) (fun a b => ⟨fun _ => a, fun _ => b⟩) (fun a b => ⟨fun _ => a, fun _ => b⟩)
    (k0_off12_inb w t _) (k0_off13_inb L w t _) (fun _ _ => View.wordExact_bits rfl) (fun _ _ => View.wordExact_bits rfl) (fun _ _ => ⟨Or.inl rfl, trivial⟩) ?_
  refine lane_step d L fi ft fo 4 (hl := by decide) hg hm hcm hu hw hP hR (by rfl) (by rfl) (by rfl) (by rfl) (by rfl) (fun a b => ⟨fun _ => a, fun _ => b⟩) (fun a b => ⟨fun _ => a, fun _ => b⟩)
    (k0_off14_inb w t _) (k0_off15_inb L w t _) (fun _ _ => View.wordExact_bits rfl) (fun _ _ => View.wordExact_bits rfl) (fun _ _ => ⟨Or.inl rfl, trivial⟩) ?_
  refine lane_step d L fi ft fo 5 (hl := by decide) hg hm hcm hu hw hP hR (by rfl) (by rfl) (by rfl) (by rfl) (by rfl) (fun a b => ⟨fun _ => a, fun _ => b⟩) (fun a b => ⟨fun _ => a, fun _ => b⟩)
    (k0_off16_inb w t _) (k0_off17_inb L w t _) (fun _ _ => View.wordExact_bits rfl) (fun _ _ => View.wordExact_bits rfl) (fun _ _ => ⟨Or.inl rfl, trivial⟩) ?_
  refine lane_step d L fi ft fo 6 (hl := by decide) hg hm hcm hu hw hP hR (by rfl) (by rfl) (by rfl) (by rfl) (by rfl) (fun a b => ⟨fun _ => a, fun _ => b⟩) (fun a b => ⟨fun _ => a, fun _ => b⟩)
    (k0_off18_inb w t _) (k0_off19_inb L w t _) (fun _ _ => View.wordExact_bits rfl) (fun _ _ => View.wordExact_bits rfl) (fun _ _ => ⟨Or.inl rfl, trivial⟩) ?_
  exact pure_step d L (by exact H _ hP hR)

/-- The next eight lanes. -/
theorem part2_wp {Q : BitVec 32 → sProp 𝕄} {R : sProp 𝕄} {c m u : ℕ} (hm : m < 2049) (hcm : c + m ≤ nh L fi) (hu : u ≤ c * NU)
    {w : BitVec 32} (hw : w = BitVec.ofNat 32 m) (v30 v158 : BitVec 32) (t : Fin (k0_t3_loop w).trips) (hg : t.val < 129) {v161 v164 : Vec F S16 .i32}
    (hP : Pos16 (F := F) L fi c m t.val v161) (hR : Row16 (F := F) L fi c m t.val v164)
    (H : ∀ r, iprop(Fired d L fi ft fo (c + min (16 * t.val + 15) m) u ∗ R) ⊢ Q r) :
    iprop(Fired d L fi ft fo (c + min (16 * t.val + 7) m) u ∗ R)
      ⊢ wp frame (wpE (defs₀ (F := F)) 𝒱₀ (thr L d) none) Set.univ
      (k0_part2 (F := F) L xV (Memref.isWhole_whole _) tV (Memref.isWhole_whole _) oV (Memref.isWhole_whole _) sT (Memref.isWhole_whole _) sI (Memref.isWhole_whole _)
        sP (Memref.isWhole_whole _) sR (Memref.isWhole_whole _) cc0_scratch4 cc0_scratch5 cc0_scoped0 v30 w t v158 v161 v164) Q := by
  rw [k0_part2_eq_skeleton]
  unfold k0_part2_skel
  refine lane_step d L fi ft fo 7 (hl := by decide) hg hm hcm hu hw hP hR (by rfl) (by rfl) (by rfl) (by rfl) (by rfl) (fun a b => ⟨fun _ => a, fun _ => b⟩) (fun a b => ⟨fun _ => a, fun _ => b⟩)
    (k0_off20_inb w t _) (k0_off21_inb L w t _) (fun _ _ => View.wordExact_bits rfl) (fun _ _ => View.wordExact_bits rfl) (fun _ _ => ⟨Or.inl rfl, trivial⟩) ?_
  refine lane_step d L fi ft fo 8 (hl := by decide) hg hm hcm hu hw hP hR (by rfl) (by rfl) (by rfl) (by rfl) (by rfl) (fun a b => ⟨fun _ => a, fun _ => b⟩) (fun a b => ⟨fun _ => a, fun _ => b⟩)
    (k0_off22_inb w t _) (k0_off23_inb L w t _) (fun _ _ => View.wordExact_bits rfl) (fun _ _ => View.wordExact_bits rfl) (fun _ _ => ⟨Or.inl rfl, trivial⟩) ?_
  refine lane_step d L fi ft fo 9 (hl := by decide) hg hm hcm hu hw hP hR (by rfl) (by rfl) (by rfl) (by rfl) (by rfl) (fun a b => ⟨fun _ => a, fun _ => b⟩) (fun a b => ⟨fun _ => a, fun _ => b⟩)
    (k0_off24_inb w t _) (k0_off25_inb L w t _) (fun _ _ => View.wordExact_bits rfl) (fun _ _ => View.wordExact_bits rfl) (fun _ _ => ⟨Or.inl rfl, trivial⟩) ?_
  refine lane_step d L fi ft fo 10 (hl := by decide) hg hm hcm hu hw hP hR (by rfl) (by rfl) (by rfl) (by rfl) (by rfl) (fun a b => ⟨fun _ => a, fun _ => b⟩) (fun a b => ⟨fun _ => a, fun _ => b⟩)
    (k0_off26_inb w t _) (k0_off27_inb L w t _) (fun _ _ => View.wordExact_bits rfl) (fun _ _ => View.wordExact_bits rfl) (fun _ _ => ⟨Or.inl rfl, trivial⟩) ?_
  refine lane_step d L fi ft fo 11 (hl := by decide) hg hm hcm hu hw hP hR (by rfl) (by rfl) (by rfl) (by rfl) (by rfl) (fun a b => ⟨fun _ => a, fun _ => b⟩) (fun a b => ⟨fun _ => a, fun _ => b⟩)
    (k0_off28_inb w t _) (k0_off29_inb L w t _) (fun _ _ => View.wordExact_bits rfl) (fun _ _ => View.wordExact_bits rfl) (fun _ _ => ⟨Or.inl rfl, trivial⟩) ?_
  refine lane_step d L fi ft fo 12 (hl := by decide) hg hm hcm hu hw hP hR (by rfl) (by rfl) (by rfl) (by rfl) (by rfl) (fun a b => ⟨fun _ => a, fun _ => b⟩) (fun a b => ⟨fun _ => a, fun _ => b⟩)
    (k0_off30_inb w t _) (k0_off31_inb L w t _) (fun _ _ => View.wordExact_bits rfl) (fun _ _ => View.wordExact_bits rfl) (fun _ _ => ⟨Or.inl rfl, trivial⟩) ?_
  refine lane_step d L fi ft fo 13 (hl := by decide) hg hm hcm hu hw hP hR (by rfl) (by rfl) (by rfl) (by rfl) (by rfl) (fun a b => ⟨fun _ => a, fun _ => b⟩) (fun a b => ⟨fun _ => a, fun _ => b⟩)
    (k0_off32_inb w t _) (k0_off33_inb L w t _) (fun _ _ => View.wordExact_bits rfl) (fun _ _ => View.wordExact_bits rfl) (fun _ _ => ⟨Or.inl rfl, trivial⟩) ?_
  refine lane_step d L fi ft fo 14 (hl := by decide) hg hm hcm hu hw hP hR (by rfl) (by rfl) (by rfl) (by rfl) (by rfl) (fun a b => ⟨fun _ => a, fun _ => b⟩) (fun a b => ⟨fun _ => a, fun _ => b⟩)
    (k0_off34_inb w t _) (k0_off35_inb L w t _) (fun _ _ => View.wordExact_bits rfl) (fun _ _ => View.wordExact_bits rfl) (fun _ _ => ⟨Or.inl rfl, trivial⟩) ?_
  exact pure_step d L (by exact H _)

/-- A trip of the loop that issues the copies of one block. -/
theorem t3_wp {Q : Unit → sProp 𝕄} {c m u : ℕ} (hm : m < 2049) (hcm : c + m ≤ nh L fi) (hu : u ≤ c * NU)
    {w : BitVec 32} (hw : w = BitVec.ofNat 32 m) (v30 a12 : BitVec 32) (h67 : k0_chk67 a12) (a11 : BitVec 32) (h2 : k0_chk2 w) (x : BitVec 32) (y : BitVec 1) (z : BitVec 32)
    (t : Fin (k0_t3_loop w).trips) (hg : t.val < 129)
    (fp fr : S2064.Idx → BitVec 32)
    (hP : Pos16 (F := F) L fi c m t.val ((sP).view.readAt (Elt F) (Rect.unit (s := S2064) (k0_off5 w t) S16.size (k0_off5_inb w h2 t)).toLoadRect fp))
    (hR : Row16 (F := F) L fi c m t.val ((sR).view.readAt (Elt F) (Rect.unit (s := S2064) (k0_off5 w t) S16.size (k0_off5_inb w h2 t)).toLoadRect fr))
    (H : iprop(Fired d L fi ft fo (c + min (16 * t.val + 16) m) u ∗ ((sP).view.loc (thr L d) ↦{fullShare} fp) ∗ ((sR).view.loc (thr L d) ↦{fullShare} fr)) ⊢ Q ()) :
    iprop(Fired d L fi ft fo (c + min (16 * t.val + 0) m) u ∗ ((sP).view.loc (thr L d) ↦{fullShare} fp) ∗ ((sR).view.loc (thr L d) ↦{fullShare} fr))
      ⊢ wp frame (wpE (defs₀ (F := F)) 𝒱₀ (thr L d) none) Set.univ
      (k0_t3_body (F := F) L xV (Memref.isWhole_whole _) tV (Memref.isWhole_whole _) oV (Memref.isWhole_whole _) sT (Memref.isWhole_whole _) sI (Memref.isWhole_whole _)
        sP (Memref.isWhole_whole _) sR (Memref.isWhole_whole _) cc0_scratch4 cc0_scratch5 cc0_scoped0 v30 a12 h67 a11 w h2 x y z t ()) Q := by
  unfold k0_t3_body
  dsimp only
  rw [wp_bind]
  refine part1_wp d L fi ft fo hm hcm hu hw v30 h2 t hg fp fr hP hR fun r hP hR => ?_
  obtain ⟨v158, v161, v164⟩ := r
  dsimp only
  rw [wp_bind]
  refine part2_wp d L fi ft fo hm hcm hu hw v30 v158 t hg hP hR fun _ => ?_
  refine lane_step d L fi ft fo 15 (hl := by decide) hg hm hcm hu hw hP hR (by rfl) (by rfl) (by rfl) (by rfl) (by rfl) (fun a b => ⟨fun _ => a, fun _ => b⟩) (fun a b => ⟨fun _ => a, fun _ => b⟩)
    (k0_off36_inb w t _) (k0_off37_inb L w t _) (fun _ _ => View.wordExact_bits rfl) (fun _ _ => View.wordExact_bits rfl) (fun _ _ => ⟨Or.inl rfl, trivial⟩) ?_
  exact pure_step d L H

end Lane

end Cert.Proof.Tile

end
-- ==== Proof.Loops.lean ====
/-
  The loops of one block: the scan that lists the tile's hits, the loop that issues their row copies, and the loop that
  waits for as many copies as a block issued.
-/
module

public import proofs.«01_k».proof.Proof.Fire
public import Idealize.ShloMosaic.Lib.SparseCore.Ops

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Words Cert.Proof.Vectors

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S819200 EltTy.i32)
local notation "tV" => (Memref.whole Cert.KernelIdeal.main_v1_scv : Memref Cert.KernelIdeal.sig Kind.scVector Space.hbm Cert.KernelIdeal.S409600 EltTy.f32)
local notation "oV" => (Memref.whole Cert.KernelIdeal.main_v2_scv : Memref Cert.KernelIdeal.sig Kind.scVector Space.hbm Cert.KernelIdeal.S1677721600 EltTy.f32)
local notation "sT" => (Memref.whole Cert.KernelIdeal.cc0_scratch0 : Memref Cert.KernelIdeal.sig Kind.scVector Space.vmem Cert.KernelIdeal.S102400 EltTy.f32)
local notation "sI" => (Memref.whole Cert.KernelIdeal.cc0_scratch1 : Memref Cert.KernelIdeal.sig Kind.scVector Space.vmem Cert.KernelIdeal.S2x2048 EltTy.i32)
local notation "sP" => (Memref.whole Cert.KernelIdeal.cc0_scratch2 : Memref Cert.KernelIdeal.sig Kind.scVector Space.vmem Cert.KernelIdeal.S2064 EltTy.i32)
local notation "sR" => (Memref.whole Cert.KernelIdeal.cc0_scratch3 : Memref Cert.KernelIdeal.sig Kind.scVector Space.vmem Cert.KernelIdeal.S2064 EltTy.i32)

section Loops

variable (d : Dev nD) (L : grid0.Coords)
variable (fi : S819200.Idx → BitVec 32) (ft : S409600.Idx → Elt F .f32) (fo : S1677721600.Idx → Elt F .f32)

/-! ## The two lists, read back -/

/-- The list of a block's positions and the list of its rows, up to word `e` of the group, the block starting at word `s`. -/
def PosUpTo (s e : ℕ) (f : S2064.Idx → BitVec 32) : Prop := Holds (N := 2064) (iw L fi) (lo L) (fun p => BitVec.ofNat 32 p) s e f
def RowUpTo (s e : ℕ) (f : S2064.Idx → BitVec 32) : Prop := Holds (N := 2064) (iw L fi) (lo L) (fun p => iw L fi p - lo L) s e f

/-- What the list of a whole block holds at place `k`. -/
theorem holds_at {val : ℕ → BitVec 32} {b : ℕ} {f : S2064.Idx → BitVec 32}
    (hf : Holds (N := 2064) (iw L fi) (lo L) val (b * 2048) ((b + 1) * 2048) f) (k : ℕ) (hk : k < C L fi (b + 1) - C L fi b) (h : k < 2064) :
    f (ix1 k h) = val (ps L fi (C L fi b + k)) := by
  obtain ⟨p, h1, h2, h3, h4⟩ := exists_hit (iw L fi) (lo L) (a := b * 2048) (b := (b + 1) * 2048) (t := C L fi b + k)
    (by show C L fi b ≤ _; omega) (by show _ < C L fi (b + 1); omega) (by omega)
  have e : ps L fi (C L fi b + k) = p := by rw [← h4]; exact pos_cnt _ _ h3
  have e2 : cnt (iw L fi) (lo L) p - cnt (iw L fi) (lo L) (b * 2048) = k := by
    rw [h4]; show C L fi b + k - C L fi b = k; omega
  have := hf p h1 h2 h3 (by rw [e2]; exact h)
  rw [e, ← this]
  congr 1; exact idx1_ext e2.symm

/-- The sixteen entries loaded from the list of positions are the listed ones. -/
theorem pos16_of {b m g : ℕ} (hm : m = C L fi (b + 1) - C L fi b) (hm' : m < 2049) {fp : S2064.Idx → BitVec 32}
    (hf : PosUpTo L fi (b * 2048) ((b + 1) * 2048) fp) {off : Fin 1 → ℕ} (hoff : off = ![16 * g]) (inb : ∀ a, off a + S16.size a ≤ S2064.size a) :
    Pos16 (F := F) L fi (C L fi b) m g ((sP).view.readAt (Elt F) (Rect.unit (s := S2064) off S16.size inb).toLoadRect fp) := by
  subst hoff
  intro k hk
  refine Eq.trans ?_ (holds_at L fi hf (16 * g + k.val) (by omega) (by omega))
  show fp _ = fp _
  congr 1; apply idx1_ext
  show 16 * g + 1 * (lane k 0).val = 16 * g + k.val
  rw [Nat.one_mul]; rfl

/-- The sixteen entries loaded from the list of rows are the listed ones. -/
theorem row16_of {b m g : ℕ} (hm : m = C L fi (b + 1) - C L fi b) (hm' : m < 2049) {fr : S2064.Idx → BitVec 32}
    (hf : RowUpTo L fi (b * 2048) ((b + 1) * 2048) fr) {off : Fin 1 → ℕ} (hoff : off = ![16 * g]) (inb : ∀ a, off a + S16.size a ≤ S2064.size a) :
    Row16 (F := F) L fi (C L fi b) m g ((sR).view.readAt (Elt F) (Rect.unit (s := S2064) off S16.size inb).toLoadRect fr) := by
  subst hoff
  intro k hk
  refine Eq.trans ?_ (holds_at L fi hf (16 * g + k.val) (by omega) (by omega))
  show fr _ = fr _
  congr 1; apply idx1_ext
  show 16 * g + 1 * (lane k 0).val = 16 * g + k.val
  rw [Nat.one_mul]; rfl

/-! ## The copies of a block -/

/-- The two lists as buffers. -/
def Lists (fp fr : S2064.Idx → BitVec 32) : sProp 𝕄 :=
  iprop(((sP).view.loc (thr L d) ↦{fullShare} fp) ∗ ((sR).view.loc (thr L d) ↦{fullShare} fr))

/-- The loop that issues the copies of block `b`. -/
theorem t3_loop_wp {α : Type} {Q : α → sProp 𝕄} {b u : ℕ} (hb : b < 50) (hu : u ≤ C L fi b * NU) {w : BitVec 32} (hw : w = BitVec.ofNat 32 (C L fi (b + 1) - C L fi b))
    (v30 a12 : BitVec 32) (h67 : k0_chk67 a12) (a11 : BitVec 32) (h2 : k0_chk2 w) (x : BitVec 32) (y : BitVec 1) (z : BitVec 32)
    {fp fr : S2064.Idx → BitVec 32} (hP : PosUpTo L fi (b * 2048) ((b + 1) * 2048) fp) (hR : RowUpTo L fi (b * 2048) ((b + 1) * 2048) fr)
    (kk : Unit → Prog (TpuEff nD τ sig (Elt F) Λ₀ (.scVector (cV L) (jV L))) α) :
    iprop(Fired d L fi ft fo (C L fi b) u ∗ Lists d L fp fr)
      ⊢ iprop((iprop(Fired d L fi ft fo (C L fi (b + 1)) u ∗ Lists d L fp fr) -∗ wp frame (wpE (defs₀ (F := F)) 𝒱₀ (thr L d) none) Set.univ (kk ()) Q)
        -∗ wp frame (wpE (defs₀ (F := F)) 𝒱₀ (thr L d) none) Set.univ
          (Scf.Loop.for (k0_t3_loop w) (k0_t3_ok w h2) ⟨⟩ (k0_t3_body (F := F) L xV (Memref.isWhole_whole _) tV (Memref.isWhole_whole _) oV (Memref.isWhole_whole _) sT (Memref.isWhole_whole _) sI (Memref.isWhole_whole _)
            sP (Memref.isWhole_whole _) sR (Memref.isWhole_whole _) cc0_scratch4 cc0_scratch5 cc0_scoped0 v30 a12 h67 a11 w h2 x y z) >>= kk) Q) := by
  have hs := C_step L fi b
  have hmono : C L fi b ≤ C L fi (b + 1) := C_mono L fi (Nat.le_succ b)
  have h50 : C L fi (b + 1) ≤ nh L fi := C_mono L fi (by omega)
  generalize hm : C L fi (b + 1) - C L fi b = m at hw hs
  have htr : (k0_t3_loop w).trips = (m + 15) / 16 := by subst hw; exact t3_trips ⟨m, by omega⟩
  have hoff : ∀ t : Fin (k0_t3_loop w).trips, k0_off5 w t = ![16 * t.val] := by
    subst hw; intro t; exact off5 ⟨m, by omega⟩ t
  have hend : C L fi b + min (16 * (k0_t3_loop w).trips + 0) m = C L fi (b + 1) := by rw [htr]; omega
  iintro H Hk
  iapply (Scf.wp_for_bind frame (wpE (defs₀ (F := F)) 𝒱₀ (thr L d) none) Set.univ _ _ _ (k0_t3_ok w h2) PUnit.unit _
    (fun (k : ℕ) (_ : Unit) => iprop(Fired d L fi ft fo (C L fi b + min (16 * k + 0) m) u ∗ ((sP).view.loc (thr L d) ↦{fullShare} fp) ∗ ((sR).view.loc (thr L d) ↦{fullShare} fr)))
    (fun t _ => t3_wp d L fi ft fo (by omega) (by omega) hu hw v30 a12 h67 a11 h2 x y z t (by have := Nat.lt_of_lt_of_eq t.isLt htr; omega) fp fr
      (pos16_of L fi hm.symm (by omega) hP (hoff t) _) (row16_of L fi hm.symm (by omega) hR (hoff t) _)
      (by rw [show 16 * (t.val + 1) + 0 = 16 * t.val + 16 by omega])) (kk := kk) (Q := Q)) $$ [H]
  · rw [show C L fi b + min (16 * 0 + 0) m = C L fi b by omega]
    unfold Lists; iexact H
  iintro %_ H
  iapply Hk
  unfold Lists
  rw [← hend]; iexact H

/-! ## Waiting for a block's copies -/

/-- What the tile owes others while it waits, and that its own waits may go on. -/
def Owing (O : CellTallies nD τ sig (HIx 1)) : sProp 𝕄 :=
  iprop(Transfers.MayWaits (thr L d) (default : HIx 1) O ∗ ∃ W, owes (thr L d) O W)

/-- One wait takes one row's units off the row copies' semaphore. -/
theorem wait_wp {α : Type} {Q : α → sProp 𝕄} (O : CellTallies nD τ sig (HIx 1)) (j u : ℕ) (hu : u + NU ≤ NU * j)
    {ht inbO} (e1 : (tSl ![0] ht).view.WordExact) (e2 : (oSl ![0] inbO).view.WordExact)
    (k : PUnit → Prog (TpuEff nD τ sig (Elt F) Λ₀ (.scVector (cV L) (jV L))) α) :
    iprop(Fired d L fi ft fo j u ∗ Owing (F := F) d L O)
      ⊢ iprop((iprop(Fired d L fi ft fo j (u + NU) ∗ Owing (F := F) d L O) -∗ wp frame (wpE (defs₀ (F := F)) 𝒱₀ (thr L d) none) Set.univ (k ⟨⟩) Q)
        -∗ wp frame (wpE (defs₀ (F := F)) 𝒱₀ (thr L d) none) Set.univ
          (.op (.waitDma2 cc0_scratch5.sem (tSl ![0] ht) (oSl ![0] inbO) e1 e2) k) Q) := by
  unfold Fired Owing
  iintro ⟨⟨HB, Hr⟩, #Hmw, %W, HO⟩ Hk
  iapply (Transfers.wp_waitBatchMulO EC 𝒱₀ (thr L d) none (default : HIx 1) (N := NU) 1 ((Nat.one_mul NU).symm : (oSl ![0] inbO).view.dmaCredit = 1 * NU)
    (by rw [Nat.one_mul]; exact hu)) $$ [HB HO]
  · isplitl [HB]; · iexact HB
    isplitl [HO]; · iexact HO
    iapply (Transfers.MayWaits.elim (SemLoc.dma cc0_scratch5.sem)) $$ Hmw
  rw [Nat.one_mul]
  iintro ⟨HB, HO⟩
  iapply Hk
  isplitl [HB Hr]
  · isplitl [HB]; · iexact HB
    iexact Hr
  isplitr; · iexact Hmw
  iexists _; iexact HO

/-- One wait as a step before a continuation. -/
theorem wait_step {Q : Unit → sProp 𝕄} (O : CellTallies nD τ sig (HIx 1)) (j u : ℕ) (hu : u + NU ≤ NU * j)
    {ht inbO} (e1 : (tSl ![0] ht).view.WordExact) (e2 : (oSl ![0] inbO).view.WordExact)
    (H : iprop(Fired d L fi ft fo j (u + NU) ∗ Owing (F := F) d L O) ⊢ Q ⟨⟩) :
    iprop(Fired d L fi ft fo j u ∗ Owing (F := F) d L O)
      ⊢ wp frame (wpE (defs₀ (F := F)) 𝒱₀ (thr L d) none) Set.univ
        ((Prog.lift (.waitDma2 cc0_scratch5.sem (tSl ![0] ht) (oSl ![0] inbO) e1 e2) >>= fun _ => pure ⟨⟩ :
          Prog (TpuEff nD τ sig (Elt F) Λ₀ (.scVector (cV L) (jV L))) Unit)) Q := by
  have h := wait_wp d L fi ft fo O j u hu e1 e2 (Q := Q) (fun _ => pure ⟨⟩)
  iintro H
  iapply h $$ H
  iintro H
  iapply (pure_step d L H) $$ H

/-- A loop of `m` such waits. -/
theorem drain_wp {α : Type} {Q : α → sProp 𝕄} (O : CellTallies nD τ sig (HIx 1)) (j u m : ℕ) (hu : u + m * NU ≤ NU * j)
    {l : Scf.Loop 32} (ok : l.OK) (htr : l.trips = m)
    {ht inbO} (e1 : (tSl ![0] ht).view.WordExact) (e2 : (oSl ![0] inbO).view.WordExact)
    (body : Fin l.trips → Unit → Prog (TpuEff nD τ sig (Elt F) Λ₀ (.scVector (cV L) (jV L))) Unit)
    (hbody : ∀ t a, body t a = (Prog.lift (.waitDma2 cc0_scratch5.sem (tSl ![0] ht) (oSl ![0] inbO) e1 e2) >>= fun _ => pure ⟨⟩))
    (kk : Unit → Prog (TpuEff nD τ sig (Elt F) Λ₀ (.scVector (cV L) (jV L))) α) :
    iprop(Fired d L fi ft fo j u ∗ Owing (F := F) d L O)
      ⊢ iprop((iprop(Fired d L fi ft fo j (u + m * NU) ∗ Owing (F := F) d L O) -∗ wp frame (wpE (defs₀ (F := F)) 𝒱₀ (thr L d) none) Set.univ (kk ()) Q)
        -∗ wp frame (wpE (defs₀ (F := F)) 𝒱₀ (thr L d) none) Set.univ (Scf.Loop.for l ok ⟨⟩ body >>= kk) Q) := by
  iintro H Hk
  iapply (Scf.wp_for_bind frame (wpE (defs₀ (F := F)) 𝒱₀ (thr L d) none) Set.univ _ _ _ ok PUnit.unit body
    (fun (k : ℕ) (_ : Unit) => iprop(Fired d L fi ft fo j (u + k * NU) ∗ Owing (F := F) d L O)) (fun t a => ?_) (kk := kk) (Q := Q)) $$ [H]
  · have hlt : t.val + 1 ≤ m := by have := Nat.lt_of_lt_of_eq t.isLt htr; omega
    have h1 : (t.val + 1) * NU ≤ m * NU := Nat.mul_le_mul_right _ hlt
    have h2 : (t.val + 1) * NU = t.val * NU + NU := Nat.succ_mul _ _
    rw [hbody]
    refine wait_step d L fi ft fo O j (u + t.val * NU) (by omega) e1 e2 ?_
    rw [show u + t.val * NU + NU = u + (t.val + 1) * NU by omega]
  · rw [Nat.zero_mul, Nat.add_zero]; iexact H
  iintro %_ H
  iapply Hk
  rw [← htr]; iexact H

/-! ## The scan of a block -/

/-- Slot `b` of the index buffer, and its contents once block `n` has arrived. -/
def slot (b : ℕ) : Finset S2x2048.Idx := Finset.univ.filter fun x => (x 0).val = b
def words (n : ℕ) : S2x2048.Idx → BitVec 32 := fun x => iw L fi (n * 2048 + (x 1).val)
def Slot (b : ℕ) (f : S2x2048.Idx → BitVec 32) : sProp 𝕄 := iprop((sI).view.loc (thr L d) ↦[slot b]{fullShare} f)

/-- One trip of the scan, as both slots' loops print it. -/
def scanStep (v29 m : BitVec 32) (off : Fin 2 → ℕ) (inb : ∀ a, off a + S1x16.size a ≤ S2x2048.size a) (pos : IVec S16 32) :
    Prog (TpuEff nD τ sig (Elt F) Λ₀ (.scVector (cV L) (jV L))) (BitVec 32) := do
  let ld : Vec F S1x16 .i32 ← Prog.lift (.load sI (Rect.unit (s := S2x2048) off S1x16.size inb).toLoadRect (View.loadsAt_vmem h_S1x16))
  have v172 : IVec S16 32 := k0_pay129 v29 m ld
  have hw : k0_chk1 v172 := (← Prog.lift (TpuEff.assume (k0_chk1 v172) (k0_chk1.dec v172))).down
  SparseCore.vectorStoreIdx sP ![v172] pos (k0_pay126 v29 ld) false (k0_idx1_inb v172 hw) (View.stores_vmem_bits_univ h_S2064 rfl)
  SparseCore.vectorStoreIdx sR ![v172] (k0_pay125 v29 ld) (k0_pay126 v29 ld) false (k0_idx2_inb v172 hw) (View.stores_vmem_bits_univ h_S2064 rfl)
  let v183 : BitVec 32 := extractAt ![15] (k0_pay131 v29 ld) inpos_S16_p15
  pure (Scalar.addi m v183)

/-- The state of the scan of block `n` in slot `b` after `k` vectors, the count so far being `m`. -/
def Scan (b n k : ℕ) (m : BitVec 32) : sProp 𝕄 :=
  iprop(⌜m = BitVec.ofNat 32 (cnt (iw L fi) (lo L) (n * 2048 + 16 * k) - C L fi n)⌝ ∗ Slot (F := F) d L b (words L fi n)
    ∗ ∃ fp fr, ⌜PosUpTo L fi (n * 2048) (n * 2048 + 16 * k) fp ∧ RowUpTo L fi (n * 2048) (n * 2048 + 16 * k) fr⌝ ∗ Lists (F := F) d L fp fr)

/-- A load from a slot, an assumption that holds, and a masked scatter into either list. -/
theorem load_slot {α : Type} {Q : α → sProp 𝕄} {R : sProp 𝕄} {b : ℕ} {r : LoadRect S2x2048} {hl} {f : S2x2048.Idx → BitVec 32}
    (hS : (sI).view.setOn r.set ⊆ slot b) {k : (r.shape.Idx → Elt F .i32) → Prog (TpuEff nD τ sig (Elt F) Λ₀ (.scVector (cV L) (jV L))) α}
    (H : iprop(((sI).view.loc (thr L d) ↦[slot b]{fullShare} f) ∗ R) ⊢ wp frame (wpE (defs₀ (F := F)) 𝒱₀ (thr L d) none) Set.univ (k ((sI).view.readAt (Elt F) r f)) Q) :
    iprop(((sI).view.loc (thr L d) ↦[slot b]{fullShare} f) ∗ R) ⊢ wp frame (wpE (defs₀ (F := F)) 𝒱₀ (thr L d) none) Set.univ (Prog.lift (.load sI r hl) >>= k) Q := by
  iintro ⟨HP, HB⟩
  iapply (wp_load 𝒱₀ (thr L d) none Set.univ (m := sI) (S := slot b) hS) $$ HP
  iintro HP
  iapply H
  isplitl [HP]; · iexact HP
  iexact HB

/-- A side condition that holds is passed. -/
theorem assume_step {α : Type} {Q : α → sProp 𝕄} {R : sProp 𝕄} {P : Prop} {dec : Decidable P} (h : P)
    {k : PLift P → Prog (TpuEff nD τ sig (Elt F) Λ₀ (.scVector (cV L) (jV L))) α}
    (H : R ⊢ wp frame (wpE (defs₀ (F := F)) 𝒱₀ (thr L d) none) Set.univ (k ⟨h⟩) Q) :
    R ⊢ wp frame (wpE (defs₀ (F := F)) 𝒱₀ (thr L d) none) Set.univ (Prog.lift (TpuEff.assume P dec) >>= k) Q := by
  show R ⊢ wp frame _ _ (.op (TpuEff.assume P dec) k) Q
  rw [wp_assume_of 𝒱₀ (thr L d) none Set.univ h]
  exact H

/-- The masked scatter into the list of positions, as a step. -/
theorem scatterP_wp {α : Type} {Q : α → sProp 𝕄} {A B : sProp 𝕄} {f : S2064.Idx → BitVec 32} {dest v : IVec S16 32} {mask : IVec S16 1} {h} {hs}
    {k : PUnit → Prog (TpuEff nD τ sig (Elt F) Λ₀ (.scVector (cV L) (jV L))) α}
    (H : iprop(A ∗ ((sP).view.loc (thr L d) ↦{fullShare} storeIdx (F := F) (e := .i32) f ![dest] v mask false h) ∗ B) ⊢ wp frame (wpE (defs₀ (F := F)) 𝒱₀ (thr L d) none) Set.univ (k ⟨⟩) Q) :
    iprop(A ∗ ((sP).view.loc (thr L d) ↦{fullShare} f) ∗ B)
      ⊢ wp frame (wpE (defs₀ (F := F)) 𝒱₀ (thr L d) none) Set.univ (SparseCore.vectorStoreIdx sP ![dest] v mask false h hs >>= k) Q := by
  have h0 := SparseCore.wp_vectorStoreIdx (F := F) (defs := defs₀ (F := F)) 𝒱₀ (thr L d) none Set.univ (base := sP) (idxs := ![dest]) (v := v) (mask := mask) (add := false) (h := h) (hs := hs) (k := k) (f := f) (Q := Q)
  rw [Memref.set_access_whole, Memref.write_access_whole_univ, Memref.read_access_whole] at h0
  iintro ⟨HA, HP, HB⟩
  iapply h0 $$ HP
  iintro HP
  iapply H
  isplitl [HA]; · iexact HA
  isplitl [HP]; · iexact HP
  iexact HB

/-- The masked scatter into the list of rows, as a step. -/
theorem scatterR_wp {α : Type} {Q : α → sProp 𝕄} {A B : sProp 𝕄} {f : S2064.Idx → BitVec 32} {dest v : IVec S16 32} {mask : IVec S16 1} {h} {hs}
    {k : PUnit → Prog (TpuEff nD τ sig (Elt F) Λ₀ (.scVector (cV L) (jV L))) α}
    (H : iprop(A ∗ B ∗ ((sR).view.loc (thr L d) ↦{fullShare} storeIdx (F := F) (e := .i32) f ![dest] v mask false h)) ⊢ wp frame (wpE (defs₀ (F := F)) 𝒱₀ (thr L d) none) Set.univ (k ⟨⟩) Q) :
    iprop(A ∗ B ∗ ((sR).view.loc (thr L d) ↦{fullShare} f))
      ⊢ wp frame (wpE (defs₀ (F := F)) 𝒱₀ (thr L d) none) Set.univ (SparseCore.vectorStoreIdx sR ![dest] v mask false h hs >>= k) Q := by
  have h0 := SparseCore.wp_vectorStoreIdx (F := F) (defs := defs₀ (F := F)) 𝒱₀ (thr L d) none Set.univ (base := sR) (idxs := ![dest]) (v := v) (mask := mask) (add := false) (h := h) (hs := hs) (k := k) (f := f) (Q := Q)
  rw [Memref.set_access_whole, Memref.write_access_whole_univ, Memref.read_access_whole] at h0
  iintro ⟨HA, HB, HP⟩
  iapply h0 $$ HP
  iintro HP
  iapply H
  isplitl [HA]; · iexact HA
  isplitl [HB]; · iexact HB
  iexact HP

/-- One trip carries the scan one vector on. -/
theorem scan_wp (b n k : ℕ) (hk : k < 128) (m : BitVec 32) {off : Fin 2 → ℕ} (hoff : off = ![b, 16 * k]) (inb : ∀ a, off a + S1x16.size a ≤ S2x2048.size a)
    {pos : IVec S16 32} (hpos : ∀ l : Fin 16, pos (lane l) = BitVec.ofNat 32 (n * 2048 + 16 * k + l.val)) :
    Scan (F := F) d L fi b n k m ⊢ wp frame (wpE (defs₀ (F := F)) 𝒱₀ (thr L d) none) Set.univ (scanStep (F := F) L (lo L) m off inb pos)
      (Scan (F := F) d L fi b n (k + 1)) := by
  subst hoff
  unfold Scan Slot Lists
  iintro ⟨%hm, H⟩
  icases H with ⟨Hs, %fp, %fr, %hl, HP, HR⟩
  obtain ⟨hP, hR⟩ := hl
  have main : iprop(((sI).view.loc (thr L d) ↦[slot b]{fullShare} words L fi n) ∗ ((sP).view.loc (thr L d) ↦{fullShare} fp) ∗ ((sR).view.loc (thr L d) ↦{fullShare} fr))
      ⊢ wp frame (wpE (defs₀ (F := F)) 𝒱₀ (thr L d) none) Set.univ (scanStep (F := F) L (lo L) m ![b, 16 * k] inb pos) (Scan (F := F) d L fi b n (k + 1)) := by
    unfold scanStep
    refine load_slot d L ?_ ?_
    · intro x hx
      obtain ⟨y, hy, rfl⟩ := Finset.mem_map.1 hx
      refine Finset.mem_filter.2 ⟨Finset.mem_univ _, ?_⟩
      have h0 := (Rect.mem_set_unit.1 hy) 0
      have e1 : b ≤ (y 0).val := h0.1
      have e2 : (y 0).val < b + 1 := h0.2
      show (y 0).val = b
      omega
    have hld : ∀ l : Fin 16, (sI).view.readAt (Elt F) (Rect.unit (s := S2x2048) ![b, 16 * k] S1x16.size inb).toLoadRect (words L fi n) (ix2 l)
        = iw L fi (n * 2048 + 16 * k + l.val) := by
      intro l
      show iw L fi (n * 2048 + (16 * k + 1 * l.val)) = _
      rw [Nat.one_mul, Nat.add_assoc]
    generalize (sI).view.readAt (Elt F) (Rect.unit (s := S2x2048) ![b, 16 * k] S1x16.size inb).toLoadRect (words L fi n) = ld at hld ⊢
    have hd := pay129 (F := F) (iw L fi) (lo L) (n * 2048 + 16 * k) (n * 2048) ld m hld (by omega) hm
    have hc := chk1 (iw L fi) (lo L) (n * 2048) (n * 2048 + 16 * k) (by omega) (by omega) _ hd
    have hmask := pay126 (F := F) (iw L fi) (lo L) (n * 2048 + 16 * k) ld hld
    have hrow : ∀ l : Fin 16, k0_pay125 (F := F) (lo L) ld (lane l) = iw L fi (n * 2048 + 16 * k + l.val) - lo L := by
      intro l; rw [pay125, ← hld]
    have hlast := pay131 (F := F) (iw L fi) (lo L) (n * 2048 + 16 * k) ld hld
    have hP' := hP.scatter (F := F) (by omega) (by omega) (by decide) (dest := k0_pay129 (lo L) m ld) (v := pos) (fun a x => hc a x) hd (fun l _ => hpos l) hmask
    have hR' := hR.scatter (F := F) (by omega) (by omega) (by decide) (dest := k0_pay129 (lo L) m ld) (v := k0_pay125 (F := F) (lo L) ld) (fun a x => hc a x) hd (fun l _ => hrow l) hmask
    refine assume_step d L ⟨hc, hc⟩ ?_
    refine scatterP_wp d L ?_
    refine scatterR_wp d L ?_
    refine pure_step d L ?_
    unfold Scan Slot Lists
    iintro ⟨Hs, HP, HR⟩
    isplitr
    · ipureintro
      rw [hlast, hm]
      have h1 : C L fi n ≤ cnt (iw L fi) (lo L) (n * 2048 + 16 * k) := cnt_mono _ _ (by omega)
      have h2 : cnt (iw L fi) (lo L) (n * 2048 + 16 * k) ≤ cnt (iw L fi) (lo L) (n * 2048 + 16 * k + 16) := cnt_mono _ _ (by omega)
      show BitVec.ofNat 32 _ + BitVec.ofNat 32 _ = _
      rw [← BitVec.ofNat_add]
      congr 1
      rw [show n * 2048 + 16 * (k + 1) = n * 2048 + 16 * k + 16 by omega]; omega
    isplitl [Hs]; · iexact Hs
    iexists _, _
    isplitr
    · ipureintro
      rw [show n * 2048 + 16 * (k + 1) = n * 2048 + 16 * k + 16 by omega]
      exact ⟨hP', hR'⟩
    isplitl [HP]; · iexact HP
    iexact HR
  unfold Scan Slot Lists at main
  iapply main
  isplitl [Hs]; · iexact Hs
  isplitl [HP]; · iexact HP
  iexact HR

/-- The whole scan of block `n` in slot `b`, by the loop either slot prints. -/
theorem scan_loop_wp {α : Type} {Q : α → sProp 𝕄} (b n : ℕ) {l : Scf.Loop 32} (ok : l.OK) (htr : l.trips = 128)
    (body : Fin l.trips → BitVec 32 → Prog (TpuEff nD τ sig (Elt F) Λ₀ (.scVector (cV L) (jV L))) (BitVec 32))
    {off : Fin l.trips → Fin 2 → ℕ} (hoff : ∀ t, off t = ![b, 16 * t.val]) (inb : ∀ t a, off t a + S1x16.size a ≤ S2x2048.size a)
    {pos : Fin l.trips → IVec S16 32} (hpos : ∀ t, ∀ l : Fin 16, pos t (lane l) = BitVec.ofNat 32 (n * 2048 + 16 * t.val + l.val))
    (hbody : ∀ t m, body t m = scanStep (F := F) L (lo L) m (off t) (inb t) (pos t))
    (kk : BitVec 32 → Prog (TpuEff nD τ sig (Elt F) Λ₀ (.scVector (cV L) (jV L))) α) :
    iprop(Slot (F := F) d L b (words L fi n) ∗ (∃ fp fr, Lists (F := F) d L fp fr))
      ⊢ iprop((∀ fp fr, ⌜PosUpTo L fi (n * 2048) ((n + 1) * 2048) fp ∧ RowUpTo L fi (n * 2048) ((n + 1) * 2048) fr⌝
          -∗ iprop(Slot (F := F) d L b (words L fi n) ∗ Lists (F := F) d L fp fr)
          -∗ wp frame (wpE (defs₀ (F := F)) 𝒱₀ (thr L d) none) Set.univ (kk (BitVec.ofNat 32 (C L fi (n + 1) - C L fi n))) Q)
        -∗ wp frame (wpE (defs₀ (F := F)) 𝒱₀ (thr L d) none) Set.univ (Scf.Loop.for l ok 0#32 body >>= kk) Q) := by
  iintro H Hk
  iapply (Scf.wp_for_bind frame (wpE (defs₀ (F := F)) 𝒱₀ (thr L d) none) Set.univ _ _ _ ok 0#32 body
    (fun k m => Scan (F := F) d L fi b n k m) (fun t m => by
      rw [hbody]; exact scan_wp d L fi b n t.val (Nat.lt_of_lt_of_eq t.isLt htr) m (hoff t) (inb t) (hpos t)) (kk := kk) (Q := Q)) $$ [H]
  · icases H with ⟨Hs, %fp, %fr, Hl⟩
    unfold Scan
    isplitr
    · ipureintro
      show 0#32 = BitVec.ofNat 32 (cnt (iw L fi) (lo L) (n * 2048) - cnt (iw L fi) (lo L) (n * 2048))
      rw [Nat.sub_self]
    isplitl [Hs]; · iexact Hs
    iexists fp, fr
    isplitr
    · ipureintro; exact ⟨Holds.init _ _ _ _ _, Holds.init _ _ _ _ _⟩
    iexact Hl
  iintro %m H
  unfold Scan
  icases H with ⟨%hm, Hs, %fp, %fr, %hl, Hl⟩
  have htr' : Scf.trips l.lb l.ub l.st = 128 := htr
  have e : n * 2048 + 16 * Scf.trips l.lb l.ub l.st = (n + 1) * 2048 := by rw [htr']; omega
  rw [e] at hl hm
  obtain rfl : m = BitVec.ofNat 32 (C L fi (n + 1) - C L fi n) := hm
  ispecialize Hk $$ %fp %fr %hl
  iapply Hk
  isplitl [Hs]; · iexact Hs
  iexact Hl

/-- What the two scan loops print is `scanStep`. -/
theorem t2_eq (v29 v30 : BitVec 32) (v41 : IVec S16 32) (c0 c1 : BitVec 32) (t1 : Fin k0_t1_loop.trips) (a12 : BitVec 32) (t : Fin k0_t2_loop.trips) (m : BitVec 32) :
    k0_t2_body (F := F) L xV (Memref.isWhole_whole _) tV (Memref.isWhole_whole _) oV (Memref.isWhole_whole _) sT (Memref.isWhole_whole _) sI (Memref.isWhole_whole _)
        sP (Memref.isWhole_whole _) sR (Memref.isWhole_whole _) cc0_scratch4 cc0_scratch5 cc0_scoped0 v29 v30 v41 c0 c1 t1 a12 t m
      = scanStep (F := F) L v29 m (k0_off4 t) (k0_off4_inb t) (k0_pay130 v41 c0 c1 t1 t) := rfl
/-- The odd block's scan step is the even block's with the other slot. -/
theorem t7_eq (v29 v30 : BitVec 32) (v41 : IVec S16 32) (t1 : Fin k0_t1_loop.trips) (v105 : BitVec 32) (t : Fin k0_t7_loop.trips) (m : BitVec 32) :
    k0_t7_body (F := F) L xV (Memref.isWhole_whole _) tV (Memref.isWhole_whole _) oV (Memref.isWhole_whole _) sT (Memref.isWhole_whole _) sI (Memref.isWhole_whole _)
        sP (Memref.isWhole_whole _) sR (Memref.isWhole_whole _) cc0_scratch4 cc0_scratch5 cc0_scoped0 v29 v30 v41 t1 v105 t m
      = scanStep (F := F) L v29 m (k0_off72 t) (k0_off72_inb t) (k0_pay141 v41 v105 t) := rfl

end Loops

end Cert.Proof.Tile

end
-- ==== Proof.Pair.lean ====
/-
  The blocks of the index list on their way in: a block's transfer into one slot of the index buffer, its arrival, and
  the even/odd pair of blocks the outer loop works through.
-/
module

public import proofs.«01_k».proof.Proof.Loops

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Words Cert.Proof.Vectors

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S819200 EltTy.i32)
local notation "tV" => (Memref.whole Cert.KernelIdeal.main_v1_scv : Memref Cert.KernelIdeal.sig Kind.scVector Space.hbm Cert.KernelIdeal.S409600 EltTy.f32)
local notation "oV" => (Memref.whole Cert.KernelIdeal.main_v2_scv : Memref Cert.KernelIdeal.sig Kind.scVector Space.hbm Cert.KernelIdeal.S1677721600 EltTy.f32)
local notation "sT" => (Memref.whole Cert.KernelIdeal.cc0_scratch0 : Memref Cert.KernelIdeal.sig Kind.scVector Space.vmem Cert.KernelIdeal.S102400 EltTy.f32)
local notation "sI" => (Memref.whole Cert.KernelIdeal.cc0_scratch1 : Memref Cert.KernelIdeal.sig Kind.scVector Space.vmem Cert.KernelIdeal.S2x2048 EltTy.i32)
local notation "sP" => (Memref.whole Cert.KernelIdeal.cc0_scratch2 : Memref Cert.KernelIdeal.sig Kind.scVector Space.vmem Cert.KernelIdeal.S2064 EltTy.i32)
local notation "sR" => (Memref.whole Cert.KernelIdeal.cc0_scratch3 : Memref Cert.KernelIdeal.sig Kind.scVector Space.vmem Cert.KernelIdeal.S2064 EltTy.i32)

section Blocks

variable (d : Dev nD) (L : grid0.Coords)
variable (fi : S819200.Idx → BitVec 32) (ft : S409600.Idx → Elt F .f32) (fo : S1677721600.Idx → Elt F .f32)
variable (q : PosShare TreeShare)

/-! ## One slot and one block -/

/-- Slot `b` of the index buffer and words `off …` of the index list, as the body slices them. -/
abbrev iSl (b : ℕ) (h : ∀ a, (![b, 0] : Fin 2 → ℕ) a + S1x2048.size a ≤ S2x2048.size a) : Memref sig .scVector .vmem S2048 .i32 :=
  ((sI).slice (Rect.unit (s := S2x2048) ![b, 0] S1x2048.size h) (fun _ => rfl)).squeeze S2048 squeezes_S1x2048_S2048
abbrev xSl (off : Fin 1 → ℕ) (h : ∀ a, off a + S2048.size a ≤ S819200.size a) : Memref sig .scVector .hbm S2048 .i32 :=
  (xV).slice (Rect.unit (s := S819200) off S2048.size h) (fun _ => rfl)

/-- The slice of the index buffer covers its slot. -/
theorem set_iSl (b : ℕ) (h) : (iSl b h).view.set = slot b := by
  ext x
  show x ∈ (((View.whole cc0_scratch1).slice (Rect.unit (s := S2x2048) ![b, 0] S1x2048.size h)).reshape S2048 _).set ↔ _
  rw [View.set_reshape, View.set_slice_whole, Rect.mem_set_unit]
  unfold slot
  rw [Finset.mem_filter]
  constructor
  · intro hx
    have e1 : b ≤ (x 0).val := (hx 0).1
    have e2 : (x 0).val < b + 1 := (hx 0).2
    exact ⟨Finset.mem_univ _, by omega⟩
  · rintro ⟨-, hx⟩ a
    match a with
    | 0 => exact ⟨show b ≤ (x 0).val by omega, show (x 0).val < b + 1 by omega⟩
    | 1 => exact ⟨Nat.zero_le _, show (x 1).val < 0 + 2048 by have : (x 1).val < 2048 := (x 1).isLt; omega⟩

/-- Element `x` of the slice sits in row `b`, at its own column. -/
theorem emb_iSl (b : ℕ) (h) (x : S2048.Idx) : (((iSl b h).view.emb x) 0).val = b ∧ (((iSl b h).view.emb x) 1).val = (x 0).val := by
  have e : (Shape.reshapeEquiv squeezes_S1x2048_S2048.numel_eq x : S1x2048.Idx) = Fin.cons ⟨0, Nat.one_pos⟩ x := Shape.reshapeEquiv_cons_one _ x
  have h0 := ValueKit.view_emb_slice_whole_unit_val cc0_scratch1 ![b, 0] S1x2048.size h (Shape.reshapeEquiv squeezes_S1x2048_S2048.numel_eq x)
  constructor
  · refine (h0 0).trans ?_
    rw [e]; rfl
  · refine (h0 1).trans ?_
    rw [e]
    show 0 + (x 0).val = _
    rw [Nat.zero_add]

/-- What arrives in the slot is the block's words. -/
theorem block_value (b n : ℕ) (hn : n < 50) {off : Fin 1 → ℕ} (hoff : off 0 = gb L + n * 2048) (hi) (hx) (f : S2x2048.Idx → BitVec 32) :
    ∀ y ∈ slot b, (iSl b hi).view.write (Elt F) f (ReadAs.same.apply ((xSl off hx).view.read (Elt F) fi)) Finset.univ y = words L fi n y := by
  intro y hy
  have hy0 : (y 0).val = b := (Finset.mem_filter.1 hy).2
  let x : S2048.Idx := ix1 (y 1).val (y 1).isLt
  obtain ⟨e0, e1⟩ := emb_iSl b hi x
  have e : (iSl b hi).view.emb x = y := by
    funext a
    match a with
    | 0 => exact Fin.ext (e0.trans hy0.symm)
    | 1 => exact Fin.ext e1
  rw [← e, View.write_emb_of_mem _ _ (Finset.mem_univ x), e]
  have hg := grp_lt L
  have hy1 : (y 1).val < 2048 := (y 1).isLt
  unfold words iw
  rw [dif_pos (by unfold gb; omega)]
  show fi ((xSl off hx).view.emb x) = _
  congr 1; apply idx1_ext
  refine (ValueKit.view_emb_slice_whole_unit_val main_v0_scv off S2048.size hx x 0).trans ?_
  show off 0 + (y 1).val = gb L + (n * 2048 + (y 1).val)
  rw [hoff, Nat.add_assoc]

/-- The index list at the tile's read share. -/
def XS : sProp 𝕄 := iprop((xV).view.loc (thr L d) ↦{q} fi)

/-- The units one block signals. -/
def NI : ℕ := (iSl 0 inb_S2x2048_S1x2048_0_0).view.dmaCredit
/-- The fetch of a block of indices signals at least one unit. -/
theorem NI_pos : 0 < NI := View.amount_pos (iSl 0 inb_S2x2048_S1x2048_0_0).view (.dma cc0_scratch5.sem) (show 0 < S2048.numel by decide)

/-- Block `n` on its way into slot `b`, signalling `sm`: it brings back the slot at the block's words and the part of the index list it reads. -/
def Coming (sm : DmaSem sig) (b n : ℕ) : sProp 𝕄 :=
  iprop(∃ S : Finset S819200.Idx, Transfers.Flight EC (thr L d) (.dma sm) (default : HIx 1) NI
      iprop(Slot (F := F) d L b (words L fi n) ∗ (xV).view.loc (thr L d) ↦[S]{q} fi)
    ∗ (xV).view.loc (thr L d) ↦[Finset.univ \ S]{q} fi)

/-- The start of a block's transfer. -/
theorem prefetch_wp {α : Type} {Q : α → sProp 𝕄} (sm : DmaSem sig) (b n : ℕ) (hn : n < 50) {off : Fin 1 → ℕ} (hoff : off 0 = gb L + n * 2048) (hi) (hx)
    (e1 : (xSl off hx).view.WordExact) (e2 : (iSl b hi).view.WordExact)
    (e3 : (DmaTarget.here (iSl b hi) : DmaTarget nD τ sig (.scVector (cV L) (jV L)) .vmem S2048 .i32).Typed .hbm (.dma sm))
    (k : PUnit → Prog (TpuEff nD τ sig (Elt F) Λ₀ (.scVector (cV L) (jV L))) α) :
    iprop((∃ f, Slot (F := F) d L b f) ∗ XS (F := F) d L fi q ∗ semVal (thr L d, SemLoc.dma sm) 0)
      ⊢ iprop((Coming (F := F) d L fi q sm b n -∗ wp frame (wpE (defs₀ (F := F)) 𝒱₀ (thr L d) none) Set.univ (k ⟨⟩) Q)
        -∗ wp frame (wpE (defs₀ (F := F)) 𝒱₀ (thr L d) none) Set.univ (.op (.enqueueDma (xSl off hx) (.here (iSl b hi)) (.dma sm) e1 e2 e3) k) Q) := by
  unfold Coming Slot XS
  iintro ⟨⟨%f, Hs⟩, HX, Hv⟩ Hk
  ihave HX' := (pointsTo_split_subset (ℓ := (xV).view.loc (thr L d)) (q := q) (f := fi) (Finset.subset_univ (xSl off hx).view.set)).1 $$ HX
  icases HX' with ⟨HA, HB⟩
  iapply (Transfers.wp_dmaLocal EC 𝒱₀ (thr L d) none (src := xSl off hx) (dst := iSl b hi) (sm := .dma sm) (via := .same) (Sd := slot b) (fs := fi) (fd := f) (q := q)
    (default : HIx 1) NI rfl NI_pos (set_iSl b hi).subset) $$ [Hs HA Hv]
  · isplitl [HA]; · iexact HA
    isplitl [Hs]; · iexact Hs
    iexact Hv
  iintro HF
  iapply Hk
  have hc : iprop(((iSl b hi).view.loc (thr L d) ↦[slot b]{fullShare} (iSl b hi).view.write (Elt F) f (ReadAs.same.apply ((xSl off hx).view.read (Elt F) fi)) Finset.univ)
        ∗ ((xSl off hx).view.loc (thr L d) ↦[(xSl off hx).view.set]{q} fi))
      ⊢ (iprop(((sI).view.loc (thr L d) ↦[slot b]{fullShare} words L fi n) ∗ (xV).view.loc (thr L d) ↦[(xSl off hx).view.set]{q} fi) : sProp 𝕄) :=
    Entails.of_eq (congrArg (fun P : sProp 𝕄 => iprop(P ∗ (xV).view.loc (thr L d) ↦[(xSl off hx).view.set]{q} fi)) (pointsTo_congr (block_value (F := F) L fi b n hn hoff hi hx f)))
  iexists (xSl off hx).view.set
  isplitl [HF]
  · iapply (Transfers.Flight_mono EC (thr L d) hc) $$ HF
  iexact HB

/-- Its arrival. -/
theorem arrive_wp {α : Type} {Q : α → sProp 𝕄} (O : CellTallies nD τ sig (HIx 1)) (sm : DmaSem sig) (b n : ℕ) {off : Fin 1 → ℕ} {hi} {hx}
    (e1 : (xSl off hx).view.WordExact) (e2 : (iSl b hi).view.WordExact)
    (k : PUnit → Prog (TpuEff nD τ sig (Elt F) Λ₀ (.scVector (cV L) (jV L))) α) :
    iprop(Coming (F := F) d L fi q sm b n ∗ Owing (F := F) d L O)
      ⊢ iprop((iprop(Slot (F := F) d L b (words L fi n) ∗ XS (F := F) d L fi q ∗ semVal (thr L d, SemLoc.dma sm) 0 ∗ Owing (F := F) d L O)
          -∗ wp frame (wpE (defs₀ (F := F)) 𝒱₀ (thr L d) none) Set.univ (k ⟨⟩) Q)
        -∗ wp frame (wpE (defs₀ (F := F)) 𝒱₀ (thr L d) none) Set.univ (.op (.waitDma2 sm (xSl off hx) (iSl b hi) e1 e2) k) Q) := by
  unfold Coming Owing
  iintro ⟨⟨%S, HF, HB⟩, #Hmw, %W, HO⟩ Hk
  iapply (Transfers.wp_waitLocalO EC 𝒱₀ (thr L d) none (default : HIx 1) (srcw := xSl off hx) (dstw := iSl b hi) (hsrc := e1) (hdst := e2) (N := NI) rfl) $$ [HF HO]
  · isplitl [HF]; · iexact HF
    isplitl [HO]; · iexact HO
    iapply (Transfers.MayWaits.elim (SemLoc.dma sm)) $$ Hmw
  iintro ⟨⟨Hs, HX⟩, Hv, HO⟩
  iapply Hk
  isplitl [Hs]; · iexact Hs
  isplitl [HX HB]
  · unfold XS
    iapply (pointsTo_split_subset (ℓ := (xV).view.loc (thr L d)) (q := q) (f := fi) (Finset.subset_univ S)).2
    isplitl [HX]; · iexact HX
    iexact HB
  isplitl [Hv]; · iexact Hv
  isplitr; · iexact Hmw
  iexists _; iexact HO

end Blocks

end Cert.Proof.Tile

end
-- ==== Proof.Trip.lean ====
/-
  One trip of the outer loop: an even block and an odd block, each received, scanned, its copies issued, and the copies
  of the block before waited for.
-/
module

public import proofs.«01_k».proof.Proof.Pair

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Words Cert.Proof.Vectors

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S819200 EltTy.i32)
local notation "tV" => (Memref.whole Cert.KernelIdeal.main_v1_scv : Memref Cert.KernelIdeal.sig Kind.scVector Space.hbm Cert.KernelIdeal.S409600 EltTy.f32)
local notation "oV" => (Memref.whole Cert.KernelIdeal.main_v2_scv : Memref Cert.KernelIdeal.sig Kind.scVector Space.hbm Cert.KernelIdeal.S1677721600 EltTy.f32)
local notation "sT" => (Memref.whole Cert.KernelIdeal.cc0_scratch0 : Memref Cert.KernelIdeal.sig Kind.scVector Space.vmem Cert.KernelIdeal.S102400 EltTy.f32)
local notation "sI" => (Memref.whole Cert.KernelIdeal.cc0_scratch1 : Memref Cert.KernelIdeal.sig Kind.scVector Space.vmem Cert.KernelIdeal.S2x2048 EltTy.i32)
local notation "sP" => (Memref.whole Cert.KernelIdeal.cc0_scratch2 : Memref Cert.KernelIdeal.sig Kind.scVector Space.vmem Cert.KernelIdeal.S2064 EltTy.i32)
local notation "sR" => (Memref.whole Cert.KernelIdeal.cc0_scratch3 : Memref Cert.KernelIdeal.sig Kind.scVector Space.vmem Cert.KernelIdeal.S2064 EltTy.i32)

section Trip

variable (d : Dev nD) (L : grid0.Coords)
variable (fi : S819200.Idx → BitVec 32) (ft : S409600.Idx → Elt F .f32) (fo : S1677721600.Idx → Elt F .f32)
variable (q : PosShare TreeShare)

/-- The two semaphores the blocks signal. -/
abbrev sm0 : DmaSem sig := ((cc0_scratch4.slice (Rect.unit (s := S2) ![0] S1.size inb_S2_S1_0)).squeeze S_ squeezes_S1_S_).sem
abbrev sm1 : DmaSem sig := ((cc0_scratch4.slice (Rect.unit (s := S2) ![1] S1.size inb_S2_S1_1)).squeeze S_ squeezes_S1_S_).sem

/-- A side condition that holds is passed; a branch is taken by its condition. -/
theorem assume_wp {α : Type} {Q : α → sProp 𝕄} {P : Prop} {dec : Decidable P} (h : P) {k : PLift P → Prog (TpuEff nD τ sig (Elt F) Λ₀ (.scVector (cV L) (jV L))) α} :
    wp frame (wpE (defs₀ (F := F)) 𝒱₀ (thr L d) none) Set.univ (k ⟨h⟩) Q ⊢ wp frame (wpE (defs₀ (F := F)) 𝒱₀ (thr L d) none) Set.univ (Prog.lift (TpuEff.assume P dec) >>= k) Q := assume_step d L h .rfl
/-- A branch whose condition holds runs its first arm. -/
theorem then_wp {α : Type} {Q : α → sProp 𝕄} {P : Prop} {dec : Decidable P} (h : P) {t : P → Prog (TpuEff nD τ sig (Elt F) Λ₀ (.scVector (cV L) (jV L))) α} {e : ¬P → _} :
    wp frame (wpE (defs₀ (F := F)) 𝒱₀ (thr L d) none) Set.univ (t h) Q ⊢ wp frame (wpE (defs₀ (F := F)) 𝒱₀ (thr L d) none) Set.univ (dite P t e) Q := Entails.of_eq (by rw [dif_pos h])
/-- A branch whose condition fails runs its second arm. -/
theorem else_wp {α : Type} {Q : α → sProp 𝕄} {P : Prop} {dec : Decidable P} (h : ¬P) {t : P → Prog (TpuEff nD τ sig (Elt F) Λ₀ (.scVector (cV L) (jV L))) α} {e : ¬P → _} :
    wp frame (wpE (defs₀ (F := F)) 𝒱₀ (thr L d) none) Set.univ (e h) Q ⊢ wp frame (wpE (defs₀ (F := F)) 𝒱₀ (thr L d) none) Set.univ (dite P t e) Q := Entails.of_eq (by rw [dif_neg h])

/-- A loop of no trips is passed. -/
theorem dead_wp {α : Type} {Q : α → sProp 𝕄} {l : Scf.Loop 32} (ok : l.OK) (htr : l.trips = 0) (body : Fin l.trips → Unit → Prog (TpuEff nD τ sig (Elt F) Λ₀ (.scVector (cV L) (jV L))) Unit)
    (kk : Unit → Prog (TpuEff nD τ sig (Elt F) Λ₀ (.scVector (cV L) (jV L))) α) :
    wp frame (wpE (defs₀ (F := F)) 𝒱₀ (thr L d) none) Set.univ (kk ()) Q ⊢ wp frame (wpE (defs₀ (F := F)) 𝒱₀ (thr L d) none) Set.univ (Scf.Loop.for l ok ⟨⟩ body >>= kk) Q := by
  iintro H
  iapply (Scf.wp_for_bind frame (wpE (defs₀ (F := F)) 𝒱₀ (thr L d) none) Set.univ _ _ _ ok PUnit.unit body
    (fun _ _ => wp frame (wpE (defs₀ (F := F)) 𝒱₀ (thr L d) none) Set.univ (kk ()) Q) (fun t _ => absurd (Nat.lt_of_lt_of_eq t.isLt htr) (Nat.not_lt_zero _)) (kk := kk) (Q := Q)) $$ [H]
  · iexact H
  iintro %_ H
  iexact H

/-- The even block: received, the next one started, its hits listed. -/
theorem part9_wp {a12 : BitVec 32} {Q : (Σ' (_ : k0_chk67 a12) (_ : BitVec 32) (v67 : BitVec 32) (_ : k0_chk2 v67) (_ : BitVec 32) (_ : BitVec 1), BitVec 32) → sProp 𝕄}
    {R : sProp 𝕄} (O : CellTallies nD τ sig (HIx 1)) (v30 : BitVec 32) (t : Fin k0_t1_loop.trips)
    (H : ∀ r : (Σ' (_ : k0_chk67 a12) (_ : BitVec 32) (v67 : BitVec 32) (_ : k0_chk2 v67) (_ : BitVec 32) (_ : BitVec 1), BitVec 32),
      r.2.1 = Scf.iv 0#32 1#32 t.val → r.2.2.1 = BitVec.ofNat 32 (C L fi (2 * t.val + 1) - C L fi (2 * t.val)) →
      ∀ fp fr, PosUpTo L fi (2 * t.val * 2048) ((2 * t.val + 1) * 2048) fp → RowUpTo L fi (2 * t.val * 2048) ((2 * t.val + 1) * 2048) fr →
      iprop(R ∗ Slot (F := F) d L 0 (words L fi (2 * t.val)) ∗ Lists (F := F) d L fp fr ∗ Coming (F := F) d L fi q sm1 1 (2 * t.val + 1)
        ∗ semVal (thr L d, SemLoc.dma sm0) 0 ∗ Owing (F := F) d L O) ⊢ Q r) :
    iprop(R ∗ Coming (F := F) d L fi q sm0 0 (2 * t.val) ∗ (∃ f, Slot (F := F) d L 1 f) ∗ semVal (thr L d, SemLoc.dma sm1) 0
        ∗ (∃ fp fr, Lists (F := F) d L fp fr) ∗ Owing (F := F) d L O)
      ⊢ wp frame (wpE (defs₀ (F := F)) 𝒱₀ (thr L d) none) Set.univ (k0_part9 (F := F) L xV (Memref.isWhole_whole _) tV (Memref.isWhole_whole _) oV (Memref.isWhole_whole _) sT (Memref.isWhole_whole _) sI (Memref.isWhole_whole _)
        sP (Memref.isWhole_whole _) sR (Memref.isWhole_whole _) cc0_scratch4 cc0_scratch5 cc0_scoped0 (lo L) v30 (iota .scVector S16 32 [0] iota_S16_d0_w32_scVector) 0#32 1#32 t a12) Q := by
  have ht : t.val < 25 := Nat.lt_of_lt_of_eq t.isLt t1_trips
  rw [k0_part9_eq_skeleton]
  unfold k0_part9_skel
  iintro ⟨HR, HC, Hs1, Hv1, Hl, HO⟩
  iapply (assume_wp d L (k0_chk67_all a12))
  iapply (arrive_wp d L fi q O sm0 0 (2 * t.val) (off := ![0]) (View.wordExact_bits rfl) ((View.wordExact_bits rfl).reshape _ _) _) $$ [HC HO]
  · isplitl [HC]; · iexact HC
    iexact HO
  iintro ⟨Hs0, HX, Hv0, HO⟩
  iapply (then_wp d L (cond1 t))
  iapply (prefetch_wp d L fi q sm1 1 (2 * t.val + 1) (by omega) (off3 L t) inb_S2x2048_S1x2048_1_0 _ (View.wordExact_bits rfl) ((View.wordExact_bits rfl).reshape _ _) ⟨Or.inl rfl, trivial⟩ _) $$ [Hs1 HX Hv1]
  · isplitl [Hs1]; · iexact Hs1
    isplitl [HX]; · iexact HX
    iexact Hv1
  iintro HC
  iapply (scan_loop_wp d L fi 0 (2 * t.val) k0_t2_ok t2_trips _ (off := fun t2 => k0_off4 t2) k0_off4_eq k0_off4_inb (fun t2 k => pay130 t t2 k)
    (fun t2 m => t2_eq L (lo L) v30 _ 0#32 1#32 t a12 t2 m) _) $$ [Hs0 Hl]
  · isplitl [Hs0]; · iexact Hs0
    iexact Hl
  iintro %fp %fr %hl ⟨Hs0, Hl⟩
  have hle := C_step L fi (2 * t.val)
  iapply (assume_wp d L (chk2 ⟨C L fi (2 * t.val + 1) - C L fi (2 * t.val), by omega⟩))
  iapply (pure_step d L (H _ rfl rfl fp fr hl.1 hl.2))
  isplitl [HR]; · iexact HR
  isplitl [Hs0]; · iexact Hs0
  isplitl [Hl]; · iexact Hl
  isplitl [HC]; · iexact HC
  isplitl [Hv0]; · iexact Hv0
  iexact HO

/-- The even block's copies issued, those of the block before waited for. -/
theorem part10_wp {a12 v67 : BitVec 32} {Q : BitVec 32 → sProp 𝕄} {R : sProp 𝕄} (O : CellTallies nD τ sig (HIx 1)) (v30 : BitVec 32) (t : ℕ) (ht : t < 25)
    (h67 : k0_chk67 a12) (a11 : BitVec 32) (h2 : k0_chk2 v67) (v69 : BitVec 32) (v83 : BitVec 1) (v84 : BitVec 32)
    (ha : a12 = BitVec.ofNat 32 (C L fi (2 * t) - C L fi (2 * t - 1))) (ha11 : a11 = Scf.iv 0#32 1#32 t) (hv : v67 = BitVec.ofNat 32 (C L fi (2 * t + 1) - C L fi (2 * t)))
    {fp fr : S2064.Idx → BitVec 32} (hP : PosUpTo L fi (2 * t * 2048) ((2 * t + 1) * 2048) fp) (hR : RowUpTo L fi (2 * t * 2048) ((2 * t + 1) * 2048) fr)
    (H : ∀ r, r = BitVec.ofNat 32 (2 * t + 1) → iprop(R ∗ Fired d L fi ft fo (C L fi (2 * t + 1)) (C L fi (2 * t) * NU) ∗ Lists (F := F) d L fp fr ∗ Owing (F := F) d L O) ⊢ Q r) :
    iprop(R ∗ Fired d L fi ft fo (C L fi (2 * t)) (C L fi (2 * t - 1) * NU) ∗ Lists (F := F) d L fp fr ∗ Owing (F := F) d L O)
      ⊢ wp frame (wpE (defs₀ (F := F)) 𝒱₀ (thr L d) none) Set.univ (k0_part10 (F := F) L xV (Memref.isWhole_whole _) tV (Memref.isWhole_whole _) oV (Memref.isWhole_whole _) sT (Memref.isWhole_whole _) sI (Memref.isWhole_whole _)
        sP (Memref.isWhole_whole _) sR (Memref.isWhole_whole _) cc0_scratch4 cc0_scratch5 cc0_scoped0 v30 a12 h67 a11 v67 h2 v69 v83 v84) Q := by
  have c1 : C L fi (2 * t - 1) ≤ C L fi (2 * t) := C_mono L fi (by omega)
  have c2 : C L fi (2 * t) ≤ C L fi (2 * t + 1) := C_mono L fi (by omega)
  have s2 := C_step L fi (2 * t)
  have s1 : C L fi (2 * t) - C L fi (2 * t - 1) ≤ 2048 := by
    rcases Nat.eq_zero_or_pos t with rfl | h
    · simp
    · have := C_step L fi (2 * t - 1); rwa [show 2 * t - 1 + 1 = 2 * t by omega] at this
  have e : C L fi (2 * t - 1) * NU + (C L fi (2 * t) - C L fi (2 * t - 1)) * NU = C L fi (2 * t) * NU := by rw [← Nat.add_mul]; congr 1; omega
  rw [k0_part10_eq_skeleton]
  unfold k0_part10_skel
  iintro ⟨HR, HF, Hl, HO⟩
  iapply (t3_loop_wp d L fi ft fo (b := 2 * t) (u := C L fi (2 * t - 1) * NU) (by omega) (Nat.mul_le_mul_right _ c1) hv v30 a12 h67 a11 h2 v69 v83 v84 hP hR _) $$ [HF Hl]
  · isplitl [HF]; · iexact HF
    iexact Hl
  iintro ⟨HF, Hl⟩
  iapply (dead_wp d L (k0_t4_ok v67 h2) (show (k0_t4_loop v67).trips = 0 by rw [hv]; exact t4_trips ⟨_, by omega⟩) _ _)
  iapply (drain_wp d L fi ft fo O (C L fi (2 * t + 1)) (C L fi (2 * t - 1) * NU) (C L fi (2 * t) - C L fi (2 * t - 1))
      (by rw [e, Nat.mul_comm NU]; exact Nat.mul_le_mul_right _ c2) (k0_t5_ok a12 h67)
      (show (k0_t5_loop a12).trips = _ by rw [ha]; exact t5_trips ⟨_, by omega⟩) (View.wordExact_bits rfl) (View.wordExact_bits rfl) _ (fun _ _ => rfl) _) $$ [HF HO]
  · isplitl [HF]; · iexact HF
    iexact HO
  rw [e]
  iintro ⟨HF, HO⟩
  iapply (dead_wp d L (k0_t6_ok a12 h67) (show (k0_t6_loop a12).trips = 0 by rw [ha]; exact t6_trips ⟨_, by omega⟩) _ _)
  iapply (pure_step d L (H _ ?_))
  · subst ha11
    show (0#32 + BitVec.ofNat 32 t * 1#32) * 2#32 + 1#32 = _
    rw [BitVec.zero_add, BitVec.mul_one, ← BitVec.ofNat_mul, ← BitVec.ofNat_add, Nat.mul_comm]
  isplitl [HR]; · iexact HR
  isplitl [HF]; · iexact HF
  isplitl [Hl]; · iexact Hl
  iexact HO

/-- Before pair `j`: its even block under way into slot 0 while there is one, slot 1 at rest. -/
def Next (j : ℕ) : sProp 𝕄 :=
  iprop((if j < 25 then Coming (F := F) d L fi q sm0 0 (2 * j)
      else iprop((∃ f, Slot (F := F) d L 0 f) ∗ XS (F := F) d L fi q ∗ semVal (thr L d, SemLoc.dma sm0) 0))
    ∗ (∃ f, Slot (F := F) d L 1 f) ∗ semVal (thr L d, SemLoc.dma sm1) 0)

set_option maxHeartbeats 1600000 in
/-- The odd block: received, the next even one started unless it was the last, its hits listed. -/
theorem part11_wp {Q : (Σ' (v119 : BitVec 32) (_ : k0_chk69 v119) (_ : BitVec 32) (_ : BitVec 32) (_ : BitVec 32), BitVec 32) → sProp 𝕄}
    {R : sProp 𝕄} (O : CellTallies nD τ sig (HIx 1)) (v30 : BitVec 32) (t : Fin k0_t1_loop.trips) {v105 : BitVec 32} (hv : v105 = BitVec.ofNat 32 (2 * t.val + 1))
    (H : ∀ (h69 : k0_chk69 (BitVec.ofNat 32 (C L fi (2 * t.val + 2) - C L fi (2 * t.val + 1)))) (v145 : BitVec 32),
      ∀ fp fr, PosUpTo L fi ((2 * t.val + 1) * 2048) ((2 * t.val + 1 + 1) * 2048) fp → RowUpTo L fi ((2 * t.val + 1) * 2048) ((2 * t.val + 1 + 1) * 2048) fr →
      iprop(R ∗ Next (F := F) d L fi q (t.val + 1) ∗ Lists (F := F) d L fp fr ∗ Owing (F := F) d L O)
        ⊢ Q ⟨BitVec.ofNat 32 (C L fi (2 * t.val + 2) - C L fi (2 * t.val + 1)), h69, 1#32, 0#32, 0#32, v145⟩) :
    iprop(R ∗ Coming (F := F) d L fi q sm1 1 (2 * t.val + 1) ∗ (∃ f, Slot (F := F) d L 0 f) ∗ semVal (thr L d, SemLoc.dma sm0) 0
        ∗ (∃ fp fr, Lists (F := F) d L fp fr) ∗ Owing (F := F) d L O)
      ⊢ wp frame (wpE (defs₀ (F := F)) 𝒱₀ (thr L d) none) Set.univ (k0_part11 (F := F) L xV (Memref.isWhole_whole _) tV (Memref.isWhole_whole _) oV (Memref.isWhole_whole _) sT (Memref.isWhole_whole _) sI (Memref.isWhole_whole _)
        sP (Memref.isWhole_whole _) sR (Memref.isWhole_whole _) cc0_scratch4 cc0_scratch5 cc0_scoped0 (lo L) v30 (iota .scVector S16 32 [0] iota_S16_d0_w32_scVector) t v105) Q := by
  have ht : t.val < 25 := Nat.lt_of_lt_of_eq t.isLt t1_trips
  have hle : C L fi (2 * t.val + 2) - C L fi (2 * t.val + 1) ≤ 2048 := C_step L fi (2 * t.val + 1)
  rw [k0_part11_eq_skeleton]
  unfold k0_part11_skel
  have tail : ∀ v119 : BitVec 32, v119 = BitVec.ofNat 32 (C L fi (2 * t.val + 2) - C L fi (2 * t.val + 1)) → k0_chk69 v119 := by
    rintro _ rfl; exact chk69 ⟨_, by omega⟩
  iintro ⟨HR, HC, Hs0, Hv0, Hl, HO⟩
  iapply (arrive_wp d L fi q O sm1 1 (2 * t.val + 1) (off := ![0]) (View.wordExact_bits rfl) ((View.wordExact_bits rfl).reshape _ _) _) $$ [HC HO]
  · isplitl [HC]; · iexact HC
    iexact HO
  iintro ⟨Hs1, HX, Hv1, HO⟩
  by_cases h34 : k0_cond34 t = 1#1
  · have hlt := (cond34 t).1 h34
    iapply (then_wp d L h34)
    iapply (prefetch_wp d L fi q sm0 0 (2 * t.val + 2) (by omega) (off71 L t) inb_S2x2048_S1x2048_0_0 _ (View.wordExact_bits rfl) ((View.wordExact_bits rfl).reshape _ _) ⟨Or.inl rfl, trivial⟩ _) $$ [Hs0 HX Hv0]
    · isplitl [Hs0]; · iexact Hs0
      isplitl [HX]; · iexact HX
      iexact Hv0
    iintro HC
    iapply (scan_loop_wp d L fi 1 (2 * t.val + 1) k0_t7_ok t7_trips _ (off := fun t2 => k0_off72 t2) k0_off72_eq k0_off72_inb (fun t2 k => pay141 v105 (2 * t.val + 1) hv t2 k)
      (fun t2 m => t7_eq L (lo L) v30 _ t v105 t2 m) _) $$ [Hs1 Hl]
    · isplitl [Hs1]; · iexact Hs1
      iexact Hl
    iintro %fp %fr %hl ⟨Hs1, Hl⟩
    iapply (assume_wp d L (tail _ rfl))
    iapply (pure_step d L (H _ _ fp fr hl.1 hl.2))
    isplitl [HR]; · iexact HR
    isplitl [HC Hs1 Hv1]
    · unfold Next
      rw [if_pos (show t.val + 1 < 25 by omega), show 2 * (t.val + 1) = 2 * t.val + 2 by omega]
      isplitl [HC]; · iexact HC
      isplitl [Hs1]; · iexists _; iexact Hs1
      iexact Hv1
    isplitl [Hl]; · iexact Hl
    iexact HO
  · have hlt : ¬ t.val < 24 := fun h => h34 ((cond34 t).2 h)
    iapply (else_wp d L h34)
    iapply (scan_loop_wp d L fi 1 (2 * t.val + 1) k0_t7_ok t7_trips _ (off := fun t2 => k0_off72 t2) k0_off72_eq k0_off72_inb (fun t2 k => pay141 v105 (2 * t.val + 1) hv t2 k)
      (fun t2 m => t7_eq L (lo L) v30 _ t v105 t2 m) _) $$ [Hs1 Hl]
    · isplitl [Hs1]; · iexact Hs1
      iexact Hl
    iintro %fp %fr %hl ⟨Hs1, Hl⟩
    iapply (assume_wp d L (tail _ rfl))
    iapply (pure_step d L (H _ _ fp fr hl.1 hl.2))
    isplitl [HR]; · iexact HR
    isplitl [Hs0 HX Hv0 Hs1 Hv1]
    · unfold Next
      rw [if_neg (show ¬ t.val + 1 < 25 by omega)]
      isplitl [Hs0 HX Hv0]
      · isplitl [Hs0]; · iexact Hs0
        isplitl [HX]; · iexact HX
        iexact Hv0
      isplitl [Hs1]; · iexists _; iexact Hs1
      iexact Hv1
    isplitl [Hl]; · iexact Hl
    iexact HO

/-! ## The trip -/

/-- The odd block's firing loop runs the even block's body. -/
theorem t8_fun (v30 w : BitVec 32) (h2 : k0_chk2 w) (h69 : k0_chk69 w) (h67 : k0_chk67 w) :
    k0_t8_body (F := F) L xV (Memref.isWhole_whole _) tV (Memref.isWhole_whole _) oV (Memref.isWhole_whole _) sT (Memref.isWhole_whole _) sI (Memref.isWhole_whole _)
        sP (Memref.isWhole_whole _) sR (Memref.isWhole_whole _) cc0_scratch4 cc0_scratch5 cc0_scoped0 v30 w h69 1#32 0#32 0#32 = k0_t3_body (F := F) L xV (Memref.isWhole_whole _) tV (Memref.isWhole_whole _) oV (Memref.isWhole_whole _) sT (Memref.isWhole_whole _) sI (Memref.isWhole_whole _)
        sP (Memref.isWhole_whole _) sR (Memref.isWhole_whole _) cc0_scratch4 cc0_scratch5 cc0_scoped0 v30 w h67 w w h2 w 0#1 w := by
  funext t u; rfl

/-- The state before pair `j` of blocks, the carried count being `m`. -/
def Inv (O : CellTallies nD τ sig (HIx 1)) (j : ℕ) (m : BitVec 32) : sProp 𝕄 :=
  iprop(⌜m = BitVec.ofNat 32 (C L fi (2 * j) - C L fi (2 * j - 1))⌝ ∗ Fired d L fi ft fo (C L fi (2 * j)) (C L fi (2 * j - 1) * NU)
    ∗ Next (F := F) d L fi q j ∗ (∃ fp fr, Lists (F := F) d L fp fr) ∗ Owing (F := F) d L O)

/-- One trip of the outer loop keeps the invariant. -/
theorem trip_wp (O : CellTallies nD τ sig (HIx 1)) (v30 : BitVec 32) (t : Fin k0_t1_loop.trips) (a12 : BitVec 32) :
    Inv (F := F) d L fi ft fo q O t.val a12
      ⊢ wp frame (wpE (defs₀ (F := F)) 𝒱₀ (thr L d) none) Set.univ (k0_t1_body (F := F) L xV (Memref.isWhole_whole _) tV (Memref.isWhole_whole _) oV (Memref.isWhole_whole _) sT (Memref.isWhole_whole _) sI (Memref.isWhole_whole _)
        sP (Memref.isWhole_whole _) sR (Memref.isWhole_whole _) cc0_scratch4 cc0_scratch5 cc0_scoped0 (lo L) v30 (iota .scVector S16 32 [0] iota_S16_d0_w32_scVector) t a12)
        (Inv (F := F) d L fi ft fo q O (t.val + 1)) := by
  have ht : t.val < 25 := Nat.lt_of_lt_of_eq t.isLt t1_trips
  have hle := C_step L fi (2 * t.val)
  have hle' : C L fi (2 * t.val + 2) - C L fi (2 * t.val + 1) ≤ 2048 := C_step L fi (2 * t.val + 1)
  have e : C L fi (2 * t.val) * NU + (C L fi (2 * t.val + 1) - C L fi (2 * t.val)) * NU = C L fi (2 * t.val + 1) * NU := by
    have := C_mono L fi (show 2 * t.val ≤ 2 * t.val + 1 by omega)
    rw [← Nat.add_mul]; congr 1; omega
  have c2 : C L fi (2 * t.val + 1) ≤ C L fi (2 * t.val + 2) := C_mono L fi (by omega)
  unfold k0_t1_body
  dsimp only
  rw [wp_bind]
  unfold Inv Next
  rw [if_pos ht]
  iintro ⟨%ha, HF, ⟨HC, Hs1, Hv1⟩, Hl, HO⟩
  iapply (part9_wp d L fi q (R := Fired d L fi ft fo (C L fi (2 * t.val)) (C L fi (2 * t.val - 1) * NU)) O v30 t ?_) $$ [HF HC Hs1 Hv1 Hl HO]
  rotate_left
  · isplitl [HF]; · iexact HF
    isplitl [HC]; · iexact HC
    isplitl [Hs1]; · iexact Hs1
    isplitl [Hv1]; · iexact Hv1
    isplitl [Hl]; · iexact Hl
    iexact HO
  rintro ⟨h67, a11, v67, h2, v69, v83, v84⟩ ha11 hv67 fp fr hP hR
  dsimp only at ha11 hv67 ⊢
  rw [wp_bind]
  iintro ⟨HF, Hs0, Hl, HC, Hv0, HO⟩
  iapply (part10_wp d L fi ft fo
    (R := iprop(Slot (F := F) d L 0 (words L fi (2 * t.val)) ∗ Coming (F := F) d L fi q sm1 1 (2 * t.val + 1) ∗ semVal (thr L d, SemLoc.dma sm0) 0))
    O v30 t.val ht h67 a11 h2 v69 v83 v84 ha ha11 hv67 hP hR ?_) $$ [HF Hs0 Hl HC Hv0 HO]
  rotate_left
  · isplitl [Hs0 HC Hv0]
    · isplitl [Hs0]; · iexact Hs0
      isplitl [HC]; · iexact HC
      iexact Hv0
    isplitl [HF]; · iexact HF
    isplitl [Hl]; · iexact Hl
    iexact HO
  intro v105 hv105
  rw [wp_bind]
  iintro ⟨⟨Hs0, HC, Hv0⟩, HF, Hl, HO⟩
  iapply (part11_wp d L fi q (R := Fired d L fi ft fo (C L fi (2 * t.val + 1)) (C L fi (2 * t.val) * NU)) O v30 t hv105 ?_) $$ [HF Hs0 Hl HC Hv0 HO]
  rotate_left
  · isplitl [HF]; · iexact HF
    isplitl [HC]; · iexact HC
    isplitl [Hs0]; · iexists _; iexact Hs0
    isplitl [Hv0]; · iexact Hv0
    isplitl [Hl]; · iexists fp, fr; iexact Hl
    iexact HO
  intro h69 v145 fp' fr' hP' hR'
  dsimp only
  rw [t8_fun L v30 _ (chk2 ⟨C L fi (2 * t.val + 2) - C L fi (2 * t.val + 1), by omega⟩) h69 (k0_chk67_all _)]
  iintro ⟨HF, HN, Hl, HO⟩
  iapply (t3_loop_wp d L fi ft fo (b := 2 * t.val + 1) (u := C L fi (2 * t.val) * NU) (by omega) (Nat.mul_le_mul_right _ (C_mono L fi (by omega))) rfl v30 _ _ _ _ _ _ _ hP' hR' _) $$ [HF Hl]
  · isplitl [HF]; · iexact HF
    iexact Hl
  iintro ⟨HF, Hl⟩
  iapply (dead_wp d L (k0_t9_ok _ h69) (t9_trips ⟨C L fi (2 * t.val + 2) - C L fi (2 * t.val + 1), by omega⟩) _ _)
  iapply (drain_wp d L fi ft fo O (C L fi (2 * t.val + 2)) (C L fi (2 * t.val) * NU) (C L fi (2 * t.val + 1) - C L fi (2 * t.val))
      (by rw [e, Nat.mul_comm NU]; exact Nat.mul_le_mul_right _ c2) (k0_t10_ok v67 h2)
      (show (k0_t10_loop v67).trips = _ by rw [hv67]; exact t10_trips ⟨_, by omega⟩) (View.wordExact_bits rfl) (View.wordExact_bits rfl) _ (fun _ _ => rfl) _) $$ [HF HO]
  · isplitl [HF]; · iexact HF
    iexact HO
  rw [e]
  iintro ⟨HF, HO⟩
  iapply (dead_wp d L (k0_t11_ok v67 h2) (show (k0_t11_loop v67).trips = 0 by rw [hv67]; exact t11_trips ⟨_, by omega⟩) _ _)
  iapply (pure_step d L .rfl)
  rw [show 2 * (t.val + 1) = 2 * t.val + 2 by omega, show 2 * t.val + 2 - 1 = 2 * t.val + 1 by omega]
  isplitr; · ipureintro; rfl
  isplitl [HF]; · iexact HF
  isplitl [HN]; · unfold Next; rw [show 2 * (t.val + 1) = 2 * t.val + 2 by omega]; iexact HN
  isplitl [Hl]; · iexists fp', fr'; iexact Hl
  iexact HO

end Trip

end Cert.Proof.Tile

end
-- ==== Proof.Tile.lean ====
/-
  One tile's task: its part of the table fetched, the blocks' loop, the last waits; from its share of the two arrays and
  the rows it writes, to those rows at the output's contents.
-/
module

public import proofs.«01_k».proof.Proof.Trip

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Words Cert.Proof.Vectors

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S819200 EltTy.i32)
local notation "tV" => (Memref.whole Cert.KernelIdeal.main_v1_scv : Memref Cert.KernelIdeal.sig Kind.scVector Space.hbm Cert.KernelIdeal.S409600 EltTy.f32)
local notation "oV" => (Memref.whole Cert.KernelIdeal.main_v2_scv : Memref Cert.KernelIdeal.sig Kind.scVector Space.hbm Cert.KernelIdeal.S1677721600 EltTy.f32)
local notation "sT" => (Memref.whole Cert.KernelIdeal.cc0_scratch0 : Memref Cert.KernelIdeal.sig Kind.scVector Space.vmem Cert.KernelIdeal.S102400 EltTy.f32)
local notation "sI" => (Memref.whole Cert.KernelIdeal.cc0_scratch1 : Memref Cert.KernelIdeal.sig Kind.scVector Space.vmem Cert.KernelIdeal.S2x2048 EltTy.i32)
local notation "sP" => (Memref.whole Cert.KernelIdeal.cc0_scratch2 : Memref Cert.KernelIdeal.sig Kind.scVector Space.vmem Cert.KernelIdeal.S2064 EltTy.i32)
local notation "sR" => (Memref.whole Cert.KernelIdeal.cc0_scratch3 : Memref Cert.KernelIdeal.sig Kind.scVector Space.vmem Cert.KernelIdeal.S2064 EltTy.i32)

attribute [local irreducible] C

section Tile

variable (d : Dev nD) (L : grid0.Coords)
variable (fi : S819200.Idx → BitVec 32) (ft : S409600.Idx → Elt F .f32) (fo : S1677721600.Idx → Elt F .f32)
variable (q qt : PosShare TreeShare)

/-! ## The rows the tile writes -/

/-- The tile's elements of the output: the rows of its group whose word names a row of its part of the table. -/
def own : Finset S1677721600.Idx :=
  Finset.univ.filter fun x => gb L ≤ (x 0).val / 2048 ∧ (x 0).val / 2048 < gb L + 102400 ∧ hit (iw L fi) (lo L) ((x 0).val / 2048 - gb L)

/-- The number of hits is the count over the group. -/
theorem nh_eq : nh L fi = cnt (iw L fi) (lo L) (50 * 2048) := by unfold nh C; rfl

/-- The elements the tile writes are the rows of its hits. -/
theorem own_eq : own L fi = (Finset.univ : Finset (Fin (nh L fi))).biUnion fun t => oRow (gb L + ps L fi t.val) := by
  ext x
  unfold own oRow
  simp only [Finset.mem_filter, Finset.mem_univ, true_and, Finset.mem_biUnion]
  constructor
  · rintro ⟨h1, h2, h3⟩
    have hl : cnt (iw L fi) (lo L) ((x 0).val / 2048 - gb L) < nh L fi := by rw [nh_eq]; exact cnt_lt _ _ h3 (by omega)
    refine ⟨⟨_, hl⟩, ?_⟩
    have : ps L fi (cnt (iw L fi) (lo L) ((x 0).val / 2048 - gb L)) = (x 0).val / 2048 - gb L := pos_cnt _ _ h3
    show (x 0).val / 2048 = gb L + ps L fi (cnt (iw L fi) (lo L) ((x 0).val / 2048 - gb L))
    rw [this]; omega
  · rintro ⟨t, ht⟩
    have h1 := ps_lt L fi t.isLt
    rw [ht]
    refine ⟨by omega, by omega, ?_⟩
    rw [Nat.add_sub_cancel_left]
    exact (pos_spec _ _ (show t.val < cnt (iw L fi) (lo L) (50 * 2048) from nh_eq L fi ▸ t.isLt)).2.1

/-- Two hits' rows are disjoint. -/
theorem rows_disjoint : ∀ t ∈ (Finset.univ : Finset (Fin (nh L fi))), ∀ t' ∈ (Finset.univ : Finset (Fin (nh L fi))), t ≠ t' →
    Disjoint (oRow (gb L + ps L fi t.val)) (oRow (gb L + ps L fi t'.val)) := by
  intro t _ t' _ hne
  rw [Finset.disjoint_left]
  intro x hx hx'
  have e1 := (Finset.mem_filter.1 hx).2
  have e2 := (Finset.mem_filter.1 hx').2
  have e : ps L fi t.val = ps L fi t'.val := by omega
  apply hne
  apply Fin.ext
  rw [← cnt_ps L fi t.isLt, ← cnt_ps L fi t'.isLt, e]

/-- The tile's elements, row by row. -/
theorem own_rows (f : S1677721600.Idx → Elt F .f32) :
    (oLoc d L ↦[own L fi]{fullShare} f : sProp 𝕄) = bigSep Finset.univ fun t : Fin (nh L fi) => oLoc d L ↦[oRow (gb L + ps L fi t.val)]{fullShare} f := by
  rw [own_eq, ← pointsTo_biUnion (ℓ := oLoc d L) Finset.univ (fun t : Fin (nh L fi) => oRow (gb L + ps L fi t.val)) (rows_disjoint L fi)]

/-! ## The tile's part of the table, fetched and dealt out -/

/-- The table at the tile's read share. -/
def TS : sProp 𝕄 := iprop((tV).view.loc (thr L d) ↦{qt} ft)

abbrev pSl (off : Fin 1 → ℕ) (h : ∀ a, off a + S102400.size a ≤ S409600.size a) : Memref sig .scVector .hbm S102400 .f32 :=
  (tV).slice (Rect.unit (s := S409600) off S102400.size h) (fun _ => rfl)

/-- What arrives in the tile's table buffer is its part of the table. -/
theorem part_value {off : Fin 1 → ℕ} (hoff : off 0 = part L * 102400) (hx) (f : S102400.Idx → Elt F .f32) :
    ∀ y : S102400.Idx, (sT).view.write (Elt F) f (ReadAs.same.apply ((pSl off hx).view.read (Elt F) ft)) Finset.univ y = tab L ft y := by
  intro y
  refine (View.write_emb_of_mem (v := (sT).view) f _ (Finset.mem_univ y)).trans ?_
  show ft ((pSl off hx).view.emb y) = _
  unfold tab
  congr 1; apply idx1_ext
  refine (ValueKit.view_emb_slice_whole_unit_val main_v1_scv off S102400.size hx y 0).trans ?_
  show off 0 + (y 0).val = part L * 102400 + (y 0).val
  rw [hoff]

def NT : ℕ := (sT).view.dmaCredit
/-- The fetch of the table part signals at least one unit. -/
theorem NT_pos : 0 < NT := View.amount_pos (sT).view (.dma cc0_scratch5.sem) (show 0 < S102400.numel by decide)

/-- The table buffer after the fetch. -/
theorem fetched (f : S102400.Idx → Elt F .f32) :
    (tLoc d L ↦{fullShare} (sT).view.write (Elt F) f (ReadAs.same.apply ((pSl (k0_off1 L) (k0_off1_inb L)).view.read (Elt F) ft)) Finset.univ : sProp 𝕄)
      = tLoc d L ↦{fullShare} tab L ft := by
  refine congrArg (fun g => (tLoc d L ↦{fullShare} g : sProp 𝕄)) ?_
  funext y
  exact part_value (F := F) L ft (off1 L) (k0_off1_inb L) f y

/-- The fetch of the tile's part of the table. -/
theorem part12_wp {Q : (Σ' (_ : BitVec 32), BitVec 32) → sProp 𝕄} {R : sProp 𝕄} (O : CellTallies nD τ sig (HIx 1))
    (H : ∀ v30, iprop(R ∗ (tLoc d L ↦{fullShare} tab L ft) ∗ semVal (thr L d, SemLoc.dma cc0_scoped0.sem) 0 ∗ Owing (F := F) d L O) ⊢ Q ⟨lo L, v30⟩) :
    iprop(R ∗ TS (F := F) d L ft qt ∗ (∃ f, tLoc d L ↦{fullShare} f) ∗ semVal (thr L d, SemLoc.dma cc0_scoped0.sem) 0 ∗ Owing (F := F) d L O)
      ⊢ wp frame (wpE (defs₀ (F := F)) 𝒱₀ (thr L d) none) Set.univ (k0_part12 (F := F) L xV (Memref.isWhole_whole _) tV (Memref.isWhole_whole _) oV (Memref.isWhole_whole _) sT (Memref.isWhole_whole _) sI (Memref.isWhole_whole _)
        sP (Memref.isWhole_whole _) sR (Memref.isWhole_whole _) cc0_scratch4 cc0_scratch5 cc0_scoped0) Q := by
  rw [k0_part12_eq_skeleton]
  unfold k0_part12_skel TS Owing
  have H' : ∀ v30, iprop(R ∗ (tLoc d L ↦{fullShare} tab L ft) ∗ semVal (thr L d, SemLoc.dma cc0_scoped0.sem) 0 ∗ Owing (F := F) d L O) ⊢ Q ⟨loChain L, v30⟩ := by
    rw [loChain_eq]; exact H
  iintro ⟨HR, HT, ⟨%f, Hs⟩, Hv, #Hmw, %W, HO⟩
  ihave HT' := (pointsTo_split_subset (ℓ := (tV).view.loc (thr L d)) (q := qt) (f := ft) (Finset.subset_univ (pSl (k0_off1 L) (k0_off1_inb L)).view.set)).1 $$ HT
  icases HT' with ⟨HA, HB⟩
  iapply (Transfers.wp_dmaLocal EC 𝒱₀ (thr L d) none (src := pSl (k0_off1 L) (k0_off1_inb L)) (dst := sT) (sm := .dma cc0_scoped0.sem) (via := .same) (Sd := Finset.univ) (fs := ft) (fd := f) (q := qt)
    (default : HIx 1) NT rfl NT_pos (Finset.subset_univ _)) $$ [Hs HA Hv]
  · isplitl [HA]; · iexact HA
    isplitl [Hs]; · iexact Hs
    iexact Hv
  iintro HF
  iapply (Transfers.wp_waitLocalO EC 𝒱₀ (thr L d) none (default : HIx 1) (srcw := pSl (k0_off1 L) (k0_off1_inb L)) (dstw := sT) (hsrc := View.wordExact_bits rfl) (hdst := Memref.IsWhole.wordExact (Memref.isWhole_whole _)) (N := NT) rfl) $$ [HF HO]
  · isplitl [HF]; · iexact HF
    isplitl [HO]; · iexact HO
    iapply (Transfers.MayWaits.elim (SemLoc.dma cc0_scoped0.sem)) $$ Hmw
  iintro ⟨⟨Hs, -⟩, Hv, HO⟩
  iapply (pure_step d L (H' _))
  isplitl [HR]; · iexact HR
  isplitl [Hs]
  · iapply (Entails.of_eq (fetched (F := F) d L ft f)); iexact Hs
  isplitl [Hv]; · iexact Hv
  unfold Owing
  isplitr; · iexact Hmw
  iexists _; iexact HO

/-- The table part whole deals out to the hits' row reads. -/
theorem deal : (tLoc d L ↦{fullShare} tab L ft : sProp 𝕄)
    ⊢ iprop((bigSep Finset.univ (tTok d L fi ft)) ∗ ((bigSep Finset.univ (tTok d L fi ft)) -∗ tLoc d L ↦{fullShare} tab L ft)) := by
  have h : ∀ i : Fin (nh L fi), (tLoc d L ↦{Transfers.shareTok fullShare (nh L fi) i} tab L ft : sProp 𝕄)
      ⊣⊢ iprop(tTok d L fi ft i ∗ tLoc d L ↦[Finset.univ \ tRow (rl L fi i.val)]{Transfers.shareTok fullShare (nh L fi) i} tab L ft) := fun i =>
    pointsTo_split_subset (ℓ := tLoc d L) (q := Transfers.shareTok fullShare (nh L fi) i) (f := tab L ft) (I := tRow (rl L fi i.val)) (S := Finset.univ) (Finset.subset_univ _)
  have e : (bigSep Finset.univ (fun i : Fin (nh L fi) => tLoc d L ↦{Transfers.shareTok fullShare (nh L fi) i} tab L ft) : sProp 𝕄)
      ⊣⊢ iprop((bigSep Finset.univ (tTok d L fi ft)) ∗ bigSep Finset.univ fun i : Fin (nh L fi) =>
          tLoc d L ↦[Finset.univ \ tRow (rl L fi i.val)]{Transfers.shareTok fullShare (nh L fi) i} tab L ft) := by
    rw [← bigSep_sep']
    exact ⟨bigSep_mono fun i _ => (h i).1, bigSep_mono fun i _ => (h i).2⟩
  iintro H
  ihave H1 := (Transfers.pointsTo_toks_split (ℓ := tLoc d L) (S := Finset.univ) (f := tab L ft) fullShare (nh L fi)) $$ H
  icases H1 with ⟨Hd, Ht⟩
  ihave H2 := e.1 $$ Ht
  icases H2 with ⟨Ht, Hc⟩
  isplitl [Ht]; · iexact Ht
  iintro Ht
  iapply (Transfers.pointsTo_toks_join (ℓ := tLoc d L) (S := Finset.univ) (f := tab L ft) fullShare (nh L fi))
  isplitl [Hd]; · iexact Hd
  iapply e.2
  isplitl [Ht]; · iexact Ht
  iexact Hc

/-! ## The task -/

instance after_storable (t : Fin (nh L fi)) : Storable (upEmb : UEmb _ 𝕄) (after d L fi ft fo t) := by
  unfold after tTok; infer_instance

/-- The index buffer is its two slots. -/
theorem slots : (Finset.univ : Finset S2x2048.Idx) \ slot 0 = slot 1 := by
  ext x
  have : (x 0).val < 2 := (x 0).isLt
  simp only [slot, Finset.mem_sdiff, Finset.mem_univ, Finset.mem_filter, true_and]
  omega

/-- What the tile starts from and what it leaves, its scratch buffers and its semaphores aside. -/
def Idle (O : CellTallies nD τ sig (HIx 1)) : sProp 𝕄 :=
  iprop((∃ f, tLoc d L ↦{fullShare} f) ∗ (∃ f, (sI).view.loc (thr L d) ↦{fullShare} f) ∗ (∃ fp fr, Lists (F := F) d L fp fr)
    ∗ semVal (thr L d, SemLoc.dma sm0) 0 ∗ semVal (thr L d, SemLoc.dma sm1) 0 ∗ semVal (thr L d, SemLoc.dma cc0_scratch5.sem) 0
    ∗ semVal (thr L d, SemLoc.dma cc0_scoped0.sem) 0 ∗ Owing (F := F) d L O)

set_option maxHeartbeats 1600000 in
/-- The whole task: the tile's elements of the output come to hold the named rows, and its buffers and semaphores end at rest. -/
theorem task_wp (O : CellTallies nD τ sig (HIx 1)) :
    iprop(XS (F := F) d L fi q ∗ TS (F := F) d L ft qt ∗ (oLoc d L ↦[own L fi]{fullShare} fo) ∗ Idle (F := F) d L O)
      ⊢ wp frame (wpE (defs₀ (F := F)) 𝒱₀ (thr L d) none) Set.univ (cc0__sc_body (F := F) L xV (Memref.isWhole_whole _) tV (Memref.isWhole_whole _) oV (Memref.isWhole_whole _) sT (Memref.isWhole_whole _) sI (Memref.isWhole_whole _)
        sP (Memref.isWhole_whole _) sR (Memref.isWhole_whole _) cc0_scratch4 cc0_scratch5 cc0_scoped0) fun _ => iprop((oLoc d L ↦[own L fi]{fullShare} out fi ft fo) ∗ Idle (F := F) d L O) := by
  rw [cc0__sc_body_eq_skeleton]
  unfold cc0__sc_body_skel
  rw [wp_bind, own_rows, own_rows]
  unfold Idle
  iintro ⟨HX, HT, Ho, Hs, ⟨%fI, HI⟩, Hl, Hv0, Hv1, Hvw, Hvr, HO⟩
  iapply (part12_wp d L ft qt (R := iprop(XS (F := F) d L fi q ∗ (bigSep Finset.univ fun t : Fin (nh L fi) => oLoc d L ↦[oRow (gb L + ps L fi t.val)]{fullShare} fo)
      ∗ ((sI).view.loc (thr L d) ↦{fullShare} fI) ∗ (∃ fp fr, Lists (F := F) d L fp fr)
      ∗ semVal (thr L d, SemLoc.dma sm0) 0 ∗ semVal (thr L d, SemLoc.dma sm1) 0 ∗ semVal (thr L d, SemLoc.dma cc0_scratch5.sem) 0)) O ?_) $$ [HX HT Ho Hs HI Hl Hv0 Hv1 Hvw Hvr HO]
  rotate_left
  · isplitl [HX Ho HI Hl Hv0 Hv1 Hvw]
    · isplitl [HX]; · iexact HX
      isplitl [Ho]; · iexact Ho
      isplitl [HI]; · iexact HI
      isplitl [Hl]; · iexact Hl
      isplitl [Hv0]; · iexact Hv0
      isplitl [Hv1]; · iexact Hv1
      iexact Hvw
    isplitl [HT]; · iexact HT
    isplitl [Hs]; · iexact Hs
    isplitl [Hvr]; · iexact Hvr
    iexact HO
  intro v30
  dsimp only
  iintro ⟨⟨HX, Ho, HI, Hl, Hv0, Hv1, Hvw⟩, Hs, Hvr, HO⟩
  ihave HI' := (pointsTo_split_subset (ℓ := (sI).view.loc (thr L d)) (q := fullShare) (f := fI) (Finset.subset_univ (slot 0))).1 $$ HI
  rw [slots]
  icases HI' with ⟨Hs0, Hs1⟩
  iapply (prefetch_wp d L fi q sm0 0 0 (by omega) (off := k0_off2 L) (by rw [off2]; omega) inb_S2x2048_S1x2048_0_0 (k0_off2_inb L) (View.wordExact_bits rfl) ((View.wordExact_bits rfl).reshape _ _) ⟨Or.inl rfl, trivial⟩ _) $$ [Hs0 HX Hv0]
  · isplitl [Hs0]; · iexists fI; unfold Slot; iexact Hs0
    isplitl [HX]; · iexact HX
    iexact Hv0
  iintro HC
  imod (Transfers.batch_alloc' EC (thr L d) (default : HIx 1) NU (after d L fi ft fo) (sm := .dma cc0_scratch5.sem) (E := Set.univ)) $$ Hvw with HBt
  ihave Hd := (deal d L fi ft) $$ Hs
  icases Hd with ⟨Htk, Hback⟩
  have hb : (iprop((bigSep Finset.univ (tTok d L fi ft)) ∗ bigSep Finset.univ fun t : Fin (nh L fi) => oLoc d L ↦[oRow (gb L + ps L fi t.val)]{fullShare} fo) : sProp 𝕄)
      ⊢ bigSep (Transfers.pending 0) (before d L fi ft fo) := by
    rw [← Transfers.bigSep_pending_zero, ← bigSep_sep']; exact .rfl
  have ha : (bigSep Finset.univ (after d L fi ft fo) : sProp 𝕄)
      ⊢ iprop((bigSep Finset.univ (tTok d L fi ft)) ∗ bigSep Finset.univ fun t : Fin (nh L fi) => oLoc d L ↦[oRow (gb L + ps L fi t.val)]{fullShare} out fi ft fo) := by
    rw [← bigSep_sep']; exact .rfl
  ihave Hbf := hb $$ [Htk Ho]
  · isplitl [Htk]; · iexact Htk
    iexact Ho
  iapply (Scf.wp_for_bind frame (wpE (defs₀ (F := F)) 𝒱₀ (thr L d) none) Set.univ _ _ _ k0_t1_ok 0#32 _
    (fun j m => Inv (F := F) d L fi ft fo q O j m) (fun t m => trip_wp d L fi ft fo q O v30 t m) (kk := _) (Q := _)) $$ [HBt Hbf HC Hs1 Hv1 Hl HO]
  · unfold Inv Next Fired
    rw [show 2 * 0 - 1 = 0 by omega, show 2 * 0 = 0 by omega, C_zero, Nat.zero_mul, if_pos (by omega)]
    isplitr; · ipureintro; rfl
    isplitl [HBt Hbf]
    · isplitl [HBt]; · iexact HBt
      iexact Hbf
    isplitl [HC Hs1 Hv1]
    · isplitl [HC]; · iexact HC
      isplitl [Hs1]; · iexists fI; unfold Slot; iexact Hs1
      iexact Hv1
    isplitl [Hl]; · iexact Hl
    iexact HO
  iintro %m Hinv
  rw [show Scf.trips k0_t1_loop.lb k0_t1_loop.ub k0_t1_loop.st = 25 from t1_trips]
  unfold Inv Next
  rw [if_neg (by omega)]
  icases Hinv with ⟨%hm, HF, ⟨⟨⟨%f0, Hs0⟩, HX, Hv0⟩, ⟨%f1, Hs1⟩, Hv1⟩, Hl, HO⟩
  have c1 : C L fi 49 ≤ C L fi 50 := C_mono L fi (by omega)
  have c2 : C L fi 50 - C L fi 49 ≤ 2048 := C_step L fi 49
  have hm' : m = BitVec.ofNat 32 (C L fi 50 - C L fi 49) := hm
  have e : C L fi 49 * NU + (C L fi 50 - C L fi 49) * NU = NU * nh L fi := by
    rw [← Nat.add_mul, Nat.mul_comm]; congr 1; show _ = C L fi 50; omega
  iapply (assume_wp d L (k0_chk134_all m))
  iapply (drain_wp d L fi ft fo O (C L fi 50) (C L fi 49 * NU) (C L fi 50 - C L fi 49) e.le (k0_t12_ok m (k0_chk134_all m))
      (show (k0_t12_loop m).trips = _ by rw [hm']; exact t12_trips ⟨_, by omega⟩) (View.wordExact_bits rfl) (View.wordExact_bits rfl) _ (fun _ _ => rfl) _) $$ [HF HO]
  · isplitl [HF]; · iexact HF
    iexact HO
  rw [e]
  unfold Fired
  iintro ⟨⟨HBt, -⟩, HO⟩
  iapply (dead_wp d L (k0_t13_ok m (k0_chk134_all m)) (show (k0_t13_loop m).trips = 0 by rw [hm']; exact t13_trips ⟨_, by omega⟩) _ _)
  have hN : 0 < NU := View.amount_pos (oSl ![0] inb_S1677721600_S2048_0).view (.dma cc0_scratch5.sem) (show 0 < S2048.numel by decide)
  imod (Transfers.batch_collect' EC (thr L d) hN) $$ HBt with ⟨HD, Hvw⟩
  ihave HD' := ha $$ HD
  icases HD' with ⟨Htk, Ho⟩
  iapply (pure_step d L .rfl)
  isplitl [Ho]; · iexact Ho
  isplitl [Htk Hback]
  · iexists _; iapply Hback; iexact Htk
  isplitl [Hs0 Hs1]
  · iexists (slot 0).piecewise f0 f1
    iapply (pointsTo_join_subset (ℓ := (sI).view.loc (thr L d)) (q := fullShare) (I := slot 0) (S := Finset.univ) (g := f0) (f := f1) (Finset.subset_univ _))
    rw [slots]
    unfold Slot
    isplitl [Hs0]; · iexact Hs0
    iexact Hs1
  isplitl [Hl]; · iexact Hl
  isplitl [Hv0]; · iexact Hv0
  isplitl [Hv1]; · iexact Hv1
  isplitl [Hvw]; · iexact Hvw
  isplitl [Hvr]; · iexact Hvr
  iexact HO

end Tile

end Cert.Proof.Tile

end
-- ==== Proof.Launch.lean ====
/-
  The launch: what the call hands each tile and takes back, how the output splits into the tiles' rows and joins from
  them, and the whole program's run.
-/
module

public import proofs.«01_k».proof.Proof.Tile

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Words Cert.Proof.Vectors

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S819200 EltTy.i32)
local notation "tV" => (Memref.whole Cert.KernelIdeal.main_v1_scv : Memref Cert.KernelIdeal.sig Kind.scVector Space.hbm Cert.KernelIdeal.S409600 EltTy.f32)
local notation "oV" => (Memref.whole Cert.KernelIdeal.main_v2_scv : Memref Cert.KernelIdeal.sig Kind.scVector Space.hbm Cert.KernelIdeal.S1677721600 EltTy.f32)
local notation "sT" => (Memref.whole Cert.KernelIdeal.cc0_scratch0 : Memref Cert.KernelIdeal.sig Kind.scVector Space.vmem Cert.KernelIdeal.S102400 EltTy.f32)
local notation "sI" => (Memref.whole Cert.KernelIdeal.cc0_scratch1 : Memref Cert.KernelIdeal.sig Kind.scVector Space.vmem Cert.KernelIdeal.S2x2048 EltTy.i32)
local notation "sP" => (Memref.whole Cert.KernelIdeal.cc0_scratch2 : Memref Cert.KernelIdeal.sig Kind.scVector Space.vmem Cert.KernelIdeal.S2064 EltTy.i32)
local notation "sR" => (Memref.whole Cert.KernelIdeal.cc0_scratch3 : Memref Cert.KernelIdeal.sig Kind.scVector Space.vmem Cert.KernelIdeal.S2064 EltTy.i32)

open Idealize.ShloMosaic.SparseCore.Cfg (ownBufs ownSems0 ownCells ownRefs mem_ownCells mem_ownRefs)
open Idealize.ShloMosaic.StableHlo (held wp_hlo_within)
open Idealize.ShloMosaic.Rounds

attribute [local irreducible] C

/-! ## The rows of the thirty-two tiles -/

/-- The tile at subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

/-- The number of the tile on subcore `s` of core `c` is `2 s + c`. -/
theorem wid_coords (c : Fin 2) (s : Fin 16) : wid (coordsV c s) = 2 * s.val + c.val := rfl

section Rows

variable (fi : S819200.Idx → BitVec 32)

/-- Two tiles that write one element are one tile. -/
theorem own_inj {c c' : Fin 2} {s s' : Fin 16} {x : S1677721600.Idx} (h : x ∈ own (coordsV c s) fi) (h' : x ∈ own (coordsV c' s') fi) :
    c = c' ∧ s = s' := by
  obtain ⟨-, a1, a2, a3⟩ := Finset.mem_filter.1 h
  obtain ⟨-, b1, b2, b3⟩ := Finset.mem_filter.1 h'
  have hg : grp (coordsV c s) = grp (coordsV c' s') := by unfold gb at a1 a2 b1 b2; omega
  have hgb : gb (coordsV c s) = gb (coordsV c' s') := by unfold gb; rw [hg]
  have hw : iw (coordsV c' s') fi ((x 0).val / 2048 - gb (coordsV c' s')) = iw (coordsV c s) fi ((x 0).val / 2048 - gb (coordsV c s)) := by
    unfold iw; rw [hgb]
  unfold hit at a3 b3
  rw [hw] at b3
  generalize iw (coordsV c s) fi ((x 0).val / 2048 - gb (coordsV c s)) = w at a3 b3
  have p1 := part_lt (coordsV c s)
  have p2 := part_lt (coordsV c' s')
  have hp : part (coordsV c s) = part (coordsV c' s') := by
    unfold lo at a3 b3
    generalize part (coordsV c s) = u at a3 p1 ⊢
    generalize part (coordsV c' s') = v at b3 p2 ⊢
    rw [BitVec.toNat_sub, BitVec.toNat_ofNat, Nat.mod_eq_of_lt (by omega : u * 50 < 2 ^ 32)] at a3
    rw [BitVec.toNat_sub, BitVec.toNat_ofNat, Nat.mod_eq_of_lt (by omega : v * 50 < 2 ^ 32)] at b3
    have := w.isLt
    clear * - a3 b3 p1 p2 this
    interval_cases u <;> interval_cases v <;> omega
  unfold grp part at *
  rw [wid_coords, wid_coords] at hg hp
  have := c.isLt
  have := c'.isLt
  exact ⟨Fin.ext (by omega), Fin.ext (by omega)⟩

/-- An element whose word names a table row is written by some tile. -/
theorem own_cover (x : S1677721600.Idx) (hx : (fi (ix1 ((x 0).val / 2048) (by have : (x 0).val < 1677721600 := (x 0).isLt; omega))).toNat < 200) :
    ∃ (c : Fin 2) (s : Fin 16), x ∈ own (coordsV c s) fi := by
  have hlt : (x 0).val < 1677721600 := (x 0).isLt
  generalize hw : fi (ix1 ((x 0).val / 2048) (by omega)) = w at hx
  let n := (x 0).val / 2048 / 102400 * 4 + w.toNat / 50
  have hn : n < 32 := by show (x 0).val / 2048 / 102400 * 4 + w.toNat / 50 < 32; omega
  obtain ⟨c, s, hwid⟩ : ∃ (c : Fin 2) (s : Fin 16), wid (coordsV c s) = n :=
    ⟨⟨n % 2, Nat.mod_lt _ (by decide)⟩, ⟨n / 2, by omega⟩, by rw [wid_coords]; show 2 * (n / 2) + n % 2 = n; omega⟩
  refine ⟨c, s, ?_⟩
  generalize (coordsV c s : grid0.Coords) = L at hwid ⊢
  have hg : grp L = (x 0).val / 2048 / 102400 := by
    unfold grp; rw [hwid]; show ((x 0).val / 2048 / 102400 * 4 + w.toNat / 50) / 4 = _; omega
  have hp : part L = w.toNat / 50 := by
    unfold part; rw [hwid]; show ((x 0).val / 2048 / 102400 * 4 + w.toNat / 50) % 4 = _; omega
  unfold own
  refine Finset.mem_filter.2 ⟨Finset.mem_univ _, by unfold gb; omega, by unfold gb; omega, ?_⟩
  have e : iw L fi ((x 0).val / 2048 - gb L) = w := by
    unfold iw
    rw [dif_pos (by unfold gb; omega), ← hw]
    congr 1; apply idx1_ext; rw [ix1_val, ix1_val]; unfold gb; omega
  unfold hit lo
  rw [e, hp, BitVec.toNat_sub, BitVec.toNat_ofNat]
  have := w.isLt
  omega

/-- The elements core `c`'s tiles write, and those all the tiles write. -/
def ownC (c : Fin 2) : Finset S1677721600.Idx := Finset.univ.biUnion fun s : Fin 16 => own (coordsV c s) fi
def ownA : Finset S1677721600.Idx := Finset.univ.biUnion fun c : Fin 2 => ownC fi c

/-- Two tiles of one core write disjoint elements. -/
theorem subs_disjoint (c : Fin 2) : ∀ s ∈ (Finset.univ : Finset (Fin 16)), ∀ s' ∈ (Finset.univ : Finset (Fin 16)), s ≠ s' →
    Disjoint (own (coordsV c s) fi) (own (coordsV c s') fi) := by
  intro s _ s' _ hne
  rw [Finset.disjoint_left]
  exact fun x h h' => hne (own_inj fi h h').2

/-- The two cores write disjoint elements. -/
theorem cores_disjoint : ∀ c ∈ (Finset.univ : Finset (Fin 2)), ∀ c' ∈ (Finset.univ : Finset (Fin 2)), c ≠ c' → Disjoint (ownC fi c) (ownC fi c') := by
  intro c _ c' _ hne
  rw [Finset.disjoint_left]
  intro x h h'
  obtain ⟨s, -, hs⟩ := Finset.mem_biUnion.1 h
  obtain ⟨s', -, hs'⟩ := Finset.mem_biUnion.1 h'
  exact hne (own_inj fi hs hs').1

/-- An element no tile writes has a word that names no table row: the output is its old contents there. -/
theorem out_rest (ft : S409600.Idx → Elt F .f32) (fo : S1677721600.Idx → Elt F .f32) :
    ∀ x ∈ Finset.univ \ ownA fi, fo x = out fi ft fo x := by
  intro x hx
  unfold out
  rw [dif_neg]
  intro h
  obtain ⟨c, s, hc⟩ := own_cover fi x h
  exact (Finset.mem_sdiff.1 hx).2 (Finset.mem_biUnion.2 ⟨c, Finset.mem_univ _, Finset.mem_biUnion.2 ⟨s, Finset.mem_univ _, hc⟩⟩)

end Rows

/-! ## What the call hands over -/

abbrev iLoc (d : Dev nD) : Loc nD τ sig := (SparseCore.T d).loc main_v0
abbrev eLoc (d : Dev nD) : Loc nD τ sig := (SparseCore.T d).loc main_v1
abbrev uLoc (d : Dev nD) : Loc nD τ sig := (SparseCore.T d).loc main_v2

/-- A read token of any share. -/
theorem tokens {ℓ : Loc nD τ sig} {f : Buf (Elt F) ℓ} (q : PosShare TreeShare) (n : ℕ) :
    (ℓ ↦{q} f : sProp 𝕄) ⊢ bigSep Finset.univ fun i : Fin n => ℓ ↦{Transfers.shareTok q n i} f := by
  iintro H
  ihave H' := (Transfers.pointsTo_toks_split (ℓ := ℓ) (S := Finset.univ) (f := f) q n) $$ H
  icases H' with ⟨-, H⟩
  iexact H

/-- The share at which the tile reads the index list and the table. -/
def share (c : Fin 2) (s : Fin 16) : PosShare TreeShare := Transfers.shareTok (Transfers.shareTok fullShare 2 c) 16 s

section Hand

variable (d : Dev nD)
variable (fi : S819200.Idx → BitVec 32) (ft : S409600.Idx → Elt F .f32) (fo : S1677721600.Idx → Elt F .f32)

/-- What a tile is handed, and what it brings back. -/
def Go (c : Fin 2) (s : Fin 16) : sProp 𝕄 :=
  iprop((iLoc d ↦{share c s} fi) ∗ (eLoc d ↦{share c s} ft) ∗ uLoc d ↦[own (coordsV c s) fi]{fullShare} fo)
def Td (c : Fin 2) (s : Fin 16) : sProp 𝕄 := iprop(uLoc d ↦[own (coordsV c s) fi]{fullShare} out fi ft fo)

/-- The elements all tiles write, tile by tile. -/
theorem all_rows (f : S1677721600.Idx → Elt F .f32) :
    (uLoc d ↦[ownA fi]{fullShare} f : sProp 𝕄) = bigSep Finset.univ fun c : Fin 2 => bigSep Finset.univ fun s : Fin 16 => uLoc d ↦[own (coordsV c s) fi]{fullShare} f := by
  unfold ownA
  rw [pointsTo_biUnion (ℓ := uLoc d) Finset.univ (fun c : Fin 2 => ownC fi c) (cores_disjoint fi)]
  refine bigSep_congr fun c _ => ?_
  unfold ownC
  rw [pointsTo_biUnion (ℓ := uLoc d) Finset.univ (fun s : Fin 16 => own (coordsV c s) fi) (subs_disjoint fi c)]

/-- A whole buffer gives every tile a read share. -/
theorem deal_shares {ℓ : Loc nD τ sig} {f : Buf (Elt F) ℓ} :
    (ℓ ↦{fullShare} f : sProp 𝕄) ⊢ bigSep Finset.univ fun c : Fin 2 => bigSep Finset.univ fun s : Fin 16 => ℓ ↦{share c s} f :=
  (tokens fullShare 2).trans (bigSep_mono fun c _ => tokens (Transfers.shareTok fullShare 2 c) 16)

/-- The three arrays give every tile what it is handed, and leave the elements no tile writes. -/
theorem hand_out :
    iprop((iLoc d ↦{fullShare} fi) ∗ (eLoc d ↦{fullShare} ft) ∗ uLoc d ↦{fullShare} fo)
      ⊢ (iprop((bigSep Finset.univ fun c : Fin 2 => bigSep Finset.univ fun s : Fin 16 => Go (F := F) d fi ft fo c s)
          ∗ uLoc d ↦[Finset.univ \ ownA fi]{fullShare} fo) : sProp 𝕄) := by
  unfold Go
  iintro ⟨Hi, He, Hu⟩
  ihave Hi' := (deal_shares (F := F) (ℓ := iLoc d) (f := fi)) $$ Hi
  ihave He' := (deal_shares (F := F) (ℓ := eLoc d) (f := ft)) $$ He
  ihave Hu' := (pointsTo_split_subset (ℓ := uLoc d) (q := fullShare) (f := fo) (I := ownA fi) (S := Finset.univ) (Finset.subset_univ _)).1 $$ Hu
  icases Hu' with ⟨Hu, Hr⟩
  isplitr [Hr]
  · simp only [bigSep_sep']
    isplitl [Hi']; · iexact Hi'
    isplitl [He']; · iexact He'
    iapply (Entails.of_eq (all_rows (F := F) d fi fo)); iexact Hu
  iexact Hr

/-- The elements no tile writes already hold the output's value. -/
theorem rest_eq :
    (uLoc d ↦[Finset.univ \ ownA fi]{fullShare} fo : sProp 𝕄) = (uLoc d ↦[Finset.univ \ ownA fi]{fullShare} out fi ft fo) :=
  pointsTo_congr (out_rest fi ft fo)

/-- What the tiles bring back, with the elements no tile writes, is the whole output. -/
theorem hand_in :
    iprop((bigSep Finset.univ fun c : Fin 2 => bigSep Finset.univ fun s : Fin 16 => Td (F := F) d fi ft fo c s) ∗ uLoc d ↦[Finset.univ \ ownA fi]{fullShare} fo)
      ⊢ (uLoc d ↦{fullShare} out fi ft fo : sProp 𝕄) := by
  unfold Td
  rw [← all_rows (F := F) d fi (out fi ft fo), rest_eq (F := F) d fi ft fo]
  exact (pointsTo_split_subset (ℓ := uLoc d) (q := fullShare) (f := out fi ft fo) (I := ownA fi) (S := Finset.univ) (Finset.subset_univ _)).2

end Hand

/-! ## The tile's buffers and semaphores -/

section Own

variable (d : Dev nD) (L : grid0.Coords)

abbrev c0cell : GSem nD τ sig := (thr L d, .dma sm0)
abbrev c1cell : GSem nD τ sig := (thr L d, .dma sm1)
abbrev cwcell : GSem nD τ sig := (thr L d, .dma cc0_scratch5.sem)
abbrev crcell : GSem nD τ sig := (thr L d, .dma cc0_scoped0.sem)

/-- Two semaphores of one thread are different cells. -/
theorem cell_ne {t : Thread nD τ} {a b : SemLoc sig} (h : a ≠ b) : ((t, a) : GSem nD τ sig) ≠ (t, b) := fun e => h (congrArg Prod.snd e)

/-- A tile's semaphores at zero: the four the task uses, and the rest. -/
theorem ownSems0_V :
    (ownSems0 (thr L d) : sProp 𝕄)
      = iprop(semVal (c0cell d L) 0 ∗ semVal (c1cell d L) 0 ∗ semVal (cwcell d L) 0 ∗ semVal (crcell d L) 0
          ∗ bigSep (((((ownCells (thr L d)).erase (c0cell d L)).erase (c1cell d L)).erase (cwcell d L)).erase (crcell d L)) fun g => semVal g 0) := by
  have m0 : c0cell d L ∈ ownCells (thr L d) := mem_ownCells.mpr ⟨rfl, show (SemLoc.dma sm0 : SemLoc sig).isScoped .scVector = true by decide⟩
  have m1 : c1cell d L ∈ ownCells (thr L d) := mem_ownCells.mpr ⟨rfl, show (SemLoc.dma sm1 : SemLoc sig).isScoped .scVector = true by decide⟩
  have mw : cwcell d L ∈ ownCells (thr L d) := mem_ownCells.mpr ⟨rfl, show (SemLoc.dma cc0_scratch5.sem : SemLoc sig).isScoped .scVector = true by decide⟩
  have mr : crcell d L ∈ ownCells (thr L d) := mem_ownCells.mpr ⟨rfl, show (SemLoc.dma cc0_scoped0.sem : SemLoc sig).isScoped .scVector = true by decide⟩
  have n10 : c1cell d L ≠ c0cell d L := cell_ne (show (SemLoc.dma sm1 : SemLoc sig) ≠ .dma sm0 by decide)
  have nw0 : cwcell d L ≠ c0cell d L := cell_ne (show (SemLoc.dma cc0_scratch5.sem : SemLoc sig) ≠ .dma sm0 by decide)
  have nw1 : cwcell d L ≠ c1cell d L := cell_ne (show (SemLoc.dma cc0_scratch5.sem : SemLoc sig) ≠ .dma sm1 by decide)
  have nr0 : crcell d L ≠ c0cell d L := cell_ne (show (SemLoc.dma cc0_scoped0.sem : SemLoc sig) ≠ .dma sm0 by decide)
  have nr1 : crcell d L ≠ c1cell d L := cell_ne (show (SemLoc.dma cc0_scoped0.sem : SemLoc sig) ≠ .dma sm1 by decide)
  have nrw : crcell d L ≠ cwcell d L := cell_ne (show (SemLoc.dma cc0_scoped0.sem : SemLoc sig) ≠ .dma cc0_scratch5.sem by decide)
  unfold SparseCore.Cfg.ownSems0
  rw [SparseCore.bigSep_erase' m0, SparseCore.bigSep_erase' (Finset.mem_erase.mpr ⟨n10, m1⟩),
    SparseCore.bigSep_erase' (Finset.mem_erase.mpr ⟨nw1, Finset.mem_erase.mpr ⟨nw0, mw⟩⟩),
    SparseCore.bigSep_erase' (Finset.mem_erase.mpr ⟨nrw, Finset.mem_erase.mpr ⟨nr1, Finset.mem_erase.mpr ⟨nr0, mr⟩⟩⟩)]

abbrev dref (b : Ref sig .scVector) : DevRef τ sig := (Proc.scVector (cV L) (jV L)).devRef b

/-- Two buffers of one tile are different. -/
theorem dref_ne {a b : Ref sig .scVector} (h : a ≠ b) : dref L a ≠ dref L b := fun e => h (Proc.devRef_injective _ e)

/-- A tile's buffers: the four the task uses, and the rest. -/
theorem ownBufs_V :
    (ownBufs (thr L d) : sProp 𝕄)
      = iprop((∃ f, (thr L d).loc cc0_scratch0 ↦{fullShare} f) ∗ (∃ f, (thr L d).loc cc0_scratch1 ↦{fullShare} f)
          ∗ (∃ f, (thr L d).loc cc0_scratch2 ↦{fullShare} f) ∗ (∃ f, (thr L d).loc cc0_scratch3 ↦{fullShare} f)
          ∗ bigSep (((((ownRefs (τ := τ) (.scVector (cV L) (jV L))).erase (dref L cc0_scratch0)).erase (dref L cc0_scratch1)).erase (dref L cc0_scratch2)).erase
              (dref L cc0_scratch3)) fun b => iprop(∃ f, ((d, b) : Loc nD τ sig) ↦{fullShare} f)) := by
  have mm : ∀ b : Ref sig .scVector, (dref L b).owner = .proc (Proc.scVector (cV L) (jV L)) → dref L b ∈ ownRefs (τ := τ) (.scVector (cV L) (jV L)) := fun b h =>
    SparseCore.Cfg.mem_ownRefs_of_owner (p := Proc.scVector (cV L) (jV L)) (b := dref L b) h
  have n10 := dref_ne L (show (cc0_scratch1 : Ref sig .scVector) ≠ cc0_scratch0 by decide)
  have n20 := dref_ne L (show (cc0_scratch2 : Ref sig .scVector) ≠ cc0_scratch0 by decide)
  have n21 := dref_ne L (show (cc0_scratch2 : Ref sig .scVector) ≠ cc0_scratch1 by decide)
  have n30 := dref_ne L (show (cc0_scratch3 : Ref sig .scVector) ≠ cc0_scratch0 by decide)
  have n31 := dref_ne L (show (cc0_scratch3 : Ref sig .scVector) ≠ cc0_scratch1 by decide)
  have n32 := dref_ne L (show (cc0_scratch3 : Ref sig .scVector) ≠ cc0_scratch2 by decide)
  unfold SparseCore.Cfg.ownBufs
  refine (SparseCore.bigSep_erase' (mm cc0_scratch0 rfl)).trans ?_
  rw [SparseCore.bigSep_erase' (Finset.mem_erase.mpr ⟨n10, mm cc0_scratch1 rfl⟩),
    SparseCore.bigSep_erase' (Finset.mem_erase.mpr ⟨n21, Finset.mem_erase.mpr ⟨n20, mm cc0_scratch2 rfl⟩⟩),
    SparseCore.bigSep_erase' (Finset.mem_erase.mpr ⟨n32, Finset.mem_erase.mpr ⟨n31, Finset.mem_erase.mpr ⟨n30, mm cc0_scratch3 rfl⟩⟩⟩)]

end Own

section Body

variable (d : Dev nD)
variable (fi : S819200.Idx → BitVec 32) (ft : S409600.Idx → Elt F .f32) (fo : S1677721600.Idx → Elt F .f32)

/-- The task, from what the launch hands the tile to what it takes back. -/
theorem tile_body (c : Fin 2) (s : Fin 16) (hF : (K (F := F)).Facts) (O : CellTallies nD τ sig (HIx 1)) (W : Waits sig (HIx 1)) (hO : ∀ g, O g none = 0) :
    let L := coordsV c s
    iprop(levAts (K (F := F)).L (K (F := F)).lev ∗ emp ∗ Go (F := F) d fi ft fo c s
        ∗ scopedBufs (thr L d) ∗ scopedSems0 (thr L d) ∗ owes (thr L d) O W)
      ⊢ wp frame (wpE (defs₀ (F := F)) 𝒱₀ (thr L d) none) Set.univ (cc0__sc_body (F := F) L xV (Memref.isWhole_whole _) tV (Memref.isWhole_whole _) oV (Memref.isWhole_whole _) sT (Memref.isWhole_whole _) sI (Memref.isWhole_whole _)
        sP (Memref.isWhole_whole _) sR (Memref.isWhole_whole _) cc0_scratch4 cc0_scratch5 cc0_scoped0)
          fun _ => iprop(Td (F := F) d fi ft fo c s ∗ scopedBufs (thr L d) ∗ scopedSems0 (thr L d)
            ∗ ∃ W', ⌜∀ p ∈ W', p ∈ W ∨ p.2 = none ∨ p.2 = some (0 : Fin 1)⌝ ∗ owes (thr L d) O W') := by
  intro L
  rw [(K (F := F)).scopedBufs_V hF d (cV L) (jV L), SparseCore.Cfg.scopedSems0_V (Val := Elt F) d (cV L) (jV L), ownSems0_V, ownBufs_V]
  unfold Go Td
  iintro ⟨#Hlv, -, ⟨Hx, Ht, Ho⟩, ⟨Hs, HI, ⟨%fp, Hp⟩, ⟨%fr, Hr⟩, Hbufs⟩, ⟨Hv0, Hv1, Hvw, Hvr, Hsems⟩, HO⟩
  ihave Hmw := (show levAts (K (F := F)).L (K (F := F)).lev ⊢ Transfers.MayWaits (thr L d) (default : HIx 1) O from
    (K (F := F)).mayWaits_none (thr := thr L d) hO) $$ Hlv
  iapply (wp_wand frame _ Set.univ) $$ [Hx Ht Ho Hs HI Hp Hr Hv0 Hv1 Hvw Hvr HO Hmw]
  · iapply (task_wp d L fi ft fo (share c s) (share c s) O)
    isplitl [Hx]; · unfold XS; iexact Hx
    isplitl [Ht]; · unfold TS; iexact Ht
    isplitl [Ho]; · iexact Ho
    unfold Idle Lists Owing
    isplitl [Hs]; · iexact Hs
    isplitl [HI]; · iexact HI
    isplitl [Hp Hr]
    · iexists fp, fr
      isplitl [Hp]; · iexact Hp
      iexact Hr
    isplitl [Hv0]; · iexact Hv0
    isplitl [Hv1]; · iexact Hv1
    isplitl [Hvw]; · iexact Hvw
    isplitl [Hvr]; · iexact Hvr
    isplitl [Hmw]; · iexact Hmw
    iexists W; iexact HO
  unfold Idle Lists Owing
  iintro %_ ⟨Ho, Hs, HI, ⟨%fp, %fr, Hp, Hr⟩, Hv0, Hv1, Hvw, Hvr, -, %W', HO⟩
  isplitl [Ho]; · iexact Ho
  isplitl [Hs HI Hp Hr Hbufs]
  · isplitl [Hs]; · iexact Hs
    isplitl [HI]; · iexact HI
    isplitl [Hp]; · iexists fp; iexact Hp
    isplitl [Hr]; · iexists fr; iexact Hr
    iexact Hbufs
  isplitl [Hv0 Hv1 Hvw Hvr Hsems]
  · isplitl [Hv0]; · iexact Hv0
    isplitl [Hv1]; · iexact Hv1
    isplitl [Hvw]; · iexact Hvw
    isplitl [Hvr]; · iexact Hvr
    iexact Hsems
  iexists W'
  isplitr
  swap; · iexact HO
  ipureintro; intro p _
  rcases p.2 with _ | q
  · exact .inr (.inl rfl)
  · exact .inr (.inr (congrArg some (Subsingleton.elim q 0)))

end Body

/-! ## The payloads -/

section Call

variable (m : (ℓ : Loc nD τ sig) → Buf (Elt F) ℓ) (ρ : Dev nD → PrngReg)

abbrev aI' : DevRef τ sig := (Proc.tc : Proc τ).devRef main_arg0
abbrev aE' : DevRef τ sig := (Proc.tc : Proc τ).devRef main_arg1
abbrev iv' : DevRef τ sig := (Proc.tc : Proc τ).devRef main_v0
abbrev ev' : DevRef τ sig := (Proc.tc : Proc τ).devRef main_v1
abbrev uv' : DevRef τ sig := (Proc.tc : Proc τ).devRef main_v2
abbrev rv' : DevRef τ sig := (Proc.tc : Proc τ).devRef main_v3

abbrev aILoc (d : Dev nD) : Loc nD τ sig := (SparseCore.T d).loc main_arg0
abbrev aELoc (d : Dev nD) : Loc nD τ sig := (SparseCore.T d).loc main_arg1
abbrev rLoc (d : Dev nD) : Loc nD τ sig := (SparseCore.T d).loc main_v3

/-- The three reshapes of @main. -/
abbrev opI : HloOp τ sig (Elt F) := StableHlo.reshape main_arg0 main_v0 (rfl : (.i32 : EltTy) = .i32) shapeCasts_S4096x200_S819200
abbrev opE : HloOp τ sig (Elt F) := StableHlo.reshape main_arg1 main_v1 (rfl : (.f32 : EltTy) = .f32) shapeCasts_S200x2048_S409600
abbrev opR : HloOp τ sig (Elt F) := StableHlo.reshape main_v2 main_v3 (rfl : (.f32 : EltTy) = .f32) shapeCasts_S1677721600_S4096x200x2048

/-- The index list, the table as one row of words, and the output before the call. -/
def FI (d : Dev nD) : S819200.Idx → BitVec 32 := shapeCast S819200 (m (aILoc d) : S4096x200.Idx → BitVec 32) shapeCasts_S4096x200_S819200
def FT (d : Dev nD) : S409600.Idx → Elt F .f32 := shapeCast S409600 (m (aELoc d) : S200x2048.Idx → Elt F .f32) shapeCasts_S200x2048_S409600
def FO (d : Dev nD) : S1677721600.Idx → Elt F .f32 := m (uLoc d)
/-- The output after the call, and the result. -/
def X1 (d : Dev nD) : S1677721600.Idx → Elt F .f32 := out (FI m d) (FT m d) (FO m d)
def Rv (d : Dev nD) : S4096x200x2048.Idx → Elt F .f32 := shapeCast S4096x200x2048 (X1 m d) shapeCasts_S1677721600_S4096x200x2048

/-- The call runs on sixteen subcores. -/
theorem nSub_zero : (K (F := F)).nSub 0 = 16 := rfl
/-- The call runs on two cores. -/
theorem nCore_zero : (K (F := F)).nCore 0 = 2 := rfl

/-- The call's payloads: each sequencer takes its sixteen tiles' shares and brings their rows back. -/
def P : (K (F := F)).Pay (nD := nD) (Val := Elt F) (Name := ℕ) (U := UU) where
  st := fun q d c => match q with
    | 0 => bigSep Finset.univ fun i : Fin ((K (F := F)).nSub 0) => Go d (FI m d) (FT m d) (FO m d) (Fin.cast nCore_zero c) (Fin.cast nSub_zero i)
  dn := fun q d c => match q with
    | 0 => bigSep Finset.univ fun i : Fin ((K (F := F)).nSub 0) => Td d (FI m d) (FT m d) (FO m d) (Fin.cast nCore_zero c) (Fin.cast nSub_zero i)
  go := fun q d c i => match q with
    | 0 => Go d (FI m d) (FT m d) (FO m d) (Fin.cast nCore_zero c) (Fin.cast nSub_zero i)
  td := fun q d c i => match q with
    | 0 => Td d (FI m d) (FT m d) (FO m d) (Fin.cast nCore_zero c) (Fin.cast nSub_zero i)
  x := fun _ _ => iprop(emp)

instance go_storable (d : Dev nD) (c : Fin 2) (s : Fin 16) : BI.Storable (upEmb : UEmb _ 𝕄) (Go (F := F) d (FI m d) (FT m d) (FO m d) c s) := by
  unfold Go; infer_instance
instance td_storable (d : Dev nD) (c : Fin 2) (s : Fin 16) : BI.Storable (upEmb : UEmb _ 𝕄) (Td (F := F) d (FI m d) (FT m d) (FO m d) c s) := by
  unfold Td; infer_instance

instance P_storable : (P m).IsStorable where
  st q d c := match q with
    | 0 => (inferInstance : BI.Storable (upEmb : UEmb _ 𝕄) (bigSep Finset.univ fun i : Fin ((K (F := F)).nSub 0) =>
        Go d (FI m d) (FT m d) (FO m d) (Fin.cast nCore_zero c) (Fin.cast nSub_zero i)))
  dn q d c := match q with
    | 0 => (inferInstance : BI.Storable (upEmb : UEmb _ 𝕄) (bigSep Finset.univ fun i : Fin ((K (F := F)).nSub 0) =>
        Td d (FI m d) (FT m d) (FO m d) (Fin.cast nCore_zero c) (Fin.cast nSub_zero i)))
  go q d c i := match q with
    | 0 => (inferInstance : BI.Storable (upEmb : UEmb _ 𝕄) (Go d (FI m d) (FT m d) (FO m d) (Fin.cast nCore_zero c) (Fin.cast nSub_zero i)))
  td q d c i := match q with
    | 0 => (inferInstance : BI.Storable (upEmb : UEmb _ 𝕄) (Td d (FI m d) (FT m d) (FO m d) (Fin.cast nCore_zero c) (Fin.cast nSub_zero i)))

/-- A core's share is its tiles' shares, and back. -/
theorem vecSplit : (K (F := F)).VecSplit' (P m) 0 := by
  intro d c
  show (bigSep Finset.univ fun i : Fin ((K (F := F)).nSub 0) => Go d (FI m d) (FT m d) (FO m d) (Fin.cast nCore_zero c) (Fin.cast nSub_zero i))
    ⊢ |={Set.univ}=> iprop((bigSep Finset.univ fun i : Fin ((K (F := F)).nSub 0) => Go d (FI m d) (FT m d) (FO m d) (Fin.cast nCore_zero c) (Fin.cast nSub_zero i))
      ∗ ((bigSep Finset.univ fun i : Fin ((K (F := F)).nSub 0) => Td d (FI m d) (FT m d) (FO m d) (Fin.cast nCore_zero c) (Fin.cast nSub_zero i))
        -∗ bigSep Finset.univ fun i : Fin ((K (F := F)).nSub 0) => Td d (FI m d) (FT m d) (FO m d) (Fin.cast nCore_zero c) (Fin.cast nSub_zero i)))
  iintro H
  imodintro
  isplitl [H]; · iexact H
  iintro H; iexact H

/-- The tile's task is the kernel body at its coordinates. -/
theorem defs₀_vector (c : Fin τ.nSC) (s : Fin τ.nSub) :
    defs₀ (F := F) (.scVector c s) 0 ()
      = SparseCore.onTile hcore0 hsub0 (fun c s => (fun L => cc0__sc_body (F := F) L xV (Memref.isWhole_whole _) tV (Memref.isWhole_whole _) oV (Memref.isWhole_whole _) sT (Memref.isWhole_whole _) sI (Memref.isWhole_whole _)
        sP (Memref.isWhole_whole _) sR (Memref.isWhole_whole _) cc0_scratch4 cc0_scratch5 cc0_scoped0) (coordsV c s)) ⟨⟩ c s := rfl

/-- The task meets the launch's obligation. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (FI m d) (FT m d) (FO m d) ⟨_, hci.1⟩ ⟨_, hci.2⟩ hF O W hO

/-! ## The launch's element -/

def u₀ : UU := (initOf (K (F := F)).hsCells (K (F := F)).hsToks, 1)

/-- Nothing, any number of times, is nothing. -/
theorem emp_all {I : Type} (s : Finset I) : (bigSep s fun _ => iprop(emp)) = (iprop(emp) : sProp 𝕄) := bigSep_emp_const s

/-- The launch's element gives the handshakes. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emp_all]; iempintro
  rw [show (bigSep Finset.univ fun t : Thread nD τ => bigSep Finset.univ fun q : Fin 1 => (P (F := F) m).x q t) = bigSep Finset.univ fun _ => iprop(emp) from
    bigSep_congr fun _ _ => bigSep_univ_of_subsingleton (0 : Fin 1), emp_all]
  iempintro

/-! ## @main on the TensorCore -/

def S6 : Finset (DevRef τ sig) := {aI', aE', iv', ev', uv', rv'}

/-- The six arrays held, one by one. -/
theorem held_S6 (d : Dev nD) (W : Valuation τ sig (Elt F)) :
    (held (SparseCore.T d) S6 W : sProp 𝕄)
      = iprop((aILoc d ↦{fullShare} W aI') ∗ (aELoc d ↦{fullShare} W aE') ∗ (iLoc d ↦{fullShare} W iv')
          ∗ (eLoc d ↦{fullShare} W ev') ∗ (uLoc d ↦{fullShare} W uv') ∗ rLoc d ↦{fullShare} W rv') := by
  unfold held S6
  rw [SparseCore.bigSep_insert' (by decide), SparseCore.bigSep_insert' (by decide), SparseCore.bigSep_insert' (by decide),
    SparseCore.bigSep_insert' (by decide), SparseCore.bigSep_insert' (by decide), bigSep_singleton]

/-- The program's arrays, one by one. -/
theorem unscopedBufs_eq (d : Dev nD) (W : (b : Ref sig .tc) → Buf (Elt F) ((d.tc : Thread nD τ).loc b)) :
    (unscopedBufs d W : sProp 𝕄)
      = iprop((aILoc d ↦{fullShare} W main_arg0) ∗ (aELoc d ↦{fullShare} W main_arg1) ∗ (iLoc d ↦{fullShare} W main_v0)
          ∗ (eLoc d ↦{fullShare} W main_v1) ∗ (uLoc d ↦{fullShare} W main_v2) ∗ rLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The buffers at launch, and before the call. -/
def V0 (d : Dev nD) : Valuation τ sig (Elt F) := fun b => m (d, b)
def V2 (d : Dev nD) : Valuation τ sig (Elt F) := (opE (F := F)).result ((opI (F := F)).result (V0 m d))

/-- The program's arrays at launch are held at their contents. -/
theorem unscoped_held (d : Dev nD) : (unscopedBufs d (fun b => m ((SparseCore.T d).loc b)) : sProp 𝕄) = held (SparseCore.T d) S6 (V0 m d) := by
  rw [unscopedBufs_eq, held_S6]; rfl

/-- The two reshapes change nothing else. -/
theorem V2_other (d : Dev nD) (b : DevRef τ sig) (h1 : b ≠ iv') (h2 : b ≠ ev') : V2 m d b = m (d, b) := by
  unfold V2
  rw [(opE (F := F)).result_of_not_mem _ (fun e => h2 (Finset.mem_singleton.1 e)), (opI (F := F)).result_of_not_mem _ (fun e => h1 (Finset.mem_singleton.1 e))]
  rfl
/-- The index list before the call. -/
theorem V2_i (d : Dev nD) : V2 m d iv' = FI m d := by
  unfold V2
  rw [(opE (F := F)).result_of_not_mem _ (show iv' ∉ ({ev'} : Finset (DevRef τ sig)) by decide)]
  exact StableHlo.reshape_result _ _ _ _ _ _ _
/-- The table's words before the call. -/
theorem V2_e (d : Dev nD) : V2 m d ev' = FT m d := by
  unfold V2
  refine (StableHlo.reshape_result _ _ _ _ _ _ _).trans ?_
  rw [(opI (F := F)).result_of_not_mem _ (show aE' ∉ ({iv'} : Finset (DevRef τ sig)) by decide)]
  rfl

/-- The six arrays before the call. -/
theorem held_V2 (d : Dev nD) :
    (held (SparseCore.T d) S6 ((opE (F := F)).result ((opI (F := F)).result (V0 m d))) : sProp 𝕄)
      = iprop((aILoc d ↦{fullShare} m (aILoc d)) ∗ (aELoc d ↦{fullShare} m (aELoc d)) ∗ (iLoc d ↦{fullShare} FI m d)
          ∗ (eLoc d ↦{fullShare} FT m d) ∗ (uLoc d ↦{fullShare} FO m d) ∗ rLoc d ↦{fullShare} m (rLoc d)) := by
  show held (SparseCore.T d) S6 (V2 m d) = _
  rw [held_S6, V2_i, V2_e, V2_other m d aI' (by decide) (by decide), V2_other m d aE' (by decide) (by decide),
    V2_other m d uv' (by decide) (by decide), V2_other m d rv' (by decide) (by decide)]
  rfl

/-- The output and the result, held for the last reshape. -/
def S2 : Finset (DevRef τ sig) := {uv', rv'}
def V3 (d : Dev nD) : Valuation τ sig (Elt F) := Function.update (V0 m d) uv' (X1 m d)

/-- The output and the result held, one by one. -/
theorem held_S2 (d : Dev nD) (W : Valuation τ sig (Elt F)) :
    (held (SparseCore.T d) S2 W : sProp 𝕄) = iprop((uLoc d ↦{fullShare} W uv') ∗ rLoc d ↦{fullShare} W rv') := by
  unfold held S2
  rw [SparseCore.bigSep_insert' (by decide), bigSep_singleton]

/-- The output after the call. -/
theorem V3_u (d : Dev nD) : V3 m d uv' = X1 m d := Function.update_self _ _ _
/-- The result before the last reshape. -/
theorem V3_r (d : Dev nD) : V3 m d rv' = m (rLoc d) := Function.update_of_ne (show rv' ≠ uv' by decide) _ _

/-- The output and the result before the last reshape. -/
theorem held_V3 (d : Dev nD) :
    (held (SparseCore.T d) S2 (V3 m d) : sProp 𝕄) = iprop((uLoc d ↦{fullShare} X1 m d) ∗ rLoc d ↦{fullShare} m (rLoc d)) := by
  rw [held_S2, V3_u, V3_r]

/-- The output and the result after the last reshape. -/
theorem held_V4 (d : Dev nD) :
    (held (SparseCore.T d) S2 ((opR (F := F)).result (V3 m d)) : sProp 𝕄)
      = iprop((uLoc d ↦{fullShare} X1 m d) ∗ rLoc d ↦{fullShare} Rv m d) := by
  rw [held_S2, (opR (F := F)).result_of_not_mem (V3 m d) (b := uv') (show uv' ∉ ({rv'} : Finset (DevRef τ sig)) by decide), V3_u,
    show (opR (F := F)).result (V3 m d) rv' = Rv m d from (StableHlo.reshape_result _ _ _ _ _ _ _).trans (by rw [V3_u]; rfl)]

/-- What the call takes is what the tiles are handed. -/
theorem st_all (d : Dev nD) :
    (bigSep Finset.univ fun c : Fin ((K (F := F)).nCore 0) => (P m).st 0 d c)
      = bigSep Finset.univ fun c : Fin 2 => bigSep Finset.univ fun s : Fin 16 => Go (F := F) d (FI m d) (FT m d) (FO m d) c s := rfl
/-- What the call returns is what the tiles bring back. -/
theorem dn_all (d : Dev nD) :
    (bigSep Finset.univ fun c : Fin ((K (F := F)).nCore 0) => (P m).dn 0 d c)
      = bigSep Finset.univ fun c : Fin 2 => bigSep Finset.univ fun s : Fin 16 => Td (F := F) d (FI m d) (FT m d) (FO m d) c s := rfl

/-- The first reshape's arrays are held. -/
theorem hI : (opI (F := F)).bufs ⊆ S6 := show ({aI', iv'} : Finset (DevRef τ sig)) ⊆ S6 by decide
/-- The second reshape's arrays are held. -/
theorem hE : (opE (F := F)).bufs ⊆ S6 := show ({aE', ev'} : Finset (DevRef τ sig)) ⊆ S6 by decide
/-- The last reshape's arrays are held. -/
theorem hR : (opR (F := F)).bufs ⊆ S2 := show ({uv', rv'} : Finset (DevRef τ sig)) ⊆ S2 by decide

/-- What @main leaves: the arguments as they were, the result at the gathered rows. -/
abbrev FIN (d : Dev nD) : sProp 𝕄 :=
  iprop((aILoc d ↦{fullShare} m (aILoc d)) ∗ (aELoc d ↦{fullShare} m (aELoc d)) ∗ rLoc d ↦{fullShare} Rv m d)

/-- @main: two reshapes, the call over the index list, the table and the output, the last reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opI) (S := S6) hI (V := V0 m d)) $$ [Hb Hheld]
  · isplitl [Hb] <;> iassumption
  iintro ⟨Hb, Hheld⟩
  rw [wp_ret]; imodintro
  iapply (wp_hlo_within 𝒱 (SparseCore.T d) none Set.univ (op := opE) (S := S6) hE (V := (opI (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨HaI, HaE, Hi, He, Hu, Hr⟩
  ihave Hgo := (hand_out (F := F) d (FI m d) (FT m d) (FO m d)) $$ [Hi He Hu]
  · isplitl [Hi]; · iexact Hi
    isplitl [He]; · iexact He
    iexact Hu
  icases Hgo with ⟨Hgo, Hrest⟩
  iapply ((K (F := F)).wp_run (D (F := F)) 𝒱 (EH := EH) (P := P m) κ d 0) $$ [Hst Hgo Hrest HaI HaE Hb Hr Hts]
  isplitr; · iexact Hctx
  isplitl [Hst]; · iexact Hst
  isplitl [Hgo]
  · rw [st_all]; iexact Hgo
  iintro ⟨Hst, Hdn⟩
  ihave Hdn' := (Entails.of_eq (dn_all m d)) $$ Hdn
  ihave Hu := (hand_in (F := F) d (FI m d) (FT m d) (FO m d)) $$ [Hdn' Hrest]
  · isplitl [Hdn']; · iexact Hdn'
    iexact Hrest
  iapply (wp_hlo_within 𝒱 (SparseCore.T d) none Set.univ (op := opR) (S := S2) hR (V := V3 m d)) $$ [Hb Hu Hr]
  · isplitl [Hb]; · iexact Hb
    rw [held_V3]
    isplitl [Hu]; · iexact Hu
    iexact Hr
  iintro ⟨Hb, Hheld⟩
  ihave Hh := (Entails.of_eq (held_V4 (F := F) m d)) $$ Hheld
  icases Hh with ⟨-, Hr⟩
  rw [wp_ret]; imodintro; imodintro
  isplitl [Hst]; · iexact Hst
  isplitr [Hb Hts]
  · isplitl [HaI]; · iexact HaI
    isplitl [HaE]; · iexact HaE
    iexact Hr
  isplitl [Hb] <;> iassumption

/-- What the claims read of device `d`'s final state. -/
def fq (d : Dev nD) (s' : Phys nD τ sig (Elt F)) : Prop :=
  s'.mem.mem (rLoc d) = Rv m d ∧ s'.mem.mem (aILoc d) = m (aILoc d) ∧ s'.mem.mem (aELoc d) = m (aELoc d)

/-- What @main leaves determines the final memory. -/
theorem hfin (d : Dev nD) (s' : Phys nD τ sig (Elt F)) : iprop(FIN m d ∗ SI s') ⊢ (⌜fq m d s'⌝ : sProp 𝕄) := by
  iintro ⟨⟨Hi, He, Hr⟩, HSI⟩
  ihave H := (persistent_entails_right (SI_pointsTo_agree (st := s') (ℓ := aILoc d) (I := Finset.univ) (q := fullShare) (f := m (aILoc d)))) $$ [HSI Hi]
  · isplitl [HSI] <;> iassumption
  icases H with ⟨%hi, HSI, -⟩
  ihave H := (persistent_entails_right (SI_pointsTo_agree (st := s') (ℓ := aELoc d) (I := Finset.univ) (q := fullShare) (f := m (aELoc d)))) $$ [HSI He]
  · isplitl [HSI] <;> iassumption
  icases H with ⟨%he, HSI, -⟩
  ihave H := (SI_pointsTo_agree (st := s') (ℓ := rLoc d) (I := Finset.univ) (q := fullShare) (f := Rv m d)) $$ [HSI Hr]
  · isplitl [HSI] <;> iassumption
  icases H with %hr
  ipureintro
  exact ⟨funext fun i => hr i (Finset.mem_univ i), funext fun i => hi i (Finset.mem_univ i), funext fun i => he i (Finset.mem_univ i)⟩

/-! ## The program's run -/

def QC : PUnit × MemSt nD τ sig (Elt F) → Prop := fun r =>
  (∀ c : Dev nD, r.2.mem (rLoc c) = Rv m c ∧ r.2.mem (aILoc c) = m (aILoc c) ∧ r.2.mem (aELoc c) = m (aELoc c)) ∧ r.2.sem = fun _ => 0

/-- Every run of the program ends with the result at the gathered rows, the arguments unchanged and the semaphores at
    zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Call

end Cert.Proof.Tile

end
-- ==== Proof.Take.lean ====
/-
  The reference's result: every index names a table row, so each element of the result is the named row's element.
-/
module

public import proofs.«01_k».proof.Proof.Words
public import proofs.«01_k».proof.Proof.Gen.ReferenceIdeal.Run
public import proofs.«01_k».proof.Proof.Gen.Pre_idx_in_table
public import proofs.«01_k».proof.Pre_idx_in_table
public import Idealize.ShloMosaic.Lib.ReduceAll
public import Idealize.ShloMosaic.Lib.Pipeline.Value

@[expose] public section

noncomputable section

namespace Cert.Proof.Take

open Cert.ReferenceIdeal Cert.ReferenceIdeal.Gen Cert.Proof.Words Idealize.ShloMosaic

variable {F : FTy → Type} [FloatOps F]

/-- The index `(a, b)` of the index array, of the table, and `(a, b, c)` of the result. -/
def ixI (a : Fin 4096) (b : Fin 200) : S4096x200.Idx := fun k => match k with | ⟨0, _⟩ => a | ⟨1, _⟩ => b
def ixT (a : Fin 200) (b : Fin 2048) : S200x2048.Idx := fun k => match k with | ⟨0, _⟩ => a | ⟨1, _⟩ => b

/-! ## Words below 200 -/

/-- A word below 200 reads the same signed and unsigned. -/
theorem toInt_small {w : BitVec 32} (h : w.toNat < 200) : w.toInt = w.toNat := by
  rw [BitVec.toInt_eq_toNat_cond, if_pos (by omega)]

/-- The signed comparison of such a word with zero does not find it negative. -/
theorem slt_zero {w : BitVec 32} (h : w.toNat < 200) : IntOp.cmpi .slt w 0#32 = 0#1 := by
  unfold IntOp.cmpi
  rw [show (w.slt 0#32) = false by simp [BitVec.slt, toInt_small h]]; rfl
/-- The signed comparison finds such a word at least zero. -/
theorem sge_zero {w : BitVec 32} (h : w.toNat < 200) : IntOp.cmpi .sge w 0#32 = 1#1 := by
  unfold IntOp.cmpi
  rw [show ((0#32).sle w) = true by simp [BitVec.sle, toInt_small h]]; rfl
/-- The signed comparison finds such a word at most 199. -/
theorem sle_last {w : BitVec 32} (h : w.toNat < 200) : IntOp.cmpi .sle w 199#32 = 1#1 := by
  unfold IntOp.cmpi
  rw [show (w.sle 199#32) = true by
    simp only [BitVec.sle, toInt_small h, decide_eq_true_eq]; rw [show (199#32).toInt = 199 from rfl]; omega]; rfl

/-- A word the precondition admits is below 200. -/
theorem small_of_pre {w : BitVec 32} (h : IntOp.andi (IntOp.cmpi .sge w 0#32) (IntOp.cmpi .slt w 200#32) = 1#1) : w.toNat < 200 := by
  obtain ⟨h1, h2⟩ := IntOp.andi_eq_one.1 h
  unfold IntOp.cmpi at h1 h2
  have e1 : (0#32).sle w = true := by
    by_contra hc; rw [Bool.not_eq_true] at hc; simp only [hc] at h1; exact absurd h1 (by decide)
  have e2 : w.slt 200#32 = true := by
    by_contra hc; rw [Bool.not_eq_true] at hc; simp only [hc] at h2; exact absurd h2 (by decide)
  simp only [BitVec.sle, BitVec.slt, decide_eq_true_eq] at e1 e2
  rw [show (0#32).toInt = 0 from rfl] at e1
  rw [show (200#32).toInt = 200 from rfl] at e2
  rw [BitVec.toInt_eq_toNat_cond] at e1 e2
  have := w.isLt
  split at e1 <;> omega

/-- Under the precondition every index is below 200. -/
theorem small_of_fn {x : IVec S4096x200 32} {e : FVec F S200x2048 .f32}
    (h : Cert.Pre_idx_in_table.fn (F := F) x e = fun _ => 1#1) (i : S4096x200.Idx) : (x i).toNat < 200 :=
  small_of_pre (congrFun h i)

/-! ## The reference's term -/

section Term

variable (x : IVec S4096x200 32) (e : FVec F S200x2048 .f32)

/-- The indices, the negative ones wrapped; as a column; the mask of those in the table; the result. -/
def wrapped : IVec S4096x200 32 :=
  select (cmpi .slt x (broadcastInDim S4096x200 ![] bcast_S_S4096x200 (constantI S_ 32 0#32))) (addi x (broadcastInDim S4096x200 ![] bcast_S_S4096x200 (constantI S_ 32 200#32))) x
def column : IVec S4096x200x1 32 := broadcastInDim S4096x200x1 ![0, 1] bcast_S4096x200_S4096x200x1_0_1 (wrapped x)
def mask : IVec S4096x200 1 :=
  Host.reduce IntOp.andi (andi (cmpi .sge (column x) (broadcastInDim S4096x200x1 ![] bcast_S_S4096x200x1 (constantI S_ 32 0#32)))
    (cmpi .sle (column x) (broadcastInDim S4096x200x1 ![0, 1, 2] bcast_S1x1x1_S4096x200x1_0_1_2 (broadcastInDim S1x1x1 ![2] bcast_S1_S1x1x1_2 (constantI S1 32 199#32)))))
    (constantI S_ 1 1#1) reducesTo_S4096x200x1_S4096x200_d2 h_S_
def taken : FVec F S4096x200x2048 .f32 :=
  select (broadcastInDim S4096x200x2048 ![0, 1] bcast_S4096x200_S4096x200x2048_0_1 (mask x))
    (Host.gather gather_S200x2048_S4096x200x1_S4096x200x2048_2_0_n_n_0_2_12048 e (column x))
    (broadcastInDim S4096x200x2048 ![] bcast_S_S4096x200x2048 (constant S_ .f32 0x7FC00000#32))

variable {x} (hx : ∀ i, (x i).toNat < 200)
include hx

/-- No index is wrapped. -/
theorem wrapped_eq : wrapped x = x := by
  funext i
  show Scalar.select (IntOp.cmpi .slt (x i) 0#32) _ (x i) = x i
  rw [slt_zero (hx i)]; rfl

/-- The column of indices read at an index. -/
theorem column_eq (y : S4096x200x1.Idx) : column x y = x (ixI (y 0) (y 1)) := by
  unfold column
  rw [wrapped_eq hx]
  unfold broadcastInDim
  congr 1; funext a
  match a with
  | ⟨0, _⟩ => rfl
  | ⟨1, _⟩ => rfl

/-- Every index is in the table. -/
theorem mask_eq (i : S4096x200.Idx) : mask x i = 1#1 := by
  unfold mask
  refine Host.reduce_andi_one _ _ _ _ _ rfl fun y => ?_
  show IntOp.andi (IntOp.cmpi .sge (column x y) 0#32) (IntOp.cmpi .sle (column x y) 199#32) = 1#1
  rw [column_eq hx, sge_zero (hx _), sle_last (hx _)]; rfl

/-- The gather reads the row the index names. -/
theorem gather_eq (y : S4096x200x2048.Idx) :
    Host.gather gather_S200x2048_S4096x200x1_S4096x200x2048_2_0_n_n_0_2_12048 e (column x) y
      = e (ixT ⟨(x (ixI (y 0) (y 1))).toNat, hx _⟩ (y 2)) := by
  unfold Host.gather
  congr 1
  funext a
  refine Fin.ext ?_
  let d := gather_S200x2048_S4096x200x1_S4096x200x2048_2_0_n_n_0_2_12048
  show d.start y (column x) a + d.batchCoord y a + d.offCoord y a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ d.startIndexMap from List.mem_singleton.mpr rfl), column_eq hx]
    have e0 : ixI (d.siIdx y ⟨d.startIndexMap.idxOf (0 : Fin 2), List.idxOf_lt_length_iff.2 (List.mem_singleton.mpr rfl)⟩ 0)
        (d.siIdx y ⟨d.startIndexMap.idxOf (0 : Fin 2), List.idxOf_lt_length_iff.2 (List.mem_singleton.mpr rfl)⟩ 1) = ixI (y 0) (y 1) := by
      congr 1
    refine (congrArg (fun k => min (x k).toInt.toNat (200 - 1)) e0).trans ?_
    show min (x (ixI (y 0) (y 1))).toInt.toNat 199 = (x (ixI (y 0) (y 1))).toNat
    have := hx (ixI (y 0) (y 1))
    rw [toInt_small this]
    omega
  · unfold GatherDims.start
    rw [dif_neg (show (1 : Fin 2) ∉ d.startIndexMap from fun h => absurd (List.mem_singleton.1 h) (by decide))]
    simp only [Nat.zero_add]
    rfl

/-- The reference's result at `y`: the row the word names. -/
theorem taken_eq (y : S4096x200x2048.Idx) : taken x e y = e (ixT ⟨(x (ixI (y 0) (y 1))).toNat, hx _⟩ (y 2)) := by
  unfold taken
  show Scalar.select (broadcastInDim S4096x200x2048 ![0, 1] bcast_S4096x200_S4096x200x2048_0_1 (mask x) y) _ _ = _
  rw [show broadcastInDim S4096x200x2048 ![0, 1] bcast_S4096x200_S4096x200x2048_0_1 (mask x) y = 1#1 from mask_eq hx _]
  exact gather_eq e hx y

end Term

end Cert.Proof.Take

end
-- ==== Proof.Value.lean ====
/-
  The kernel's result equals the reference's.
-/
module

public import proofs.«01_k».proof.Proof.Launch
public import proofs.«01_k».proof.Proof.Take

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Words Cert.Proof.Vectors

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S819200 EltTy.i32)
local notation "tV" => (Memref.whole Cert.KernelIdeal.main_v1_scv : Memref Cert.KernelIdeal.sig Kind.scVector Space.hbm Cert.KernelIdeal.S409600 EltTy.f32)
local notation "oV" => (Memref.whole Cert.KernelIdeal.main_v2_scv : Memref Cert.KernelIdeal.sig Kind.scVector Space.hbm Cert.KernelIdeal.S1677721600 EltTy.f32)
local notation "sT" => (Memref.whole Cert.KernelIdeal.cc0_scratch0 : Memref Cert.KernelIdeal.sig Kind.scVector Space.vmem Cert.KernelIdeal.S102400 EltTy.f32)
local notation "sI" => (Memref.whole Cert.KernelIdeal.cc0_scratch1 : Memref Cert.KernelIdeal.sig Kind.scVector Space.vmem Cert.KernelIdeal.S2x2048 EltTy.i32)
local notation "sP" => (Memref.whole Cert.KernelIdeal.cc0_scratch2 : Memref Cert.KernelIdeal.sig Kind.scVector Space.vmem Cert.KernelIdeal.S2064 EltTy.i32)
local notation "sR" => (Memref.whole Cert.KernelIdeal.cc0_scratch3 : Memref Cert.KernelIdeal.sig Kind.scVector Space.vmem Cert.KernelIdeal.S2064 EltTy.i32)

open Idealize.ShloMosaic.SparseCore.Cfg (ownBufs ownSems0 ownCells ownRefs mem_ownCells mem_ownRefs)
open Idealize.ShloMosaic.StableHlo (held wp_hlo_within)
open Idealize.ShloMosaic.Rounds

attribute [local irreducible] C

/-! The three arrays read at an index of the result. -/

section Result

variable (x : S4096x200.Idx → BitVec 32) (e : S200x2048.Idx → Elt F .f32) (fo : S1677721600.Idx → Elt F .f32)

/-- The index list read at the place of index `(a, b)`. -/
theorem list_at (a : Fin 4096) (b : Fin 200) (h : a.val * 200 + b.val < 819200) :
    shapeCast S819200 x shapeCasts_S4096x200_S819200 (ix1 (a.val * 200 + b.val) h) = x (Take.ixI a b) := by
  refine shapeCast_apply x _ _ _ ?_
  rw [Shape.rowMajor_val_two, Shape.rowMajor_val_one]; rfl

/-- The table's words read at the place of `(a, b)`. -/
theorem table_at (a : Fin 200) (b : Fin 2048) (h : a.val * 2048 + b.val < 409600) :
    shapeCast S409600 e shapeCasts_S200x2048_S409600 (ix1 (a.val * 2048 + b.val) h) = e (Take.ixT a b) := by
  refine shapeCast_apply e _ _ _ ?_
  rw [Shape.rowMajor_val_two, Shape.rowMajor_val_one]; rfl

/-- The kernel's result is the reference's, when every index names a table row. -/
theorem result_eq (hx : ∀ i, (x i).toNat < 200) :
    shapeCast S4096x200x2048 (out (shapeCast S819200 x shapeCasts_S4096x200_S819200) (shapeCast S409600 e shapeCasts_S200x2048_S409600) fo)
      shapeCasts_S1677721600_S4096x200x2048 = Take.taken x e := by
  funext y
  refine Eq.trans ?_ (Take.taken_eq e hx y).symm
  have h0 : (y 0).val < 4096 := (y 0).isLt
  have h1 : (y 1).val < 200 := (y 1).isLt
  have h2 : (y 2).val < 2048 := (y 2).isLt
  have hn : ((y 0).val * 200 + (y 1).val) * 2048 + (y 2).val < 1677721600 := by omega
  refine (shapeCast_apply _ _ y (ix1 (((y 0).val * 200 + (y 1).val) * 2048 + (y 2).val) hn) ?_).trans ?_
  · rw [Shape.rowMajor_val_three, Shape.rowMajor_val_one]; rfl
  have hw := list_at x (y 0) (y 1) (show (y 0).val * 200 + (y 1).val < 819200 by omega)
  have hr : ∀ h, shapeCast S819200 x shapeCasts_S4096x200_S819200
      (ix1 ((ix1 (((y 0).val * 200 + (y 1).val) * 2048 + (y 2).val) hn : S1677721600.Idx) 0 / 2048) h) = x (Take.ixI (y 0) (y 1)) := by
    intro h
    refine Eq.trans (congrArg _ (idx1_ext ?_)) hw
    show (((y 0).val * 200 + (y 1).val) * 2048 + (y 2).val) / 2048 = (y 0).val * 200 + (y 1).val
    omega
  unfold out
  rw [dif_pos (by rw [hr]; exact hx _)]
  have ht := table_at e ⟨(x (Take.ixI (y 0) (y 1))).toNat, hx _⟩ (y 2)
    (show (x (Take.ixI (y 0) (y 1))).toNat * 2048 + (y 2).val < 409600 by have := hx (Take.ixI (y 0) (y 1)); omega)
  refine Eq.trans (congrArg _ (idx1_ext ?_)) ht
  show (shapeCast S819200 x shapeCasts_S4096x200_S819200
      (ix1 ((ix1 (((y 0).val * 200 + (y 1).val) * 2048 + (y 2).val) hn : S1677721600.Idx) 0 / 2048) _)).toNat * 2048
        + (((y 0).val * 200 + (y 1).val) * 2048 + (y 2).val) % 2048 = (x (Take.ixI (y 0) (y 1))).toNat * 2048 + (y 2).val
  rw [hr]; omega

end Result

/-- The run's result, in the reference's term. -/
theorem Rv_eq (m : (ℓ : Loc nD τ sig) → Buf (Elt F) ℓ) (d : Dev nD)
    (h : Cert.Pre_idx_in_table.fn (F := F) (m (aILoc d)) (m (aELoc d)) = fun _ => 1#1) :
    Rv m d = Take.taken (F := F) (m (aILoc d)) (m (aELoc d)) :=
  result_eq (m (aILoc d)) (m (aELoc d)) (FO m d) (Take.small_of_fn h)

end Cert.Proof.Tile

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_idx_in_table
public import proofs.«01_k».proof.Proof.Value
public import Idealize.ShloMosaic.Adequacy
public import Idealize.ShloMosaic.Init

@[expose] public section

noncomputable section

namespace Cert.Proof

open Idealize.ShloMosaic Idealize.SL.Sem Cert.Kernel

set_option maxHeartbeats 20000000 in
/-- The kernel's run at machine words: the result at the gathered rows, the arguments unchanged, every semaphore at
    zero. -/
theorem run_kernel (m : (ℓ : Loc Cert.Kernel.nD Cert.Kernel.τ Cert.Kernel.sig) → Buf (Elt Bits) ℓ) (g : Dev Cert.Kernel.nD → PrngReg) :
    θ_run (Cert.Kernel.defs (F := Bits)) (Cert.Kernel.threads (F := Bits)) ⟨m, fun _ => 0, g⟩ (Tile.QC (F := Bits) m) :=
  Tile.run_main (F := Bits) m g

/-- The kernel's run at machine words: the arguments unchanged, every semaphore at zero. -/
theorem frame_kernel : Cert.quiescent_Kernel := fun m ρ _ =>
  (θ_run Cert.Kernel.defs _ _).mono (fun _ h => ⟨fun c => (h.1 c).2, h.2⟩) (run_kernel m ρ)

/-- The same of the kernel at the ideal floats. -/
theorem frame_ideal : Cert.quiescent_KernelIdeal := fun m ρ _ =>
  (θ_run Cert.KernelIdeal.defs _ _).mono (fun _ h => ⟨fun c => (h.1 c).2, h.2⟩) (Tile.run_main (F := Ideal) m ρ)

/-- The reference's run at the ideal floats: the arguments unchanged; it declares no semaphore. -/
theorem frame_refIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of the reference at machine words. -/
theorem frame_ref : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- Kernel and reference at the ideal floats end with one result, when every index names a table row. -/
theorem algebraic : Cert.algebraic_KernelIdeal_ReferenceIdeal_pre_idx_in_table := by
  intro m g m' g' hpre hargs
  refine ⟨fun c => Take.taken (F := Ideal) (m (Tile.aILoc c)) (m (Tile.aELoc c)), ?_, ?_⟩
  · exact (θ_run Cert.KernelIdeal.defs _ _).mono
      (fun _ h c => ⟨(h.1 c).1.trans (Tile.Rv_eq m c (hpre c)), (h.1 c).2⟩) (Tile.run_main (F := Ideal) m g)
  · refine (θ_run Cert.ReferenceIdeal.defs _ _).mono (fun r h c => ⟨(h c).1.trans ?_, (h c).2⟩) (Cert.ReferenceIdeal.Value.run (F := Ideal) m' g')
    rw [(hargs c).1, (hargs c).2]; rfl

/-- Kernel and reference at machine words end with one result, bit for bit, when every index names a table row. -/
theorem bitexact : Cert.bitexact_Kernel_Reference_pre_idx_in_table := by
  intro m g m' g' hpre hargs
  refine ⟨fun c => Take.taken (F := Bits) (m (Tile.aILoc c)) (m (Tile.aELoc c)), ?_, ?_⟩
  · exact (θ_run Cert.Kernel.defs _ _).mono
      (fun _ h c => ⟨(h.1 c).1.trans (Tile.Rv_eq m c (hpre c)), (h.1 c).2⟩) (run_kernel m g)
  · refine (θ_run Cert.Reference.defs _ _).mono (fun r h c => ⟨(h c).1.trans ?_, (h c).2⟩) (Cert.Reference.Value.run (F := Bits) m' g')
    rw [(hargs c).1, (hargs c).2]; rfl

theorem claim : Cert.Claim := ⟨Cert.Kernel.Gen.facts, Cert.KernelIdeal.Gen.facts, Cert.ReferenceIdeal.Gen.facts, Cert.Reference.Gen.facts, Cert.Pre_idx_in_table.Gen.facts,
  frame_kernel, fun m ρ _ => frame_kernel m ρ trivial, frame_ideal, fun m ρ _ => frame_ideal m ρ trivial,
  frame_refIdeal, fun m ρ _ => frame_refIdeal m ρ trivial, frame_ref, trivial, algebraic, bitexact⟩

end Cert.Proof

end
